-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Replicated (m : (ℓ : Loc Cert.Replicated.nD Cert.Replicated.τ Cert.Replicated.sig) → Buf (Elt Bits) ℓ) : Prop :=
  True

def Pre_ReplicatedIdeal (m : (ℓ : Loc Cert.ReplicatedIdeal.nD Cert.ReplicatedIdeal.τ Cert.ReplicatedIdeal.sig) → Buf (Elt Ideal) ℓ) : Prop :=
  True

def Pre_ReplicatedReferenceIdeal (m : (ℓ : Loc Cert.ReplicatedReferenceIdeal.nD Cert.ReplicatedReferenceIdeal.τ Cert.ReplicatedReferenceIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadReferenceIdeal (m : (ℓ : Loc Cert.HeadReferenceIdeal.nD Cert.HeadReferenceIdeal.τ Cert.HeadReferenceIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryReferenceIdeal (m : (ℓ : Loc Cert.EntryReferenceIdeal.nD Cert.EntryReferenceIdeal.τ Cert.EntryReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite [hPre_finite : Cert.Pre_finite.Facts] (m : (ℓ : Loc Cert.AttendIdeal.nD Cert.AttendIdeal.τ Cert.AttendIdeal.sig) → Buf (Elt Ideal) ℓ) : Prop :=
  ∀ c : Dev Cert.AttendIdeal.nD,
    (Cert.Pre_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1))).1 = (fun _ => 1#1)
    ∧ (Cert.Pre_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1))).2 = (fun _ => 1#1)

def Pre_AttendReferenceIdeal (m : (ℓ : Loc Cert.AttendReferenceIdeal.nD Cert.AttendReferenceIdeal.τ Cert.AttendReferenceIdeal.sig) → Buf (Elt Ideal) ℓ) : Prop :=
  True

def Pre_AttendReferenceIdeal_finite [hPre_finite : Cert.Pre_finite.Facts] (m : (ℓ : Loc Cert.AttendReferenceIdeal.nD Cert.AttendReferenceIdeal.τ Cert.AttendReferenceIdeal.sig) → Buf (Elt Ideal) ℓ) : Prop :=
  ∀ c : Dev Cert.AttendReferenceIdeal.nD,
    (Cert.Pre_finite.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1))).1 = (fun _ => 1#1)
    ∧ (Cert.Pre_finite.fn (F := Ideal) (m ((c.tc : Thread Cert.AttendReferenceIdeal.nD Cert.AttendReferenceIdeal.τ).loc Cert.AttendReferenceIdeal.main_arg0)) (m ((c.tc : Thread Cert.AttendReferenceIdeal.nD Cert.AttendReferenceIdeal.τ).loc Cert.AttendReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Replicated [hReplicated : Cert.Replicated.Facts] : Prop :=
  ∀ (m : (ℓ : Loc Cert.Replicated.nD Cert.Replicated.τ Cert.Replicated.sig) → Buf (Elt Bits) ℓ) (g : Dev Cert.Replicated.nD → PrngReg), Pre_Replicated m →
    θ_run (Cert.Replicated.defs (F := Bits)) (onTc (τ := Cert.Replicated.τ) (Cert.Replicated.main (F := Bits))) ⟨m, fun _ => 0, g⟩ (fun r => (∀ c : Dev Cert.Replicated.nD,
      r.2.mem ((c.tc : Thread Cert.Replicated.nD Cert.Replicated.τ).loc Cert.Replicated.main_arg0) = m ((c.tc : Thread Cert.Replicated.nD Cert.Replicated.τ).loc Cert.Replicated.main_arg0)
      ∧ r.2.mem ((c.tc : Thread Cert.Replicated.nD Cert.Replicated.τ).loc Cert.Replicated.main_arg1) = m ((c.tc : Thread Cert.Replicated.nD Cert.Replicated.τ).loc Cert.Replicated.main_arg1)
      ∧ r.2.mem ((c.tc : Thread Cert.Replicated.nD Cert.Replicated.τ).loc Cert.Replicated.main_arg2) = m ((c.tc : Thread Cert.Replicated.nD Cert.Replicated.τ).loc Cert.Replicated.main_arg2)
      ∧ r.2.mem ((c.tc : Thread Cert.Replicated.nD Cert.Replicated.τ).loc Cert.Replicated.main_arg3) = m ((c.tc : Thread Cert.Replicated.nD Cert.Replicated.τ).loc Cert.Replicated.main_arg3)
      ∧ r.2.mem ((c.tc : Thread Cert.Replicated.nD Cert.Replicated.τ).loc Cert.Replicated.main_arg4) = m ((c.tc : Thread Cert.Replicated.nD Cert.Replicated.τ).loc Cert.Replicated.main_arg4)
      ∧ r.2.mem ((c.tc : Thread Cert.Replicated.nD Cert.Replicated.τ).loc Cert.Replicated.main_arg5) = m ((c.tc : Thread Cert.Replicated.nD Cert.Replicated.τ).loc Cert.Replicated.main_arg5)
      ∧ r.2.mem ((c.tc : Thread Cert.Replicated.nD Cert.Replicated.τ).loc Cert.Replicated.main_arg6) = m ((c.tc : Thread Cert.Replicated.nD Cert.Replicated.τ).loc Cert.Replicated.main_arg6)
      ∧ r.2.mem ((c.tc : Thread Cert.Replicated.nD Cert.Replicated.τ).loc Cert.Replicated.main_arg7) = m ((c.tc : Thread Cert.Replicated.nD Cert.Replicated.τ).loc Cert.Replicated.main_arg7)
      ∧ r.2.mem ((c.tc : Thread Cert.Replicated.nD Cert.Replicated.τ).loc Cert.Replicated.main_arg8) = m ((c.tc : Thread Cert.Replicated.nD Cert.Replicated.τ).loc Cert.Replicated.main_arg8)
      ∧ r.2.mem ((c.tc : Thread Cert.Replicated.nD Cert.Replicated.τ).loc Cert.Replicated.main_arg9) = m ((c.tc : Thread Cert.Replicated.nD Cert.Replicated.τ).loc Cert.Replicated.main_arg9)
      ∧ r.2.mem ((c.tc : Thread Cert.Replicated.nD Cert.Replicated.τ).loc Cert.Replicated.main_arg10) = m ((c.tc : Thread Cert.Replicated.nD Cert.Replicated.τ).loc Cert.Replicated.main_arg10)
      ∧ r.2.mem ((c.tc : Thread Cert.Replicated.nD Cert.Replicated.τ).loc Cert.Replicated.main_arg11) = m ((c.tc : Thread Cert.Replicated.nD Cert.Replicated.τ).loc Cert.Replicated.main_arg11)
      ∧ r.2.mem ((c.tc : Thread Cert.Replicated.nD Cert.Replicated.τ).loc Cert.Replicated.main_arg12) = m ((c.tc : Thread Cert.Replicated.nD Cert.Replicated.τ).loc Cert.Replicated.main_arg12)
      ∧ r.2.mem ((c.tc : Thread Cert.Replicated.nD Cert.Replicated.τ).loc Cert.Replicated.main_arg13) = m ((c.tc : Thread Cert.Replicated.nD Cert.Replicated.τ).loc Cert.Replicated.main_arg13)
      ∧ r.2.mem ((c.tc : Thread Cert.Replicated.nD Cert.Replicated.τ).loc Cert.Replicated.main_arg14) = m ((c.tc : Thread Cert.Replicated.nD Cert.Replicated.τ).loc Cert.Replicated.main_arg14)
      ∧ r.2.mem ((c.tc : Thread Cert.Replicated.nD Cert.Replicated.τ).loc Cert.Replicated.main_arg15) = m ((c.tc : Thread Cert.Replicated.nD Cert.Replicated.τ).loc Cert.Replicated.main_arg15)
      ∧ r.2.mem ((c.tc : Thread Cert.Replicated.nD Cert.Replicated.τ).loc Cert.Replicated.main_arg16) = m ((c.tc : Thread Cert.Replicated.nD Cert.Replicated.τ).loc Cert.Replicated.main_arg16)
      ∧ r.2.mem ((c.tc : Thread Cert.Replicated.nD Cert.Replicated.τ).loc Cert.Replicated.main_arg17) = m ((c.tc : Thread Cert.Replicated.nD Cert.Replicated.τ).loc Cert.Replicated.main_arg17)
      ∧ r.2.mem ((c.tc : Thread Cert.Replicated.nD Cert.Replicated.τ).loc Cert.Replicated.main_arg18) = m ((c.tc : Thread Cert.Replicated.nD Cert.Replicated.τ).loc Cert.Replicated.main_arg18)
      ∧ r.2.mem ((c.tc : Thread Cert.Replicated.nD Cert.Replicated.τ).loc Cert.Replicated.main_arg19) = m ((c.tc : Thread Cert.Replicated.nD Cert.Replicated.τ).loc Cert.Replicated.main_arg19)
      ∧ r.2.mem ((c.tc : Thread Cert.Replicated.nD Cert.Replicated.τ).loc Cert.Replicated.main_arg20) = m ((c.tc : Thread Cert.Replicated.nD Cert.Replicated.τ).loc Cert.Replicated.main_arg20)
      ∧ r.2.mem ((c.tc : Thread Cert.Replicated.nD Cert.Replicated.τ).loc Cert.Replicated.main_arg21) = m ((c.tc : Thread Cert.Replicated.nD Cert.Replicated.τ).loc Cert.Replicated.main_arg21)
      ∧ r.2.mem ((c.tc : Thread Cert.Replicated.nD Cert.Replicated.τ).loc Cert.Replicated.main_arg22) = m ((c.tc : Thread Cert.Replicated.nD Cert.Replicated.τ).loc Cert.Replicated.main_arg22)
      ∧ r.2.mem ((c.tc : Thread Cert.Replicated.nD Cert.Replicated.τ).loc Cert.Replicated.main_arg23) = m ((c.tc : Thread Cert.Replicated.nD Cert.Replicated.τ).loc Cert.Replicated.main_arg23)
      ∧ r.2.mem ((c.tc : Thread Cert.Replicated.nD Cert.Replicated.τ).loc Cert.Replicated.main_arg24) = m ((c.tc : Thread Cert.Replicated.nD Cert.Replicated.τ).loc Cert.Replicated.main_arg24))
      ∧ r.2.sem = fun _ => 0)

def quiescent_ReplicatedIdeal [hReplicatedIdeal : Cert.ReplicatedIdeal.Facts] : Prop :=
  ∀ (m : (ℓ : Loc Cert.ReplicatedIdeal.nD Cert.ReplicatedIdeal.τ Cert.ReplicatedIdeal.sig) → Buf (Elt Ideal) ℓ) (g : Dev Cert.ReplicatedIdeal.nD → PrngReg), Pre_ReplicatedIdeal m →
    θ_run (Cert.ReplicatedIdeal.defs (F := Ideal)) (onTc (τ := Cert.ReplicatedIdeal.τ) (Cert.ReplicatedIdeal.main (F := Ideal))) ⟨m, fun _ => 0, g⟩ (fun r => (∀ c : Dev Cert.ReplicatedIdeal.nD,
      r.2.mem ((c.tc : Thread Cert.ReplicatedIdeal.nD Cert.ReplicatedIdeal.τ).loc Cert.ReplicatedIdeal.main_arg0) = m ((c.tc : Thread Cert.ReplicatedIdeal.nD Cert.ReplicatedIdeal.τ).loc Cert.ReplicatedIdeal.main_arg0)
      ∧ r.2.mem ((c.tc : Thread Cert.ReplicatedIdeal.nD Cert.ReplicatedIdeal.τ).loc Cert.ReplicatedIdeal.main_arg1) = m ((c.tc : Thread Cert.ReplicatedIdeal.nD Cert.ReplicatedIdeal.τ).loc Cert.ReplicatedIdeal.main_arg1)
      ∧ r.2.mem ((c.tc : Thread Cert.ReplicatedIdeal.nD Cert.ReplicatedIdeal.τ).loc Cert.ReplicatedIdeal.main_arg2) = m ((c.tc : Thread Cert.ReplicatedIdeal.nD Cert.ReplicatedIdeal.τ).loc Cert.ReplicatedIdeal.main_arg2)
      ∧ r.2.mem ((c.tc : Thread Cert.ReplicatedIdeal.nD Cert.ReplicatedIdeal.τ).loc Cert.ReplicatedIdeal.main_arg3) = m ((c.tc : Thread Cert.ReplicatedIdeal.nD Cert.ReplicatedIdeal.τ).loc Cert.ReplicatedIdeal.main_arg3)
      ∧ r.2.mem ((c.tc : Thread Cert.ReplicatedIdeal.nD Cert.ReplicatedIdeal.τ).loc Cert.ReplicatedIdeal.main_arg4) = m ((c.tc : Thread Cert.ReplicatedIdeal.nD Cert.ReplicatedIdeal.τ).loc Cert.ReplicatedIdeal.main_arg4)
      ∧ r.2.mem ((c.tc : Thread Cert.ReplicatedIdeal.nD Cert.ReplicatedIdeal.τ).loc Cert.ReplicatedIdeal.main_arg5) = m ((c.tc : Thread Cert.ReplicatedIdeal.nD Cert.ReplicatedIdeal.τ).loc Cert.ReplicatedIdeal.main_arg5)
      ∧ r.2.mem ((c.tc : Thread Cert.ReplicatedIdeal.nD Cert.ReplicatedIdeal.τ).loc Cert.ReplicatedIdeal.main_arg6) = m ((c.tc : Thread Cert.ReplicatedIdeal.nD Cert.ReplicatedIdeal.τ).loc Cert.ReplicatedIdeal.main_arg6)
      ∧ r.2.mem ((c.tc : Thread Cert.ReplicatedIdeal.nD Cert.ReplicatedIdeal.τ).loc Cert.ReplicatedIdeal.main_arg7) = m ((c.tc : Thread Cert.ReplicatedIdeal.nD Cert.ReplicatedIdeal.τ).loc Cert.ReplicatedIdeal.main_arg7)
      ∧ r.2.mem ((c.tc : Thread Cert.ReplicatedIdeal.nD Cert.ReplicatedIdeal.τ).loc Cert.ReplicatedIdeal.main_arg8) = m ((c.tc : Thread Cert.ReplicatedIdeal.nD Cert.ReplicatedIdeal.τ).loc Cert.ReplicatedIdeal.main_arg8)
      ∧ r.2.mem ((c.tc : Thread Cert.ReplicatedIdeal.nD Cert.ReplicatedIdeal.τ).loc Cert.ReplicatedIdeal.main_arg9) = m ((c.tc : Thread Cert.ReplicatedIdeal.nD Cert.ReplicatedIdeal.τ).loc Cert.ReplicatedIdeal.main_arg9)
      ∧ r.2.mem ((c.tc : Thread Cert.ReplicatedIdeal.nD Cert.ReplicatedIdeal.τ).loc Cert.ReplicatedIdeal.main_arg10) = m ((c.tc : Thread Cert.ReplicatedIdeal.nD Cert.ReplicatedIdeal.τ).loc Cert.ReplicatedIdeal.main_arg10)
      ∧ r.2.mem ((c.tc : Thread Cert.ReplicatedIdeal.nD Cert.ReplicatedIdeal.τ).loc Cert.ReplicatedIdeal.main_arg11) = m ((c.tc : Thread Cert.ReplicatedIdeal.nD Cert.ReplicatedIdeal.τ).loc Cert.ReplicatedIdeal.main_arg11)
      ∧ r.2.mem ((c.tc : Thread Cert.ReplicatedIdeal.nD Cert.ReplicatedIdeal.τ).loc Cert.ReplicatedIdeal.main_arg12) = m ((c.tc : Thread Cert.ReplicatedIdeal.nD Cert.ReplicatedIdeal.τ).loc Cert.ReplicatedIdeal.main_arg12)
      ∧ r.2.mem ((c.tc : Thread Cert.ReplicatedIdeal.nD Cert.ReplicatedIdeal.τ).loc Cert.ReplicatedIdeal.main_arg13) = m ((c.tc : Thread Cert.ReplicatedIdeal.nD Cert.ReplicatedIdeal.τ).loc Cert.ReplicatedIdeal.main_arg13)
      ∧ r.2.mem ((c.tc : Thread Cert.ReplicatedIdeal.nD Cert.ReplicatedIdeal.τ).loc Cert.ReplicatedIdeal.main_arg14) = m ((c.tc : Thread Cert.ReplicatedIdeal.nD Cert.ReplicatedIdeal.τ).loc Cert.ReplicatedIdeal.main_arg14)
      ∧ r.2.mem ((c.tc : Thread Cert.ReplicatedIdeal.nD Cert.ReplicatedIdeal.τ).loc Cert.ReplicatedIdeal.main_arg15) = m ((c.tc : Thread Cert.ReplicatedIdeal.nD Cert.ReplicatedIdeal.τ).loc Cert.ReplicatedIdeal.main_arg15)
      ∧ r.2.mem ((c.tc : Thread Cert.ReplicatedIdeal.nD Cert.ReplicatedIdeal.τ).loc Cert.ReplicatedIdeal.main_arg16) = m ((c.tc : Thread Cert.ReplicatedIdeal.nD Cert.ReplicatedIdeal.τ).loc Cert.ReplicatedIdeal.main_arg16)
      ∧ r.2.mem ((c.tc : Thread Cert.ReplicatedIdeal.nD Cert.ReplicatedIdeal.τ).loc Cert.ReplicatedIdeal.main_arg17) = m ((c.tc : Thread Cert.ReplicatedIdeal.nD Cert.ReplicatedIdeal.τ).loc Cert.ReplicatedIdeal.main_arg17)
      ∧ r.2.mem ((c.tc : Thread Cert.ReplicatedIdeal.nD Cert.ReplicatedIdeal.τ).loc Cert.ReplicatedIdeal.main_arg18) = m ((c.tc : Thread Cert.ReplicatedIdeal.nD Cert.ReplicatedIdeal.τ).loc Cert.ReplicatedIdeal.main_arg18)
      ∧ r.2.mem ((c.tc : Thread Cert.ReplicatedIdeal.nD Cert.ReplicatedIdeal.τ).loc Cert.ReplicatedIdeal.main_arg19) = m ((c.tc : Thread Cert.ReplicatedIdeal.nD Cert.ReplicatedIdeal.τ).loc Cert.ReplicatedIdeal.main_arg19)
      ∧ r.2.mem ((c.tc : Thread Cert.ReplicatedIdeal.nD Cert.ReplicatedIdeal.τ).loc Cert.ReplicatedIdeal.main_arg20) = m ((c.tc : Thread Cert.ReplicatedIdeal.nD Cert.ReplicatedIdeal.τ).loc Cert.ReplicatedIdeal.main_arg20)
      ∧ r.2.mem ((c.tc : Thread Cert.ReplicatedIdeal.nD Cert.ReplicatedIdeal.τ).loc Cert.ReplicatedIdeal.main_arg21) = m ((c.tc : Thread Cert.ReplicatedIdeal.nD Cert.ReplicatedIdeal.τ).loc Cert.ReplicatedIdeal.main_arg21)
      ∧ r.2.mem ((c.tc : Thread Cert.ReplicatedIdeal.nD Cert.ReplicatedIdeal.τ).loc Cert.ReplicatedIdeal.main_arg22) = m ((c.tc : Thread Cert.ReplicatedIdeal.nD Cert.ReplicatedIdeal.τ).loc Cert.ReplicatedIdeal.main_arg22)
      ∧ r.2.mem ((c.tc : Thread Cert.ReplicatedIdeal.nD Cert.ReplicatedIdeal.τ).loc Cert.ReplicatedIdeal.main_arg23) = m ((c.tc : Thread Cert.ReplicatedIdeal.nD Cert.ReplicatedIdeal.τ).loc Cert.ReplicatedIdeal.main_arg23)
      ∧ r.2.mem ((c.tc : Thread Cert.ReplicatedIdeal.nD Cert.ReplicatedIdeal.τ).loc Cert.ReplicatedIdeal.main_arg24) = m ((c.tc : Thread Cert.ReplicatedIdeal.nD Cert.ReplicatedIdeal.τ).loc Cert.ReplicatedIdeal.main_arg24))
      ∧ r.2.sem = fun _ => 0)

def quiescent_ReplicatedReferenceIdeal [hReplicatedReferenceIdeal : Cert.ReplicatedReferenceIdeal.Facts] : Prop :=
  ∀ (m : (ℓ : Loc Cert.ReplicatedReferenceIdeal.nD Cert.ReplicatedReferenceIdeal.τ Cert.ReplicatedReferenceIdeal.sig) → Buf (Elt Ideal) ℓ) (g : Dev Cert.ReplicatedReferenceIdeal.nD → PrngReg), Pre_ReplicatedReferenceIdeal m →
    θ_run (Cert.ReplicatedReferenceIdeal.defs (F := Ideal)) (onTc (τ := Cert.ReplicatedReferenceIdeal.τ) (Cert.ReplicatedReferenceIdeal.main (F := Ideal))) ⟨m, fun _ => 0, g⟩ (fun r => (∀ c : Dev Cert.ReplicatedReferenceIdeal.nD,
      r.2.mem ((c.tc : Thread Cert.ReplicatedReferenceIdeal.nD Cert.ReplicatedReferenceIdeal.τ).loc Cert.ReplicatedReferenceIdeal.main_arg0) = m ((c.tc : Thread Cert.ReplicatedReferenceIdeal.nD Cert.ReplicatedReferenceIdeal.τ).loc Cert.ReplicatedReferenceIdeal.main_arg0)
      ∧ r.2.mem ((c.tc : Thread Cert.ReplicatedReferenceIdeal.nD Cert.ReplicatedReferenceIdeal.τ).loc Cert.ReplicatedReferenceIdeal.main_arg1) = m ((c.tc : Thread Cert.ReplicatedReferenceIdeal.nD Cert.ReplicatedReferenceIdeal.τ).loc Cert.ReplicatedReferenceIdeal.main_arg1)
      ∧ r.2.mem ((c.tc : Thread Cert.ReplicatedReferenceIdeal.nD Cert.ReplicatedReferenceIdeal.τ).loc Cert.ReplicatedReferenceIdeal.main_arg2) = m ((c.tc : Thread Cert.ReplicatedReferenceIdeal.nD Cert.ReplicatedReferenceIdeal.τ).loc Cert.ReplicatedReferenceIdeal.main_arg2)
      ∧ r.2.mem ((c.tc : Thread Cert.ReplicatedReferenceIdeal.nD Cert.ReplicatedReferenceIdeal.τ).loc Cert.ReplicatedReferenceIdeal.main_arg3) = m ((c.tc : Thread Cert.ReplicatedReferenceIdeal.nD Cert.ReplicatedReferenceIdeal.τ).loc Cert.ReplicatedReferenceIdeal.main_arg3)
      ∧ r.2.mem ((c.tc : Thread Cert.ReplicatedReferenceIdeal.nD Cert.ReplicatedReferenceIdeal.τ).loc Cert.ReplicatedReferenceIdeal.main_arg4) = m ((c.tc : Thread Cert.ReplicatedReferenceIdeal.nD Cert.ReplicatedReferenceIdeal.τ).loc Cert.ReplicatedReferenceIdeal.main_arg4)
      ∧ r.2.mem ((c.tc : Thread Cert.ReplicatedReferenceIdeal.nD Cert.ReplicatedReferenceIdeal.τ).loc Cert.ReplicatedReferenceIdeal.main_arg5) = m ((c.tc : Thread Cert.ReplicatedReferenceIdeal.nD Cert.ReplicatedReferenceIdeal.τ).loc Cert.ReplicatedReferenceIdeal.main_arg5)
      ∧ r.2.mem ((c.tc : Thread Cert.ReplicatedReferenceIdeal.nD Cert.ReplicatedReferenceIdeal.τ).loc Cert.ReplicatedReferenceIdeal.main_arg6) = m ((c.tc : Thread Cert.ReplicatedReferenceIdeal.nD Cert.ReplicatedReferenceIdeal.τ).loc Cert.ReplicatedReferenceIdeal.main_arg6)
      ∧ r.2.mem ((c.tc : Thread Cert.ReplicatedReferenceIdeal.nD Cert.ReplicatedReferenceIdeal.τ).loc Cert.ReplicatedReferenceIdeal.main_arg7) = m ((c.tc : Thread Cert.ReplicatedReferenceIdeal.nD Cert.ReplicatedReferenceIdeal.τ).loc Cert.ReplicatedReferenceIdeal.main_arg7)
      ∧ r.2.mem ((c.tc : Thread Cert.ReplicatedReferenceIdeal.nD Cert.ReplicatedReferenceIdeal.τ).loc Cert.ReplicatedReferenceIdeal.main_arg8) = m ((c.tc : Thread Cert.ReplicatedReferenceIdeal.nD Cert.ReplicatedReferenceIdeal.τ).loc Cert.ReplicatedReferenceIdeal.main_arg8)
      ∧ r.2.mem ((c.tc : Thread Cert.ReplicatedReferenceIdeal.nD Cert.ReplicatedReferenceIdeal.τ).loc Cert.ReplicatedReferenceIdeal.main_arg9) = m ((c.tc : Thread Cert.ReplicatedReferenceIdeal.nD Cert.ReplicatedReferenceIdeal.τ).loc Cert.ReplicatedReferenceIdeal.main_arg9)
      ∧ r.2.mem ((c.tc : Thread Cert.ReplicatedReferenceIdeal.nD Cert.ReplicatedReferenceIdeal.τ).loc Cert.ReplicatedReferenceIdeal.main_arg10) = m ((c.tc : Thread Cert.ReplicatedReferenceIdeal.nD Cert.ReplicatedReferenceIdeal.τ).loc Cert.ReplicatedReferenceIdeal.main_arg10)
      ∧ r.2.mem ((c.tc : Thread Cert.ReplicatedReferenceIdeal.nD Cert.ReplicatedReferenceIdeal.τ).loc Cert.ReplicatedReferenceIdeal.main_arg11) = m ((c.tc : Thread Cert.ReplicatedReferenceIdeal.nD Cert.ReplicatedReferenceIdeal.τ).loc Cert.ReplicatedReferenceIdeal.main_arg11)
      ∧ r.2.mem ((c.tc : Thread Cert.ReplicatedReferenceIdeal.nD Cert.ReplicatedReferenceIdeal.τ).loc Cert.ReplicatedReferenceIdeal.main_arg12) = m ((c.tc : Thread Cert.ReplicatedReferenceIdeal.nD Cert.ReplicatedReferenceIdeal.τ).loc Cert.ReplicatedReferenceIdeal.main_arg12)
      ∧ r.2.mem ((c.tc : Thread Cert.ReplicatedReferenceIdeal.nD Cert.ReplicatedReferenceIdeal.τ).loc Cert.ReplicatedReferenceIdeal.main_arg13) = m ((c.tc : Thread Cert.ReplicatedReferenceIdeal.nD Cert.ReplicatedReferenceIdeal.τ).loc Cert.ReplicatedReferenceIdeal.main_arg13)
      ∧ r.2.mem ((c.tc : Thread Cert.ReplicatedReferenceIdeal.nD Cert.ReplicatedReferenceIdeal.τ).loc Cert.ReplicatedReferenceIdeal.main_arg14) = m ((c.tc : Thread Cert.ReplicatedReferenceIdeal.nD Cert.ReplicatedReferenceIdeal.τ).loc Cert.ReplicatedReferenceIdeal.main_arg14)
      ∧ r.2.mem ((c.tc : Thread Cert.ReplicatedReferenceIdeal.nD Cert.ReplicatedReferenceIdeal.τ).loc Cert.ReplicatedReferenceIdeal.main_arg15) = m ((c.tc : Thread Cert.ReplicatedReferenceIdeal.nD Cert.ReplicatedReferenceIdeal.τ).loc Cert.ReplicatedReferenceIdeal.main_arg15)
      ∧ r.2.mem ((c.tc : Thread Cert.ReplicatedReferenceIdeal.nD Cert.ReplicatedReferenceIdeal.τ).loc Cert.ReplicatedReferenceIdeal.main_arg16) = m ((c.tc : Thread Cert.ReplicatedReferenceIdeal.nD Cert.ReplicatedReferenceIdeal.τ).loc Cert.ReplicatedReferenceIdeal.main_arg16)
      ∧ r.2.mem ((c.tc : Thread Cert.ReplicatedReferenceIdeal.nD Cert.ReplicatedReferenceIdeal.τ).loc Cert.ReplicatedReferenceIdeal.main_arg17) = m ((c.tc : Thread Cert.ReplicatedReferenceIdeal.nD Cert.ReplicatedReferenceIdeal.τ).loc Cert.ReplicatedReferenceIdeal.main_arg17)
      ∧ r.2.mem ((c.tc : Thread Cert.ReplicatedReferenceIdeal.nD Cert.ReplicatedReferenceIdeal.τ).loc Cert.ReplicatedReferenceIdeal.main_arg18) = m ((c.tc : Thread Cert.ReplicatedReferenceIdeal.nD Cert.ReplicatedReferenceIdeal.τ).loc Cert.ReplicatedReferenceIdeal.main_arg18)
      ∧ r.2.mem ((c.tc : Thread Cert.ReplicatedReferenceIdeal.nD Cert.ReplicatedReferenceIdeal.τ).loc Cert.ReplicatedReferenceIdeal.main_arg19) = m ((c.tc : Thread Cert.ReplicatedReferenceIdeal.nD Cert.ReplicatedReferenceIdeal.τ).loc Cert.ReplicatedReferenceIdeal.main_arg19)
      ∧ r.2.mem ((c.tc : Thread Cert.ReplicatedReferenceIdeal.nD Cert.ReplicatedReferenceIdeal.τ).loc Cert.ReplicatedReferenceIdeal.main_arg20) = m ((c.tc : Thread Cert.ReplicatedReferenceIdeal.nD Cert.ReplicatedReferenceIdeal.τ).loc Cert.ReplicatedReferenceIdeal.main_arg20)
      ∧ r.2.mem ((c.tc : Thread Cert.ReplicatedReferenceIdeal.nD Cert.ReplicatedReferenceIdeal.τ).loc Cert.ReplicatedReferenceIdeal.main_arg21) = m ((c.tc : Thread Cert.ReplicatedReferenceIdeal.nD Cert.ReplicatedReferenceIdeal.τ).loc Cert.ReplicatedReferenceIdeal.main_arg21)
      ∧ r.2.mem ((c.tc : Thread Cert.ReplicatedReferenceIdeal.nD Cert.ReplicatedReferenceIdeal.τ).loc Cert.ReplicatedReferenceIdeal.main_arg22) = m ((c.tc : Thread Cert.ReplicatedReferenceIdeal.nD Cert.ReplicatedReferenceIdeal.τ).loc Cert.ReplicatedReferenceIdeal.main_arg22)
      ∧ r.2.mem ((c.tc : Thread Cert.ReplicatedReferenceIdeal.nD Cert.ReplicatedReferenceIdeal.τ).loc Cert.ReplicatedReferenceIdeal.main_arg23) = m ((c.tc : Thread Cert.ReplicatedReferenceIdeal.nD Cert.ReplicatedReferenceIdeal.τ).loc Cert.ReplicatedReferenceIdeal.main_arg23)
      ∧ r.2.mem ((c.tc : Thread Cert.ReplicatedReferenceIdeal.nD Cert.ReplicatedReferenceIdeal.τ).loc Cert.ReplicatedReferenceIdeal.main_arg24) = m ((c.tc : Thread Cert.ReplicatedReferenceIdeal.nD Cert.ReplicatedReferenceIdeal.τ).loc Cert.ReplicatedReferenceIdeal.main_arg24))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2)
      ∧ r.2.mem ((c.tc : Thread Cert.Entry.nD Cert.Entry.τ).loc Cert.Entry.main_arg3) = m ((c.tc : Thread Cert.Entry.nD Cert.Entry.τ).loc Cert.Entry.main_arg3)
      ∧ r.2.mem ((c.tc : Thread Cert.Entry.nD Cert.Entry.τ).loc Cert.Entry.main_arg4) = m ((c.tc : Thread Cert.Entry.nD Cert.Entry.τ).loc Cert.Entry.main_arg4)
      ∧ r.2.mem ((c.tc : Thread Cert.Entry.nD Cert.Entry.τ).loc Cert.Entry.main_arg5) = m ((c.tc : Thread Cert.Entry.nD Cert.Entry.τ).loc Cert.Entry.main_arg5))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
      ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4)
      ∧ r.2.mem ((c.tc : Thread Cert.EntryIdeal.nD Cert.EntryIdeal.τ).loc Cert.EntryIdeal.main_arg5) = m ((c.tc : Thread Cert.EntryIdeal.nD Cert.EntryIdeal.τ).loc Cert.EntryIdeal.main_arg5))
      ∧ r.2.sem = fun _ => 0)

def quiescent_EntryReferenceIdeal [hEntryReferenceIdeal : Cert.EntryReferenceIdeal.Facts] : Prop :=
  ∀ (m : (ℓ : Loc Cert.EntryReferenceIdeal.nD Cert.EntryReferenceIdeal.τ Cert.EntryReferenceIdeal.sig) → Buf (Elt Ideal) ℓ) (g : Dev Cert.EntryReferenceIdeal.nD → PrngReg), Pre_EntryReferenceIdeal m →
    θ_run (Cert.EntryReferenceIdeal.defs (F := Ideal)) (onTc (τ := Cert.EntryReferenceIdeal.τ) (Cert.EntryReferenceIdeal.main (F := Ideal))) ⟨m, fun _ => 0, g⟩ (fun r => (∀ c : Dev Cert.EntryReferenceIdeal.nD,
      r.2.mem ((c.tc : Thread Cert.EntryReferenceIdeal.nD Cert.EntryReferenceIdeal.τ).loc Cert.EntryReferenceIdeal.main_arg0) = m ((c.tc : Thread Cert.EntryReferenceIdeal.nD Cert.EntryReferenceIdeal.τ).loc Cert.EntryReferenceIdeal.main_arg0)
      ∧ r.2.mem ((c.tc : Thread Cert.EntryReferenceIdeal.nD Cert.EntryReferenceIdeal.τ).loc Cert.EntryReferenceIdeal.main_arg1) = m ((c.tc : Thread Cert.EntryReferenceIdeal.nD Cert.EntryReferenceIdeal.τ).loc Cert.EntryReferenceIdeal.main_arg1)
      ∧ r.2.mem ((c.tc : Thread Cert.EntryReferenceIdeal.nD Cert.EntryReferenceIdeal.τ).loc Cert.EntryReferenceIdeal.main_arg2) = m ((c.tc : Thread Cert.EntryReferenceIdeal.nD Cert.EntryReferenceIdeal.τ).loc Cert.EntryReferenceIdeal.main_arg2)
      ∧ r.2.mem ((c.tc : Thread Cert.EntryReferenceIdeal.nD Cert.EntryReferenceIdeal.τ).loc Cert.EntryReferenceIdeal.main_arg3) = m ((c.tc : Thread Cert.EntryReferenceIdeal.nD Cert.EntryReferenceIdeal.τ).loc Cert.EntryReferenceIdeal.main_arg3)
      ∧ r.2.mem ((c.tc : Thread Cert.EntryReferenceIdeal.nD Cert.EntryReferenceIdeal.τ).loc Cert.EntryReferenceIdeal.main_arg4) = m ((c.tc : Thread Cert.EntryReferenceIdeal.nD Cert.EntryReferenceIdeal.τ).loc Cert.EntryReferenceIdeal.main_arg4)
      ∧ r.2.mem ((c.tc : Thread Cert.EntryReferenceIdeal.nD Cert.EntryReferenceIdeal.τ).loc Cert.EntryReferenceIdeal.main_arg5) = m ((c.tc : Thread Cert.EntryReferenceIdeal.nD Cert.EntryReferenceIdeal.τ).loc Cert.EntryReferenceIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1))
      ∧ r.2.sem = fun _ => 0)

def quiescent_AttendIdeal_pre_finite [hAttendIdeal : Cert.AttendIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1))
      ∧ r.2.sem = fun _ => 0)

def quiescent_AttendReferenceIdeal [hAttendReferenceIdeal : Cert.AttendReferenceIdeal.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1))
      ∧ r.2.sem = fun _ => 0)

def quiescent_AttendReferenceIdeal_pre_finite [hAttendReferenceIdeal : Cert.AttendReferenceIdeal.Facts] [hPre_finite : Cert.Pre_finite.Facts] : Prop :=
  ∀ (m : (ℓ : Loc Cert.AttendReferenceIdeal.nD Cert.AttendReferenceIdeal.τ Cert.AttendReferenceIdeal.sig) → Buf (Elt Ideal) ℓ) (g : Dev Cert.AttendReferenceIdeal.nD → PrngReg), Pre_AttendReferenceIdeal_finite m →
    θ_run (Cert.AttendReferenceIdeal.defs (F := Ideal)) (onTc (τ := Cert.AttendReferenceIdeal.τ) (Cert.AttendReferenceIdeal.main (F := Ideal))) ⟨m, fun _ => 0, g⟩ (fun r => (∀ c : Dev Cert.AttendReferenceIdeal.nD,
      r.2.mem ((c.tc : Thread Cert.AttendReferenceIdeal.nD Cert.AttendReferenceIdeal.τ).loc Cert.AttendReferenceIdeal.main_arg0) = m ((c.tc : Thread Cert.AttendReferenceIdeal.nD Cert.AttendReferenceIdeal.τ).loc Cert.AttendReferenceIdeal.main_arg0)
      ∧ r.2.mem ((c.tc : Thread Cert.AttendReferenceIdeal.nD Cert.AttendReferenceIdeal.τ).loc Cert.AttendReferenceIdeal.main_arg1) = m ((c.tc : Thread Cert.AttendReferenceIdeal.nD Cert.AttendReferenceIdeal.τ).loc Cert.AttendReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 920, 1024]⟩ ⟨3, ![64, 920, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![2, 1024, 320]⟩ ⟨3, ![2, 1024, 2560]⟩ 2 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 128, 1024]⟩ ⟨3, ![2, 1024, 1024]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 32, 256]⟩ ⟨3, ![2, 256, 256]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![2, 31, 32]⟩ ⟨3, ![2, 31, 256]⟩ 2 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨3, ![2, 1024, 320]⟩ ⟨3, ![2, 1024, 2560]⟩ 2 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨3, ![2, 128, 1024]⟩ ⟨3, ![2, 1024, 1024]⟩ 1 8 c (m' (((0 : Dev Cert.ReferenceIdeal.nD).tc : Thread Cert.ReferenceIdeal.nD Cert.ReferenceIdeal.τ).loc Cert.ReferenceIdeal.main_arg6))
      ∧ m ((c.tc : Thread Cert.KernelIdeal.nD Cert.KernelIdeal.τ).loc Cert.KernelIdeal.main_arg7) = Layout.block ⟨3, ![2, 32, 256]⟩ ⟨3, ![2, 256, 256]⟩ 1 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨3, ![2, 31, 32]⟩ ⟨3, ![2, 31, 256]⟩ 2 8 c (m' (((0 : Dev Cert.ReferenceIdeal.nD).tc : Thread Cert.ReferenceIdeal.nD Cert.ReferenceIdeal.τ).loc Cert.ReferenceIdeal.main_arg8))
      ∧ m ((c.tc : Thread Cert.KernelIdeal.nD Cert.KernelIdeal.τ).loc Cert.KernelIdeal.main_arg9) = Layout.block ⟨3, ![2, 1024, 320]⟩ ⟨3, ![2, 1024, 2560]⟩ 2 8 c (m' (((0 : Dev Cert.ReferenceIdeal.nD).tc : Thread Cert.ReferenceIdeal.nD Cert.ReferenceIdeal.τ).loc Cert.ReferenceIdeal.main_arg9))
      ∧ m ((c.tc : Thread Cert.KernelIdeal.nD Cert.KernelIdeal.τ).loc Cert.KernelIdeal.main_arg10) = Layout.block ⟨3, ![2, 128, 1024]⟩ ⟨3, ![2, 1024, 1024]⟩ 1 8 c (m' (((0 : Dev Cert.ReferenceIdeal.nD).tc : Thread Cert.ReferenceIdeal.nD Cert.ReferenceIdeal.τ).loc Cert.ReferenceIdeal.main_arg10))
      ∧ m ((c.tc : Thread Cert.KernelIdeal.nD Cert.KernelIdeal.τ).loc Cert.KernelIdeal.main_arg11) = Layout.block ⟨3, ![2, 32, 256]⟩ ⟨3, ![2, 256, 256]⟩ 1 8 c (m' (((0 : Dev Cert.ReferenceIdeal.nD).tc : Thread Cert.ReferenceIdeal.nD Cert.ReferenceIdeal.τ).loc Cert.ReferenceIdeal.main_arg11))
      ∧ m ((c.tc : Thread Cert.KernelIdeal.nD Cert.KernelIdeal.τ).loc Cert.KernelIdeal.main_arg12) = Layout.block ⟨3, ![2, 31, 32]⟩ ⟨3, ![2, 31, 256]⟩ 2 8 c (m' (((0 : Dev Cert.ReferenceIdeal.nD).tc : Thread Cert.ReferenceIdeal.nD Cert.ReferenceIdeal.τ).loc Cert.ReferenceIdeal.main_arg12))) →
    ∃ (v0 : Buf (Elt Ideal) (((0 : Dev Cert.ReferenceIdeal.nD).tc : Thread Cert.ReferenceIdeal.nD Cert.ReferenceIdeal.τ).loc Cert.ReferenceIdeal.main_v5)) (v1 : Buf (Elt Ideal) (((0 : Dev Cert.ReferenceIdeal.nD).tc : Thread Cert.ReferenceIdeal.nD Cert.ReferenceIdeal.τ).loc Cert.ReferenceIdeal.main_v9)) (v2 : Buf (Elt Ideal) (((0 : Dev Cert.ReferenceIdeal.nD).tc : Thread Cert.ReferenceIdeal.nD Cert.ReferenceIdeal.τ).loc Cert.ReferenceIdeal.main_v13)) (v3 : Buf (Elt Ideal) (((0 : Dev Cert.ReferenceIdeal.nD).tc : Thread Cert.ReferenceIdeal.nD Cert.ReferenceIdeal.τ).loc Cert.ReferenceIdeal.main_v18)) (v4 : Buf (Elt Ideal) (((0 : Dev Cert.ReferenceIdeal.nD).tc : Thread Cert.ReferenceIdeal.nD Cert.ReferenceIdeal.τ).loc Cert.ReferenceIdeal.main_v42)) (v5 : Buf (Elt Ideal) (((0 : Dev Cert.ReferenceIdeal.nD).tc : Thread Cert.ReferenceIdeal.nD Cert.ReferenceIdeal.τ).loc Cert.ReferenceIdeal.main_v66)) (v6 : Buf (Elt Ideal) (((0 : Dev Cert.ReferenceIdeal.nD).tc : Thread Cert.ReferenceIdeal.nD Cert.ReferenceIdeal.τ).loc Cert.ReferenceIdeal.main_v90)) (v7 : Buf (Elt Ideal) (((0 : Dev Cert.ReferenceIdeal.nD).tc : Thread Cert.ReferenceIdeal.nD Cert.ReferenceIdeal.τ).loc Cert.ReferenceIdeal.main_v114)) (v8 : Buf (Elt Ideal) (((0 : Dev Cert.ReferenceIdeal.nD).tc : Thread Cert.ReferenceIdeal.nD Cert.ReferenceIdeal.τ).loc Cert.ReferenceIdeal.main_v23)) (v9 : Buf (Elt Ideal) (((0 : Dev Cert.ReferenceIdeal.nD).tc : Thread Cert.ReferenceIdeal.nD Cert.ReferenceIdeal.τ).loc Cert.ReferenceIdeal.main_v47)) (v10 : Buf (Elt Ideal) (((0 : Dev Cert.ReferenceIdeal.nD).tc : Thread Cert.ReferenceIdeal.nD Cert.ReferenceIdeal.τ).loc Cert.ReferenceIdeal.main_v71)) (v11 : Buf (Elt Ideal) (((0 : Dev Cert.ReferenceIdeal.nD).tc : Thread Cert.ReferenceIdeal.nD Cert.ReferenceIdeal.τ).loc Cert.ReferenceIdeal.main_v95)) (v12 : Buf (Elt Ideal) (((0 : Dev Cert.ReferenceIdeal.nD).tc : Thread Cert.ReferenceIdeal.nD Cert.ReferenceIdeal.τ).loc Cert.ReferenceIdeal.main_v29)) (v13 : Buf (Elt Ideal) (((0 : Dev Cert.ReferenceIdeal.nD).tc : Thread Cert.ReferenceIdeal.nD Cert.ReferenceIdeal.τ).loc Cert.ReferenceIdeal.main_v53)) (v14 : Buf (Elt Ideal) (((0 : Dev Cert.ReferenceIdeal.nD).tc : Thread Cert.ReferenceIdeal.nD Cert.ReferenceIdeal.τ).loc Cert.ReferenceIdeal.main_v77)) (v15 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = Layout.block ⟨3, ![2, 1024, 320]⟩ ⟨3, ![2, 1024, 2560]⟩ 2 8 c v0
          ∧ r.2.mem ((c.tc : Thread Cert.KernelIdeal.nD Cert.KernelIdeal.τ).loc Cert.KernelIdeal.main_v37) = Layout.block ⟨3, ![2, 128, 1024]⟩ ⟨3, ![2, 1024, 1024]⟩ 1 8 c v1
          ∧ r.2.mem ((c.tc : Thread Cert.KernelIdeal.nD Cert.KernelIdeal.τ).loc Cert.KernelIdeal.main_v39) = Layout.block ⟨3, ![2, 32, 256]⟩ ⟨3, ![2, 256, 256]⟩ 1 8 c v2
          ∧ r.2.mem ((c.tc : Thread Cert.KernelIdeal.nD Cert.KernelIdeal.τ).loc Cert.KernelIdeal.main_v43) = Layout.block ⟨3, ![2, 31, 32]⟩ ⟨3, ![2, 31, 256]⟩ 2 8 c v3
          ∧ r.2.mem ((c.tc : Thread Cert.KernelIdeal.nD Cert.KernelIdeal.τ).loc Cert.KernelIdeal.main_v46) = Layout.block ⟨3, ![2, 1024, 320]⟩ ⟨3, ![2, 1024, 2560]⟩ 2 8 c v4
          ∧ r.2.mem ((c.tc : Thread Cert.KernelIdeal.nD Cert.KernelIdeal.τ).loc Cert.KernelIdeal.main_v48) = Layout.block ⟨3, ![2, 128, 1024]⟩ ⟨3, ![2, 1024, 1024]⟩ 1 8 c v5
          ∧ r.2.mem ((c.tc : Thread Cert.KernelIdeal.nD Cert.KernelIdeal.τ).loc Cert.KernelIdeal.main_v50) = Layout.block ⟨3, ![2, 32, 256]⟩ ⟨3, ![2, 256, 256]⟩ 1 8 c v6
          ∧ r.2.mem ((c.tc : Thread Cert.KernelIdeal.nD Cert.KernelIdeal.τ).loc Cert.KernelIdeal.main_v54) = Layout.block ⟨3, ![2, 31, 32]⟩ ⟨3, ![2, 31, 256]⟩ 2 8 c v7
          ∧ r.2.mem ((c.tc : Thread Cert.KernelIdeal.nD Cert.KernelIdeal.τ).loc Cert.KernelIdeal.main_v57) = Layout.block ⟨3, ![2, 1024, 320]⟩ ⟨3, ![2, 1024, 2560]⟩ 2 8 c v8
          ∧ r.2.mem ((c.tc : Thread Cert.KernelIdeal.nD Cert.KernelIdeal.τ).loc Cert.KernelIdeal.main_v59) = Layout.block ⟨3, ![2, 128, 1024]⟩ ⟨3, ![2, 1024, 1024]⟩ 1 8 c v9
          ∧ r.2.mem ((c.tc : Thread Cert.KernelIdeal.nD Cert.KernelIdeal.τ).loc Cert.KernelIdeal.main_v61) = Layout.block ⟨3, ![2, 32, 256]⟩ ⟨3, ![2, 256, 256]⟩ 1 8 c v10
          ∧ r.2.mem ((c.tc : Thread Cert.KernelIdeal.nD Cert.KernelIdeal.τ).loc Cert.KernelIdeal.main_v65) = Layout.block ⟨3, ![2, 31, 32]⟩ ⟨3, ![2, 31, 256]⟩ 2 8 c v11
          ∧ r.2.mem ((c.tc : Thread Cert.KernelIdeal.nD Cert.KernelIdeal.τ).loc Cert.KernelIdeal.main_v68) = Layout.block ⟨3, ![2, 1024, 320]⟩ ⟨3, ![2, 1024, 2560]⟩ 2 8 c v12
          ∧ r.2.mem ((c.tc : Thread Cert.KernelIdeal.nD Cert.KernelIdeal.τ).loc Cert.KernelIdeal.main_v70) = Layout.block ⟨3, ![2, 128, 1024]⟩ ⟨3, ![2, 1024, 1024]⟩ 1 8 c v13
          ∧ r.2.mem ((c.tc : Thread Cert.KernelIdeal.nD Cert.KernelIdeal.τ).loc Cert.KernelIdeal.main_v72) = Layout.block ⟨3, ![2, 32, 256]⟩ ⟨3, ![2, 256, 256]⟩ 1 8 c v14
          ∧ r.2.mem ((c.tc : Thread Cert.KernelIdeal.nD Cert.KernelIdeal.τ).loc Cert.KernelIdeal.main_v76) = Layout.block ⟨3, ![2, 31, 32]⟩ ⟨3, ![2, 31, 256]⟩ 2 8 c v15
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_v9) = v1
          ∧ r.2.mem (((0 : Dev Cert.ReferenceIdeal.nD).tc : Thread Cert.ReferenceIdeal.nD Cert.ReferenceIdeal.τ).loc Cert.ReferenceIdeal.main_v13) = v2
          ∧ r.2.mem (((0 : Dev Cert.ReferenceIdeal.nD).tc : Thread Cert.ReferenceIdeal.nD Cert.ReferenceIdeal.τ).loc Cert.ReferenceIdeal.main_v18) = v3
          ∧ r.2.mem (((0 : Dev Cert.ReferenceIdeal.nD).tc : Thread Cert.ReferenceIdeal.nD Cert.ReferenceIdeal.τ).loc Cert.ReferenceIdeal.main_v42) = v4
          ∧ r.2.mem (((0 : Dev Cert.ReferenceIdeal.nD).tc : Thread Cert.ReferenceIdeal.nD Cert.ReferenceIdeal.τ).loc Cert.ReferenceIdeal.main_v66) = v5
          ∧ r.2.mem (((0 : Dev Cert.ReferenceIdeal.nD).tc : Thread Cert.ReferenceIdeal.nD Cert.ReferenceIdeal.τ).loc Cert.ReferenceIdeal.main_v90) = v6
          ∧ r.2.mem (((0 : Dev Cert.ReferenceIdeal.nD).tc : Thread Cert.ReferenceIdeal.nD Cert.ReferenceIdeal.τ).loc Cert.ReferenceIdeal.main_v114) = v7
          ∧ r.2.mem (((0 : Dev Cert.ReferenceIdeal.nD).tc : Thread Cert.ReferenceIdeal.nD Cert.ReferenceIdeal.τ).loc Cert.ReferenceIdeal.main_v23) = v8
          ∧ r.2.mem (((0 : Dev Cert.ReferenceIdeal.nD).tc : Thread Cert.ReferenceIdeal.nD Cert.ReferenceIdeal.τ).loc Cert.ReferenceIdeal.main_v47) = v9
          ∧ r.2.mem (((0 : Dev Cert.ReferenceIdeal.nD).tc : Thread Cert.ReferenceIdeal.nD Cert.ReferenceIdeal.τ).loc Cert.ReferenceIdeal.main_v71) = v10
          ∧ r.2.mem (((0 : Dev Cert.ReferenceIdeal.nD).tc : Thread Cert.ReferenceIdeal.nD Cert.ReferenceIdeal.τ).loc Cert.ReferenceIdeal.main_v95) = v11
          ∧ r.2.mem (((0 : Dev Cert.ReferenceIdeal.nD).tc : Thread Cert.ReferenceIdeal.nD Cert.ReferenceIdeal.τ).loc Cert.ReferenceIdeal.main_v29) = v12
          ∧ r.2.mem (((0 : Dev Cert.ReferenceIdeal.nD).tc : Thread Cert.ReferenceIdeal.nD Cert.ReferenceIdeal.τ).loc Cert.ReferenceIdeal.main_v53) = v13
          ∧ r.2.mem (((0 : Dev Cert.ReferenceIdeal.nD).tc : Thread Cert.ReferenceIdeal.nD Cert.ReferenceIdeal.τ).loc Cert.ReferenceIdeal.main_v77) = v14
          ∧ r.2.mem (((0 : Dev Cert.ReferenceIdeal.nD).tc : Thread Cert.ReferenceIdeal.nD Cert.ReferenceIdeal.τ).loc Cert.ReferenceIdeal.main_v101) = v15
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8)
          ∧ r.2.mem (((0 : Dev Cert.ReferenceIdeal.nD).tc : Thread Cert.ReferenceIdeal.nD Cert.ReferenceIdeal.τ).loc Cert.ReferenceIdeal.main_arg9) = m' (((0 : Dev Cert.ReferenceIdeal.nD).tc : Thread Cert.ReferenceIdeal.nD Cert.ReferenceIdeal.τ).loc Cert.ReferenceIdeal.main_arg9)
          ∧ r.2.mem (((0 : Dev Cert.ReferenceIdeal.nD).tc : Thread Cert.ReferenceIdeal.nD Cert.ReferenceIdeal.τ).loc Cert.ReferenceIdeal.main_arg10) = m' (((0 : Dev Cert.ReferenceIdeal.nD).tc : Thread Cert.ReferenceIdeal.nD Cert.ReferenceIdeal.τ).loc Cert.ReferenceIdeal.main_arg10)
          ∧ r.2.mem (((0 : Dev Cert.ReferenceIdeal.nD).tc : Thread Cert.ReferenceIdeal.nD Cert.ReferenceIdeal.τ).loc Cert.ReferenceIdeal.main_arg11) = m' (((0 : Dev Cert.ReferenceIdeal.nD).tc : Thread Cert.ReferenceIdeal.nD Cert.ReferenceIdeal.τ).loc Cert.ReferenceIdeal.main_arg11)
          ∧ r.2.mem (((0 : Dev Cert.ReferenceIdeal.nD).tc : Thread Cert.ReferenceIdeal.nD Cert.ReferenceIdeal.τ).loc Cert.ReferenceIdeal.main_arg12) = m' (((0 : Dev Cert.ReferenceIdeal.nD).tc : Thread Cert.ReferenceIdeal.nD Cert.ReferenceIdeal.τ).loc Cert.ReferenceIdeal.main_arg12))

def preserves_Replicated_ReplicatedIdeal : Prop :=
  True

def algebraic_ReplicatedIdeal_ReplicatedReferenceIdeal [hReplicatedIdeal : Cert.ReplicatedIdeal.Facts] [hReplicatedReferenceIdeal : Cert.ReplicatedReferenceIdeal.Facts] : Prop :=
  ∀ (m : (ℓ : Loc Cert.ReplicatedIdeal.nD Cert.ReplicatedIdeal.τ Cert.ReplicatedIdeal.sig) → Buf (Elt Ideal) ℓ) (g : Dev Cert.ReplicatedIdeal.nD → PrngReg)
    (m' : (ℓ : Loc Cert.ReplicatedReferenceIdeal.nD Cert.ReplicatedReferenceIdeal.τ Cert.ReplicatedReferenceIdeal.sig) → Buf (Elt Ideal) ℓ) (g' : Dev Cert.ReplicatedReferenceIdeal.nD → PrngReg), Pre_ReplicatedIdeal m →
    (∀ c : Dev Cert.ReplicatedIdeal.nD,
      m' ((c.tc : Thread Cert.ReplicatedReferenceIdeal.nD Cert.ReplicatedReferenceIdeal.τ).loc Cert.ReplicatedReferenceIdeal.main_arg0) = m ((c.tc : Thread Cert.ReplicatedIdeal.nD Cert.ReplicatedIdeal.τ).loc Cert.ReplicatedIdeal.main_arg0)
      ∧ m' ((c.tc : Thread Cert.ReplicatedReferenceIdeal.nD Cert.ReplicatedReferenceIdeal.τ).loc Cert.ReplicatedReferenceIdeal.main_arg1) = m ((c.tc : Thread Cert.ReplicatedIdeal.nD Cert.ReplicatedIdeal.τ).loc Cert.ReplicatedIdeal.main_arg1)
      ∧ m' ((c.tc : Thread Cert.ReplicatedReferenceIdeal.nD Cert.ReplicatedReferenceIdeal.τ).loc Cert.ReplicatedReferenceIdeal.main_arg2) = m ((c.tc : Thread Cert.ReplicatedIdeal.nD Cert.ReplicatedIdeal.τ).loc Cert.ReplicatedIdeal.main_arg2)
      ∧ m' ((c.tc : Thread Cert.ReplicatedReferenceIdeal.nD Cert.ReplicatedReferenceIdeal.τ).loc Cert.ReplicatedReferenceIdeal.main_arg3) = m ((c.tc : Thread Cert.ReplicatedIdeal.nD Cert.ReplicatedIdeal.τ).loc Cert.ReplicatedIdeal.main_arg3)
      ∧ m' ((c.tc : Thread Cert.ReplicatedReferenceIdeal.nD Cert.ReplicatedReferenceIdeal.τ).loc Cert.ReplicatedReferenceIdeal.main_arg4) = m ((c.tc : Thread Cert.ReplicatedIdeal.nD Cert.ReplicatedIdeal.τ).loc Cert.ReplicatedIdeal.main_arg4)
      ∧ m' ((c.tc : Thread Cert.ReplicatedReferenceIdeal.nD Cert.ReplicatedReferenceIdeal.τ).loc Cert.ReplicatedReferenceIdeal.main_arg5) = m ((c.tc : Thread Cert.ReplicatedIdeal.nD Cert.ReplicatedIdeal.τ).loc Cert.ReplicatedIdeal.main_arg5)
      ∧ m' ((c.tc : Thread Cert.ReplicatedReferenceIdeal.nD Cert.ReplicatedReferenceIdeal.τ).loc Cert.ReplicatedReferenceIdeal.main_arg6) = m ((c.tc : Thread Cert.ReplicatedIdeal.nD Cert.ReplicatedIdeal.τ).loc Cert.ReplicatedIdeal.main_arg6)
      ∧ m' ((c.tc : Thread Cert.ReplicatedReferenceIdeal.nD Cert.ReplicatedReferenceIdeal.τ).loc Cert.ReplicatedReferenceIdeal.main_arg7) = m ((c.tc : Thread Cert.ReplicatedIdeal.nD Cert.ReplicatedIdeal.τ).loc Cert.ReplicatedIdeal.main_arg7)
      ∧ m' ((c.tc : Thread Cert.ReplicatedReferenceIdeal.nD Cert.ReplicatedReferenceIdeal.τ).loc Cert.ReplicatedReferenceIdeal.main_arg8) = m ((c.tc : Thread Cert.ReplicatedIdeal.nD Cert.ReplicatedIdeal.τ).loc Cert.ReplicatedIdeal.main_arg8)
      ∧ m' ((c.tc : Thread Cert.ReplicatedReferenceIdeal.nD Cert.ReplicatedReferenceIdeal.τ).loc Cert.ReplicatedReferenceIdeal.main_arg9) = m ((c.tc : Thread Cert.ReplicatedIdeal.nD Cert.ReplicatedIdeal.τ).loc Cert.ReplicatedIdeal.main_arg9)
      ∧ m' ((c.tc : Thread Cert.ReplicatedReferenceIdeal.nD Cert.ReplicatedReferenceIdeal.τ).loc Cert.ReplicatedReferenceIdeal.main_arg10) = m ((c.tc : Thread Cert.ReplicatedIdeal.nD Cert.ReplicatedIdeal.τ).loc Cert.ReplicatedIdeal.main_arg10)
      ∧ m' ((c.tc : Thread Cert.ReplicatedReferenceIdeal.nD Cert.ReplicatedReferenceIdeal.τ).loc Cert.ReplicatedReferenceIdeal.main_arg11) = m ((c.tc : Thread Cert.ReplicatedIdeal.nD Cert.ReplicatedIdeal.τ).loc Cert.ReplicatedIdeal.main_arg11)
      ∧ m' ((c.tc : Thread Cert.ReplicatedReferenceIdeal.nD Cert.ReplicatedReferenceIdeal.τ).loc Cert.ReplicatedReferenceIdeal.main_arg12) = m ((c.tc : Thread Cert.ReplicatedIdeal.nD Cert.ReplicatedIdeal.τ).loc Cert.ReplicatedIdeal.main_arg12)
      ∧ m' ((c.tc : Thread Cert.ReplicatedReferenceIdeal.nD Cert.ReplicatedReferenceIdeal.τ).loc Cert.ReplicatedReferenceIdeal.main_arg13) = m ((c.tc : Thread Cert.ReplicatedIdeal.nD Cert.ReplicatedIdeal.τ).loc Cert.ReplicatedIdeal.main_arg13)
      ∧ m' ((c.tc : Thread Cert.ReplicatedReferenceIdeal.nD Cert.ReplicatedReferenceIdeal.τ).loc Cert.ReplicatedReferenceIdeal.main_arg14) = m ((c.tc : Thread Cert.ReplicatedIdeal.nD Cert.ReplicatedIdeal.τ).loc Cert.ReplicatedIdeal.main_arg14)
      ∧ m' ((c.tc : Thread Cert.ReplicatedReferenceIdeal.nD Cert.ReplicatedReferenceIdeal.τ).loc Cert.ReplicatedReferenceIdeal.main_arg15) = m ((c.tc : Thread Cert.ReplicatedIdeal.nD Cert.ReplicatedIdeal.τ).loc Cert.ReplicatedIdeal.main_arg15)
      ∧ m' ((c.tc : Thread Cert.ReplicatedReferenceIdeal.nD Cert.ReplicatedReferenceIdeal.τ).loc Cert.ReplicatedReferenceIdeal.main_arg16) = m ((c.tc : Thread Cert.ReplicatedIdeal.nD Cert.ReplicatedIdeal.τ).loc Cert.ReplicatedIdeal.main_arg16)
      ∧ m' ((c.tc : Thread Cert.ReplicatedReferenceIdeal.nD Cert.ReplicatedReferenceIdeal.τ).loc Cert.ReplicatedReferenceIdeal.main_arg17) = m ((c.tc : Thread Cert.ReplicatedIdeal.nD Cert.ReplicatedIdeal.τ).loc Cert.ReplicatedIdeal.main_arg17)
      ∧ m' ((c.tc : Thread Cert.ReplicatedReferenceIdeal.nD Cert.ReplicatedReferenceIdeal.τ).loc Cert.ReplicatedReferenceIdeal.main_arg18) = m ((c.tc : Thread Cert.ReplicatedIdeal.nD Cert.ReplicatedIdeal.τ).loc Cert.ReplicatedIdeal.main_arg18)
      ∧ m' ((c.tc : Thread Cert.ReplicatedReferenceIdeal.nD Cert.ReplicatedReferenceIdeal.τ).loc Cert.ReplicatedReferenceIdeal.main_arg19) = m ((c.tc : Thread Cert.ReplicatedIdeal.nD Cert.ReplicatedIdeal.τ).loc Cert.ReplicatedIdeal.main_arg19)
      ∧ m' ((c.tc : Thread Cert.ReplicatedReferenceIdeal.nD Cert.ReplicatedReferenceIdeal.τ).loc Cert.ReplicatedReferenceIdeal.main_arg20) = m ((c.tc : Thread Cert.ReplicatedIdeal.nD Cert.ReplicatedIdeal.τ).loc Cert.ReplicatedIdeal.main_arg20)
      ∧ m' ((c.tc : Thread Cert.ReplicatedReferenceIdeal.nD Cert.ReplicatedReferenceIdeal.τ).loc Cert.ReplicatedReferenceIdeal.main_arg21) = m ((c.tc : Thread Cert.ReplicatedIdeal.nD Cert.ReplicatedIdeal.τ).loc Cert.ReplicatedIdeal.main_arg21)
      ∧ m' ((c.tc : Thread Cert.ReplicatedReferenceIdeal.nD Cert.ReplicatedReferenceIdeal.τ).loc Cert.ReplicatedReferenceIdeal.main_arg22) = m ((c.tc : Thread Cert.ReplicatedIdeal.nD Cert.ReplicatedIdeal.τ).loc Cert.ReplicatedIdeal.main_arg22)
      ∧ m' ((c.tc : Thread Cert.ReplicatedReferenceIdeal.nD Cert.ReplicatedReferenceIdeal.τ).loc Cert.ReplicatedReferenceIdeal.main_arg23) = m ((c.tc : Thread Cert.ReplicatedIdeal.nD Cert.ReplicatedIdeal.τ).loc Cert.ReplicatedIdeal.main_arg23)
      ∧ m' ((c.tc : Thread Cert.ReplicatedReferenceIdeal.nD Cert.ReplicatedReferenceIdeal.τ).loc Cert.ReplicatedReferenceIdeal.main_arg24) = m ((c.tc : Thread Cert.ReplicatedIdeal.nD Cert.ReplicatedIdeal.τ).loc Cert.ReplicatedIdeal.main_arg24)) →
    ∃ (v0 : (c : Dev Cert.ReplicatedIdeal.nD) → Buf (Elt Ideal) ((c.tc : Thread Cert.ReplicatedIdeal.nD Cert.ReplicatedIdeal.τ).loc Cert.ReplicatedIdeal.main_v32)) (v1 : (c : Dev Cert.ReplicatedIdeal.nD) → Buf (Elt Ideal) ((c.tc : Thread Cert.ReplicatedIdeal.nD Cert.ReplicatedIdeal.τ).loc Cert.ReplicatedIdeal.main_v36)) (v2 : (c : Dev Cert.ReplicatedIdeal.nD) → Buf (Elt Ideal) ((c.tc : Thread Cert.ReplicatedIdeal.nD Cert.ReplicatedIdeal.τ).loc Cert.ReplicatedIdeal.main_v40)) (v3 : (c : Dev Cert.ReplicatedIdeal.nD) → Buf (Elt Ideal) ((c.tc : Thread Cert.ReplicatedIdeal.nD Cert.ReplicatedIdeal.τ).loc Cert.ReplicatedIdeal.main_v41)) (v4 : (c : Dev Cert.ReplicatedIdeal.nD) → Buf (Elt Ideal) ((c.tc : Thread Cert.ReplicatedIdeal.nD Cert.ReplicatedIdeal.τ).loc Cert.ReplicatedIdeal.main_v42)) (v5 : (c : Dev Cert.ReplicatedIdeal.nD) → Buf (Elt Ideal) ((c.tc : Thread Cert.ReplicatedIdeal.nD Cert.ReplicatedIdeal.τ).loc Cert.ReplicatedIdeal.main_v43)) (v6 : (c : Dev Cert.ReplicatedIdeal.nD) → Buf (Elt Ideal) ((c.tc : Thread Cert.ReplicatedIdeal.nD Cert.ReplicatedIdeal.τ).loc Cert.ReplicatedIdeal.main_v44)) (v7 : (c : Dev Cert.ReplicatedIdeal.nD) → Buf (Elt Ideal) ((c.tc : Thread Cert.ReplicatedIdeal.nD Cert.ReplicatedIdeal.τ).loc Cert.ReplicatedIdeal.main_v34)) (v8 : (c : Dev Cert.ReplicatedIdeal.nD) → Buf (Elt Ideal) ((c.tc : Thread Cert.ReplicatedIdeal.nD Cert.ReplicatedIdeal.τ).loc Cert.ReplicatedIdeal.main_v46)) (v9 : (c : Dev Cert.ReplicatedIdeal.nD) → Buf (Elt Ideal) ((c.tc : Thread Cert.ReplicatedIdeal.nD Cert.ReplicatedIdeal.τ).loc Cert.ReplicatedIdeal.main_v50)) (v10 : (c : Dev Cert.ReplicatedIdeal.nD) → Buf (Elt Ideal) ((c.tc : Thread Cert.ReplicatedIdeal.nD Cert.ReplicatedIdeal.τ).loc Cert.ReplicatedIdeal.main_v54)) (v11 : (c : Dev Cert.ReplicatedIdeal.nD) → Buf (Elt Ideal) ((c.tc : Thread Cert.ReplicatedIdeal.nD Cert.ReplicatedIdeal.τ).loc Cert.ReplicatedIdeal.main_v55)) (v12 : (c : Dev Cert.ReplicatedIdeal.nD) → Buf (Elt Ideal) ((c.tc : Thread Cert.ReplicatedIdeal.nD Cert.ReplicatedIdeal.τ).loc Cert.ReplicatedIdeal.main_v56)) (v13 : (c : Dev Cert.ReplicatedIdeal.nD) → Buf (Elt Ideal) ((c.tc : Thread Cert.ReplicatedIdeal.nD Cert.ReplicatedIdeal.τ).loc Cert.ReplicatedIdeal.main_v57)) (v14 : (c : Dev Cert.ReplicatedIdeal.nD) → Buf (Elt Ideal) ((c.tc : Thread Cert.ReplicatedIdeal.nD Cert.ReplicatedIdeal.τ).loc Cert.ReplicatedIdeal.main_v58)) (v15 : (c : Dev Cert.ReplicatedIdeal.nD) → Buf (Elt Ideal) ((c.tc : Thread Cert.ReplicatedIdeal.nD Cert.ReplicatedIdeal.τ).loc Cert.ReplicatedIdeal.main_v48)) (v16 : (c : Dev Cert.ReplicatedIdeal.nD) → Buf (Elt Ideal) ((c.tc : Thread Cert.ReplicatedIdeal.nD Cert.ReplicatedIdeal.τ).loc Cert.ReplicatedIdeal.main_v60)) (v17 : (c : Dev Cert.ReplicatedIdeal.nD) → Buf (Elt Ideal) ((c.tc : Thread Cert.ReplicatedIdeal.nD Cert.ReplicatedIdeal.τ).loc Cert.ReplicatedIdeal.main_v64)) (v18 : (c : Dev Cert.ReplicatedIdeal.nD) → Buf (Elt Ideal) ((c.tc : Thread Cert.ReplicatedIdeal.nD Cert.ReplicatedIdeal.τ).loc Cert.ReplicatedIdeal.main_v68)) (v19 : (c : Dev Cert.ReplicatedIdeal.nD) → Buf (Elt Ideal) ((c.tc : Thread Cert.ReplicatedIdeal.nD Cert.ReplicatedIdeal.τ).loc Cert.ReplicatedIdeal.main_v69)) (v20 : (c : Dev Cert.ReplicatedIdeal.nD) → Buf (Elt Ideal) ((c.tc : Thread Cert.ReplicatedIdeal.nD Cert.ReplicatedIdeal.τ).loc Cert.ReplicatedIdeal.main_v70)) (v21 : (c : Dev Cert.ReplicatedIdeal.nD) → Buf (Elt Ideal) ((c.tc : Thread Cert.ReplicatedIdeal.nD Cert.ReplicatedIdeal.τ).loc Cert.ReplicatedIdeal.main_v71)) (v22 : (c : Dev Cert.ReplicatedIdeal.nD) → Buf (Elt Ideal) ((c.tc : Thread Cert.ReplicatedIdeal.nD Cert.ReplicatedIdeal.τ).loc Cert.ReplicatedIdeal.main_v72)) (v23 : (c : Dev Cert.ReplicatedIdeal.nD) → Buf (Elt Ideal) ((c.tc : Thread Cert.ReplicatedIdeal.nD Cert.ReplicatedIdeal.τ).loc Cert.ReplicatedIdeal.main_v62)) (v24 : (c : Dev Cert.ReplicatedIdeal.nD) → Buf (Elt Ideal) ((c.tc : Thread Cert.ReplicatedIdeal.nD Cert.ReplicatedIdeal.τ).loc Cert.ReplicatedIdeal.main_v74)) (v25 : (c : Dev Cert.ReplicatedIdeal.nD) → Buf (Elt Ideal) ((c.tc : Thread Cert.ReplicatedIdeal.nD Cert.ReplicatedIdeal.τ).loc Cert.ReplicatedIdeal.main_v78)) (v26 : (c : Dev Cert.ReplicatedIdeal.nD) → Buf (Elt Ideal) ((c.tc : Thread Cert.ReplicatedIdeal.nD Cert.ReplicatedIdeal.τ).loc Cert.ReplicatedIdeal.main_v82)) (v27 : (c : Dev Cert.ReplicatedIdeal.nD) → Buf (Elt Ideal) ((c.tc : Thread Cert.ReplicatedIdeal.nD Cert.ReplicatedIdeal.τ).loc Cert.ReplicatedIdeal.main_v83)) (v28 : (c : Dev Cert.ReplicatedIdeal.nD) → Buf (Elt Ideal) ((c.tc : Thread Cert.ReplicatedIdeal.nD Cert.ReplicatedIdeal.τ).loc Cert.ReplicatedIdeal.main_v84)) (v29 : (c : Dev Cert.ReplicatedIdeal.nD) → Buf (Elt Ideal) ((c.tc : Thread Cert.ReplicatedIdeal.nD Cert.ReplicatedIdeal.τ).loc Cert.ReplicatedIdeal.main_v85)) (v30 : (c : Dev Cert.ReplicatedIdeal.nD) → Buf (Elt Ideal) ((c.tc : Thread Cert.ReplicatedIdeal.nD Cert.ReplicatedIdeal.τ).loc Cert.ReplicatedIdeal.main_v86)) (v31 : (c : Dev Cert.ReplicatedIdeal.nD) → Buf (Elt Ideal) ((c.tc : Thread Cert.ReplicatedIdeal.nD Cert.ReplicatedIdeal.τ).loc Cert.ReplicatedIdeal.main_v76)),
      θ_run (Cert.ReplicatedIdeal.defs (F := Ideal)) (onTc (τ := Cert.ReplicatedIdeal.τ) (Cert.ReplicatedIdeal.main (F := Ideal))) ⟨m, fun _ => 0, g⟩ (fun r => ∀ c : Dev Cert.ReplicatedIdeal.nD,
          r.2.mem ((c.tc : Thread Cert.ReplicatedIdeal.nD Cert.ReplicatedIdeal.τ).loc Cert.ReplicatedIdeal.main_v32) = v0 c
          ∧ r.2.mem ((c.tc : Thread Cert.ReplicatedIdeal.nD Cert.ReplicatedIdeal.τ).loc Cert.ReplicatedIdeal.main_v36) = v1 c
          ∧ r.2.mem ((c.tc : Thread Cert.ReplicatedIdeal.nD Cert.ReplicatedIdeal.τ).loc Cert.ReplicatedIdeal.main_v40) = v2 c
          ∧ r.2.mem ((c.tc : Thread Cert.ReplicatedIdeal.nD Cert.ReplicatedIdeal.τ).loc Cert.ReplicatedIdeal.main_v41) = v3 c
          ∧ r.2.mem ((c.tc : Thread Cert.ReplicatedIdeal.nD Cert.ReplicatedIdeal.τ).loc Cert.ReplicatedIdeal.main_v42) = v4 c
          ∧ r.2.mem ((c.tc : Thread Cert.ReplicatedIdeal.nD Cert.ReplicatedIdeal.τ).loc Cert.ReplicatedIdeal.main_v43) = v5 c
          ∧ r.2.mem ((c.tc : Thread Cert.ReplicatedIdeal.nD Cert.ReplicatedIdeal.τ).loc Cert.ReplicatedIdeal.main_v44) = v6 c
          ∧ r.2.mem ((c.tc : Thread Cert.ReplicatedIdeal.nD Cert.ReplicatedIdeal.τ).loc Cert.ReplicatedIdeal.main_v34) = v7 c
          ∧ r.2.mem ((c.tc : Thread Cert.ReplicatedIdeal.nD Cert.ReplicatedIdeal.τ).loc Cert.ReplicatedIdeal.main_v46) = v8 c
          ∧ r.2.mem ((c.tc : Thread Cert.ReplicatedIdeal.nD Cert.ReplicatedIdeal.τ).loc Cert.ReplicatedIdeal.main_v50) = v9 c
          ∧ r.2.mem ((c.tc : Thread Cert.ReplicatedIdeal.nD Cert.ReplicatedIdeal.τ).loc Cert.ReplicatedIdeal.main_v54) = v10 c
          ∧ r.2.mem ((c.tc : Thread Cert.ReplicatedIdeal.nD Cert.ReplicatedIdeal.τ).loc Cert.ReplicatedIdeal.main_v55) = v11 c
          ∧ r.2.mem ((c.tc : Thread Cert.ReplicatedIdeal.nD Cert.ReplicatedIdeal.τ).loc Cert.ReplicatedIdeal.main_v56) = v12 c
          ∧ r.2.mem ((c.tc : Thread Cert.ReplicatedIdeal.nD Cert.ReplicatedIdeal.τ).loc Cert.ReplicatedIdeal.main_v57) = v13 c
          ∧ r.2.mem ((c.tc : Thread Cert.ReplicatedIdeal.nD Cert.ReplicatedIdeal.τ).loc Cert.ReplicatedIdeal.main_v58) = v14 c
          ∧ r.2.mem ((c.tc : Thread Cert.ReplicatedIdeal.nD Cert.ReplicatedIdeal.τ).loc Cert.ReplicatedIdeal.main_v48) = v15 c
          ∧ r.2.mem ((c.tc : Thread Cert.ReplicatedIdeal.nD Cert.ReplicatedIdeal.τ).loc Cert.ReplicatedIdeal.main_v60) = v16 c
          ∧ r.2.mem ((c.tc : Thread Cert.ReplicatedIdeal.nD Cert.ReplicatedIdeal.τ).loc Cert.ReplicatedIdeal.main_v64) = v17 c
          ∧ r.2.mem ((c.tc : Thread Cert.ReplicatedIdeal.nD Cert.ReplicatedIdeal.τ).loc Cert.ReplicatedIdeal.main_v68) = v18 c
          ∧ r.2.mem ((c.tc : Thread Cert.ReplicatedIdeal.nD Cert.ReplicatedIdeal.τ).loc Cert.ReplicatedIdeal.main_v69) = v19 c
          ∧ r.2.mem ((c.tc : Thread Cert.ReplicatedIdeal.nD Cert.ReplicatedIdeal.τ).loc Cert.ReplicatedIdeal.main_v70) = v20 c
          ∧ r.2.mem ((c.tc : Thread Cert.ReplicatedIdeal.nD Cert.ReplicatedIdeal.τ).loc Cert.ReplicatedIdeal.main_v71) = v21 c
          ∧ r.2.mem ((c.tc : Thread Cert.ReplicatedIdeal.nD Cert.ReplicatedIdeal.τ).loc Cert.ReplicatedIdeal.main_v72) = v22 c
          ∧ r.2.mem ((c.tc : Thread Cert.ReplicatedIdeal.nD Cert.ReplicatedIdeal.τ).loc Cert.ReplicatedIdeal.main_v62) = v23 c
          ∧ r.2.mem ((c.tc : Thread Cert.ReplicatedIdeal.nD Cert.ReplicatedIdeal.τ).loc Cert.ReplicatedIdeal.main_v74) = v24 c
          ∧ r.2.mem ((c.tc : Thread Cert.ReplicatedIdeal.nD Cert.ReplicatedIdeal.τ).loc Cert.ReplicatedIdeal.main_v78) = v25 c
          ∧ r.2.mem ((c.tc : Thread Cert.ReplicatedIdeal.nD Cert.ReplicatedIdeal.τ).loc Cert.ReplicatedIdeal.main_v82) = v26 c
          ∧ r.2.mem ((c.tc : Thread Cert.ReplicatedIdeal.nD Cert.ReplicatedIdeal.τ).loc Cert.ReplicatedIdeal.main_v83) = v27 c
          ∧ r.2.mem ((c.tc : Thread Cert.ReplicatedIdeal.nD Cert.ReplicatedIdeal.τ).loc Cert.ReplicatedIdeal.main_v84) = v28 c
          ∧ r.2.mem ((c.tc : Thread Cert.ReplicatedIdeal.nD Cert.ReplicatedIdeal.τ).loc Cert.ReplicatedIdeal.main_v85) = v29 c
          ∧ r.2.mem ((c.tc : Thread Cert.ReplicatedIdeal.nD Cert.ReplicatedIdeal.τ).loc Cert.ReplicatedIdeal.main_v86) = v30 c
          ∧ r.2.mem ((c.tc : Thread Cert.ReplicatedIdeal.nD Cert.ReplicatedIdeal.τ).loc Cert.ReplicatedIdeal.main_v76) = v31 c
          ∧ r.2.mem ((c.tc : Thread Cert.ReplicatedIdeal.nD Cert.ReplicatedIdeal.τ).loc Cert.ReplicatedIdeal.main_arg0) = m ((c.tc : Thread Cert.ReplicatedIdeal.nD Cert.ReplicatedIdeal.τ).loc Cert.ReplicatedIdeal.main_arg0)
          ∧ r.2.mem ((c.tc : Thread Cert.ReplicatedIdeal.nD Cert.ReplicatedIdeal.τ).loc Cert.ReplicatedIdeal.main_arg1) = m ((c.tc : Thread Cert.ReplicatedIdeal.nD Cert.ReplicatedIdeal.τ).loc Cert.ReplicatedIdeal.main_arg1)
          ∧ r.2.mem ((c.tc : Thread Cert.ReplicatedIdeal.nD Cert.ReplicatedIdeal.τ).loc Cert.ReplicatedIdeal.main_arg2) = m ((c.tc : Thread Cert.ReplicatedIdeal.nD Cert.ReplicatedIdeal.τ).loc Cert.ReplicatedIdeal.main_arg2)
          ∧ r.2.mem ((c.tc : Thread Cert.ReplicatedIdeal.nD Cert.ReplicatedIdeal.τ).loc Cert.ReplicatedIdeal.main_arg3) = m ((c.tc : Thread Cert.ReplicatedIdeal.nD Cert.ReplicatedIdeal.τ).loc Cert.ReplicatedIdeal.main_arg3)
          ∧ r.2.mem ((c.tc : Thread Cert.ReplicatedIdeal.nD Cert.ReplicatedIdeal.τ).loc Cert.ReplicatedIdeal.main_arg4) = m ((c.tc : Thread Cert.ReplicatedIdeal.nD Cert.ReplicatedIdeal.τ).loc Cert.ReplicatedIdeal.main_arg4)
          ∧ r.2.mem ((c.tc : Thread Cert.ReplicatedIdeal.nD Cert.ReplicatedIdeal.τ).loc Cert.ReplicatedIdeal.main_arg5) = m ((c.tc : Thread Cert.ReplicatedIdeal.nD Cert.ReplicatedIdeal.τ).loc Cert.ReplicatedIdeal.main_arg5)
          ∧ r.2.mem ((c.tc : Thread Cert.ReplicatedIdeal.nD Cert.ReplicatedIdeal.τ).loc Cert.ReplicatedIdeal.main_arg6) = m ((c.tc : Thread Cert.ReplicatedIdeal.nD Cert.ReplicatedIdeal.τ).loc Cert.ReplicatedIdeal.main_arg6)
          ∧ r.2.mem ((c.tc : Thread Cert.ReplicatedIdeal.nD Cert.ReplicatedIdeal.τ).loc Cert.ReplicatedIdeal.main_arg7) = m ((c.tc : Thread Cert.ReplicatedIdeal.nD Cert.ReplicatedIdeal.τ).loc Cert.ReplicatedIdeal.main_arg7)
          ∧ r.2.mem ((c.tc : Thread Cert.ReplicatedIdeal.nD Cert.ReplicatedIdeal.τ).loc Cert.ReplicatedIdeal.main_arg8) = m ((c.tc : Thread Cert.ReplicatedIdeal.nD Cert.ReplicatedIdeal.τ).loc Cert.ReplicatedIdeal.main_arg8)
          ∧ r.2.mem ((c.tc : Thread Cert.ReplicatedIdeal.nD Cert.ReplicatedIdeal.τ).loc Cert.ReplicatedIdeal.main_arg9) = m ((c.tc : Thread Cert.ReplicatedIdeal.nD Cert.ReplicatedIdeal.τ).loc Cert.ReplicatedIdeal.main_arg9)
          ∧ r.2.mem ((c.tc : Thread Cert.ReplicatedIdeal.nD Cert.ReplicatedIdeal.τ).loc Cert.ReplicatedIdeal.main_arg10) = m ((c.tc : Thread Cert.ReplicatedIdeal.nD Cert.ReplicatedIdeal.τ).loc Cert.ReplicatedIdeal.main_arg10)
          ∧ r.2.mem ((c.tc : Thread Cert.ReplicatedIdeal.nD Cert.ReplicatedIdeal.τ).loc Cert.ReplicatedIdeal.main_arg11) = m ((c.tc : Thread Cert.ReplicatedIdeal.nD Cert.ReplicatedIdeal.τ).loc Cert.ReplicatedIdeal.main_arg11)
          ∧ r.2.mem ((c.tc : Thread Cert.ReplicatedIdeal.nD Cert.ReplicatedIdeal.τ).loc Cert.ReplicatedIdeal.main_arg12) = m ((c.tc : Thread Cert.ReplicatedIdeal.nD Cert.ReplicatedIdeal.τ).loc Cert.ReplicatedIdeal.main_arg12)
          ∧ r.2.mem ((c.tc : Thread Cert.ReplicatedIdeal.nD Cert.ReplicatedIdeal.τ).loc Cert.ReplicatedIdeal.main_arg13) = m ((c.tc : Thread Cert.ReplicatedIdeal.nD Cert.ReplicatedIdeal.τ).loc Cert.ReplicatedIdeal.main_arg13)
          ∧ r.2.mem ((c.tc : Thread Cert.ReplicatedIdeal.nD Cert.ReplicatedIdeal.τ).loc Cert.ReplicatedIdeal.main_arg14) = m ((c.tc : Thread Cert.ReplicatedIdeal.nD Cert.ReplicatedIdeal.τ).loc Cert.ReplicatedIdeal.main_arg14)
          ∧ r.2.mem ((c.tc : Thread Cert.ReplicatedIdeal.nD Cert.ReplicatedIdeal.τ).loc Cert.ReplicatedIdeal.main_arg15) = m ((c.tc : Thread Cert.ReplicatedIdeal.nD Cert.ReplicatedIdeal.τ).loc Cert.ReplicatedIdeal.main_arg15)
          ∧ r.2.mem ((c.tc : Thread Cert.ReplicatedIdeal.nD Cert.ReplicatedIdeal.τ).loc Cert.ReplicatedIdeal.main_arg16) = m ((c.tc : Thread Cert.ReplicatedIdeal.nD Cert.ReplicatedIdeal.τ).loc Cert.ReplicatedIdeal.main_arg16)
          ∧ r.2.mem ((c.tc : Thread Cert.ReplicatedIdeal.nD Cert.ReplicatedIdeal.τ).loc Cert.ReplicatedIdeal.main_arg17) = m ((c.tc : Thread Cert.ReplicatedIdeal.nD Cert.ReplicatedIdeal.τ).loc Cert.ReplicatedIdeal.main_arg17)
          ∧ r.2.mem ((c.tc : Thread Cert.ReplicatedIdeal.nD Cert.ReplicatedIdeal.τ).loc Cert.ReplicatedIdeal.main_arg18) = m ((c.tc : Thread Cert.ReplicatedIdeal.nD Cert.ReplicatedIdeal.τ).loc Cert.ReplicatedIdeal.main_arg18)
          ∧ r.2.mem ((c.tc : Thread Cert.ReplicatedIdeal.nD Cert.ReplicatedIdeal.τ).loc Cert.ReplicatedIdeal.main_arg19) = m ((c.tc : Thread Cert.ReplicatedIdeal.nD Cert.ReplicatedIdeal.τ).loc Cert.ReplicatedIdeal.main_arg19)
          ∧ r.2.mem ((c.tc : Thread Cert.ReplicatedIdeal.nD Cert.ReplicatedIdeal.τ).loc Cert.ReplicatedIdeal.main_arg20) = m ((c.tc : Thread Cert.ReplicatedIdeal.nD Cert.ReplicatedIdeal.τ).loc Cert.ReplicatedIdeal.main_arg20)
          ∧ r.2.mem ((c.tc : Thread Cert.ReplicatedIdeal.nD Cert.ReplicatedIdeal.τ).loc Cert.ReplicatedIdeal.main_arg21) = m ((c.tc : Thread Cert.ReplicatedIdeal.nD Cert.ReplicatedIdeal.τ).loc Cert.ReplicatedIdeal.main_arg21)
          ∧ r.2.mem ((c.tc : Thread Cert.ReplicatedIdeal.nD Cert.ReplicatedIdeal.τ).loc Cert.ReplicatedIdeal.main_arg22) = m ((c.tc : Thread Cert.ReplicatedIdeal.nD Cert.ReplicatedIdeal.τ).loc Cert.ReplicatedIdeal.main_arg22)
          ∧ r.2.mem ((c.tc : Thread Cert.ReplicatedIdeal.nD Cert.ReplicatedIdeal.τ).loc Cert.ReplicatedIdeal.main_arg23) = m ((c.tc : Thread Cert.ReplicatedIdeal.nD Cert.ReplicatedIdeal.τ).loc Cert.ReplicatedIdeal.main_arg23)
          ∧ r.2.mem ((c.tc : Thread Cert.ReplicatedIdeal.nD Cert.ReplicatedIdeal.τ).loc Cert.ReplicatedIdeal.main_arg24) = m ((c.tc : Thread Cert.ReplicatedIdeal.nD Cert.ReplicatedIdeal.τ).loc Cert.ReplicatedIdeal.main_arg24))
      ∧ θ_run (Cert.ReplicatedReferenceIdeal.defs (F := Ideal)) (onTc (τ := Cert.ReplicatedReferenceIdeal.τ) (Cert.ReplicatedReferenceIdeal.main (F := Ideal))) ⟨m', fun _ => 0, g'⟩ (fun r => ∀ c : Dev Cert.ReplicatedReferenceIdeal.nD,
          r.2.mem ((c.tc : Thread Cert.ReplicatedReferenceIdeal.nD Cert.ReplicatedReferenceIdeal.τ).loc Cert.ReplicatedReferenceIdeal.main_v3) = v0 c
          ∧ r.2.mem ((c.tc : Thread Cert.ReplicatedReferenceIdeal.nD Cert.ReplicatedReferenceIdeal.τ).loc Cert.ReplicatedReferenceIdeal.main_v5) = v1 c
          ∧ r.2.mem ((c.tc : Thread Cert.ReplicatedReferenceIdeal.nD Cert.ReplicatedReferenceIdeal.τ).loc Cert.ReplicatedReferenceIdeal.main_v6) = v2 c
          ∧ r.2.mem ((c.tc : Thread Cert.ReplicatedReferenceIdeal.nD Cert.ReplicatedReferenceIdeal.τ).loc Cert.ReplicatedReferenceIdeal.main_v7) = v3 c
          ∧ r.2.mem ((c.tc : Thread Cert.ReplicatedReferenceIdeal.nD Cert.ReplicatedReferenceIdeal.τ).loc Cert.ReplicatedReferenceIdeal.main_v8) = v4 c
          ∧ r.2.mem ((c.tc : Thread Cert.ReplicatedReferenceIdeal.nD Cert.ReplicatedReferenceIdeal.τ).loc Cert.ReplicatedReferenceIdeal.main_v9) = v5 c
          ∧ r.2.mem ((c.tc : Thread Cert.ReplicatedReferenceIdeal.nD Cert.ReplicatedReferenceIdeal.τ).loc Cert.ReplicatedReferenceIdeal.main_v10) = v6 c
          ∧ r.2.mem ((c.tc : Thread Cert.ReplicatedReferenceIdeal.nD Cert.ReplicatedReferenceIdeal.τ).loc Cert.ReplicatedReferenceIdeal.main_v12) = v7 c
          ∧ r.2.mem ((c.tc : Thread Cert.ReplicatedReferenceIdeal.nD Cert.ReplicatedReferenceIdeal.τ).loc Cert.ReplicatedReferenceIdeal.main_v36) = v8 c
          ∧ r.2.mem ((c.tc : Thread Cert.ReplicatedReferenceIdeal.nD Cert.ReplicatedReferenceIdeal.τ).loc Cert.ReplicatedReferenceIdeal.main_v60) = v9 c
          ∧ r.2.mem ((c.tc : Thread Cert.ReplicatedReferenceIdeal.nD Cert.ReplicatedReferenceIdeal.τ).loc Cert.ReplicatedReferenceIdeal.main_v84) = v10 c
          ∧ r.2.mem ((c.tc : Thread Cert.ReplicatedReferenceIdeal.nD Cert.ReplicatedReferenceIdeal.τ).loc Cert.ReplicatedReferenceIdeal.main_v108) = v11 c
          ∧ r.2.mem ((c.tc : Thread Cert.ReplicatedReferenceIdeal.nD Cert.ReplicatedReferenceIdeal.τ).loc Cert.ReplicatedReferenceIdeal.main_v132) = v12 c
          ∧ r.2.mem ((c.tc : Thread Cert.ReplicatedReferenceIdeal.nD Cert.ReplicatedReferenceIdeal.τ).loc Cert.ReplicatedReferenceIdeal.main_v156) = v13 c
          ∧ r.2.mem ((c.tc : Thread Cert.ReplicatedReferenceIdeal.nD Cert.ReplicatedReferenceIdeal.τ).loc Cert.ReplicatedReferenceIdeal.main_v180) = v14 c
          ∧ r.2.mem ((c.tc : Thread Cert.ReplicatedReferenceIdeal.nD Cert.ReplicatedReferenceIdeal.τ).loc Cert.ReplicatedReferenceIdeal.main_v204) = v15 c
          ∧ r.2.mem ((c.tc : Thread Cert.ReplicatedReferenceIdeal.nD Cert.ReplicatedReferenceIdeal.τ).loc Cert.ReplicatedReferenceIdeal.main_v17) = v16 c
          ∧ r.2.mem ((c.tc : Thread Cert.ReplicatedReferenceIdeal.nD Cert.ReplicatedReferenceIdeal.τ).loc Cert.ReplicatedReferenceIdeal.main_v41) = v17 c
          ∧ r.2.mem ((c.tc : Thread Cert.ReplicatedReferenceIdeal.nD Cert.ReplicatedReferenceIdeal.τ).loc Cert.ReplicatedReferenceIdeal.main_v65) = v18 c
          ∧ r.2.mem ((c.tc : Thread Cert.ReplicatedReferenceIdeal.nD Cert.ReplicatedReferenceIdeal.τ).loc Cert.ReplicatedReferenceIdeal.main_v89) = v19 c
          ∧ r.2.mem ((c.tc : Thread Cert.ReplicatedReferenceIdeal.nD Cert.ReplicatedReferenceIdeal.τ).loc Cert.ReplicatedReferenceIdeal.main_v113) = v20 c
          ∧ r.2.mem ((c.tc : Thread Cert.ReplicatedReferenceIdeal.nD Cert.ReplicatedReferenceIdeal.τ).loc Cert.ReplicatedReferenceIdeal.main_v137) = v21 c
          ∧ r.2.mem ((c.tc : Thread Cert.ReplicatedReferenceIdeal.nD Cert.ReplicatedReferenceIdeal.τ).loc Cert.ReplicatedReferenceIdeal.main_v161) = v22 c
          ∧ r.2.mem ((c.tc : Thread Cert.ReplicatedReferenceIdeal.nD Cert.ReplicatedReferenceIdeal.τ).loc Cert.ReplicatedReferenceIdeal.main_v185) = v23 c
          ∧ r.2.mem ((c.tc : Thread Cert.ReplicatedReferenceIdeal.nD Cert.ReplicatedReferenceIdeal.τ).loc Cert.ReplicatedReferenceIdeal.main_v23) = v24 c
          ∧ r.2.mem ((c.tc : Thread Cert.ReplicatedReferenceIdeal.nD Cert.ReplicatedReferenceIdeal.τ).loc Cert.ReplicatedReferenceIdeal.main_v47) = v25 c
          ∧ r.2.mem ((c.tc : Thread Cert.ReplicatedReferenceIdeal.nD Cert.ReplicatedReferenceIdeal.τ).loc Cert.ReplicatedReferenceIdeal.main_v71) = v26 c
          ∧ r.2.mem ((c.tc : Thread Cert.ReplicatedReferenceIdeal.nD Cert.ReplicatedReferenceIdeal.τ).loc Cert.ReplicatedReferenceIdeal.main_v95) = v27 c
          ∧ r.2.mem ((c.tc : Thread Cert.ReplicatedReferenceIdeal.nD Cert.ReplicatedReferenceIdeal.τ).loc Cert.ReplicatedReferenceIdeal.main_v119) = v28 c
          ∧ r.2.mem ((c.tc : Thread Cert.ReplicatedReferenceIdeal.nD Cert.ReplicatedReferenceIdeal.τ).loc Cert.ReplicatedReferenceIdeal.main_v143) = v29 c
          ∧ r.2.mem ((c.tc : Thread Cert.ReplicatedReferenceIdeal.nD Cert.ReplicatedReferenceIdeal.τ).loc Cert.ReplicatedReferenceIdeal.main_v167) = v30 c
          ∧ r.2.mem ((c.tc : Thread Cert.ReplicatedReferenceIdeal.nD Cert.ReplicatedReferenceIdeal.τ).loc Cert.ReplicatedReferenceIdeal.main_v191) = v31 c
          ∧ r.2.mem ((c.tc : Thread Cert.ReplicatedReferenceIdeal.nD Cert.ReplicatedReferenceIdeal.τ).loc Cert.ReplicatedReferenceIdeal.main_arg0) = m' ((c.tc : Thread Cert.ReplicatedReferenceIdeal.nD Cert.ReplicatedReferenceIdeal.τ).loc Cert.ReplicatedReferenceIdeal.main_arg0)
          ∧ r.2.mem ((c.tc : Thread Cert.ReplicatedReferenceIdeal.nD Cert.ReplicatedReferenceIdeal.τ).loc Cert.ReplicatedReferenceIdeal.main_arg1) = m' ((c.tc : Thread Cert.ReplicatedReferenceIdeal.nD Cert.ReplicatedReferenceIdeal.τ).loc Cert.ReplicatedReferenceIdeal.main_arg1)
          ∧ r.2.mem ((c.tc : Thread Cert.ReplicatedReferenceIdeal.nD Cert.ReplicatedReferenceIdeal.τ).loc Cert.ReplicatedReferenceIdeal.main_arg2) = m' ((c.tc : Thread Cert.ReplicatedReferenceIdeal.nD Cert.ReplicatedReferenceIdeal.τ).loc Cert.ReplicatedReferenceIdeal.main_arg2)
          ∧ r.2.mem ((c.tc : Thread Cert.ReplicatedReferenceIdeal.nD Cert.ReplicatedReferenceIdeal.τ).loc Cert.ReplicatedReferenceIdeal.main_arg3) = m' ((c.tc : Thread Cert.ReplicatedReferenceIdeal.nD Cert.ReplicatedReferenceIdeal.τ).loc Cert.ReplicatedReferenceIdeal.main_arg3)
          ∧ r.2.mem ((c.tc : Thread Cert.ReplicatedReferenceIdeal.nD Cert.ReplicatedReferenceIdeal.τ).loc Cert.ReplicatedReferenceIdeal.main_arg4) = m' ((c.tc : Thread Cert.ReplicatedReferenceIdeal.nD Cert.ReplicatedReferenceIdeal.τ).loc Cert.ReplicatedReferenceIdeal.main_arg4)
          ∧ r.2.mem ((c.tc : Thread Cert.ReplicatedReferenceIdeal.nD Cert.ReplicatedReferenceIdeal.τ).loc Cert.ReplicatedReferenceIdeal.main_arg5) = m' ((c.tc : Thread Cert.ReplicatedReferenceIdeal.nD Cert.ReplicatedReferenceIdeal.τ).loc Cert.ReplicatedReferenceIdeal.main_arg5)
          ∧ r.2.mem ((c.tc : Thread Cert.ReplicatedReferenceIdeal.nD Cert.ReplicatedReferenceIdeal.τ).loc Cert.ReplicatedReferenceIdeal.main_arg6) = m' ((c.tc : Thread Cert.ReplicatedReferenceIdeal.nD Cert.ReplicatedReferenceIdeal.τ).loc Cert.ReplicatedReferenceIdeal.main_arg6)
          ∧ r.2.mem ((c.tc : Thread Cert.ReplicatedReferenceIdeal.nD Cert.ReplicatedReferenceIdeal.τ).loc Cert.ReplicatedReferenceIdeal.main_arg7) = m' ((c.tc : Thread Cert.ReplicatedReferenceIdeal.nD Cert.ReplicatedReferenceIdeal.τ).loc Cert.ReplicatedReferenceIdeal.main_arg7)
          ∧ r.2.mem ((c.tc : Thread Cert.ReplicatedReferenceIdeal.nD Cert.ReplicatedReferenceIdeal.τ).loc Cert.ReplicatedReferenceIdeal.main_arg8) = m' ((c.tc : Thread Cert.ReplicatedReferenceIdeal.nD Cert.ReplicatedReferenceIdeal.τ).loc Cert.ReplicatedReferenceIdeal.main_arg8)
          ∧ r.2.mem ((c.tc : Thread Cert.ReplicatedReferenceIdeal.nD Cert.ReplicatedReferenceIdeal.τ).loc Cert.ReplicatedReferenceIdeal.main_arg9) = m' ((c.tc : Thread Cert.ReplicatedReferenceIdeal.nD Cert.ReplicatedReferenceIdeal.τ).loc Cert.ReplicatedReferenceIdeal.main_arg9)
          ∧ r.2.mem ((c.tc : Thread Cert.ReplicatedReferenceIdeal.nD Cert.ReplicatedReferenceIdeal.τ).loc Cert.ReplicatedReferenceIdeal.main_arg10) = m' ((c.tc : Thread Cert.ReplicatedReferenceIdeal.nD Cert.ReplicatedReferenceIdeal.τ).loc Cert.ReplicatedReferenceIdeal.main_arg10)
          ∧ r.2.mem ((c.tc : Thread Cert.ReplicatedReferenceIdeal.nD Cert.ReplicatedReferenceIdeal.τ).loc Cert.ReplicatedReferenceIdeal.main_arg11) = m' ((c.tc : Thread Cert.ReplicatedReferenceIdeal.nD Cert.ReplicatedReferenceIdeal.τ).loc Cert.ReplicatedReferenceIdeal.main_arg11)
          ∧ r.2.mem ((c.tc : Thread Cert.ReplicatedReferenceIdeal.nD Cert.ReplicatedReferenceIdeal.τ).loc Cert.ReplicatedReferenceIdeal.main_arg12) = m' ((c.tc : Thread Cert.ReplicatedReferenceIdeal.nD Cert.ReplicatedReferenceIdeal.τ).loc Cert.ReplicatedReferenceIdeal.main_arg12)
          ∧ r.2.mem ((c.tc : Thread Cert.ReplicatedReferenceIdeal.nD Cert.ReplicatedReferenceIdeal.τ).loc Cert.ReplicatedReferenceIdeal.main_arg13) = m' ((c.tc : Thread Cert.ReplicatedReferenceIdeal.nD Cert.ReplicatedReferenceIdeal.τ).loc Cert.ReplicatedReferenceIdeal.main_arg13)
          ∧ r.2.mem ((c.tc : Thread Cert.ReplicatedReferenceIdeal.nD Cert.ReplicatedReferenceIdeal.τ).loc Cert.ReplicatedReferenceIdeal.main_arg14) = m' ((c.tc : Thread Cert.ReplicatedReferenceIdeal.nD Cert.ReplicatedReferenceIdeal.τ).loc Cert.ReplicatedReferenceIdeal.main_arg14)
          ∧ r.2.mem ((c.tc : Thread Cert.ReplicatedReferenceIdeal.nD Cert.ReplicatedReferenceIdeal.τ).loc Cert.ReplicatedReferenceIdeal.main_arg15) = m' ((c.tc : Thread Cert.ReplicatedReferenceIdeal.nD Cert.ReplicatedReferenceIdeal.τ).loc Cert.ReplicatedReferenceIdeal.main_arg15)
          ∧ r.2.mem ((c.tc : Thread Cert.ReplicatedReferenceIdeal.nD Cert.ReplicatedReferenceIdeal.τ).loc Cert.ReplicatedReferenceIdeal.main_arg16) = m' ((c.tc : Thread Cert.ReplicatedReferenceIdeal.nD Cert.ReplicatedReferenceIdeal.τ).loc Cert.ReplicatedReferenceIdeal.main_arg16)
          ∧ r.2.mem ((c.tc : Thread Cert.ReplicatedReferenceIdeal.nD Cert.ReplicatedReferenceIdeal.τ).loc Cert.ReplicatedReferenceIdeal.main_arg17) = m' ((c.tc : Thread Cert.ReplicatedReferenceIdeal.nD Cert.ReplicatedReferenceIdeal.τ).loc Cert.ReplicatedReferenceIdeal.main_arg17)
          ∧ r.2.mem ((c.tc : Thread Cert.ReplicatedReferenceIdeal.nD Cert.ReplicatedReferenceIdeal.τ).loc Cert.ReplicatedReferenceIdeal.main_arg18) = m' ((c.tc : Thread Cert.ReplicatedReferenceIdeal.nD Cert.ReplicatedReferenceIdeal.τ).loc Cert.ReplicatedReferenceIdeal.main_arg18)
          ∧ r.2.mem ((c.tc : Thread Cert.ReplicatedReferenceIdeal.nD Cert.ReplicatedReferenceIdeal.τ).loc Cert.ReplicatedReferenceIdeal.main_arg19) = m' ((c.tc : Thread Cert.ReplicatedReferenceIdeal.nD Cert.ReplicatedReferenceIdeal.τ).loc Cert.ReplicatedReferenceIdeal.main_arg19)
          ∧ r.2.mem ((c.tc : Thread Cert.ReplicatedReferenceIdeal.nD Cert.ReplicatedReferenceIdeal.τ).loc Cert.ReplicatedReferenceIdeal.main_arg20) = m' ((c.tc : Thread Cert.ReplicatedReferenceIdeal.nD Cert.ReplicatedReferenceIdeal.τ).loc Cert.ReplicatedReferenceIdeal.main_arg20)
          ∧ r.2.mem ((c.tc : Thread Cert.ReplicatedReferenceIdeal.nD Cert.ReplicatedReferenceIdeal.τ).loc Cert.ReplicatedReferenceIdeal.main_arg21) = m' ((c.tc : Thread Cert.ReplicatedReferenceIdeal.nD Cert.ReplicatedReferenceIdeal.τ).loc Cert.ReplicatedReferenceIdeal.main_arg21)
          ∧ r.2.mem ((c.tc : Thread Cert.ReplicatedReferenceIdeal.nD Cert.ReplicatedReferenceIdeal.τ).loc Cert.ReplicatedReferenceIdeal.main_arg22) = m' ((c.tc : Thread Cert.ReplicatedReferenceIdeal.nD Cert.ReplicatedReferenceIdeal.τ).loc Cert.ReplicatedReferenceIdeal.main_arg22)
          ∧ r.2.mem ((c.tc : Thread Cert.ReplicatedReferenceIdeal.nD Cert.ReplicatedReferenceIdeal.τ).loc Cert.ReplicatedReferenceIdeal.main_arg23) = m' ((c.tc : Thread Cert.ReplicatedReferenceIdeal.nD Cert.ReplicatedReferenceIdeal.τ).loc Cert.ReplicatedReferenceIdeal.main_arg23)
          ∧ r.2.mem ((c.tc : Thread Cert.ReplicatedReferenceIdeal.nD Cert.ReplicatedReferenceIdeal.τ).loc Cert.ReplicatedReferenceIdeal.main_arg24) = m' ((c.tc : Thread Cert.ReplicatedReferenceIdeal.nD Cert.ReplicatedReferenceIdeal.τ).loc Cert.ReplicatedReferenceIdeal.main_arg24))

def preserves_Head_HeadIdeal : Prop :=
  True

def algebraic_HeadIdeal_HeadReferenceIdeal [hHeadIdeal : Cert.HeadIdeal.Facts] [hHeadReferenceIdeal : Cert.HeadReferenceIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal m →
    (∀ c : Dev Cert.HeadIdeal.nD,
      m ((c.tc : Thread Cert.HeadIdeal.nD Cert.HeadIdeal.τ).loc Cert.HeadIdeal.main_arg0) = Layout.block ⟨2, ![8192, 1024]⟩ ⟨2, ![65536, 1024]⟩ 0 8 c (m' (((0 : Dev Cert.HeadReferenceIdeal.nD).tc : Thread Cert.HeadReferenceIdeal.nD Cert.HeadReferenceIdeal.τ).loc Cert.HeadReferenceIdeal.main_arg0))
      ∧ m ((c.tc : Thread Cert.HeadIdeal.nD Cert.HeadIdeal.τ).loc Cert.HeadIdeal.main_arg1) = Layout.block ⟨2, ![8192, 1024]⟩ ⟨2, ![65536, 1024]⟩ 0 8 c (m' (((0 : Dev Cert.HeadReferenceIdeal.nD).tc : Thread Cert.HeadReferenceIdeal.nD Cert.HeadReferenceIdeal.τ).loc Cert.HeadReferenceIdeal.main_arg1))
      ∧ m ((c.tc : Thread Cert.HeadIdeal.nD Cert.HeadIdeal.τ).loc Cert.HeadIdeal.main_arg2) = m' (((0 : Dev Cert.HeadReferenceIdeal.nD).tc : Thread Cert.HeadReferenceIdeal.nD Cert.HeadReferenceIdeal.τ).loc Cert.HeadReferenceIdeal.main_arg2)) →
    ∃ (v0 : Buf (Elt Ideal) (((0 : Dev Cert.HeadReferenceIdeal.nD).tc : Thread Cert.HeadReferenceIdeal.nD Cert.HeadReferenceIdeal.τ).loc Cert.HeadReferenceIdeal.main_v23)) (v1 : Buf (Elt Ideal) (((0 : Dev Cert.HeadReferenceIdeal.nD).tc : Thread Cert.HeadReferenceIdeal.nD Cert.HeadReferenceIdeal.τ).loc Cert.HeadReferenceIdeal.main_v63)) (v2 : Buf (Elt Ideal) (((0 : Dev Cert.HeadReferenceIdeal.nD).tc : Thread Cert.HeadReferenceIdeal.nD Cert.HeadReferenceIdeal.τ).loc Cert.HeadReferenceIdeal.main_v45)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v5) = v0
          ∧ r.2.mem ((c.tc : Thread Cert.HeadIdeal.nD Cert.HeadIdeal.τ).loc Cert.HeadIdeal.main_v1_1) = Layout.block ⟨2, ![1, 1024]⟩ ⟨2, ![8, 1024]⟩ 0 8 c v1
          ∧ r.2.mem ((c.tc : Thread Cert.HeadIdeal.nD Cert.HeadIdeal.τ).loc Cert.HeadIdeal.main_v1_2) = Layout.block ⟨2, ![8192, 1024]⟩ ⟨2, ![65536, 1024]⟩ 0 8 c v2
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2))
      ∧ θ_run (Cert.HeadReferenceIdeal.defs (F := Ideal)) (onTc (τ := Cert.HeadReferenceIdeal.τ) (Cert.HeadReferenceIdeal.main (F := Ideal))) ⟨m', fun _ => 0, g'⟩ (fun r =>
          r.2.mem (((0 : Dev Cert.HeadReferenceIdeal.nD).tc : Thread Cert.HeadReferenceIdeal.nD Cert.HeadReferenceIdeal.τ).loc Cert.HeadReferenceIdeal.main_v23) = v0
          ∧ r.2.mem (((0 : Dev Cert.HeadReferenceIdeal.nD).tc : Thread Cert.HeadReferenceIdeal.nD Cert.HeadReferenceIdeal.τ).loc Cert.HeadReferenceIdeal.main_v63) = v1
          ∧ r.2.mem (((0 : Dev Cert.HeadReferenceIdeal.nD).tc : Thread Cert.HeadReferenceIdeal.nD Cert.HeadReferenceIdeal.τ).loc Cert.HeadReferenceIdeal.main_v45) = v2
          ∧ r.2.mem (((0 : Dev Cert.HeadReferenceIdeal.nD).tc : Thread Cert.HeadReferenceIdeal.nD Cert.HeadReferenceIdeal.τ).loc Cert.HeadReferenceIdeal.main_arg0) = m' (((0 : Dev Cert.HeadReferenceIdeal.nD).tc : Thread Cert.HeadReferenceIdeal.nD Cert.HeadReferenceIdeal.τ).loc Cert.HeadReferenceIdeal.main_arg0)
          ∧ r.2.mem (((0 : Dev Cert.HeadReferenceIdeal.nD).tc : Thread Cert.HeadReferenceIdeal.nD Cert.HeadReferenceIdeal.τ).loc Cert.HeadReferenceIdeal.main_arg1) = m' (((0 : Dev Cert.HeadReferenceIdeal.nD).tc : Thread Cert.HeadReferenceIdeal.nD Cert.HeadReferenceIdeal.τ).loc Cert.HeadReferenceIdeal.main_arg1)
          ∧ r.2.mem (((0 : Dev Cert.HeadReferenceIdeal.nD).tc : Thread Cert.HeadReferenceIdeal.nD Cert.HeadReferenceIdeal.τ).loc Cert.HeadReferenceIdeal.main_arg2) = m' (((0 : Dev Cert.HeadReferenceIdeal.nD).tc : Thread Cert.HeadReferenceIdeal.nD Cert.HeadReferenceIdeal.τ).loc Cert.HeadReferenceIdeal.main_arg2))

def preserves_Entry_EntryIdeal : Prop :=
  True

def algebraic_EntryIdeal_EntryReferenceIdeal [hEntryIdeal : Cert.EntryIdeal.Facts] [hEntryReferenceIdeal : Cert.EntryReferenceIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryReferenceIdeal.nD Cert.EntryReferenceIdeal.τ Cert.EntryReferenceIdeal.sig) → Buf (Elt Ideal) ℓ) (g' : Dev Cert.EntryReferenceIdeal.nD → PrngReg), Pre_EntryIdeal m →
    (∀ c : Dev Cert.EntryIdeal.nD,
      m' ((c.tc : Thread Cert.EntryReferenceIdeal.nD Cert.EntryReferenceIdeal.τ).loc Cert.EntryReferenceIdeal.main_arg0) = m ((c.tc : Thread Cert.EntryIdeal.nD Cert.EntryIdeal.τ).loc Cert.EntryIdeal.main_arg0)
      ∧ m' ((c.tc : Thread Cert.EntryReferenceIdeal.nD Cert.EntryReferenceIdeal.τ).loc Cert.EntryReferenceIdeal.main_arg1) = m ((c.tc : Thread Cert.EntryIdeal.nD Cert.EntryIdeal.τ).loc Cert.EntryIdeal.main_arg1)
      ∧ m' ((c.tc : Thread Cert.EntryReferenceIdeal.nD Cert.EntryReferenceIdeal.τ).loc Cert.EntryReferenceIdeal.main_arg2) = m ((c.tc : Thread Cert.EntryIdeal.nD Cert.EntryIdeal.τ).loc Cert.EntryIdeal.main_arg2)
      ∧ m' ((c.tc : Thread Cert.EntryReferenceIdeal.nD Cert.EntryReferenceIdeal.τ).loc Cert.EntryReferenceIdeal.main_arg3) = m ((c.tc : Thread Cert.EntryIdeal.nD Cert.EntryIdeal.τ).loc Cert.EntryIdeal.main_arg3)
      ∧ m' ((c.tc : Thread Cert.EntryReferenceIdeal.nD Cert.EntryReferenceIdeal.τ).loc Cert.EntryReferenceIdeal.main_arg4) = m ((c.tc : Thread Cert.EntryIdeal.nD Cert.EntryIdeal.τ).loc Cert.EntryIdeal.main_arg4)
      ∧ m' ((c.tc : Thread Cert.EntryReferenceIdeal.nD Cert.EntryReferenceIdeal.τ).loc Cert.EntryReferenceIdeal.main_arg5) = m ((c.tc : Thread Cert.EntryIdeal.nD Cert.EntryIdeal.τ).loc Cert.EntryIdeal.main_arg5)) →
    ∃ (v0 : (c : Dev Cert.EntryIdeal.nD) → Buf (Elt Ideal) ((c.tc : Thread Cert.EntryIdeal.nD Cert.EntryIdeal.τ).loc Cert.EntryIdeal.main_v0_0)) (v1 : (c : Dev Cert.EntryIdeal.nD) → Buf (Elt Ideal) ((c.tc : Thread Cert.EntryIdeal.nD Cert.EntryIdeal.τ).loc Cert.EntryIdeal.main_v0_1)) (v2 : (c : Dev Cert.EntryIdeal.nD) → Buf (Elt Ideal) ((c.tc : Thread Cert.EntryIdeal.nD Cert.EntryIdeal.τ).loc Cert.EntryIdeal.main_v0_2)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v0_0) = v0 c
          ∧ r.2.mem ((c.tc : Thread Cert.EntryIdeal.nD Cert.EntryIdeal.τ).loc Cert.EntryIdeal.main_v0_1) = v1 c
          ∧ r.2.mem ((c.tc : Thread Cert.EntryIdeal.nD Cert.EntryIdeal.τ).loc Cert.EntryIdeal.main_v0_2) = v2 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
          ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
          ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4)
          ∧ r.2.mem ((c.tc : Thread Cert.EntryIdeal.nD Cert.EntryIdeal.τ).loc Cert.EntryIdeal.main_arg5) = m ((c.tc : Thread Cert.EntryIdeal.nD Cert.EntryIdeal.τ).loc Cert.EntryIdeal.main_arg5))
      ∧ θ_run (Cert.EntryReferenceIdeal.defs (F := Ideal)) (onTc (τ := Cert.EntryReferenceIdeal.τ) (Cert.EntryReferenceIdeal.main (F := Ideal))) ⟨m', fun _ => 0, g'⟩ (fun r => ∀ c : Dev Cert.EntryReferenceIdeal.nD,
          r.2.mem ((c.tc : Thread Cert.EntryReferenceIdeal.nD Cert.EntryReferenceIdeal.τ).loc Cert.EntryReferenceIdeal.main_v50) = v0 c
          ∧ r.2.mem ((c.tc : Thread Cert.EntryReferenceIdeal.nD Cert.EntryReferenceIdeal.τ).loc Cert.EntryReferenceIdeal.main_v33) = v1 c
          ∧ r.2.mem ((c.tc : Thread Cert.EntryReferenceIdeal.nD Cert.EntryReferenceIdeal.τ).loc Cert.EntryReferenceIdeal.main_v30) = v2 c
          ∧ r.2.mem ((c.tc : Thread Cert.EntryReferenceIdeal.nD Cert.EntryReferenceIdeal.τ).loc Cert.EntryReferenceIdeal.main_arg0) = m' ((c.tc : Thread Cert.EntryReferenceIdeal.nD Cert.EntryReferenceIdeal.τ).loc Cert.EntryReferenceIdeal.main_arg0)
          ∧ r.2.mem ((c.tc : Thread Cert.EntryReferenceIdeal.nD Cert.EntryReferenceIdeal.τ).loc Cert.EntryReferenceIdeal.main_arg1) = m' ((c.tc : Thread Cert.EntryReferenceIdeal.nD Cert.EntryReferenceIdeal.τ).loc Cert.EntryReferenceIdeal.main_arg1)
          ∧ r.2.mem ((c.tc : Thread Cert.EntryReferenceIdeal.nD Cert.EntryReferenceIdeal.τ).loc Cert.EntryReferenceIdeal.main_arg2) = m' ((c.tc : Thread Cert.EntryReferenceIdeal.nD Cert.EntryReferenceIdeal.τ).loc Cert.EntryReferenceIdeal.main_arg2)
          ∧ r.2.mem ((c.tc : Thread Cert.EntryReferenceIdeal.nD Cert.EntryReferenceIdeal.τ).loc Cert.EntryReferenceIdeal.main_arg3) = m' ((c.tc : Thread Cert.EntryReferenceIdeal.nD Cert.EntryReferenceIdeal.τ).loc Cert.EntryReferenceIdeal.main_arg3)
          ∧ r.2.mem ((c.tc : Thread Cert.EntryReferenceIdeal.nD Cert.EntryReferenceIdeal.τ).loc Cert.EntryReferenceIdeal.main_arg4) = m' ((c.tc : Thread Cert.EntryReferenceIdeal.nD Cert.EntryReferenceIdeal.τ).loc Cert.EntryReferenceIdeal.main_arg4)
          ∧ r.2.mem ((c.tc : Thread Cert.EntryReferenceIdeal.nD Cert.EntryReferenceIdeal.τ).loc Cert.EntryReferenceIdeal.main_arg5) = m' ((c.tc : Thread Cert.EntryReferenceIdeal.nD Cert.EntryReferenceIdeal.τ).loc Cert.EntryReferenceIdeal.main_arg5))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v14) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v4) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)) →
    ∃ (v0 : (c : Dev Cert.BackIdeal.nD) → Buf (Elt Ideal) ((c.tc : Thread Cert.BackIdeal.nD Cert.BackIdeal.τ).loc Cert.BackIdeal.main_v0_0)) (v1 : (c : Dev Cert.BackIdeal.nD) → Buf (Elt Ideal) ((c.tc : Thread Cert.BackIdeal.nD Cert.BackIdeal.τ).loc Cert.BackIdeal.main_v0_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v0_0) = v0 c
          ∧ r.2.mem ((c.tc : Thread Cert.BackIdeal.nD Cert.BackIdeal.τ).loc Cert.BackIdeal.main_v0_1) = v1 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v6) = v0 c
          ∧ r.2.mem ((c.tc : Thread Cert.BackReferenceIdeal.nD Cert.BackReferenceIdeal.τ).loc Cert.BackReferenceIdeal.main_v5) = v1 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3))

def preserves_Attend_AttendIdeal : Prop :=
  IdealRules.named_const.Statement Cert.AttendIdeal.κ "mask" .f32 0xF149F2CA#32 ⊥

def algebraic_AttendIdeal_AttendReferenceIdeal_pre_finite [hAttendIdeal : Cert.AttendIdeal.Facts] [hAttendReferenceIdeal : Cert.AttendReferenceIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendReferenceIdeal.nD Cert.AttendReferenceIdeal.τ Cert.AttendReferenceIdeal.sig) → Buf (Elt Ideal) ℓ) (g' : Dev Cert.AttendReferenceIdeal.nD → PrngReg), Pre_AttendIdeal_finite m →
    (∀ c : Dev Cert.AttendIdeal.nD,
      m' ((c.tc : Thread Cert.AttendReferenceIdeal.nD Cert.AttendReferenceIdeal.τ).loc Cert.AttendReferenceIdeal.main_arg0) = m ((c.tc : Thread Cert.AttendIdeal.nD Cert.AttendIdeal.τ).loc Cert.AttendIdeal.main_arg0)
      ∧ m' ((c.tc : Thread Cert.AttendReferenceIdeal.nD Cert.AttendReferenceIdeal.τ).loc Cert.AttendReferenceIdeal.main_arg1) = m ((c.tc : Thread Cert.AttendIdeal.nD Cert.AttendIdeal.τ).loc Cert.AttendIdeal.main_arg1)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1))
      ∧ θ_run (Cert.AttendReferenceIdeal.defs (F := Ideal)) (onTc (τ := Cert.AttendReferenceIdeal.τ) (Cert.AttendReferenceIdeal.main (F := Ideal))) ⟨m', fun _ => 0, g'⟩ (fun r => ∀ c : Dev Cert.AttendReferenceIdeal.nD,
          r.2.mem ((c.tc : Thread Cert.AttendReferenceIdeal.nD Cert.AttendReferenceIdeal.τ).loc Cert.AttendReferenceIdeal.main_v74) = v0 c
          ∧ r.2.mem ((c.tc : Thread Cert.AttendReferenceIdeal.nD Cert.AttendReferenceIdeal.τ).loc Cert.AttendReferenceIdeal.main_arg0) = m' ((c.tc : Thread Cert.AttendReferenceIdeal.nD Cert.AttendReferenceIdeal.τ).loc Cert.AttendReferenceIdeal.main_arg0)
          ∧ r.2.mem ((c.tc : Thread Cert.AttendReferenceIdeal.nD Cert.AttendReferenceIdeal.τ).loc Cert.AttendReferenceIdeal.main_arg1) = m' ((c.tc : Thread Cert.AttendReferenceIdeal.nD Cert.AttendReferenceIdeal.τ).loc Cert.AttendReferenceIdeal.main_arg1))

def Claim : Prop :=
  ∃ (hKernel : Cert.Kernel.Facts) (hKernelIdeal : Cert.KernelIdeal.Facts) (hReferenceIdeal : Cert.ReferenceIdeal.Facts) (hReplicated : Cert.Replicated.Facts) (hReplicatedIdeal : Cert.ReplicatedIdeal.Facts) (hReplicatedReferenceIdeal : Cert.ReplicatedReferenceIdeal.Facts) (hHead : Cert.Head.Facts) (hHeadIdeal : Cert.HeadIdeal.Facts) (hHeadReferenceIdeal : Cert.HeadReferenceIdeal.Facts) (hEntry : Cert.Entry.Facts) (hEntryIdeal : Cert.EntryIdeal.Facts) (hEntryReferenceIdeal : Cert.EntryReferenceIdeal.Facts) (hProject : Cert.Project.Facts) (hProjectIdeal : Cert.ProjectIdeal.Facts) (hProjectReferenceIdeal : Cert.ProjectReferenceIdeal.Facts) (hMix : Cert.Mix.Facts) (hMixIdeal : Cert.MixIdeal.Facts) (hMixReferenceIdeal : Cert.MixReferenceIdeal.Facts) (hBack : Cert.Back.Facts) (hBackIdeal : Cert.BackIdeal.Facts) (hBackReferenceIdeal : Cert.BackReferenceIdeal.Facts) (hAttend : Cert.Attend.Facts) (hAttendIdeal : Cert.AttendIdeal.Facts) (hAttendReferenceIdeal : Cert.AttendReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Replicated (hReplicated := hReplicated)
    ∧ quiescent_ReplicatedIdeal (hReplicatedIdeal := hReplicatedIdeal)
    ∧ quiescent_ReplicatedReferenceIdeal (hReplicatedReferenceIdeal := hReplicatedReferenceIdeal)
    ∧ quiescent_Head (hHead := hHead)
    ∧ quiescent_HeadIdeal (hHeadIdeal := hHeadIdeal)
    ∧ quiescent_HeadReferenceIdeal (hHeadReferenceIdeal := hHeadReferenceIdeal)
    ∧ quiescent_Entry (hEntry := hEntry)
    ∧ quiescent_EntryIdeal (hEntryIdeal := hEntryIdeal)
    ∧ quiescent_EntryReferenceIdeal (hEntryReferenceIdeal := hEntryReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Mix (hMix := hMix)
    ∧ quiescent_MixIdeal (hMixIdeal := hMixIdeal)
    ∧ quiescent_MixReferenceIdeal (hMixReferenceIdeal := hMixReferenceIdeal)
    ∧ quiescent_Back (hBack := hBack)
    ∧ quiescent_BackIdeal (hBackIdeal := hBackIdeal)
    ∧ quiescent_BackReferenceIdeal (hBackReferenceIdeal := hBackReferenceIdeal)
    ∧ quiescent_Attend (hAttend := hAttend)
    ∧ quiescent_AttendIdeal (hAttendIdeal := hAttendIdeal)
    ∧ quiescent_AttendIdeal_pre_finite (hAttendIdeal := hAttendIdeal) (hPre_finite := hPre_finite)
    ∧ quiescent_AttendReferenceIdeal (hAttendReferenceIdeal := hAttendReferenceIdeal)
    ∧ quiescent_AttendReferenceIdeal_pre_finite (hAttendReferenceIdeal := hAttendReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Replicated_ReplicatedIdeal
    ∧ algebraic_ReplicatedIdeal_ReplicatedReferenceIdeal (hReplicatedIdeal := hReplicatedIdeal) (hReplicatedReferenceIdeal := hReplicatedReferenceIdeal)
    ∧ preserves_Head_HeadIdeal
    ∧ algebraic_HeadIdeal_HeadReferenceIdeal (hHeadIdeal := hHeadIdeal) (hHeadReferenceIdeal := hHeadReferenceIdeal)
    ∧ preserves_Entry_EntryIdeal
    ∧ algebraic_EntryIdeal_EntryReferenceIdeal (hEntryIdeal := hEntryIdeal) (hEntryReferenceIdeal := hEntryReferenceIdeal)
    ∧ preserves_Project_ProjectIdeal
    ∧ algebraic_ProjectIdeal_ProjectReferenceIdeal (hProjectIdeal := hProjectIdeal) (hProjectReferenceIdeal := hProjectReferenceIdeal)
    ∧ preserves_Mix_MixIdeal
    ∧ algebraic_MixIdeal_MixReferenceIdeal (hMixIdeal := hMixIdeal) (hMixReferenceIdeal := hMixReferenceIdeal)
    ∧ preserves_Back_BackIdeal
    ∧ algebraic_BackIdeal_BackReferenceIdeal (hBackIdeal := hBackIdeal) (hBackReferenceIdeal := hBackReferenceIdeal)
    ∧ preserves_Attend_AttendIdeal
    ∧ algebraic_AttendIdeal_AttendReferenceIdeal_pre_finite (hAttendIdeal := hAttendIdeal) (hAttendReferenceIdeal := hAttendReferenceIdeal) (hPre_finite := hPre_finite)
-- ==== Pre_finite.lean ====
abbrev S8192x2560 : Shape := ⟨2, ![8192, 2560]⟩
abbrev S8 : Shape := ⟨1, ![8]⟩
abbrev S_ : Shape := ⟨0, ![]⟩

class Facts : Prop where
  bcast_S_S8192x2560 : S_.BroadcastsInDim S8192x2560 (![] : Fin 0 → Fin S8192x2560.rank)
  bcast_S_S8 : S_.BroadcastsInDim S8 (![] : Fin 0 → Fin S8.rank)

variable [Facts]

def fn {F : FTy → Type} [FloatOps F] (main_arg0 : FVec F S8192x2560 .f32) (main_arg1 : FVec F S8 .f32) : IVec S8192x2560 1 × IVec S8 1 :=
  let main_v0 : FVec F S8192x2560 .f32 := Host.absf main_arg0
  let main_cst : FVec F S_ .f32 := constant S_ .f32 0x7F800000#32
  let main_v1 : FVec F S8192x2560 .f32 := broadcastInDim S8192x2560 ![] bcast_S_S8192x2560 main_cst
  let main_v2 : IVec S8192x2560 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  (main_v2, main_v5)
-- ==== Kernel.lean ====
abbrev S8x920x1024 : Shape := ⟨3, ![8, 920, 1024]⟩
abbrev S2x1024x320 : Shape := ⟨3, ![2, 1024, 320]⟩
abbrev S2x128x1024 : Shape := ⟨3, ![2, 128, 1024]⟩
abbrev S2x32x256 : Shape := ⟨3, ![2, 32, 256]⟩
abbrev S2x31x32 : Shape := ⟨3, ![2, 31, 32]⟩
abbrev S7 : Shape := ⟨1, ![7]⟩
abbrev S_ : Shape := ⟨0, ![]⟩
abbrev S1x920x1024 : Shape := ⟨3, ![1, 920, 1024]⟩
abbrev S920x1024 : Shape := ⟨2, ![920, 1024]⟩
abbrev S1 : Shape := ⟨1, ![1]⟩
abbrev S2x32x31 : Shape := ⟨3, ![2, 32, 31]⟩
abbrev S2x32x32 : Shape := ⟨3, ![2, 32, 32]⟩
abbrev S2x320x1024 : Shape := ⟨3, ![2, 320, 1024]⟩
abbrev S640x1024 : Shape := ⟨2, ![640, 1024]⟩
abbrev S256x1024 : Shape := ⟨2, ![256, 1024]⟩
abbrev S16x1024 : Shape := ⟨2, ![16, 1024]⟩
abbrev S2x1024 : Shape := ⟨2, ![2, 1024]⟩
abbrev S914x1024 : Shape := ⟨2, ![914, 1024]⟩
abbrev S6x1024 : Shape := ⟨2, ![6, 1024]⟩
abbrev S8x184x1024 : Shape := ⟨3, ![8, 184, 1024]⟩
abbrev S184x1024 : Shape := ⟨2, ![184, 1024]⟩
abbrev S1x184x1024 : Shape := ⟨3, ![1, 184, 1024]⟩

abbrev nBuf : Space → Nat
  | .hbm => 101
  | .vmem => 16
  | .smem => 0
  | _ => 0

abbrev bufTy : (tb : Table) → Fin (tcTables nBuf tb) → BufTy
  | .hbm, ⟨0, _⟩ => ⟨S8x920x1024, .f32⟩
  | .hbm, ⟨1, _⟩ => ⟨S2x1024x320, .f32⟩
  | .hbm, ⟨2, _⟩ => ⟨S2x128x1024, .f32⟩
  | .hbm, ⟨3, _⟩ => ⟨S2x32x256, .f32⟩
  | .hbm, ⟨4, _⟩ => ⟨S2x31x32, .f32⟩
  | .hbm, ⟨5, _⟩ => ⟨S2x1024x320, .f32⟩
  | .hbm, ⟨6, _⟩ => ⟨S2x128x1024, .f32⟩
  | .hbm, ⟨7, _⟩ => ⟨S2x32x256, .f32⟩
  | .hbm, ⟨8, _⟩ => ⟨S2x31x32, .f32⟩
  | .hbm, ⟨9, _⟩ => ⟨S2x1024x320, .f32⟩
  | .hbm, ⟨10, _⟩ => ⟨S2x128x1024, .f32⟩
  | .hbm, ⟨11, _⟩ => ⟨S2x32x256, .f32⟩
  | .hbm, ⟨12, _⟩ => ⟨S2x31x32, .f32⟩
  | .hbm, ⟨13, _⟩ => ⟨S8x920x1024, .f32⟩
  | .hbm, ⟨14, _⟩ => ⟨S2x32x31, .f32⟩
  | .hbm, ⟨15, _⟩ => ⟨S_, .i32⟩
  | .hbm, ⟨16, _⟩ => ⟨S_, .f32⟩
  | .hbm, ⟨17, _⟩ => ⟨S2x32x32, .f32⟩
  | .hbm, ⟨18, _⟩ => ⟨S2x320x1024, .f32⟩
  | .hbm, ⟨19, _⟩ => ⟨S640x1024, .f32⟩
  | .hbm, ⟨20, _⟩ => ⟨S256x1024, .f32⟩
  | .hbm, ⟨21, _⟩ => ⟨S16x1024, .f32⟩
  | .hbm, ⟨22, _⟩ => ⟨S2x1024, .f32⟩
  | .hbm, ⟨23, _⟩ => ⟨S914x1024, .f32⟩
  | .hbm, ⟨24, _⟩ => ⟨S_, .f32⟩
  | .hbm, ⟨25, _⟩ => ⟨S6x1024, .f32⟩
  | .hbm, ⟨26, _⟩ => ⟨S920x1024, .f32⟩
  | .hbm, ⟨27, _⟩ => ⟨S2x32x31, .f32⟩
  | .hbm, ⟨28, _⟩ => ⟨S_, .i32⟩
  | .hbm, ⟨29, _⟩ => ⟨S_, .f32⟩
  | .hbm, ⟨30, _⟩ => ⟨S2x32x32, .f32⟩
  | .hbm, ⟨31, _⟩ => ⟨S2x320x1024, .f32⟩
  | .hbm, ⟨32, _⟩ => ⟨S640x1024, .f32⟩
  | .hbm, ⟨33, _⟩ => ⟨S256x1024, .f32⟩
  | .hbm, ⟨34, _⟩ => ⟨S16x1024, .f32⟩
  | .hbm, ⟨35, _⟩ => ⟨S2x1024, .f32⟩
  | .hbm, ⟨36, _⟩ => ⟨S914x1024, .f32⟩
  | .hbm, ⟨37, _⟩ => ⟨S_, .f32⟩
  | .hbm, ⟨38, _⟩ => ⟨S6x1024, .f32⟩
  | .hbm, ⟨39, _⟩ => ⟨S920x1024, .f32⟩
  | .hbm, ⟨40, _⟩ => ⟨S2x32x31, .f32⟩
  | .hbm, ⟨41, _⟩ => ⟨S_, .i32⟩
  | .hbm, ⟨42, _⟩ => ⟨S_, .f32⟩
  | .hbm, ⟨43, _⟩ => ⟨S2x32x32, .f32⟩
  | .hbm, ⟨44, _⟩ => ⟨S2x320x1024, .f32⟩
  | .hbm, ⟨45, _⟩ => ⟨S640x1024, .f32⟩
  | .hbm, ⟨46, _⟩ => ⟨S256x1024, .f32⟩
  | .hbm, ⟨47, _⟩ => ⟨S16x1024, .f32⟩
  | .hbm, ⟨48, _⟩ => ⟨S2x1024, .f32⟩
  | .hbm, ⟨49, _⟩ => ⟨S914x1024, .f32⟩
  | .hbm, ⟨50, _⟩ => ⟨S_, .f32⟩
  | .hbm, ⟨51, _⟩ => ⟨S6x1024, .f32⟩
  | .hbm, ⟨52, _⟩ => ⟨S920x1024, .f32⟩
  | .hbm, ⟨53, _⟩ => ⟨S920x1024, .f32⟩
  | .hbm, ⟨54, _⟩ => ⟨S920x1024, .f32⟩
  | .hbm, ⟨55, _⟩ => ⟨S920x1024, .f32⟩
  | .hbm, ⟨56, _⟩ => ⟨S920x1024, .f32⟩
  | .hbm, ⟨57, _⟩ => ⟨S640x1024, .f32⟩
  | .hbm, ⟨58, _⟩ => ⟨S2x320x1024, .f32⟩
  | .hbm, ⟨59, _⟩ => ⟨S2x1024x320, .f32⟩
  | .hbm, ⟨60, _⟩ => ⟨S256x1024, .f32⟩
  | .hbm, ⟨61, _⟩ => ⟨S2x128x1024, .f32⟩
  | .hbm, ⟨62, _⟩ => ⟨S16x1024, .f32⟩
  | .hbm, ⟨63, _⟩ => ⟨S2x32x256, .f32⟩
  | .hbm, ⟨64, _⟩ => ⟨S2x1024, .f32⟩
  | .hbm, ⟨65, _⟩ => ⟨S2x32x32, .f32⟩
  | .hbm, ⟨66, _⟩ => ⟨S2x32x32, .f32⟩
  | .hbm, ⟨67, _⟩ => ⟨S2x31x32, .f32⟩
  | .hbm, ⟨68, _⟩ => ⟨S640x1024, .f32⟩
  | .hbm, ⟨69, _⟩ => ⟨S2x320x1024, .f32⟩
  | .hbm, ⟨70, _⟩ => ⟨S2x1024x320, .f32⟩
  | .hbm, ⟨71, _⟩ => ⟨S256x1024, .f32⟩
  | .hbm, ⟨72, _⟩ => ⟨S2x128x1024, .f32⟩
  | .hbm, ⟨73, _⟩ => ⟨S16x1024, .f32⟩
  | .hbm, ⟨74, _⟩ => ⟨S2x32x256, .f32⟩
  | .hbm, ⟨75, _⟩ => ⟨S2x1024, .f32⟩
  | .hbm, ⟨76, _⟩ => ⟨S2x32x32, .f32⟩
  | .hbm, ⟨77, _⟩ => ⟨S2x32x32, .f32⟩
  | .hbm, ⟨78, _⟩ => ⟨S2x31x32, .f32⟩
  | .hbm, ⟨79, _⟩ => ⟨S640x1024, .f32⟩
  | .hbm, ⟨80, _⟩ => ⟨S2x320x1024, .f32⟩
  | .hbm, ⟨81, _⟩ => ⟨S2x1024x320, .f32⟩
  | .hbm, ⟨82, _⟩ => ⟨S256x1024, .f32⟩
  | .hbm, ⟨83, _⟩ => ⟨S2x128x1024, .f32⟩
  | .hbm, ⟨84, _⟩ => ⟨S16x1024, .f32⟩
  | .hbm, ⟨85, _⟩ => ⟨S2x32x256, .f32⟩
  | .hbm, ⟨86, _⟩ => ⟨S2x1024, .f32⟩
  | .hbm, ⟨87, _⟩ => ⟨S2x32x32, .f32⟩
  | .hbm, ⟨88, _⟩ => ⟨S2x32x32, .f32⟩
  | .hbm, ⟨89, _⟩ => ⟨S2x31x32, .f32⟩
  | .hbm, ⟨90, _⟩ => ⟨S640x1024, .f32⟩
  | .hbm, ⟨91, _⟩ => ⟨S2x320x1024, .f32⟩
  | .hbm, ⟨92, _⟩ => ⟨S2x1024x320, .f32⟩
  | .hbm, ⟨93, _⟩ => ⟨S256x1024, .f32⟩
  | .hbm, ⟨94, _⟩ => ⟨S2x128x1024, .f32⟩
  | .hbm, ⟨95, _⟩ => ⟨S16x1024, .f32⟩
  | .hbm, ⟨96, _⟩ => ⟨S2x32x256, .f32⟩
  | .hbm, ⟨97, _⟩ => ⟨S2x1024, .f32⟩
  | .hbm, ⟨98, _⟩ => ⟨S2x32x32, .f32⟩
  | .hbm, ⟨99, _⟩ => ⟨S2x32x32, .f32⟩
  | .hbm, ⟨100, _⟩ => ⟨S2x31x32, .f32⟩
  | .local _ .vmem, ⟨0, _⟩ => ⟨S8x184x1024, .f32⟩
  | .local _ .vmem, ⟨1, _⟩ => ⟨S8x184x1024, .f32⟩
  | .local _ .vmem, ⟨2, _⟩ => ⟨S184x1024, .f32⟩
  | .local _ .vmem, ⟨3, _⟩ => ⟨S184x1024, .f32⟩
  | .local _ .vmem, ⟨4, _⟩ => ⟨S184x1024, .f32⟩
  | .local _ .vmem, ⟨5, _⟩ => ⟨S184x1024, .f32⟩
  | .local _ .vmem, ⟨6, _⟩ => ⟨S184x1024, .f32⟩
  | .local _ .vmem, ⟨7, _⟩ => ⟨S184x1024, .f32⟩
  | .local _ .vmem, ⟨8, _⟩ => ⟨S184x1024, .f32⟩
  | .local _ .vmem, ⟨9, _⟩ => ⟨S184x1024, .f32⟩
  | .local _ .vmem, ⟨10, _⟩ => ⟨S184x1024, .f32⟩
  | .local _ .vmem, ⟨11, _⟩ => ⟨S184x1024, .f32⟩
  | .local _ .vmem, ⟨12, _⟩ => ⟨S184x1024, .f32⟩
  | .local _ .vmem, ⟨13, _⟩ => ⟨S184x1024, .f32⟩
  | .local _ .vmem, ⟨14, _⟩ => ⟨S184x1024, .f32⟩
  | .local _ .vmem, ⟨15, _⟩ => ⟨S184x1024, .f32⟩
  | _, _ => ⟨S8x920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_call2_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev main_v32_2 : Ref sig .tc := ⟨.hbm, 55, rfl⟩
abbrev main_v32_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_off2 (d0 : Dev nD) (c0_i32_8 : BitVec 32) (c0_i32_9 : BitVec 32) (c1_i32_10 : BitVec 32) : Fin 3 → Nat :=
  let c4_i32_11 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.xori v2 c0_i32_8
  let v20 : BitVec 32 := Scalar.muli c4_i32_11 v17
  let c2_i32_12 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.xori v5 c0_i32_9
  let v21 : BitVec 32 := Scalar.muli c2_i32_12 v18
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.xori v8 c1_i32_10
  let v23 : BitVec 32 := Scalar.addi v22 v19
  let c0_i32_21 : BitVec 32 := 0#32
  let c0_i32_22 : BitVec 32 := 0#32
  ![v23.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_8 : BitVec 32 := 0#32
  let v17 : BitVec 32 := Scalar.xori v2 c0_i32_8
  let c4_i32_15 : BitVec 32 := 4#32
  let v24 : BitVec 32 := Scalar.muli v17 c4_i32_15
  let v25 : BitVec 32 := Scalar.addi c0_i32_16 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_9 : BitVec 32 := 0#32
  let v18 : BitVec 32 := Scalar.xori v5 c0_i32_9
  let c2_i32_17 : BitVec 32 := 2#32
  let v26 : BitVec 32 := Scalar.muli v18 c2_i32_17
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v19 : BitVec 32 := Scalar.xori v8 c1_i32_10
  let c1_i32_18 : BitVec 32 := 1#32
  let v28 : BitVec 32 := Scalar.muli v19 c1_i32_18
  let v29 : BitVec 32 := Scalar.addi v27 v28
  v29.toNat
def k0_dev2 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_23 : BitVec 32 := 0#32
  let v38 : BitVec 32 := Scalar.xori v2 c0_i32_23
  let c4_i32_30 : BitVec 32 := 4#32
  let v45 : BitVec 32 := Scalar.muli v38 c4_i32_30
  let v46 : BitVec 32 := Scalar.addi c0_i32_31 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_24 : BitVec 32 := 1#32
  let v39 : BitVec 32 := Scalar.xori v5 c1_i32_24
  let c2_i32_32 : BitVec 32 := 2#32
  let v47 : BitVec 32 := Scalar.muli v39 c2_i32_32
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_25 : BitVec 32 := 0#32
  let v40 : BitVec 32 := Scalar.xori v8 c0_i32_25
  let c1_i32_33 : BitVec 32 := 1#32
  let v49 : BitVec 32 := Scalar.muli v40 c1_i32_33
  let v50 : BitVec 32 := Scalar.addi v48 v49
  v50.toNat
def k0_dev3 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_38 : BitVec 32 := 0#32
  let v59 : BitVec 32 := Scalar.xori v2 c0_i32_38
  let c4_i32_45 : BitVec 32 := 4#32
  let v66 : BitVec 32 := Scalar.muli v59 c4_i32_45
  let v67 : BitVec 32 := Scalar.addi c0_i32_46 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_39 : BitVec 32 := 1#32
  let v60 : BitVec 32 := Scalar.xori v5 c1_i32_39
  let c2_i32_47 : BitVec 32 := 2#32
  let v68 : BitVec 32 := Scalar.muli v60 c2_i32_47
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v61 : BitVec 32 := Scalar.xori v8 c1_i32_40
  let c1_i32_48 : BitVec 32 := 1#32
  let v70 : BitVec 32 := Scalar.muli v61 c1_i32_48
  let v71 : BitVec 32 := Scalar.addi v69 v70
  v71.toNat
def k0_dev4 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_53 : BitVec 32 := 1#32
  let v80 : BitVec 32 := Scalar.xori v2 c1_i32_53
  let c4_i32_59 : BitVec 32 := 4#32
  let v87 : BitVec 32 := Scalar.muli v80 c4_i32_59
  let v88 : BitVec 32 := Scalar.addi c0_i32_60 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_54 : BitVec 32 := 0#32
  let v81 : BitVec 32 := Scalar.xori v5 c0_i32_54
  let c2_i32_61 : BitVec 32 := 2#32
  let v89 : BitVec 32 := Scalar.muli v81 c2_i32_61
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_55 : BitVec 32 := 0#32
  let v82 : BitVec 32 := Scalar.xori v8 c0_i32_55
  let c1_i32_62 : BitVec 32 := 1#32
  let v91 : BitVec 32 := Scalar.muli v82 c1_i32_62
  let v92 : BitVec 32 := Scalar.addi v90 v91
  v92.toNat
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_67 : BitVec 32 := 1#32
  let v101 : BitVec 32 := Scalar.xori v2 c1_i32_67
  let c4_i32_74 : BitVec 32 := 4#32
  let v108 : BitVec 32 := Scalar.muli v101 c4_i32_74
  let v109 : BitVec 32 := Scalar.addi c0_i32_75 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_68 : BitVec 32 := 0#32
  let v102 : BitVec 32 := Scalar.xori v5 c0_i32_68
  let c2_i32_76 : BitVec 32 := 2#32
  let v110 : BitVec 32 := Scalar.muli v102 c2_i32_76
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v103 : BitVec 32 := Scalar.xori v8 c1_i32_69
  let c1_i32_77 : BitVec 32 := 1#32
  let v112 : BitVec 32 := Scalar.muli v103 c1_i32_77
  let v113 : BitVec 32 := Scalar.addi v111 v112
  v113.toNat
def k0_dev6 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_82 : BitVec 32 := 1#32
  let v122 : BitVec 32 := Scalar.xori v2 c1_i32_82
  let c4_i32_88 : BitVec 32 := 4#32
  let v129 : BitVec 32 := Scalar.muli v122 c4_i32_88
  let v130 : BitVec 32 := Scalar.addi c0_i32_89 v129
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_83 : BitVec 32 := 1#32
  let v123 : BitVec 32 := Scalar.xori v5 c1_i32_83
  let c2_i32_90 : BitVec 32 := 2#32
  let v131 : BitVec 32 := Scalar.muli v123 c2_i32_90
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_84 : BitVec 32 := 0#32
  let v124 : BitVec 32 := Scalar.xori v8 c0_i32_84
  let c1_i32_91 : BitVec 32 := 1#32
  let v133 : BitVec 32 := Scalar.muli v124 c1_i32_91
  let v134 : BitVec 32 := Scalar.addi v132 v133
  v134.toNat
def k0_dev7 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_96 : BitVec 32 := 1#32
  let v143 : BitVec 32 := Scalar.xori v2 c1_i32_96
  let c4_i32_102 : BitVec 32 := 4#32
  let v150 : BitVec 32 := Scalar.muli v143 c4_i32_102
  let v151 : BitVec 32 := Scalar.addi c0_i32_103 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_97 : BitVec 32 := 1#32
  let v144 : BitVec 32 := Scalar.xori v5 c1_i32_97
  let c2_i32_104 : BitVec 32 := 2#32
  let v152 : BitVec 32 := Scalar.muli v144 c2_i32_104
  let v153 : BitVec 32 := Scalar.addi v151 v152
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v145 : BitVec 32 := Scalar.xori v8 c1_i32_98
  let c1_i32_105 : BitVec 32 := 1#32
  let v154 : BitVec 32 := Scalar.muli v145 c1_i32_105
  let v155 : BitVec 32 := Scalar.addi v153 v154
  v155.toNat
abbrev grid1 : Pipeline.Grid := ⟨1, ![5], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x184x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S184x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S184x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S184x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S184x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S184x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S184x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S184x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S64x920x1024 : Shape := ⟨3, ![64, 920, 1024]⟩
abbrev S2x1024x2560 : Shape := ⟨3, ![2, 1024, 2560]⟩
abbrev S2x1024x1024 : Shape := ⟨3, ![2, 1024, 1024]⟩
abbrev S2x256x256 : Shape := ⟨3, ![2, 256, 256]⟩
abbrev S2x31x256 : Shape := ⟨3, ![2, 31, 256]⟩
abbrev S8x8x920x1024 : Shape := ⟨4, ![8, 8, 920, 1024]⟩
abbrev S_ : Shape := ⟨0, ![]⟩
abbrev S8x920x1024 : Shape := ⟨3, ![8, 920, 1024]⟩
abbrev S8x640x1024 : Shape := ⟨3, ![8, 640, 1024]⟩
abbrev S8x2x320x1024 : Shape := ⟨4, ![8, 2, 320, 1024]⟩
abbrev S2x1024x8x320 : Shape := ⟨4, ![2, 1024, 8, 320]⟩
abbrev S8x256x1024 : Shape := ⟨3, ![8, 256, 1024]⟩
abbrev S8x2x128x1024 : Shape := ⟨4, ![8, 2, 128, 1024]⟩
abbrev S2x8x128x1024 : Shape := ⟨4, ![2, 8, 128, 1024]⟩
abbrev S8x16x1024 : Shape := ⟨3, ![8, 16, 1024]⟩
abbrev S8x2x32x256 : Shape := ⟨4, ![8, 2, 32, 256]⟩
abbrev S2x8x32x256 : Shape := ⟨4, ![2, 8, 32, 256]⟩
abbrev S8x2x1024 : Shape := ⟨3, ![8, 2, 1024]⟩
abbrev S8x2x32x32 : Shape := ⟨4, ![8, 2, 32, 32]⟩
abbrev S2x32x8x32 : Shape := ⟨4, ![2, 32, 8, 32]⟩
abbrev S2x32x256 : Shape := ⟨3, ![2, 32, 256]⟩

abbrev nBuf : Space → Nat
  | .hbm => 165
  | .vmem => 0
  | .smem => 0
  | _ => 0

abbrev hbmTy0_0 (i : Nat) : BufTy := match i % 128 with
  | 0 => ⟨S64x920x1024, .f32⟩
  | 1 => ⟨S2x1024x2560, .f32⟩
  | 2 => ⟨S2x1024x1024, .f32⟩
  | 3 => ⟨S2x256x256, .f32⟩
  | 4 => ⟨S2x31x256, .f32⟩
  | 5 => ⟨S2x1024x2560, .f32⟩
  | 6 => ⟨S2x1024x1024, .f32⟩
  | 7 => ⟨S2x256x256, .f32⟩
  | 8 => ⟨S2x31x256, .f32⟩
  | 9 => ⟨S2x1024x2560, .f32⟩
  | 10 => ⟨S2x1024x1024, .f32⟩
  | 11 => ⟨S2x256x256, .f32⟩
  | 12 => ⟨S2x31x256, .f32⟩
  | 13 => ⟨S8x8x920x1024, .f32⟩
  | 14 => ⟨S_, .f32⟩
  | 15 => ⟨S8x920x1024, .f32⟩
  | 16 => ⟨S8x640x1024, .f32⟩
  | 17 => ⟨S8x2x320x1024, .f32⟩
  | 18 => ⟨S2x1024x8x320, .f32⟩
  | 19 => ⟨S2x1024x2560, .f32⟩
  | 20 => ⟨S8x256x1024, .f32⟩
  | 21 => ⟨S8x2x128x1024, .f32⟩
  | 22 => ⟨S2x8x128x1024, .f32⟩
  | 23 => ⟨S2x1024x1024, .f32⟩
  | 24 => ⟨S8x16x1024, .f32⟩
  | 25 => ⟨S8x2x32x256, .f32⟩
  | 26 => ⟨S2x8x32x256, .f32⟩
  | 27 => ⟨S2x256x256, .f32⟩
  | 28 => ⟨S8x2x1024, .f32⟩
  | 29 => ⟨S8x2x32x32, .f32⟩
  | 30 => ⟨S2x32x8x32, .f32⟩
  | 31 => ⟨S2x32x256, .f32⟩
  | 32 => ⟨S2x31x256, .f32⟩
  | 33 => ⟨S_, .f32⟩
  | 34 => ⟨S2x1024x2560, .f32⟩
  | 35 => ⟨S2x1024x2560, .f32⟩
  | 36 => ⟨S_, .f32⟩
  | 37 => ⟨S2x1024x2560, .f32⟩
  | 38 => ⟨S2x1024x2560, .f32⟩
  | 39 => ⟨S2x1024x2560, .f32⟩
  | 40 => ⟨S_, .f32⟩
  | 41 => ⟨S2x1024x2560, .f32⟩
  | 42 => ⟨S2x1024x2560, .f32⟩
  | 43 => ⟨S2x1024x2560, .f32⟩
  | 44 => ⟨S_, .f32⟩
  | 45 => ⟨S2x1024x2560, .f32⟩
  | 46 => ⟨S2x1024x2560, .f32⟩
  | 47 => ⟨S2x1024x2560, .f32⟩
  | 48 => ⟨S_, .f32⟩
  | 49 => ⟨S2x1024x2560, .f32⟩
  | 50 => ⟨S2x1024x2560, .f32⟩
  | 51 => ⟨S_, .f32⟩
  | 52 => ⟨S2x1024x2560, .f32⟩
  | 53 => ⟨S2x1024x2560, .f32⟩
  | 54 => ⟨S2x1024x2560, .f32⟩
  | 55 => ⟨S_, .f32⟩
  | 56 => ⟨S2x1024x2560, .f32⟩
  | 57 => ⟨S2x1024x2560, .f32⟩
  | 58 => ⟨S2x1024x2560, .f32⟩
  | 59 => ⟨S_, .f32⟩
  | 60 => ⟨S2x1024x2560, .f32⟩
  | 61 => ⟨S2x1024x2560, .f32⟩
  | 62 => ⟨S2x1024x2560, .f32⟩
  | 63 => ⟨S_, .f32⟩
  | 64 => ⟨S2x1024x2560, .f32⟩
  | 65 => ⟨S2x1024x2560, .f32⟩
  | 66 => ⟨S_, .f32⟩
  | 67 => ⟨S2x1024x1024, .f32⟩
  | 68 => ⟨S2x1024x1024, .f32⟩
  | 69 => ⟨S_, .f32⟩
  | 70 => ⟨S2x1024x1024, .f32⟩
  | 71 => ⟨S2x1024x1024, .f32⟩
  | 72 => ⟨S2x1024x1024, .f32⟩
  | 73 => ⟨S_, .f32⟩
  | 74 => ⟨S2x1024x1024, .f32⟩
  | 75 => ⟨S2x1024x1024, .f32⟩
  | 76 => ⟨S2x1024x1024, .f32⟩
  | 77 => ⟨S_, .f32⟩
  | 78 => ⟨S2x1024x1024, .f32⟩
  | 79 => ⟨S2x1024x1024, .f32⟩
  | 80 => ⟨S2x1024x1024, .f32⟩
  | 81 => ⟨S_, .f32⟩
  | 82 => ⟨S2x1024x1024, .f32⟩
  | 83 => ⟨S2x1024x1024, .f32⟩
  | 84 => ⟨S_, .f32⟩
  | 85 => ⟨S2x1024x1024, .f32⟩
  | 86 => ⟨S2x1024x1024, .f32⟩
  | 87 => ⟨S2x1024x1024, .f32⟩
  | 88 => ⟨S_, .f32⟩
  | 89 => ⟨S2x1024x1024, .f32⟩
  | 90 => ⟨S2x1024x1024, .f32⟩
  | 91 => ⟨S2x1024x1024, .f32⟩
  | 92 => ⟨S_, .f32⟩
  | 93 => ⟨S2x1024x1024, .f32⟩
  | 94 => ⟨S2x1024x1024, .f32⟩
  | 95 => ⟨S2x1024x1024, .f32⟩
  | 96 => ⟨S_, .f32⟩
  | 97 => ⟨S2x1024x1024, .f32⟩
  | 98 => ⟨S2x1024x1024, .f32⟩
  | 99 => ⟨S_, .f32⟩
  | 100 => ⟨S2x256x256, .f32⟩
  | 101 => ⟨S2x256x256, .f32⟩
  | 102 => ⟨S_, .f32⟩
  | 103 => ⟨S2x256x256, .f32⟩
  | 104 => ⟨S2x256x256, .f32⟩
  | 105 => ⟨S2x256x256, .f32⟩
  | 106 => ⟨S_, .f32⟩
  | 107 => ⟨S2x256x256, .f32⟩
  | 108 => ⟨S2x256x256, .f32⟩
  | 109 => ⟨S2x256x256, .f32⟩
  | 110 => ⟨S_, .f32⟩
  | 111 => ⟨S2x256x256, .f32⟩
  | 112 => ⟨S2x256x256, .f32⟩
  | 113 => ⟨S2x256x256, .f32⟩
  | 114 => ⟨S_, .f32⟩
  | 115 => ⟨S2x256x256, .f32⟩
  | 116 => ⟨S2x256x256, .f32⟩
  | 117 => ⟨S_, .f32⟩
  | 118 => ⟨S2x256x256, .f32⟩
  | 119 => ⟨S2x256x256, .f32⟩
  | 120 => ⟨S2x256x256, .f32⟩
  | 121 => ⟨S_, .f32⟩
  | 122 => ⟨S2x256x256, .f32⟩
  | 123 => ⟨S2x256x256, .f32⟩
  | 124 => ⟨S2x256x256, .f32⟩
  | 125 => ⟨S_, .f32⟩
  | 126 => ⟨S2x256x256, .f32⟩
  | 127 => ⟨S2x256x256, .f32⟩
  | _ => ⟨S64x920x1024, .f32⟩

abbrev hbmTy0_1 (i : Nat) : BufTy := match i % 128 with
  | 0 => ⟨S2x256x256, .f32⟩
  | 1 => ⟨S_, .f32⟩
  | 2 => ⟨S2x256x256, .f32⟩
  | 3 => ⟨S2x256x256, .f32⟩
  | 4 => ⟨S_, .f32⟩
  | 5 => ⟨S2x31x256, .f32⟩
  | 6 => ⟨S2x31x256, .f32⟩
  | 7 => ⟨S_, .f32⟩
  | 8 => ⟨S2x31x256, .f32⟩
  | 9 => ⟨S2x31x256, .f32⟩
  | 10 => ⟨S2x31x256, .f32⟩
  | 11 => ⟨S_, .f32⟩
  | 12 => ⟨S2x31x256, .f32⟩
  | 13 => ⟨S2x31x256, .f32⟩
  | 14 => ⟨S2x31x256, .f32⟩
  | 15 => ⟨S_, .f32⟩
  | 16 => ⟨S2x31x256, .f32⟩
  | 17 => ⟨S2x31x256, .f32⟩
  | 18 => ⟨S2x31x256, .f32⟩
  | 19 => ⟨S_, .f32⟩
  | 20 => ⟨S2x31x256, .f32⟩
  | 21 => ⟨S2x31x256, .f32⟩
  | 22 => ⟨S_, .f32⟩
  | 23 => ⟨S2x31x256, .f32⟩
  | 24 => ⟨S2x31x256, .f32⟩
  | 25 => ⟨S2x31x256, .f32⟩
  | 26 => ⟨S_, .f32⟩
  | 27 => ⟨S2x31x256, .f32⟩
  | 28 => ⟨S2x31x256, .f32⟩
  | 29 => ⟨S2x31x256, .f32⟩
  | 30 => ⟨S_, .f32⟩
  | 31 => ⟨S2x31x256, .f32⟩
  | 32 => ⟨S2x31x256, .f32⟩
  | 33 => ⟨S2x31x256, .f32⟩
  | 34 => ⟨S_, .f32⟩
  | 35 => ⟨S2x31x256, .f32⟩
  | 36 => ⟨S2x31x256, .f32⟩
  | _ => ⟨S64x920x1024, .f32⟩

abbrev hbmTy (i : Nat) : BufTy := match i / 128 with
  | 0 => hbmTy0_0 i
  | 1 => hbmTy0_1 i
  | _ => ⟨S64x920x1024, .f32⟩

abbrev bufTy : (tb : Table) → Fin (tcTables nBuf tb) → BufTy
  | .hbm, ⟨i, _⟩ => hbmTy i
  | _, _ => ⟨S64x920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_17 : Ref sig .tc := ⟨.hbm, 96, rfl⟩
abbrev main_v65 : Ref sig .tc := ⟨.hbm, 97, rfl⟩
abbrev main_v66 : Ref sig .tc := ⟨.hbm, 98, rfl⟩
abbrev main_cst_18 : Ref sig .tc := ⟨.hbm, 99, rfl⟩
abbrev main_v67 : Ref sig .tc := ⟨.hbm, 100, rfl⟩
abbrev main_v68 : Ref sig .tc := ⟨.hbm, 101, rfl⟩
abbrev main_cst_19 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_20 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_21 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_22 : Ref sig .tc := ⟨.hbm, 114, rfl⟩
abbrev main_v78 : Ref sig .tc := ⟨.hbm, 115, rfl⟩
abbrev main_v79 : Ref sig .tc := ⟨.hbm, 116, rfl⟩
abbrev main_cst_23 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_24 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_25 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_26 : Ref sig .tc := ⟨.hbm, 129, rfl⟩
abbrev main_v89 : Ref sig .tc := ⟨.hbm, 130, rfl⟩
abbrev main_v90 : Ref sig .tc := ⟨.hbm, 131, rfl⟩
abbrev main_cst_27 : Ref sig .tc := ⟨.hbm, 132, rfl⟩
abbrev main_v91 : Ref sig .tc := ⟨.hbm, 133, rfl⟩
abbrev main_v92 : Ref sig .tc := ⟨.hbm, 134, rfl⟩
abbrev main_cst_28 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_29 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_30 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_31 : Ref sig .tc := ⟨.hbm, 147, rfl⟩
abbrev main_v102 : Ref sig .tc := ⟨.hbm, 148, rfl⟩
abbrev main_v103 : Ref sig .tc := ⟨.hbm, 149, rfl⟩
abbrev main_cst_32 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_33 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_34 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_35 : Ref sig .tc := ⟨.hbm, 162, rfl⟩
abbrev main_v113 : Ref sig .tc := ⟨.hbm, 163, rfl⟩
abbrev main_v114 : Ref sig .tc := ⟨.hbm, 164, rfl⟩

abbrev nD : Nat := 1
abbrev τ : Topo := Topo.v7x

variable {F : FTy → Type} [FloatOps F]
-- ==== Replicated.lean ====
abbrev S8x40x1024 : Shape := ⟨3, ![8, 40, 1024]⟩
abbrev S2x1024 : Shape := ⟨2, ![2, 1024]⟩
abbrev S2x4x64x64 : Shape := ⟨4, ![2, 4, 64, 64]⟩
abbrev S2x256 : Shape := ⟨2, ![2, 256]⟩
abbrev S2x8 : Shape := ⟨2, ![2, 8]⟩
abbrev S1024 : Shape := ⟨1, ![1024]⟩
abbrev S_ : Shape := ⟨0, ![]⟩
abbrev S10x256 : Shape := ⟨2, ![10, 256]⟩
abbrev S12x256 : Shape := ⟨2, ![12, 256]⟩
abbrev S1x1024 : Shape := ⟨2, ![1, 1024]⟩
abbrev S32x1024 : Shape := ⟨2, ![32, 1024]⟩
abbrev S3x1024 : Shape := ⟨2, ![3, 1024]⟩
abbrev S38x1024 : Shape := ⟨2, ![38, 1024]⟩
abbrev S40x1024 : Shape := ⟨2, ![40, 1024]⟩
abbrev S1x40x1024 : Shape := ⟨3, ![1, 40, 1024]⟩

abbrev nBuf : Space → Nat
  | .hbm => 127
  | .vmem => 8
  | .smem => 0
  | _ => 0

abbrev bufTy : (tb : Table) → Fin (tcTables nBuf tb) → BufTy
  | .hbm, ⟨0, _⟩ => ⟨S8x40x1024, .f32⟩
  | .hbm, ⟨1, _⟩ => ⟨S2x1024, .f32⟩
  | .hbm, ⟨2, _⟩ => ⟨S2x4x64x64, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .hbm, ⟨7, _⟩ => ⟨S2x8, .f32⟩
  | .hbm, ⟨8, _⟩ => ⟨S1024, .f32⟩
  | .hbm, ⟨9, _⟩ => ⟨S2x1024, .f32⟩
  | .hbm, ⟨10, _⟩ => ⟨S2x4x64x64, .f32⟩
  | .hbm, ⟨11, _⟩ => ⟨S2x256, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S2x8, .f32⟩
  | .hbm, ⟨16, _⟩ => ⟨S1024, .f32⟩
  | .hbm, ⟨17, _⟩ => ⟨S2x1024, .f32⟩
  | .hbm, ⟨18, _⟩ => ⟨S2x4x64x64, .f32⟩
  | .hbm, ⟨19, _⟩ => ⟨S2x256, .f32⟩
  | .hbm, ⟨20, _⟩ => ⟨S2x256, .f32⟩
  | .hbm, ⟨21, _⟩ => ⟨S2x256, .f32⟩
  | .hbm, ⟨22, _⟩ => ⟨S2x256, .f32⟩
  | .hbm, ⟨23, _⟩ => ⟨S2x8, .f32⟩
  | .hbm, ⟨24, _⟩ => ⟨S1024, .f32⟩
  | .hbm, ⟨25, _⟩ => ⟨S_, .i32⟩
  | .hbm, ⟨26, _⟩ => ⟨S_, .f32⟩
  | .hbm, ⟨27, _⟩ => ⟨S2x256, .f32⟩
  | .hbm, ⟨28, _⟩ => ⟨S10x256, .f32⟩
  | .hbm, ⟨29, _⟩ => ⟨S_, .f32⟩
  | .hbm, ⟨30, _⟩ => ⟨S2x256, .f32⟩
  | .hbm, ⟨31, _⟩ => ⟨S12x256, .f32⟩
  | .hbm, ⟨32, _⟩ => ⟨S1x1024, .f32⟩
  | .hbm, ⟨33, _⟩ => ⟨S32x1024, .f32⟩
  | .hbm, ⟨34, _⟩ => ⟨S3x1024, .f32⟩
  | .hbm, ⟨35, _⟩ => ⟨S38x1024, .f32⟩
  | .hbm, ⟨36, _⟩ => ⟨S_, .f32⟩
  | .hbm, ⟨37, _⟩ => ⟨S2x1024, .f32⟩
  | .hbm, ⟨38, _⟩ => ⟨S40x1024, .f32⟩
  | .hbm, ⟨39, _⟩ => ⟨S_, .i32⟩
  | .hbm, ⟨40, _⟩ => ⟨S_, .f32⟩
  | .hbm, ⟨41, _⟩ => ⟨S2x256, .f32⟩
  | .hbm, ⟨42, _⟩ => ⟨S10x256, .f32⟩
  | .hbm, ⟨43, _⟩ => ⟨S_, .f32⟩
  | .hbm, ⟨44, _⟩ => ⟨S2x256, .f32⟩
  | .hbm, ⟨45, _⟩ => ⟨S12x256, .f32⟩
  | .hbm, ⟨46, _⟩ => ⟨S1x1024, .f32⟩
  | .hbm, ⟨47, _⟩ => ⟨S32x1024, .f32⟩
  | .hbm, ⟨48, _⟩ => ⟨S3x1024, .f32⟩
  | .hbm, ⟨49, _⟩ => ⟨S38x1024, .f32⟩
  | .hbm, ⟨50, _⟩ => ⟨S_, .f32⟩
  | .hbm, ⟨51, _⟩ => ⟨S2x1024, .f32⟩
  | .hbm, ⟨52, _⟩ => ⟨S40x1024, .f32⟩
  | .hbm, ⟨53, _⟩ => ⟨S_, .i32⟩
  | .hbm, ⟨54, _⟩ => ⟨S_, .f32⟩
  | .hbm, ⟨55, _⟩ => ⟨S2x256, .f32⟩
  | .hbm, ⟨56, _⟩ => ⟨S10x256, .f32⟩
  | .hbm, ⟨57, _⟩ => ⟨S_, .f32⟩
  | .hbm, ⟨58, _⟩ => ⟨S2x256, .f32⟩
  | .hbm, ⟨59, _⟩ => ⟨S12x256, .f32⟩
  | .hbm, ⟨60, _⟩ => ⟨S1x1024, .f32⟩
  | .hbm, ⟨61, _⟩ => ⟨S32x1024, .f32⟩
  | .hbm, ⟨62, _⟩ => ⟨S3x1024, .f32⟩
  | .hbm, ⟨63, _⟩ => ⟨S38x1024, .f32⟩
  | .hbm, ⟨64, _⟩ => ⟨S_, .f32⟩
  | .hbm, ⟨65, _⟩ => ⟨S2x1024, .f32⟩
  | .hbm, ⟨66, _⟩ => ⟨S40x1024, .f32⟩
  | .hbm, ⟨67, _⟩ => ⟨S40x1024, .f32⟩
  | .hbm, ⟨68, _⟩ => ⟨S40x1024, .f32⟩
  | .hbm, ⟨69, _⟩ => ⟨S40x1024, .f32⟩
  | .hbm, ⟨70, _⟩ => ⟨S40x1024, .f32⟩
  | .hbm, ⟨71, _⟩ => ⟨S38x1024, .f32⟩
  | .hbm, ⟨72, _⟩ => ⟨S2x1024, .f32⟩
  | .hbm, ⟨73, _⟩ => ⟨S1x1024, .f32⟩
  | .hbm, ⟨74, _⟩ => ⟨S1024, .f32⟩
  | .hbm, ⟨75, _⟩ => ⟨S32x1024, .f32⟩
  | .hbm, ⟨76, _⟩ => ⟨S2x4x64x64, .f32⟩
  | .hbm, ⟨77, _⟩ => ⟨S3x1024, .f32⟩
  | .hbm, ⟨78, _⟩ => ⟨S12x256, .f32⟩
  | .hbm, ⟨79, _⟩ => ⟨S10x256, .f32⟩
  | .hbm, ⟨80, _⟩ => ⟨S2x256, .f32⟩
  | .hbm, ⟨81, _⟩ => ⟨S2x256, .f32⟩
  | .hbm, ⟨82, _⟩ => ⟨S2x256, .f32⟩
  | .hbm, ⟨83, _⟩ => ⟨S2x256, .f32⟩
  | .hbm, ⟨84, _⟩ => ⟨S2x8, .f32⟩
  | .hbm, ⟨85, _⟩ => ⟨S38x1024, .f32⟩
  | .hbm, ⟨86, _⟩ => ⟨S2x1024, .f32⟩
  | .hbm, ⟨87, _⟩ => ⟨S1x1024, .f32⟩
  | .hbm, ⟨88, _⟩ => ⟨S1024, .f32⟩
  | .hbm, ⟨89, _⟩ => ⟨S32x1024, .f32⟩
  | .hbm, ⟨90, _⟩ => ⟨S2x4x64x64, .f32⟩
  | .hbm, ⟨91, _⟩ => ⟨S3x1024, .f32⟩
  | .hbm, ⟨92, _⟩ => ⟨S12x256, .f32⟩
  | .hbm, ⟨93, _⟩ => ⟨S10x256, .f32⟩
  | .hbm, ⟨94, _⟩ => ⟨S2x256, .f32⟩
  | .hbm, ⟨95, _⟩ => ⟨S2x256, .f32⟩
  | .hbm, ⟨96, _⟩ => ⟨S2x256, .f32⟩
  | .hbm, ⟨97, _⟩ => ⟨S2x256, .f32⟩
  | .hbm, ⟨98, _⟩ => ⟨S2x8, .f32⟩
  | .hbm, ⟨99, _⟩ => ⟨S38x1024, .f32⟩
  | .hbm, ⟨100, _⟩ => ⟨S2x1024, .f32⟩
  | .hbm, ⟨101, _⟩ => ⟨S1x1024, .f32⟩
  | .hbm, ⟨102, _⟩ => ⟨S1024, .f32⟩
  | .hbm, ⟨103, _⟩ => ⟨S32x1024, .f32⟩
  | .hbm, ⟨104, _⟩ => ⟨S2x4x64x64, .f32⟩
  | .hbm, ⟨105, _⟩ => ⟨S3x1024, .f32⟩
  | .hbm, ⟨106, _⟩ => ⟨S12x256, .f32⟩
  | .hbm, ⟨107, _⟩ => ⟨S10x256, .f32⟩
  | .hbm, ⟨108, _⟩ => ⟨S2x256, .f32⟩
  | .hbm, ⟨109, _⟩ => ⟨S2x256, .f32⟩
  | .hbm, ⟨110, _⟩ => ⟨S2x256, .f32⟩
  | .hbm, ⟨111, _⟩ => ⟨S2x256, .f32⟩
  | .hbm, ⟨112, _⟩ => ⟨S2x8, .f32⟩
  | .hbm, ⟨113, _⟩ => ⟨S38x1024, .f32⟩
  | .hbm, ⟨114, _⟩ => ⟨S2x1024, .f32⟩
  | .hbm, ⟨115, _⟩ => ⟨S1x1024, .f32⟩
  | .hbm, ⟨116, _⟩ => ⟨S1024, .f32⟩
  | .hbm, ⟨117, _⟩ => ⟨S32x1024, .f32⟩
  | .hbm, ⟨118, _⟩ => ⟨S2x4x64x64, .f32⟩
  | .hbm, ⟨119, _⟩ => ⟨S3x1024, .f32⟩
  | .hbm, ⟨120, _⟩ => ⟨S12x256, .f32⟩
  | .hbm, ⟨121, _⟩ => ⟨S10x256, .f32⟩
  | .hbm, ⟨122, _⟩ => ⟨S2x256, .f32⟩
  | .hbm, ⟨123, _⟩ => ⟨S2x256, .f32⟩
  | .hbm, ⟨124, _⟩ => ⟨S2x256, .f32⟩
  | .hbm, ⟨125, _⟩ => ⟨S2x256, .f32⟩
  | .hbm, ⟨126, _⟩ => ⟨S2x8, .f32⟩
  | .local _ .vmem, ⟨0, _⟩ => ⟨S8x40x1024, .f32⟩
  | .local _ .vmem, ⟨1, _⟩ => ⟨S40x1024, .f32⟩
  | .local _ .vmem, ⟨2, _⟩ => ⟨S40x1024, .f32⟩
  | .local _ .vmem, ⟨3, _⟩ => ⟨S40x1024, .f32⟩
  | .local _ .vmem, ⟨4, _⟩ => ⟨S40x1024, .f32⟩
  | .local _ .vmem, ⟨5, _⟩ => ⟨S40x1024, .f32⟩
  | .local _ .vmem, ⟨6, _⟩ => ⟨S40x1024, .f32⟩
  | .local _ .vmem, ⟨7, _⟩ => ⟨S40x1024, .f32⟩
  | _, _ => ⟨S8x40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_call0_v0 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_c_1 : Ref sig .tc := ⟨.hbm, 39, rfl⟩
abbrev main_call1_v0 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_c_4 : Ref sig .tc := ⟨.hbm, 53, rfl⟩
abbrev main_call2_v0 : Ref sig .tc := ⟨.hbm, 54, rfl⟩
abbrev main_v20 : Ref sig .tc := ⟨.hbm, 55, rfl⟩
abbrev main_v21 : Ref sig .tc := ⟨.hbm, 56, rfl⟩
abbrev main_cst_5 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_6 : Ref sig .tc := ⟨.hbm, 64, rfl⟩
abbrev main_v28 : Ref sig .tc := ⟨.hbm, 65, rfl⟩
abbrev main_v29 : Ref sig .tc := ⟨.hbm, 66, rfl⟩
abbrev main_v30_0 : Ref sig .tc := ⟨.hbm, 67, rfl⟩
abbrev main_v30_1 : Ref sig .tc := ⟨.hbm, 68, rfl⟩
abbrev main_v30_2 : Ref sig .tc := ⟨.hbm, 69, rfl⟩
abbrev main_v30_3 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S40x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReplicatedReferenceIdeal.lean ====
abbrev S8x40x1024 : Shape := ⟨3, ![8, 40, 1024]⟩
abbrev S2x1024 : Shape := ⟨2, ![2, 1024]⟩
abbrev S2x4x64x64 : Shape := ⟨4, ![2, 4, 64, 64]⟩
abbrev S2x256 : Shape := ⟨2, ![2, 256]⟩
abbrev S2x8 : Shape := ⟨2, ![2, 8]⟩
abbrev S1024 : Shape := ⟨1, ![1024]⟩
abbrev S_ : Shape := ⟨0, ![]⟩
abbrev S40x1024 : Shape := ⟨2, ![40, 1024]⟩
abbrev S3x1024 : Shape := ⟨2, ![3, 1024]⟩
abbrev S12x256 : Shape := ⟨2, ![12, 256]⟩
abbrev S32x1024 : Shape := ⟨2, ![32, 1024]⟩
abbrev S1x1024 : Shape := ⟨2, ![1, 1024]⟩

abbrev nBuf : Space → Nat
  | .hbm => 303
  | .vmem => 0
  | .smem => 0
  | _ => 0

abbrev hbmTy0_0 (i : Nat) : BufTy := match i % 128 with
  | 0 => ⟨S8x40x1024, .f32⟩
  | 1 => ⟨S2x1024, .f32⟩
  | 2 => ⟨S2x4x64x64, .f32⟩
  | 3 => ⟨S2x256, .f32⟩
  | 4 => ⟨S2x256, .f32⟩
  | 5 => ⟨S2x256, .f32⟩
  | 6 => ⟨S2x256, .f32⟩
  | 7 => ⟨S2x8, .f32⟩
  | 8 => ⟨S1024, .f32⟩
  | 9 => ⟨S2x1024, .f32⟩
  | 10 => ⟨S2x4x64x64, .f32⟩
  | 11 => ⟨S2x256, .f32⟩
  | 12 => ⟨S2x256, .f32⟩
  | 13 => ⟨S2x256, .f32⟩
  | 14 => ⟨S2x256, .f32⟩
  | 15 => ⟨S2x8, .f32⟩
  | 16 => ⟨S1024, .f32⟩
  | 17 => ⟨S2x1024, .f32⟩
  | 18 => ⟨S2x4x64x64, .f32⟩
  | 19 => ⟨S2x256, .f32⟩
  | 20 => ⟨S2x256, .f32⟩
  | 21 => ⟨S2x256, .f32⟩
  | 22 => ⟨S2x256, .f32⟩
  | 23 => ⟨S2x8, .f32⟩
  | 24 => ⟨S1024, .f32⟩
  | 25 => ⟨S_, .f32⟩
  | 26 => ⟨S40x1024, .f32⟩
  | 27 => ⟨S3x1024, .f32⟩
  | 28 => ⟨S12x256, .f32⟩
  | 29 => ⟨S2x1024, .f32⟩
  | 30 => ⟨S32x1024, .f32⟩
  | 31 => ⟨S2x4x64x64, .f32⟩
  | 32 => ⟨S2x256, .f32⟩
  | 33 => ⟨S2x256, .f32⟩
  | 34 => ⟨S2x256, .f32⟩
  | 35 => ⟨S2x256, .f32⟩
  | 36 => ⟨S2x8, .f32⟩
  | 37 => ⟨S1x1024, .f32⟩
  | 38 => ⟨S1024, .f32⟩
  | 39 => ⟨S_, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S2x1024, .f32⟩
  | 61 => ⟨S_, .f32⟩
  | 62 => ⟨S2x1024, .f32⟩
  | 63 => ⟨S2x1024, .f32⟩
  | 64 => ⟨S2x1024, .f32⟩
  | 65 => ⟨S_, .f32⟩
  | 66 => ⟨S2x1024, .f32⟩
  | 67 => ⟨S2x1024, .f32⟩
  | 68 => ⟨S2x1024, .f32⟩
  | 69 => ⟨S_, .f32⟩
  | 70 => ⟨S2x1024, .f32⟩
  | 71 => ⟨S2x1024, .f32⟩
  | 72 => ⟨S_, .f32⟩
  | 73 => ⟨S2x4x64x64, .f32⟩
  | 74 => ⟨S2x4x64x64, .f32⟩
  | 75 => ⟨S_, .f32⟩
  | 76 => ⟨S2x4x64x64, .f32⟩
  | 77 => ⟨S2x4x64x64, .f32⟩
  | 78 => ⟨S2x4x64x64, .f32⟩
  | 79 => ⟨S_, .f32⟩
  | 80 => ⟨S2x4x64x64, .f32⟩
  | 81 => ⟨S2x4x64x64, .f32⟩
  | 82 => ⟨S2x4x64x64, .f32⟩
  | 83 => ⟨S_, .f32⟩
  | 84 => ⟨S2x4x64x64, .f32⟩
  | 85 => ⟨S2x4x64x64, .f32⟩
  | 86 => ⟨S2x4x64x64, .f32⟩
  | 87 => ⟨S_, .f32⟩
  | 88 => ⟨S2x4x64x64, .f32⟩
  | 89 => ⟨S2x4x64x64, .f32⟩
  | 90 => ⟨S_, .f32⟩
  | 91 => ⟨S2x4x64x64, .f32⟩
  | 92 => ⟨S2x4x64x64, .f32⟩
  | 93 => ⟨S2x4x64x64, .f32⟩
  | 94 => ⟨S_, .f32⟩
  | 95 => ⟨S2x4x64x64, .f32⟩
  | 96 => ⟨S2x4x64x64, .f32⟩
  | 97 => ⟨S2x4x64x64, .f32⟩
  | 98 => ⟨S_, .f32⟩
  | 99 => ⟨S2x4x64x64, .f32⟩
  | 100 => ⟨S2x4x64x64, .f32⟩
  | 101 => ⟨S2x4x64x64, .f32⟩
  | 102 => ⟨S_, .f32⟩
  | 103 => ⟨S2x4x64x64, .f32⟩
  | 104 => ⟨S2x4x64x64, .f32⟩
  | 105 => ⟨S_, .f32⟩
  | 106 => ⟨S2x256, .f32⟩
  | 107 => ⟨S2x256, .f32⟩
  | 108 => ⟨S_, .f32⟩
  | 109 => ⟨S2x256, .f32⟩
  | 110 => ⟨S2x256, .f32⟩
  | 111 => ⟨S2x256, .f32⟩
  | 112 => ⟨S_, .f32⟩
  | 113 => ⟨S2x256, .f32⟩
  | 114 => ⟨S2x256, .f32⟩
  | 115 => ⟨S2x256, .f32⟩
  | 116 => ⟨S_, .f32⟩
  | 117 => ⟨S2x256, .f32⟩
  | 118 => ⟨S2x256, .f32⟩
  | 119 => ⟨S2x256, .f32⟩
  | 120 => ⟨S_, .f32⟩
  | 121 => ⟨S2x256, .f32⟩
  | 122 => ⟨S2x256, .f32⟩
  | 123 => ⟨S_, .f32⟩
  | 124 => ⟨S2x256, .f32⟩
  | 125 => ⟨S2x256, .f32⟩
  | 126 => ⟨S2x256, .f32⟩
  | 127 => ⟨S_, .f32⟩
  | _ => ⟨S8x40x1024, .f32⟩

abbrev hbmTy0_1 (i : Nat) : BufTy := match i % 128 with
  | 0 => ⟨S2x256, .f32⟩
  | 1 => ⟨S2x256, .f32⟩
  | 2 => ⟨S2x256, .f32⟩
  | 3 => ⟨S_, .f32⟩
  | 4 => ⟨S2x256, .f32⟩
  | 5 => ⟨S2x256, .f32⟩
  | 6 => ⟨S2x256, .f32⟩
  | 7 => ⟨S_, .f32⟩
  | 8 => ⟨S2x256, .f32⟩
  | 9 => ⟨S2x256, .f32⟩
  | 10 => ⟨S_, .f32⟩
  | 11 => ⟨S2x256, .f32⟩
  | 12 => ⟨S2x256, .f32⟩
  | 13 => ⟨S_, .f32⟩
  | 14 => ⟨S2x256, .f32⟩
  | 15 => ⟨S2x256, .f32⟩
  | 16 => ⟨S2x256, .f32⟩
  | 17 => ⟨S_, .f32⟩
  | 18 => ⟨S2x256, .f32⟩
  | 19 => ⟨S2x256, .f32⟩
  | 20 => ⟨S2x256, .f32⟩
  | 21 => ⟨S_, .f32⟩
  | 22 => ⟨S2x256, .f32⟩
  | 23 => ⟨S2x256, .f32⟩
  | 24 => ⟨S2x256, .f32⟩
  | 25 => ⟨S_, .f32⟩
  | 26 => ⟨S2x256, .f32⟩
  | 27 => ⟨S2x256, .f32⟩
  | 28 => ⟨S_, .f32⟩
  | 29 => ⟨S2x256, .f32⟩
  | 30 => ⟨S2x256, .f32⟩
  | 31 => ⟨S2x256, .f32⟩
  | 32 => ⟨S_, .f32⟩
  | 33 => ⟨S2x256, .f32⟩
  | 34 => ⟨S2x256, .f32⟩
  | 35 => ⟨S2x256, .f32⟩
  | 36 => ⟨S_, .f32⟩
  | 37 => ⟨S2x256, .f32⟩
  | 38 => ⟨S2x256, .f32⟩
  | 39 => ⟨S2x256, .f32⟩
  | 40 => ⟨S_, .f32⟩
  | 41 => ⟨S2x256, .f32⟩
  | 42 => ⟨S2x256, .f32⟩
  | 43 => ⟨S_, .f32⟩
  | 44 => ⟨S2x256, .f32⟩
  | 45 => ⟨S2x256, .f32⟩
  | 46 => ⟨S_, .f32⟩
  | 47 => ⟨S2x256, .f32⟩
  | 48 => ⟨S2x256, .f32⟩
  | 49 => ⟨S2x256, .f32⟩
  | 50 => ⟨S_, .f32⟩
  | 51 => ⟨S2x256, .f32⟩
  | 52 => ⟨S2x256, .f32⟩
  | 53 => ⟨S2x256, .f32⟩
  | 54 => ⟨S_, .f32⟩
  | 55 => ⟨S2x256, .f32⟩
  | 56 => ⟨S2x256, .f32⟩
  | 57 => ⟨S2x256, .f32⟩
  | 58 => ⟨S_, .f32⟩
  | 59 => ⟨S2x256, .f32⟩
  | 60 => ⟨S2x256, .f32⟩
  | 61 => ⟨S_, .f32⟩
  | 62 => ⟨S2x256, .f32⟩
  | 63 => ⟨S2x256, .f32⟩
  | 64 => ⟨S2x256, .f32⟩
  | 65 => ⟨S_, .f32⟩
  | 66 => ⟨S2x256, .f32⟩
  | 67 => ⟨S2x256, .f32⟩
  | 68 => ⟨S2x256, .f32⟩
  | 69 => ⟨S_, .f32⟩
  | 70 => ⟨S2x256, .f32⟩
  | 71 => ⟨S2x256, .f32⟩
  | 72 => ⟨S2x256, .f32⟩
  | 73 => ⟨S_, .f32⟩
  | 74 => ⟨S2x256, .f32⟩
  | 75 => ⟨S2x256, .f32⟩
  | 76 => ⟨S_, .f32⟩
  | 77 => ⟨S2x256, .f32⟩
  | 78 => ⟨S2x256, .f32⟩
  | 79 => ⟨S_, .f32⟩
  | 80 => ⟨S2x256, .f32⟩
  | 81 => ⟨S2x256, .f32⟩
  | 82 => ⟨S2x256, .f32⟩
  | 83 => ⟨S_, .f32⟩
  | 84 => ⟨S2x256, .f32⟩
  | 85 => ⟨S2x256, .f32⟩
  | 86 => ⟨S2x256, .f32⟩
  | 87 => ⟨S_, .f32⟩
  | 88 => ⟨S2x256, .f32⟩
  | 89 => ⟨S2x256, .f32⟩
  | 90 => ⟨S2x256, .f32⟩
  | 91 => ⟨S_, .f32⟩
  | 92 => ⟨S2x256, .f32⟩
  | 93 => ⟨S2x256, .f32⟩
  | 94 => ⟨S_, .f32⟩
  | 95 => ⟨S2x256, .f32⟩
  | 96 => ⟨S2x256, .f32⟩
  | 97 => ⟨S2x256, .f32⟩
  | 98 => ⟨S_, .f32⟩
  | 99 => ⟨S2x256, .f32⟩
  | 100 => ⟨S2x256, .f32⟩
  | 101 => ⟨S2x256, .f32⟩
  | 102 => ⟨S_, .f32⟩
  | 103 => ⟨S2x256, .f32⟩
  | 104 => ⟨S2x256, .f32⟩
  | 105 => ⟨S2x256, .f32⟩
  | 106 => ⟨S_, .f32⟩
  | 107 => ⟨S2x256, .f32⟩
  | 108 => ⟨S2x256, .f32⟩
  | 109 => ⟨S_, .f32⟩
  | 110 => ⟨S2x8, .f32⟩
  | 111 => ⟨S2x8, .f32⟩
  | 112 => ⟨S_, .f32⟩
  | 113 => ⟨S2x8, .f32⟩
  | 114 => ⟨S2x8, .f32⟩
  | 115 => ⟨S2x8, .f32⟩
  | 116 => ⟨S_, .f32⟩
  | 117 => ⟨S2x8, .f32⟩
  | 118 => ⟨S2x8, .f32⟩
  | 119 => ⟨S2x8, .f32⟩
  | 120 => ⟨S_, .f32⟩
  | 121 => ⟨S2x8, .f32⟩
  | 122 => ⟨S2x8, .f32⟩
  | 123 => ⟨S2x8, .f32⟩
  | 124 => ⟨S_, .f32⟩
  | 125 => ⟨S2x8, .f32⟩
  | 126 => ⟨S2x8, .f32⟩
  | 127 => ⟨S_, .f32⟩
  | _ => ⟨S8x40x1024, .f32⟩

abbrev hbmTy0_2 (i : Nat) : BufTy := match i % 128 with
  | 0 => ⟨S2x8, .f32⟩
  | 1 => ⟨S2x8, .f32⟩
  | 2 => ⟨S2x8, .f32⟩
  | 3 => ⟨S_, .f32⟩
  | 4 => ⟨S2x8, .f32⟩
  | 5 => ⟨S2x8, .f32⟩
  | 6 => ⟨S2x8, .f32⟩
  | 7 => ⟨S_, .f32⟩
  | 8 => ⟨S2x8, .f32⟩
  | 9 => ⟨S2x8, .f32⟩
  | 10 => ⟨S2x8, .f32⟩
  | 11 => ⟨S_, .f32⟩
  | 12 => ⟨S2x8, .f32⟩
  | 13 => ⟨S2x8, .f32⟩
  | 14 => ⟨S_, .f32⟩
  | 15 => ⟨S1024, .f32⟩
  | 16 => ⟨S1024, .f32⟩
  | 17 => ⟨S_, .f32⟩
  | 18 => ⟨S1024, .f32⟩
  | 19 => ⟨S1024, .f32⟩
  | 20 => ⟨S1024, .f32⟩
  | 21 => ⟨S_, .f32⟩
  | 22 => ⟨S1024, .f32⟩
  | 23 => ⟨S1024, .f32⟩
  | 24 => ⟨S1024, .f32⟩
  | 25 => ⟨S_, .f32⟩
  | 26 => ⟨S1024, .f32⟩
  | 27 => ⟨S1024, .f32⟩
  | 28 => ⟨S1024, .f32⟩
  | 29 => ⟨S_, .f32⟩
  | 30 => ⟨S1024, .f32⟩
  | 31 => ⟨S1024, .f32⟩
  | 32 => ⟨S_, .f32⟩
  | 33 => ⟨S1024, .f32⟩
  | 34 => ⟨S1024, .f32⟩
  | 35 => ⟨S1024, .f32⟩
  | 36 => ⟨S_, .f32⟩
  | 37 => ⟨S1024, .f32⟩
  | 38 => ⟨S1024, .f32⟩
  | 39 => ⟨S1024, .f32⟩
  | 40 => ⟨S_, .f32⟩
  | 41 => ⟨S1024, .f32⟩
  | 42 => ⟨S1024, .f32⟩
  | 43 => ⟨S1024, .f32⟩
  | 44 => ⟨S_, .f32⟩
  | 45 => ⟨S1024, .f32⟩
  | 46 => ⟨S1024, .f32⟩
  | _ => ⟨S8x40x1024, .f32⟩

abbrev hbmTy (i : Nat) : BufTy := match i / 128 with
  | 0 => hbmTy0_0 i
  | 1 => hbmTy0_1 i
  | 2 => hbmTy0_2 i
  | _ => ⟨S8x40x1024, .f32⟩

abbrev bufTy : (tb : Table) → Fin (tcTables nBuf tb) → BufTy
  | .hbm, ⟨i, _⟩ => hbmTy i
  | _, _ => ⟨S8x40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_0 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_4 : Ref sig .tc := ⟨.hbm, 54, rfl⟩
abbrev main_v24 : Ref sig .tc := ⟨.hbm, 55, rfl⟩
abbrev main_v25 : Ref sig .tc := ⟨.hbm, 56, rfl⟩
abbrev main_cst_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_6 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_cst_9 : Ref sig .tc := ⟨.hbm, 72, rfl⟩
abbrev main_v37 : Ref sig .tc := ⟨.hbm, 73, rfl⟩
abbrev main_v38 : Ref sig .tc := ⟨.hbm, 74, rfl⟩
abbrev main_cst_10 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_12 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_13 : Ref sig .tc := ⟨.hbm, 87, rfl⟩
abbrev main_v48 : Ref sig .tc := ⟨.hbm, 88, rfl⟩
abbrev main_v49 : Ref sig .tc := ⟨.hbm, 89, rfl⟩
abbrev main_cst_14 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_15 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_16 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_17 : Ref sig .tc := ⟨.hbm, 102, rfl⟩
abbrev main_v59 : Ref sig .tc := ⟨.hbm, 103, rfl⟩
abbrev main_v60 : Ref sig .tc := ⟨.hbm, 104, rfl⟩
abbrev main_cst_18 : Ref sig .tc := ⟨.hbm, 105, rfl⟩
abbrev main_v61 : Ref sig .tc := ⟨.hbm, 106, rfl⟩
abbrev main_v62 : Ref sig .tc := ⟨.hbm, 107, rfl⟩
abbrev main_cst_19 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_20 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_21 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_22 : Ref sig .tc := ⟨.hbm, 120, rfl⟩
abbrev main_v72 : Ref sig .tc := ⟨.hbm, 121, rfl⟩
abbrev main_v73 : Ref sig .tc := ⟨.hbm, 122, rfl⟩
abbrev main_cst_23 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_24 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_25 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_26 : Ref sig .tc := ⟨.hbm, 135, rfl⟩
abbrev main_v83 : Ref sig .tc := ⟨.hbm, 136, rfl⟩
abbrev main_v84 : Ref sig .tc := ⟨.hbm, 137, rfl⟩
abbrev main_cst_27 : Ref sig .tc := ⟨.hbm, 138, rfl⟩
abbrev main_v85 : Ref sig .tc := ⟨.hbm, 139, rfl⟩
abbrev main_v86 : Ref sig .tc := ⟨.hbm, 140, rfl⟩
abbrev main_cst_28 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_29 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_30 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_31 : Ref sig .tc := ⟨.hbm, 153, rfl⟩
abbrev main_v96 : Ref sig .tc := ⟨.hbm, 154, rfl⟩
abbrev main_v97 : Ref sig .tc := ⟨.hbm, 155, rfl⟩
abbrev main_cst_32 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_33 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_34 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_35 : Ref sig .tc := ⟨.hbm, 168, rfl⟩
abbrev main_v107 : Ref sig .tc := ⟨.hbm, 169, rfl⟩
abbrev main_v108 : Ref sig .tc := ⟨.hbm, 170, rfl⟩
abbrev main_cst_36 : Ref sig .tc := ⟨.hbm, 171, rfl⟩
abbrev main_v109 : Ref sig .tc := ⟨.hbm, 172, rfl⟩
abbrev main_v110 : Ref sig .tc := ⟨.hbm, 173, rfl⟩
abbrev main_cst_37 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_cst_38 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_cst_39 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_cst_40 : Ref sig .tc := ⟨.hbm, 186, rfl⟩
abbrev main_v120 : Ref sig .tc := ⟨.hbm, 187, rfl⟩
abbrev main_v121 : Ref sig .tc := ⟨.hbm, 188, rfl⟩
abbrev main_cst_41 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_42 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_cst_43 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_cst_44 : Ref sig .tc := ⟨.hbm, 201, rfl⟩
abbrev main_v131 : Ref sig .tc := ⟨.hbm, 202, rfl⟩
abbrev main_v132 : Ref sig .tc := ⟨.hbm, 203, rfl⟩
abbrev main_cst_45 : Ref sig .tc := ⟨.hbm, 204, rfl⟩
abbrev main_v133 : Ref sig .tc := ⟨.hbm, 205, rfl⟩
abbrev main_v134 : Ref sig .tc := ⟨.hbm, 206, rfl⟩
abbrev main_cst_46 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_cst_47 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_48 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_cst_49 : Ref sig .tc := ⟨.hbm, 219, rfl⟩
abbrev main_v144 : Ref sig .tc := ⟨.hbm, 220, rfl⟩
abbrev main_v145 : Ref sig .tc := ⟨.hbm, 221, rfl⟩
abbrev main_cst_50 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_51 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_cst_52 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_cst_53 : Ref sig .tc := ⟨.hbm, 234, rfl⟩
abbrev main_v155 : Ref sig .tc := ⟨.hbm, 235, rfl⟩
abbrev main_v156 : Ref sig .tc := ⟨.hbm, 236, rfl⟩
abbrev main_cst_54 : Ref sig .tc := ⟨.hbm, 237, rfl⟩
abbrev main_v157 : Ref sig .tc := ⟨.hbm, 238, rfl⟩
abbrev main_v158 : Ref sig .tc := ⟨.hbm, 239, rfl⟩
abbrev main_cst_55 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_cst_56 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_cst_57 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_cst_58 : Ref sig .tc := ⟨.hbm, 252, rfl⟩
abbrev main_v168 : Ref sig .tc := ⟨.hbm, 253, rfl⟩
abbrev main_v169 : Ref sig .tc := ⟨.hbm, 254, rfl⟩
abbrev main_cst_59 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_cst_60 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_cst_61 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_cst_62 : Ref sig .tc := ⟨.hbm, 267, rfl⟩
abbrev main_v179 : Ref sig .tc := ⟨.hbm, 268, rfl⟩
abbrev main_v180 : Ref sig .tc := ⟨.hbm, 269, rfl⟩
abbrev main_cst_63 : Ref sig .tc := ⟨.hbm, 270, rfl⟩
abbrev main_v181 : Ref sig .tc := ⟨.hbm, 271, rfl⟩
abbrev main_v182 : Ref sig .tc := ⟨.hbm, 272, rfl⟩
abbrev main_cst_64 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_cst_65 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_cst_66 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_cst_67 : Ref sig .tc := ⟨.hbm, 285, rfl⟩
abbrev main_v192 : Ref sig .tc := ⟨.hbm, 286, rfl⟩
abbrev main_v193 : Ref sig .tc := ⟨.hbm, 287, rfl⟩
abbrev main_cst_68 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_cst_69 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_cst_70 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_cst_71 : Ref sig .tc := ⟨.hbm, 300, rfl⟩
abbrev main_v203 : Ref sig .tc := ⟨.hbm, 301, rfl⟩
abbrev main_v204 : Ref sig .tc := ⟨.hbm, 302, rfl⟩

abbrev nD : Nat := 1
abbrev τ : Topo := Topo.v7x

variable {F : FTy → Type} [FloatOps F]
-- ==== Head.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩
abbrev S_ : Shape := ⟨0, ![]⟩

abbrev nBuf : Space → Nat
  | .hbm => 19
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x128, .f32⟩
  | .hbm, ⟨4, _⟩ => ⟨S1x1024, .f32⟩
  | .hbm, ⟨5, _⟩ => ⟨S8192x1024, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | _ => false

abbrev sig : RefSig :=
  ofTc nBuf bufTy 1 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v5_s0 : Ref sig .tc := ⟨.hbm, 11, rfl⟩
abbrev main_v5_s1 : Ref sig .tc := ⟨.hbm, 12, rfl⟩
abbrev main_v5_s2 : Ref sig .tc := ⟨.hbm, 13, rfl⟩
abbrev main_v5_s3 : Ref sig .tc := ⟨.hbm, 14, rfl⟩
abbrev main_v5_s4 : Ref sig .tc := ⟨.hbm, 15, rfl⟩
abbrev main_v5_s5 : Ref sig .tc := ⟨.hbm, 16, rfl⟩
abbrev main_v5_s6 : Ref sig .tc := ⟨.hbm, 17, rfl⟩
abbrev main_v5_s7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev ar0_recv : DmaSem sig := 9
abbrev ar0_send : DmaSem sig := 10
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v5_s0 | 1 => main_v5_s1 | 2 => main_v5_s2 | 3 => main_v5_s3 | 4 => main_v5_s4 | 5 => main_v5_s5 | 6 => main_v5_s6 | 7 => main_v5_s7 | ⟨_ + 8, h⟩ => absurd h (Nat.not_lt.2 (Nat.le_add_left _ _))

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HeadReferenceIdeal.lean ====
abbrev S65536x1024 : Shape := ⟨2, ![65536, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S8x8192x1024 : Shape := ⟨3, ![8, 8192, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1x1024, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536, .f32⟩
  | .hbm, ⟨29, _⟩ => ⟨S_, .f32⟩
  | .hbm, ⟨30, _⟩ => ⟨S65536, .f32⟩
  | .hbm, ⟨31, _⟩ => ⟨S65536, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S65536, .f32⟩
  | .hbm, ⟨40, _⟩ => ⟨S_, .f32⟩
  | .hbm, ⟨41, _⟩ => ⟨S65536, .f32⟩
  | .hbm, ⟨42, _⟩ => ⟨S65536, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536, .f32⟩
  | .hbm, ⟨50, _⟩ => ⟨S65536x1, .f32⟩
  | .hbm, ⟨51, _⟩ => ⟨S65536x1024, .f32⟩
  | .hbm, ⟨52, _⟩ => ⟨S65536x1024, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536, .f32⟩
  | .hbm, ⟨59, _⟩ => ⟨S65536x1024, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S65536x1024, .f32⟩
  | .hbm, ⟨65, _⟩ => ⟨S_, .f32⟩
  | .hbm, ⟨66, _⟩ => ⟨S65536, .f32⟩
  | .hbm, ⟨67, _⟩ => ⟨S65536x1, .f32⟩
  | .hbm, ⟨68, _⟩ => ⟨S_, .f32⟩
  | .hbm, ⟨69, _⟩ => ⟨S65536x1, .f32⟩
  | .hbm, ⟨70, _⟩ => ⟨S65536x1, .f32⟩
  | .hbm, ⟨71, _⟩ => ⟨S_, .f32⟩
  | .hbm, ⟨72, _⟩ => ⟨S65536x1, .f32⟩
  | .hbm, ⟨73, _⟩ => ⟨S65536x1, .f32⟩
  | .hbm, ⟨74, _⟩ => ⟨S65536x1, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S65536x1024, .f32⟩
  | .hbm, ⟨79, _⟩ => ⟨S65536x1024, .f32⟩
  | .hbm, ⟨80, _⟩ => ⟨S_, .f32⟩
  | .hbm, ⟨81, _⟩ => ⟨S65536x1024, .f32⟩
  | .hbm, ⟨82, _⟩ => ⟨S65536x1024, .f32⟩
  | .hbm, ⟨83, _⟩ => ⟨S65536x1024, .f32⟩
  | .hbm, ⟨84, _⟩ => ⟨S8x8192x1024, .f32⟩
  | .hbm, ⟨85, _⟩ => ⟨S_, .f32⟩
  | .hbm, ⟨86, _⟩ => ⟨S8x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_14 : Ref sig .tc := ⟨.hbm, 65, rfl⟩
abbrev main_v47 : Ref sig .tc := ⟨.hbm, 66, rfl⟩
abbrev main_v48 : Ref sig .tc := ⟨.hbm, 67, rfl⟩
abbrev main_cst_15 : Ref sig .tc := ⟨.hbm, 68, rfl⟩
abbrev main_v49 : Ref sig .tc := ⟨.hbm, 69, rfl⟩
abbrev main_v50 : Ref sig .tc := ⟨.hbm, 70, rfl⟩
abbrev main_cst_16 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_17 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_18 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Entry.lean ====
abbrev S8192x1280 : Shape := ⟨2, ![8192, 1280]⟩
abbrev S8192x1536 : Shape := ⟨2, ![8192, 1536]⟩
abbrev S8192x1024 : Shape := ⟨2, ![8192, 1024]⟩
abbrev S1x1024 : Shape := ⟨2, ![1, 1024]⟩
abbrev S2560x1024 : Shape := ⟨2, ![2560, 1024]⟩
abbrev S256x1280 : Shape := ⟨2, ![256, 1280]⟩
abbrev S256x1536 : Shape := ⟨2, ![256, 1536]⟩
abbrev S128x256 : Shape := ⟨2, ![128, 256]⟩
abbrev S256x1024 : Shape := ⟨2, ![256, 1024]⟩
abbrev S256x256 : Shape := ⟨2, ![256, 256]⟩
abbrev S256x512 : Shape := ⟨2, ![256, 512]⟩
abbrev S256x2560 : Shape := ⟨2, ![256, 2560]⟩
abbrev S256 : Shape := ⟨1, ![256]⟩
abbrev S256x1 : Shape := ⟨2, ![256, 1]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x1280, .bf16⟩
  | .hbm, ⟨1, _⟩ => ⟨S8192x1536, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S2560x1024, .bf16⟩
  | .hbm, ⟨6, _⟩ => ⟨S8192x1024, .f32⟩
  | .hbm, ⟨7, _⟩ => ⟨S1x1024, .f32⟩
  | .hbm, ⟨8, _⟩ => ⟨S2560x1024, .f32⟩
  | .local _ .vmem, ⟨0, _⟩ => ⟨S256x1280, .bf16⟩
  | .local _ .vmem, ⟨1, _⟩ => ⟨S256x1280, .bf16⟩
  | .local _ .vmem, ⟨2, _⟩ => ⟨S256x1536, .f32⟩
  | .local _ .vmem, ⟨3, _⟩ => ⟨S256x1536, .f32⟩
  | .local _ .vmem, ⟨4, _⟩ => ⟨S128x256, .f32⟩
  | .local _ .vmem, ⟨5, _⟩ => ⟨S128x256, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S2560x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S2560x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c63_i32 : BitVec 32 := 63#32
  let v2 : BitVec 32 := Scalar.minsi v1 c63_i32
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2560x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2560x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== EntryReferenceIdeal.lean ====
abbrev S8192x1280 : Shape := ⟨2, ![8192, 1280]⟩
abbrev S8192x1536 : Shape := ⟨2, ![8192, 1536]⟩
abbrev S8192x1024 : Shape := ⟨2, ![8192, 1024]⟩
abbrev S1x1024 : Shape := ⟨2, ![1, 1024]⟩
abbrev S2560x1024 : Shape := ⟨2, ![2560, 1024]⟩
abbrev S8064x256 : Shape := ⟨2, ![8064, 256]⟩
abbrev S_ : Shape := ⟨0, ![]⟩
abbrev S128x256 : Shape := ⟨2, ![128, 256]⟩
abbrev S8192x256 : Shape := ⟨2, ![8192, 256]⟩
abbrev S8192x512 : Shape := ⟨2, ![8192, 512]⟩
abbrev S8192x2560 : Shape := ⟨2, ![8192, 2560]⟩
abbrev S8192 : Shape := ⟨1, ![8192]⟩
abbrev S8192x1 : Shape := ⟨2, ![8192, 1]⟩
abbrev S1024x2560 : Shape := ⟨2, ![1024, 2560]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1536, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S2560x1024, .bf16⟩
  | .hbm, ⟨6, _⟩ => ⟨S8064x256, .f32⟩
  | .hbm, ⟨7, _⟩ => ⟨S_, .f32⟩
  | .hbm, ⟨8, _⟩ => ⟨S128x256, .f32⟩
  | .hbm, ⟨9, _⟩ => ⟨S8192x256, .f32⟩
  | .hbm, ⟨10, _⟩ => ⟨S8192x1280, .f32⟩
  | .hbm, ⟨11, _⟩ => ⟨S8192x512, .f32⟩
  | .hbm, ⟨12, _⟩ => ⟨S8192x256, .f32⟩
  | .hbm, ⟨13, _⟩ => ⟨S8192x256, .f32⟩
  | .hbm, ⟨14, _⟩ => ⟨S8192x512, .f32⟩
  | .hbm, ⟨15, _⟩ => ⟨S8192x2560, .f32⟩
  | .hbm, ⟨16, _⟩ => ⟨S2560x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x2560, .f32⟩
  | .hbm, ⟨37, _⟩ => ⟨S8192x2560, .f32⟩
  | .hbm, ⟨38, _⟩ => ⟨S2560x1024, .f32⟩
  | .hbm, ⟨39, _⟩ => ⟨S1024x2560, .f32⟩
  | .hbm, ⟨40, _⟩ => ⟨S8192x1024, .f32⟩
  | .hbm, ⟨41, _⟩ => ⟨S2560x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Project.lean ====
abbrev S8192x1024 : Shape := ⟨2, ![8192, 1024]⟩
abbrev S1x1024 : Shape := ⟨2, ![1, 1024]⟩
abbrev S2560x1024 : Shape := ⟨2, ![2560, 1024]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2560x1024, .bf16⟩
  | .hbm, ⟨3, _⟩ => ⟨S8192x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2560x1024, .bf16⟩
  | .local _ .vmem, ⟨4, _⟩ => ⟨S512x2560, .f32⟩
  | .local _ .vmem, ⟨5, _⟩ => ⟨S512x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectReferenceIdeal.lean ====
abbrev S8192x1024 : Shape := ⟨2, ![8192, 1024]⟩
abbrev S1x1024 : Shape := ⟨2, ![1, 1024]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S8192x2560 : Shape := ⟨2, ![8192, 2560]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2560x1024, .bf16⟩
  | .hbm, ⟨3, _⟩ => ⟨S2560x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1024x2560, .f32⟩
  | .hbm, ⟨20, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Mix.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixReferenceIdeal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S8192x1024, .bf16⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Back.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S8192x1024, .f32⟩
  | .hbm, ⟨5, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== BackReferenceIdeal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S1024x1024, .bf16⟩
  | .hbm, ⟨4, _⟩ => ⟨S8192x1024, .bf16⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Attend.lean ====
abbrev S8192x2560 : Shape := ⟨2, ![8192, 2560]⟩
abbrev S8 : Shape := ⟨1, ![8]⟩
abbrev S8192x512 : Shape := ⟨2, ![8192, 512]⟩
abbrev S128x1280 : Shape := ⟨2, ![128, 1280]⟩
abbrev S128x256 : Shape := ⟨2, ![128, 256]⟩
abbrev S128x512 : Shape := ⟨2, ![128, 512]⟩
abbrev S128x128 : Shape := ⟨2, ![128, 128]⟩
abbrev S128x64 : Shape := ⟨2, ![128, 64]⟩
abbrev S256x64 : Shape := ⟨2, ![256, 64]⟩
abbrev S512x64 : Shape := ⟨2, ![512, 64]⟩
abbrev S512x256 : Shape := ⟨2, ![512, 256]⟩
abbrev S512x1 : Shape := ⟨2, ![512, 1]⟩
abbrev S1 : Shape := ⟨1, ![1]⟩
abbrev S512 : Shape := ⟨1, ![512]⟩

abbrev nBuf : Space → Nat
  | .hbm => 3
  | .vmem => 6
  | .smem => 1
  | _ => 0

abbrev bufTy : (tb : Table) → Fin (tcTables nBuf tb) → BufTy
  | .hbm, ⟨0, _⟩ => ⟨S8192x2560, .f32⟩
  | .hbm, ⟨1, _⟩ => ⟨S8, .f32⟩
  | .hbm, ⟨2, _⟩ => ⟨S8192x512, .bf16⟩
  | .local _ .vmem, ⟨0, _⟩ => ⟨S128x1280, .f32⟩
  | .local _ .vmem, ⟨1, _⟩ => ⟨S128x1280, .f32⟩
  | .local _ .vmem, ⟨2, _⟩ => ⟨S128x256, .f32⟩
  | .local _ .vmem, ⟨3, _⟩ => ⟨S128x256, .f32⟩
  | .local _ .vmem, ⟨4, _⟩ => ⟨S128x512, .bf16⟩
  | .local _ .vmem, ⟨5, _⟩ => ⟨S128x512, .bf16⟩
  | .local _ .smem, ⟨0, _⟩ => ⟨S8, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let c0_i32_0 : BitVec 32 := 0#32
  ![v1.toNat, c7_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttendIdeal.lean ====
variable {F : FTy → Type} [FloatOps F] [Named F]
def κ : String → Option EReal := fun
  | "mask" => some ⊥
  | _ => none
-- ==== AttendReferenceIdeal.lean ====
abbrev S8192x2560 : Shape := ⟨2, ![8192, 2560]⟩
abbrev S8 : Shape := ⟨1, ![8]⟩
abbrev S8192x512 : Shape := ⟨2, ![8192, 512]⟩
abbrev S8192x128 : Shape := ⟨2, ![8192, 128]⟩
abbrev S64x128x2x4x64 : Shape := ⟨5, ![64, 128, 2, 4, 64]⟩
abbrev S_ : Shape := ⟨0, ![]⟩
abbrev S64x128x2x64 : Shape := ⟨4, ![64, 128, 2, 64]⟩
abbrev S1x128x2x64 : Shape := ⟨4, ![1, 128, 2, 64]⟩
abbrev S63x128x2x64 : Shape := ⟨4, ![63, 128, 2, 64]⟩
abbrev S64x256x2x64 : Shape := ⟨4, ![64, 256, 2, 64]⟩
abbrev S64x2x256x128x4 : Shape := ⟨5, ![64, 2, 256, 128, 4]⟩
abbrev S64x2x4x128x256 : Shape := ⟨5, ![64, 2, 4, 128, 256]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S1x128x256 : Shape := ⟨3, ![1, 128, 256]⟩
abbrev S64x1x256 : Shape := ⟨3, ![64, 1, 256]⟩
abbrev S64x128x256 : Shape := ⟨3, ![64, 128, 256]⟩
abbrev S1x2x4x1x1 : Shape := ⟨5, ![1, 2, 4, 1, 1]⟩
abbrev S64x1x1x128x256 : Shape := ⟨5, ![64, 1, 1, 128, 256]⟩
abbrev S1x1x1x128x256 : Shape := ⟨5, ![1, 1, 1, 128, 256]⟩
abbrev S1x2x4x128x256 : Shape := ⟨5, ![1, 2, 4, 128, 256]⟩
abbrev S64x2x4x128x1 : Shape := ⟨5, ![64, 2, 4, 128, 1]⟩
abbrev S64x2x4x128x257 : Shape := ⟨5, ![64, 2, 4, 128, 257]⟩
abbrev S64x2x4x128 : Shape := ⟨4, ![64, 2, 4, 128]⟩
abbrev S64x2x64x4x128 : Shape := ⟨5, ![64, 2, 64, 4, 128]⟩

abbrev nBuf : Space → Nat
  | .hbm => 100
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S8, .f32⟩
  | .hbm, ⟨2, _⟩ => ⟨S8, .f32⟩
  | .hbm, ⟨3, _⟩ => ⟨S8192x512, .f32⟩
  | .hbm, ⟨4, _⟩ => ⟨S8192x128, .f32⟩
  | .hbm, ⟨5, _⟩ => ⟨S8192x128, .f32⟩
  | .hbm, ⟨6, _⟩ => ⟨S8192x512, .f32⟩
  | .hbm, ⟨7, _⟩ => ⟨S64x128x2x4x64, .f32⟩
  | .hbm, ⟨8, _⟩ => ⟨S_, .f32⟩
  | .hbm, ⟨9, _⟩ => ⟨S64x128x2x4x64, .f32⟩
  | .hbm, ⟨10, _⟩ => ⟨S64x128x2x4x64, .f32⟩
  | .hbm, ⟨11, _⟩ => ⟨S64x128x2x64, .f32⟩
  | .hbm, ⟨12, _⟩ => ⟨S64x128x2x64, .f32⟩
  | .hbm, ⟨13, _⟩ => ⟨S_, .f32⟩
  | .hbm, ⟨14, _⟩ => ⟨S1x128x2x64, .f32⟩
  | .hbm, ⟨15, _⟩ => ⟨S63x128x2x64, .f32⟩
  | .hbm, ⟨16, _⟩ => ⟨S64x128x2x64, .f32⟩
  | .hbm, ⟨17, _⟩ => ⟨S64x256x2x64, .f32⟩
  | .hbm, ⟨18, _⟩ => ⟨S63x128x2x64, .f32⟩
  | .hbm, ⟨19, _⟩ => ⟨S64x128x2x64, .f32⟩
  | .hbm, ⟨20, _⟩ => ⟨S64x256x2x64, .f32⟩
  | .hbm, ⟨21, _⟩ => ⟨S64x2x256x128x4, .f32⟩
  | .hbm, ⟨22, _⟩ => ⟨S64x2x4x128x256, .f32⟩
  | .hbm, ⟨23, _⟩ => ⟨S64, .i32⟩
  | .hbm, ⟨24, _⟩ => ⟨S64x1x1, .i32⟩
  | .hbm, ⟨25, _⟩ => ⟨S128, .i32⟩
  | .hbm, ⟨26, _⟩ => ⟨S1x128x1, .i32⟩
  | .hbm, ⟨27, _⟩ => ⟨S256, .i32⟩
  | .hbm, ⟨28, _⟩ => ⟨S1x1x256, .i32⟩
  | .hbm, ⟨29, _⟩ => ⟨S_, .i32⟩
  | .hbm, ⟨30, _⟩ => ⟨S1x128x1, .i32⟩
  | .hbm, ⟨31, _⟩ => ⟨S1x128x1, .i32⟩
  | .hbm, ⟨32, _⟩ => ⟨S1x128x256, .i32⟩
  | .hbm, ⟨33, _⟩ => ⟨S1x128x256, .i32⟩
  | .hbm, ⟨34, _⟩ => ⟨S1x128x256, .i32⟩
  | .hbm, ⟨35, _⟩ => ⟨S_, .i32⟩
  | .hbm, ⟨36, _⟩ => ⟨S1x128x256, .i32⟩
  | .hbm, ⟨37, _⟩ => ⟨S1x128x256, .i1⟩
  | .hbm, ⟨38, _⟩ => ⟨S_, .i32⟩
  | .hbm, ⟨39, _⟩ => ⟨S1x128x256, .i32⟩
  | .hbm, ⟨40, _⟩ => ⟨S1x128x256, .i1⟩
  | .hbm, ⟨41, _⟩ => ⟨S1x128x256, .i1⟩
  | .hbm, ⟨42, _⟩ => ⟨S_, .i32⟩
  | .hbm, ⟨43, _⟩ => ⟨S64x1x1, .i32⟩
  | .hbm, ⟨44, _⟩ => ⟨S64x1x1, .i1⟩
  | .hbm, ⟨45, _⟩ => ⟨S_, .i32⟩
  | .hbm, ⟨46, _⟩ => ⟨S1x1x256, .i32⟩
  | .hbm, ⟨47, _⟩ => ⟨S1x1x256, .i1⟩
  | .hbm, ⟨48, _⟩ => ⟨S64x1x256, .i1⟩
  | .hbm, ⟨49, _⟩ => ⟨S64x1x256, .i1⟩
  | .hbm, ⟨50, _⟩ => ⟨S64x1x256, .i1⟩
  | .hbm, ⟨51, _⟩ => ⟨S64x128x256, .i1⟩
  | .hbm, ⟨52, _⟩ => ⟨S64x128x256, .i1⟩
  | .hbm, ⟨53, _⟩ => ⟨S64x128x256, .i1⟩
  | .hbm, ⟨54, _⟩ => ⟨S1x2x4x1x1, .f32⟩
  | .hbm, ⟨55, _⟩ => ⟨S64x1x1x128x256, .i1⟩
  | .hbm, ⟨56, _⟩ => ⟨S1x1x1x128x256, .i32⟩
  | .hbm, ⟨57, _⟩ => ⟨S1x1x1x128x256, .f32⟩
  | .hbm, ⟨58, _⟩ => ⟨S1x2x4x128x256, .f32⟩
  | .hbm, ⟨59, _⟩ => ⟨S1x2x4x128x256, .f32⟩
  | .hbm, ⟨60, _⟩ => ⟨S1x2x4x128x256, .f32⟩
  | .hbm, ⟨61, _⟩ => ⟨S64x2x4x128x256, .f32⟩
  | .hbm, ⟨62, _⟩ => ⟨S64x2x4x128x256, .f32⟩
  | .hbm, ⟨63, _⟩ => ⟨S_, .f32⟩
  | .hbm, ⟨64, _⟩ => ⟨S_, .f32⟩
  | .hbm, ⟨65, _⟩ => ⟨S64x2x4x128x256, .i1⟩
  | .hbm, ⟨66, _⟩ => ⟨S64x2x4x128x256, .f32⟩
  | .hbm, ⟨67, _⟩ => ⟨S64x2x4x128x256, .f32⟩
  | .hbm, ⟨68, _⟩ => ⟨S1x2x4x1x1, .f32⟩
  | .hbm, ⟨69, _⟩ => ⟨S64x2x4x128x1, .f32⟩
  | .hbm, ⟨70, _⟩ => ⟨S64x2x4x128x257, .f32⟩
  | .hbm, ⟨71, _⟩ => ⟨S_, .f32⟩
  | .hbm, ⟨72, _⟩ => ⟨S64x2x4x128, .f32⟩
  | .hbm, ⟨73, _⟩ => ⟨S_, .f32⟩
  | .hbm, ⟨74, _⟩ => ⟨S64x2x4x128, .f32⟩
  | .hbm, ⟨75, _⟩ => ⟨S64x2x4x128, .f32⟩
  | .hbm, ⟨76, _⟩ => ⟨S64x2x4x128x1, .f32⟩
  | .hbm, ⟨77, _⟩ => ⟨S64x2x4x128x257, .f32⟩
  | .hbm, ⟨78, _⟩ => ⟨S64x2x4x128x257, .f32⟩
  | .hbm, ⟨79, _⟩ => ⟨S64x2x4x128x257, .f32⟩
  | .hbm, ⟨80, _⟩ => ⟨S_, .f32⟩
  | .hbm, ⟨81, _⟩ => ⟨S64x2x4x128, .f32⟩
  | .hbm, ⟨82, _⟩ => ⟨S64x2x4x128x1, .f32⟩
  | .hbm, ⟨83, _⟩ => ⟨S64x2x4x128x257, .f32⟩
  | .hbm, ⟨84, _⟩ => ⟨S64x2x4x128x257, .f32⟩
  | .hbm, ⟨85, _⟩ => ⟨S64x2x4x128x256, .f32⟩
  | .hbm, ⟨86, _⟩ => ⟨S64x2x64x4x128, .f32⟩
  | .hbm, ⟨87, _⟩ => ⟨S64x128x2x4x64, .f32⟩
  | .hbm, ⟨88, _⟩ => ⟨S8192x512, .f32⟩
  | .hbm, ⟨89, _⟩ => ⟨S8192x512, .f32⟩
  | .hbm, ⟨90, _⟩ => ⟨S8192x512, .f32⟩
  | .hbm, ⟨91, _⟩ => ⟨S_, .f32⟩
  | .hbm, ⟨92, _⟩ => ⟨S8192x512, .f32⟩
  | .hbm, ⟨93, _⟩ => ⟨S8192x512, .f32⟩
  | .hbm, ⟨94, _⟩ => ⟨S_, .f32⟩
  | .hbm, ⟨95, _⟩ => ⟨S8192x512, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_4 : Ref sig .tc := ⟨.hbm, 42, rfl⟩
abbrev main_v34 : Ref sig .tc := ⟨.hbm, 43, rfl⟩
abbrev main_v35 : Ref sig .tc := ⟨.hbm, 44, rfl⟩
abbrev main_c_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== Proof.Protocol.lean ====
/-
  The exchange's protocol. Device `c` keeps the array `main_arg0` (the slabs it sends, slab `t` for device `t`) and the
  array `main_v1` (the slabs it receives, slab `s` from device `s`). It copies its own slab locally and sends, for every
  other device `c ^ k`, slab `c ^ k` of `main_arg0` into slab `c` of that device's `main_v1`. Every copy has a semaphore of
  its own: seven for the sources, seven for the destinations, one for the local copy. Each of these fifteen cells has one
  duty, of one slab's units, and what the duty hands the cell's owner is the source slab given back, the received slab, or
  both (the local copy).
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Tactic
public import Idealize.ShloMosaic.Lib.Quiescent

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's algebra over the machine's cells. -/
abbrev UC : Type := URounds (GSem nD τ sig) Unit
/-- Two copies: the pipelines' cells and the exchange's. -/
abbrev U2 : Type := UC × UC

local notation "𝕄" => MT nD τ sig Unit (Elt F) ℕ U2 ℕ

/-- Where the pipelines' copy sits, -/
def EP : Emb UC (MT nD τ sig Unit (Elt F) ℕ U2 ℕ) :=
  (Emb.inl : Emb UC U2).trans (uEmb (nD := nD) (sig := sig) (Ix := Unit) (Val := Elt F) (Name := ℕ) (U := U2) (Lvl := ℕ)).toEmb
/-- and the exchange's. -/
def EX : Emb UC (MT nD τ sig Unit (Elt F) ℕ U2 ℕ) :=
  (Emb.inr : Emb UC U2).trans (uEmb (nD := nD) (sig := sig) (Ix := Unit) (Val := Elt F) (Name := ℕ) (U := U2) (Lvl := ℕ)).toEmb

instance EP_lands : (EP : Emb UC 𝕄).LandsIn (upEmb : UEmb _ 𝕄) := by unfold EP; infer_instance
instance EX_lands : (EX : Emb UC 𝕄).LandsIn (upEmb : UEmb _ 𝕄) := by unfold EX; infer_instance

variable (m : (ℓ : Loc nD τ sig) → Buf (Elt F) ℓ)

/-! ### Peers -/

/-- The device whose number differs from `c`'s in the bits of `k`. -/
def flip (k : Fin 8) (c : Dev nD) : Dev nD :=
  ⟨Nat.xor c.val k.val % 8, Nat.mod_lt _ (by show 0 < 8; decide)⟩

theorem flip_flip (k : Fin 8) (c : Dev nD) : flip k (flip k c) = c := by revert k c; decide
theorem flip_zero (c : Dev nD) : flip 0 c = c := by revert c; decide
theorem flip_comm (k : Fin 8) (c : Dev nD) : ∀ d, flip k c = d ↔ flip k d = c := by revert k c; decide

/-- `flip k` as a permutation of the devices. -/
def flipPerm (k : Fin 8) : Dev nD ≃ Dev nD := ⟨flip k, flip k, flip_flip k, flip_flip k⟩
/-- For a fixed device, `k ↦ flip k c` runs over all devices. -/
def flipAll (c : Dev nD) : Fin 8 ≃ Dev nD where
  toFun k := flip k c
  invFun d := ⟨Nat.xor c.val d.val % 8, Nat.mod_lt _ (by decide)⟩
  left_inv := by revert c; decide
  right_inv := by revert c; decide

/-! ### Slabs -/

/-- The elements of slab `s`. -/
def slab (s : Dev nD) : Finset S8x920x1024.Idx := Finset.univ.filter fun i => (i 0).val = s.val

theorem mem_slab (s : Dev nD) (i : S8x920x1024.Idx) : i ∈ slab s ↔ (i 0).val = s.val := by
  unfold slab; rw [Finset.mem_filter]; exact ⟨fun h => h.2, fun h => ⟨Finset.mem_univ _, h⟩⟩

theorem slab_disjoint {s t : Dev nD} (h : s ≠ t) : Disjoint (slab s) (slab t) := by
  rw [Finset.disjoint_left]; intro i hi hj
  rw [mem_slab] at hi hj
  exact h (Fin.ext (hi.symm.trans hj))

theorem slab_cover : (Finset.univ : Finset (Dev nD)).biUnion slab = (Finset.univ : Finset S8x920x1024.Idx) := by
  ext i
  simp only [Finset.mem_biUnion, Finset.mem_univ, true_and, iff_true]
  exact ⟨⟨(i 0).val, (i 0).isLt⟩, (mem_slab _ _).mpr rfl⟩

/-- An index with its slab number replaced. -/
def withSlab (c : Dev nD) (i : S8x920x1024.Idx) : S8x920x1024.Idx := Function.update i 0 ⟨c.val, c.isLt⟩

theorem withSlab_zero (c : Dev nD) (i : S8x920x1024.Idx) : (withSlab c i 0).val = c.val := by
  have h : withSlab c i 0 = (⟨c.val, c.isLt⟩ : Fin (S8x920x1024.size 0)) := Function.update_self _ _ _
  rw [h]
theorem withSlab_ne (c : Dev nD) (i : S8x920x1024.Idx) {a : Fin 3} (h : a ≠ 0) : withSlab c i a = i a :=
  Function.update_of_ne h _ i

/-- A slab view at offsets `o`: of the array sent from, -/
abbrev srcM (o : Fin 3 → ℕ) (h : ∀ a, o a + S1x920x1024.size a ≤ S8x920x1024.size a) : Memref sig .tc .hbm S920x1024 .f32 :=
  ((Memref.whole main_arg0).slice (Rect.unit (s := S8x920x1024) o S1x920x1024.size h) (fun _ => rfl)).squeeze S920x1024 squeezes_S1x920x1024_S920x1024
/-- and of the array received into. -/
abbrev dstM (o : Fin 3 → ℕ) (h : ∀ a, o a + S1x920x1024.size a ≤ S8x920x1024.size a) : Memref sig .tc .hbm S920x1024 .f32 :=
  ((Memref.whole main_v1).slice (Rect.unit (s := S8x920x1024) o S1x920x1024.size h) (fun _ => rfl)).squeeze S920x1024 squeezes_S1x920x1024_S920x1024

theorem rect_slab (s : Dev nD) (h : ∀ a, (![s.val, 0, 0] : Fin 3 → ℕ) a + S1x920x1024.size a ≤ S8x920x1024.size a) :
    (Rect.unit (s := S8x920x1024) ![s.val, 0, 0] S1x920x1024.size h).set = slab s := by
  ext i
  rw [Rect.mem_set_unit, mem_slab]
  constructor
  · intro hh
    have h0 := hh 0
    simp [S1x920x1024] at h0
    omega
  · intro hh a
    have hb := (i a).isLt
    fin_cases a <;> simp [S1x920x1024, S8x920x1024] at hb ⊢ <;> omega

theorem srcM_set (s : Dev nD) (h) : (srcM ![s.val, 0, 0] h).view.set = slab s := by
  refine Eq.trans ?_ (rect_slab s h)
  simp [srcM, Memref.squeeze, Memref.slice]
theorem dstM_set (s : Dev nD) (h) : (dstM ![s.val, 0, 0] h).view.set = slab s := by
  refine Eq.trans ?_ (rect_slab s h)
  simp [dstM, Memref.squeeze, Memref.slice]

/-- What device `n`'s array `main_v1` holds once every slab has landed: slab `s` is slab `n` of device `s`'s `main_arg0`. -/
def gathered (n : Dev nD) : Buf (Elt F) ((n : Thread nD τ).loc main_v1) :=
  fun i : S8x920x1024.Idx => m (((⟨(i 0).val, (i 0).isLt⟩ : Dev nD) : Thread nD τ).loc main_arg0) (withSlab n i)

omit [FloatOps F] in
/-- A copy of slab `n` of device `c`'s `main_arg0` over slab `c` of device `n`'s `main_v1` leaves that slab at `gathered`. -/
theorem landed_slab (c n : Dev nD) (h1) (h2) (fd : Buf (Elt F) ((n : Thread nD τ).loc main_v1)) :
    ∀ i ∈ slab c, (dstM ![c.val, 0, 0] h1).view.write (Elt F) fd
      ((srcM ![n.val, 0, 0] h2).view.read (Elt F) (m ((c : Thread nD τ).loc main_arg0))) Finset.univ i = gathered m n i := by
  intro i hi
  rw [← dstM_set c h1] at hi
  obtain ⟨y, -, rfl⟩ := Finset.mem_map.mp hi
  rw [View.write_emb_of_mem _ _ (Finset.mem_univ y), View.read_apply]
  simp only [cast_cast, cast_eq]
  have key : ∀ (z : S1x920x1024.Idx), (z 0).val = 0 := fun z => by
    have := (z 0).isLt; simp [S1x920x1024] at this; omega
  unfold gathered
  have hdev : ∀ z : S1x920x1024.Idx,
      (⟨((Rect.unit (s := S8x920x1024) ![c.val, 0, 0] S1x920x1024.size h1).emb z 0).val,
        ((Rect.unit (s := S8x920x1024) ![c.val, 0, 0] S1x920x1024.size h1).emb z 0).isLt⟩ : Dev nD) = c := by
    intro z
    apply Fin.ext
    show ((Rect.unit (s := S8x920x1024) ![c.val, 0, 0] S1x920x1024.size h1).emb z 0).val = c.val
    rw [Rect.emb_apply]
    simp [key z]
  have hidx : ∀ z : S1x920x1024.Idx,
      (Rect.unit (s := S8x920x1024) ![n.val, 0, 0] S1x920x1024.size h2).emb z
        = withSlab n ((Rect.unit (s := S8x920x1024) ![c.val, 0, 0] S1x920x1024.size h1).emb z) := by
    intro z
    funext a
    apply Fin.ext
    rw [Rect.emb_apply]
    fin_cases a
    · exact Eq.trans (by simp [key z]) (withSlab_zero n _).symm
    · exact Eq.trans (by simp) (congrArg Fin.val (withSlab_ne n _ (by decide)).symm)
    · exact Eq.trans (by simp) (congrArg Fin.val (withSlab_ne n _ (by decide)).symm)
  show m ((c : Thread nD τ).loc main_arg0)
      ((Rect.unit (s := S8x920x1024) ![n.val, 0, 0] S1x920x1024.size h2).emb (Shape.reshapeEquiv _ y)) = _
  rw [hidx]
  exact congrArg (fun d : Dev nD => m ((d : Thread nD τ).loc main_arg0)
    (withSlab n ((Rect.unit (s := S8x920x1024) ![c.val, 0, 0] S1x920x1024.size h1).emb (Shape.reshapeEquiv _ y)))) (hdev _).symm

/-! ### Cells, payloads, schedule -/

/-- The exchange's semaphores: 0 to 6 for the sources of the seven remote copies, 7 to 13 for the copies received, 14 for
    the local copy. -/
def semIx (j : Fin 15) : DmaSem sig := ⟨j.val, by have := j.isLt; show j.val < sig.nDmaSem; exact Nat.lt_of_lt_of_le this (by decide)⟩
abbrev osem : Fin 15 → SemLoc sig := fun j => .dma (semIx j)
/-- Device `c`'s cell `j`. -/
abbrev cell (c : Dev nD) (j : Fin 15) : GSem nD τ sig := ((c : Thread nD τ), osem j)

theorem semIx_inj {i j : Fin 15} (h : semIx i = semIx j) : i = j :=
  Fin.ext (congrArg (fun s : DmaSem sig => s.val) h)

/-- What one slab's copy credits. -/
abbrev N : ℕ := (dstM ![0, 0, 0] (by decide)).view.dmaCredit
theorem N_pos : 0 < N := View.dmaCredit_pos _ (by decide)

/-- Slab `t` of what device `c` sends, at the launch contents, -/
abbrev srcP (c t : Dev nD) : sProp 𝕄 := iprop(((c : Thread nD τ).loc main_arg0) ↦[slab t]{fullShare} m ((c : Thread nD τ).loc main_arg0))
/-- slab `s` of what it receives into, at the launch contents, -/
abbrev oldP (c s : Dev nD) : sProp 𝕄 := iprop(((c : Thread nD τ).loc main_v1) ↦[slab s]{fullShare} m ((c : Thread nD τ).loc main_v1))
/-- and landed. -/
abbrev newP (c s : Dev nD) : sProp 𝕄 := iprop(((c : Thread nD τ).loc main_v1) ↦[slab s]{fullShare} gathered m c)

/-- What cell `j` of device `c` hands its owner. -/
def pay (c : Dev nD) (j : Fin 15) : sProp 𝕄 :=
  if h : j.val < 7 then srcP m c (flip ⟨j.val + 1, by omega⟩ c)
  else if h' : j.val < 14 then newP m c (flip ⟨j.val - 6, by omega⟩ c)
  else iprop(newP m c c ∗ srcP m c c)

/-- Is it one of the exchange's cells? -/
def IsCell (g : GSem nD τ sig) : Prop := g.1.2 = .tc ∧ ∃ j, g.2 = osem j
instance (g : GSem nD τ sig) : Decidable (IsCell g) := by unfold IsCell; infer_instance

/-- The payload of a semaphore of device `c`. -/
def payAt (c : Dev nD) : SemLoc sig → sProp 𝕄
  | .dma s => if h : s.val < 15 then pay m c ⟨s.val, h⟩ else iprop(emp)
  | .reg _ => iprop(emp)

/-- Every cell has the one duty of round 0, of one slab's credit. -/
def sched : Rounds.Schedule (GSem nD τ sig) Unit 𝕄 where
  duties g r := if r = 0 ∧ IsCell g then {()} else ∅
  unitless _ := False
  amount _ _ _ := N
  payload g _ _ := payAt m g.1.1 g.2
  amount_pos _ _ _ _ := N_pos

instance sched_storable (g : GSem nD τ sig) (r : ℕ) (d : Unit) :
    BI.Storable (upEmb : UEmb _ 𝕄) ((sched (F := F) m).payload g r d) := by
  show BI.Storable upEmb (payAt m g.1.1 g.2)
  unfold payAt pay
  (repeat' split) <;> infer_instance

variable (c : Dev nD) (j : Fin 15)

omit [FloatOps F] in
theorem duties_cell : (sched (F := F) m).duties (cell c j) 0 = {()} := by
  dsimp only [sched]; exact if_pos ⟨rfl, rfl, j, rfl⟩
omit [FloatOps F] in
theorem duties_later (g : GSem nD τ sig) : ∀ r, 1 ≤ r → (sched (F := F) m).duties g r = ∅ :=
  fun r hr => by dsimp only [sched]; exact if_neg fun h => by omega
omit [FloatOps F] in
theorem amount_cell (g : GSem nD τ sig) (r : ℕ) (u : Unit) : (sched (F := F) m).amount g r u = N := rfl
omit [FloatOps F] in
theorem expect_cell : (sched (F := F) m).expect (cell c j) 0 = N := by
  unfold Schedule.expect Schedule.amountOf; rw [duties_cell, Finset.sum_singleton, amount_cell]
omit [FloatOps F] in
theorem payload_cell (r : ℕ) (u : Unit) : (sched (F := F) m).payload (cell c j) r u = pay m c j := by
  show payAt m c (.dma (semIx j)) = _
  unfold payAt
  exact dif_pos j.isLt
omit [FloatOps F] in
theorem rest_cell :
    bigSep ((sched (F := F) m).duties (cell c j) 0 \ ∅) (fun u => (sched (F := F) m).payload (cell c j) 0 u) = pay m c j := by
  rw [Finset.sdiff_empty, duties_cell, bigSep_singleton, payload_cell]

end Cert.Proof
-- ==== Proof.Exchange.lean ====
/-
  The exchange's body, one rule per memory operation: the local copy, the seven remote copies, the fifteen waits.
-/
module

public import proofs.«01_k».proof.Proof.Protocol

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ U2 ℕ

variable (m : (ℓ : Loc nD τ sig) → Buf (Elt F) ℓ)

/-- No call passes a promise to another. -/
abbrev 𝒱₀ : Variants := Variants.none

/-- The source and destination cells of the remote copy number `r`. -/
abbrev sIx (r : Fin 7) : Fin 15 := ⟨r.val, by have := r.isLt; omega⟩
abbrev rIx (r : Fin 7) : Fin 15 := ⟨r.val + 7, by have := r.isLt; omega⟩
abbrev lIx : Fin 15 := ⟨14, by decide⟩

/-- The device remote copy number `r` of device `c` goes to, and the one whose copy it receives. -/
abbrev peer (r : Fin 7) (c : Dev nD) : Dev nD := flip r.succ c

omit [FloatOps F] in
theorem pay_src (c : Dev nD) (r : Fin 7) : pay m c (sIx r) = srcP m c (peer r c) := by
  unfold pay; rw [dif_pos (show (sIx r).val < 7 from r.isLt)]; rfl
omit [FloatOps F] in
theorem pay_dst (c : Dev nD) (r : Fin 7) : pay m c (rIx r) = newP m c (peer r c) := by
  have hr := r.isLt
  unfold pay
  rw [dif_neg (show ¬ (rIx r).val < 7 by show ¬ r.val + 7 < 7; omega), dif_pos (show (rIx r).val < 14 by show r.val + 7 < 14; omega)]
  have e : (⟨(rIx r).val - 6, by show r.val + 7 - 6 < 8; omega⟩ : Fin 8) = r.succ := Fin.ext (by show r.val + 7 - 6 = r.val + 1; omega)
  rw [e]
omit [FloatOps F] in
theorem pay_loc (c : Dev nD) : pay m c lIx = iprop(newP m c c ∗ srcP m c c) := by
  unfold pay; rw [dif_neg (by decide), dif_neg (by decide)]

/-- What every device may consult: the invariants of all the cells, and that round 0 of each is open. -/
def records (K : Dev nD × Fin 15 → ℕ) : sProp 𝕄 :=
  iprop((bigSep Finset.univ fun x : Dev nD × Fin 15 => cellInv EX (sched m) (K x) (cell x.1 x.2))
    ∗ bigSep Finset.univ fun x : Dev nD × Fin 15 => reached EX (cell x.1 x.2) 0)

instance records_persistent (K : Dev nD × Fin 15 → ℕ) : BI.Persistent (records m K) := by unfold records; infer_instance

omit [FloatOps F] in
theorem all_inv (K : Dev nD × Fin 15 → ℕ) (x : Dev nD × Fin 15) :
    (bigSep Finset.univ fun x : Dev nD × Fin 15 => (cellInv EX (sched m) (K x) (cell x.1 x.2) : sProp 𝕄))
      ⊢ cellInv EX (sched m) (K x) (cell x.1 x.2) := bigSep_elim (Finset.mem_univ x)
omit [FloatOps F] in
theorem all_reached (x : Dev nD × Fin 15) :
    (bigSep Finset.univ fun x : Dev nD × Fin 15 => (reached EX (cell x.1 x.2) 0 : sProp 𝕄)) ⊢ reached EX (cell x.1 x.2) 0 :=
  bigSep_elim (Finset.mem_univ x)

omit [FloatOps F] in
theorem records_inv (K : Dev nD × Fin 15 → ℕ) (c : Dev nD) (j : Fin 15) :
    records m K ⊢ cellInv EX (sched m) (K (c, j)) (cell c j) := by
  unfold records
  iintro ⟨H, -⟩
  iapply (all_inv m K (c, j)); iexact H
omit [FloatOps F] in
theorem records_reached (K : Dev nD × Fin 15 → ℕ) (c : Dev nD) (j : Fin 15) :
    records m K ⊢ reached EX (cell c j) 0 := by
  unfold records
  iintro ⟨-, H⟩
  iapply (all_reached (c, j)); iexact H

variable (K : Dev nD × Fin 15 → ℕ)

/-- A remote copy: the source slab and the peer's slab go in, the credit on the source's cell comes out, and the units
    owed to the peer are paid. -/
theorem wp_send_slab (c n : Dev nD) (r : Fin 7) (hn : n = peer r c) {o₁ o₂ : Fin 3 → ℕ} {h₁ h₂}
    (ho₁ : o₁ = ![c.val, 0, 0]) (ho₂ : o₂ = ![(peer r c).val, 0, 0]) {sS sD : DmaSem sig} (hS : sS = semIx (sIx r)) (hD : sD = semIx (rIx r))
    {hsc : (dstM o₁ h₁ : Memref sig (Dev.tc n : Thread nD τ).2.kind .hbm S920x1024 .f32).view.ref.isScScratch = false}
    {hsrc : (srcM o₂ h₂).view.WordExact} {hdst : (dstM o₁ h₁).view.WordExact}
    {hsem : DmaTarget.Typed .hbm (.dma sD) (.remote (Dev.tc n : Thread nD τ) (dstM o₁ h₁) (.dma sS) hsc)}
    {α : Type} {Q : α → sProp 𝕄} {k : PUnit → Prog (TpuEff nD τ sig (Elt F) Λ₀ .tc) α}
    (O : CellTallies nD τ sig Unit) (W : Waits sig Unit) :
    iprop(records m K ∗ srcP m c (peer r c) ∗ oldP m (peer r c) c
        ∗ owes (c : Thread nD τ) (O + tallyAt (cell (peer r c) (rIx r)) () N) W
        ∗ dutyTok EX (cell c (sIx r)) 0 () ∗ dutyTok EX (cell (peer r c) (rIx r)) 0 ())
      ⊢ iprop(((cred (tallyAt (cell c (sIx r)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM o₂ h₂) (.remote (Dev.tc n : Thread nD τ) (dstM o₁ h₁) (.dma sS) hsc) (.dma sD) hsrc hdst hsem) k) Q) := by
  subst hn ho₁ ho₂ hS hD
  iintro ⟨#HR, Hs, Hd, HO, HtS, HtD⟩
  iapply (Rounds.wp_send_pointsTo 𝒱₀ EX (sched m) (c : Thread nD τ) none (κ₁ := K (c, sIx r)) (κ₂ := K (peer r c, rIx r))
    (r₁ := 0) (r₂ := 0) (d₁ := ()) (d₂ := ()) (q := fullShare) (fs := m ((c : Thread nD τ).loc main_arg0))
    (fd := m ((peer r c : Thread nD τ).loc main_v1))
    (by rw [duties_cell]; exact Finset.mem_singleton_self _) (by rw [duties_cell]; exact Finset.mem_singleton_self _)
    () () N rfl rfl rfl O rfl (W := W)
    (by rw [payload_cell, pay_src, srcM_set])
    (by
      rw [payload_cell, pay_dst, dstM_set]
      have e : peer r (peer r c) = c := flip_flip _ _
      rw [e]
      exact Entails.of_eq (pointsTo_congr (landed_slab m c (peer r c) _ _ _))))
  isplitr
  · iapply (records_inv m K c (sIx r)); iexact HR
  isplitr
  · iapply (records_inv m K (peer r c) (rIx r)); iexact HR
  isplitl [Hs]
  · rw [srcM_set]; iexact Hs
  isplitl [Hd]
  · rw [dstM_set]; iexact Hd
  isplitl [HO]; · iexact HO
  isplitl [HtS]; · iexact HtS
  isplitr
  · iapply (records_reached m K c (sIx r)); iexact HR
  isplitl [HtD]; · iexact HtD
  iapply (records_reached m K (peer r c) (rIx r)); iexact HR

/-- The local copy. -/
theorem wp_copy_slab (c : Dev nD) {o₁ o₂ : Fin 3 → ℕ} {h₁ h₂}
    (ho₁ : o₁ = ![c.val, 0, 0]) (ho₂ : o₂ = ![c.val, 0, 0]) {s : DmaSem sig} (hS : s = semIx lIx)
    {hsrc : (srcM o₂ h₂).view.WordExact} {hdst : (dstM o₁ h₁).view.WordExact}
    {hsem : DmaTarget.Typed .hbm (.dma s) (DmaTarget.here (nD := nD) (τ := τ) (p := .tc) (dstM o₁ h₁))}
    {α : Type} {Q : α → sProp 𝕄} {k : PUnit → Prog (TpuEff nD τ sig (Elt F) Λ₀ .tc) α} :
    iprop(records m K ∗ srcP m c c ∗ oldP m c c ∗ dutyTok EX (cell c lIx) 0 ())
      ⊢ iprop((cred (tallyAt (cell c lIx) () N) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM o₂ h₂) (.here (dstM o₁ h₁)) (.dma s) hsrc hdst hsem) k) Q) := by
  subst ho₁ ho₂ hS
  iintro ⟨#HR, Hs, Hd, Ht⟩
  iapply (Rounds.wp_copy_pointsTo 𝒱₀ EX (sched m) (c : Thread nD τ) none (κ := K (c, lIx)) (r := 0) (d := ())
    (q := fullShare) (fs := m ((c : Thread nD τ).loc main_arg0)) (fd := m ((c : Thread nD τ).loc main_v1))
    (by rw [duties_cell]; exact Finset.mem_singleton_self _) () N rfl rfl
    (by
      rw [payload_cell, pay_loc, dstM_set, srcM_set]
      exact sep_mono_left (Entails.of_eq (pointsTo_congr (landed_slab m c c _ _ _)))))
  isplitr
  · iapply (records_inv m K c lIx); iexact HR
  isplitl [Hs]
  · rw [srcM_set]; iexact Hs
  isplitl [Hd]
  · rw [dstM_set]; iexact Hd
  isplitl [Ht]; · iexact Ht
  iapply (records_reached m K c lIx); iexact HR

/-- A wait on one of the device's cells, with nothing owed: what the cell hands over comes back. -/
theorem wp_wait_slab (c : Dev nD) (j : Fin 15) {s : DmaSem sig} (hS : s = semIx j)
    {sp sp' : Space} {src : Memref sig .tc sp S920x1024 .f32} {dst : Memref sig .tc sp' S920x1024 .f32}
    {hsrc : src.view.WordExact} {hdst : dst.view.WordExact} (hN : dst.view.dmaCredit = N)
    {α : Type} {Q : α → sProp 𝕄} {k : PUnit → Prog (TpuEff nD τ sig (Elt F) Λ₀ .tc) α} (W : Waits sig Unit) :
    iprop(records m K ∗ cred (tallyAt (cell c j) () N) ∗ owes (c : Thread nD τ) 0 W ∗ atPos EX (cell c j) 0 ∅ 0)
      ⊢ iprop(((owes (c : Thread nD τ) 0 (insert (osem j, ()) W) ∗ atPos EX (cell c j) 1 ∅ 0 ∗ pay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hS
  iintro ⟨#HR, Hc, HO, Hat⟩ Hk
  iapply (Rounds.wp_wait_rest_token 𝒱₀ EX (sched m) (c : Thread nD τ) none (κ := K (c, j))
      (wpE_waitDma2_eq 𝒱₀ (c : Thread nD τ) none Set.univ) (Set.mem_univ _) () (O := 0) (W := W) (R := 0) (m := 0) (T := ∅)
      (by rw [Nat.zero_add, expect_cell, hN])) $$ [Hc HO Hat]
  · isplitr
    · iapply (records_inv m K c j); iexact HR
    isplitl [Hc]
    · rw [hN]; iexact Hc
    isplitl [HO]; · iexact HO
    isplitr; · rw [MayWait_zero]; iempintro
    iexact Hat
  iintro ⟨HO, Hat, -, Hp⟩
  ihave Hp' := (Entails.of_eq (rest_cell m c j)) $$ Hp
  iapply Hk
  isplitl [HO]; · iexact HO
  isplitl [Hat]; · iexact Hat
  iexact Hp'

/-- The device's cell closed after its one round: its counter at zero. -/
theorem close_cell (c : Dev nD) (j : Fin 15) :
    iprop(records m K ∗ atPos EX (cell c j) 1 ∅ 0) ⊢ iprop(|={Set.univ}=> semVal (cell c j) 0) := by
  iintro ⟨#HR, Hat⟩
  iapply (Rounds.cell_close EX (sched m) (κ := K (c, j)) (Set.mem_univ _) (fun h => h) (R := 1) (duties_later m _))
  isplitr
  · iapply (records_inv m K c j); iexact HR
  iexact Hat

/-! ### The kernel's own spellings of its devices, offsets and semaphores -/

theorem off1_eq (c : Dev nD) : k0_off1 c = ![c.val, 0, 0] := by revert c; decide +kernel
theorem off2_eq1 (c : Dev nD) : k0_off2 c 0#32 0#32 1#32 = ![(peer 0 c).val, 0, 0] := by revert c; decide +kernel
theorem dev1_eq (c : Dev nD) : (⟨k0_dev1 c, k0_dev1_lt c⟩ : Dev nD) = peer 0 c := by revert c; decide +kernel
theorem off2_eq2 (c : Dev nD) : k0_off2 c 0#32 1#32 0#32 = ![(peer 1 c).val, 0, 0] := by revert c; decide +kernel
theorem dev2_eq (c : Dev nD) : (⟨k0_dev2 c, k0_dev2_lt c⟩ : Dev nD) = peer 1 c := by revert c; decide +kernel
theorem off2_eq3 (c : Dev nD) : k0_off2 c 0#32 1#32 1#32 = ![(peer 2 c).val, 0, 0] := by revert c; decide +kernel
theorem dev3_eq (c : Dev nD) : (⟨k0_dev3 c, k0_dev3_lt c⟩ : Dev nD) = peer 2 c := by revert c; decide +kernel
theorem off2_eq4 (c : Dev nD) : k0_off2 c 1#32 0#32 0#32 = ![(peer 3 c).val, 0, 0] := by revert c; decide +kernel
theorem dev4_eq (c : Dev nD) : (⟨k0_dev4 c, k0_dev4_lt c⟩ : Dev nD) = peer 3 c := by revert c; decide +kernel
theorem off2_eq5 (c : Dev nD) : k0_off2 c 1#32 0#32 1#32 = ![(peer 4 c).val, 0, 0] := by revert c; decide +kernel
theorem dev5_eq (c : Dev nD) : (⟨k0_dev5 c, k0_dev5_lt c⟩ : Dev nD) = peer 4 c := by revert c; decide +kernel
theorem off2_eq6 (c : Dev nD) : k0_off2 c 1#32 1#32 0#32 = ![(peer 5 c).val, 0, 0] := by revert c; decide +kernel
theorem dev6_eq (c : Dev nD) : (⟨k0_dev6 c, k0_dev6_lt c⟩ : Dev nD) = peer 5 c := by revert c; decide +kernel
theorem off2_eq7 (c : Dev nD) : k0_off2 c 1#32 1#32 1#32 = ![(peer 6 c).val, 0, 0] := by revert c; decide +kernel
theorem dev7_eq (c : Dev nD) : (⟨k0_dev7 c, k0_dev7_lt c⟩ : Dev nD) = peer 6 c := by revert c; decide +kernel

/-- What device `c` owes at the start: one slab's units to the receiving cell of every peer. -/
def owed (c : Dev nD) : CellTallies nD τ sig Unit :=
  0 + tallyAt (cell (peer 6 c) (rIx 6)) () N + tallyAt (cell (peer 5 c) (rIx 5)) () N + tallyAt (cell (peer 4 c) (rIx 4)) () N
    + tallyAt (cell (peer 3 c) (rIx 3)) () N + tallyAt (cell (peer 2 c) (rIx 2)) () N + tallyAt (cell (peer 1 c) (rIx 1)) () N
    + tallyAt (cell (peer 0 c) (rIx 0)) () N

omit [FloatOps F] in
theorem fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the exchange starts from on device `c`. -/
def exStart (c : Dev nD) : sProp 𝕄 :=
  iprop((srcP m c c ∗ bigSep Finset.univ fun r : Fin 7 => srcP m c (peer r c))
    ∗ (oldP m c c ∗ bigSep Finset.univ fun r : Fin 7 => oldP m (peer r c) c)
    ∗ (dutyTok EX (cell c lIx) 0 () ∗ (bigSep Finset.univ fun r : Fin 7 => dutyTok EX (cell c (sIx r)) 0 ())
        ∗ bigSep Finset.univ fun r : Fin 7 => dutyTok EX (cell (peer r c) (rIx r)) 0 ())
    ∗ (atPos EX (cell c lIx) 0 ∅ 0 ∗ (bigSep Finset.univ fun r : Fin 7 => atPos EX (cell c (sIx r)) 0 ∅ 0)
        ∗ bigSep Finset.univ fun r : Fin 7 => atPos EX (cell c (rIx r)) 0 ∅ 0)
    ∗ (bigSep Finset.univ fun r : Fin 7 => cred (tallyAt (cell c (rIx r)) () N)))

/-- What it ends with. -/
def exEnd (c : Dev nD) : sProp 𝕄 :=
  iprop((srcP m c c ∗ bigSep Finset.univ fun r : Fin 7 => srcP m c (peer r c))
    ∗ (newP m c c ∗ bigSep Finset.univ fun r : Fin 7 => newP m c (peer r c))
    ∗ (semVal (cell c lIx) 0 ∗ (bigSep Finset.univ fun r : Fin 7 => semVal (cell c (sIx r)) 0)
        ∗ bigSep Finset.univ fun r : Fin 7 => semVal (cell c (rIx r)) 0))

omit [FloatOps F] in
theorem dst_credit {o : Fin 3 → ℕ} {h} : (dstM o h).view.dmaCredit = N := rfl
omit [FloatOps F] in
theorem src_credit {o : Fin 3 → ℕ} {h} : (srcM o h).view.dmaCredit = N := rfl

end Cert.Proof
-- ==== Proof.Exchange2.lean ====
/-
  The exchange's body run from `exStart` to `exEnd`.
-/
module

public import proofs.«01_k».proof.Proof.Exchange

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ U2 ℕ

variable (m : (ℓ : Loc nD τ sig) → Buf (Elt F) ℓ) (K : Dev nD × Fin 15 → ℕ)

set_option maxHeartbeats 4000000 in
set_option maxRecDepth 65536 in
/-- The exchange on device `c`, symbolically executed. -/
theorem exchange_body (c : Dev nD) (W : Waits sig Unit) (Kt : PUnit → sProp 𝕄) :
    iprop(records m K ∗ exStart m c ∗ owes (c : Thread nD τ) (owed c) W
        ∗ ((exEnd m c ∗ ∃ W', owes (c : Thread nD τ) 0 W') -∗ Kt ⟨⟩))
      ⊢ wp frame (wpE (defs₀ (F := F)) 𝒱₀ (c : Thread nD τ) none) Set.univ
          (cc0_grad_all_to_all (Memref.whole main_arg0) (Memref.isWhole_whole _) (Memref.whole main_v1) (Memref.isWhole_whole _)
            cc0_scratch0 cc0_scratch1 cc0_scratch2) Kt := by
  unfold exStart exEnd owed
  simp only [fin7]
  iintro ⟨#HR, ⟨⟨Hs, Hs0, Hs1, Hs2, Hs3, Hs4, Hs5, Hs6⟩, ⟨Hd, Hd0, Hd1, Hd2, Hd3, Hd4, Hd5, Hd6⟩, ⟨Ht, ⟨Ht0, Ht1, Ht2, Ht3, Ht4, Ht5, Ht6⟩, Hu0, Hu1, Hu2, Hu3, Hu4, Hu5, Hu6⟩, ⟨Ha, ⟨Ha0, Ha1, Ha2, Ha3, Ha4, Ha5, Ha6⟩, Hb0, Hb1, Hb2, Hb3, Hb4, Hb5, Hb6⟩, Hc0, Hc1, Hc2, Hc3, Hc4, Hc5, Hc6⟩, HO, Hk⟩
  rw [cc0_grad_all_to_all_eq_skeleton]
  unfold cc0_grad_all_to_all_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  iapply (wp_copy_slab m K c (off1_eq c) (off1_eq c) rfl) $$ [Hs Hd Ht]
  · isplitr; · iexact HR
    isplitl [Hs]; · iexact Hs
    isplitl [Hd]; · iexact Hd
    iexact Ht
  iintro Hcl
  iapply (wp_send_slab m K c _ 0 (dev1_eq c) (off1_eq c) (off2_eq1 c) rfl rfl _ W) $$ [Hs0 Hd0 HO Ht0 Hu0]
  · isplitr; · iexact HR
    isplitl [Hs0]; · iexact Hs0
    isplitl [Hd0]; · iexact Hd0
    isplitl [HO]; · iexact HO
    isplitl [Ht0]; · iexact Ht0
    iexact Hu0
  iintro ⟨He0, HO⟩
  iapply (wp_send_slab m K c _ 1 (dev2_eq c) (off1_eq c) (off2_eq2 c) rfl rfl _ W) $$ [Hs1 Hd1 HO Ht1 Hu1]
  · isplitr; · iexact HR
    isplitl [Hs1]; · iexact Hs1
    isplitl [Hd1]; · iexact Hd1
    isplitl [HO]; · iexact HO
    isplitl [Ht1]; · iexact Ht1
    iexact Hu1
  iintro ⟨He1, HO⟩
  iapply (wp_send_slab m K c _ 2 (dev3_eq c) (off1_eq c) (off2_eq3 c) rfl rfl _ W) $$ [Hs2 Hd2 HO Ht2 Hu2]
  · isplitr; · iexact HR
    isplitl [Hs2]; · iexact Hs2
    isplitl [Hd2]; · iexact Hd2
    isplitl [HO]; · iexact HO
    isplitl [Ht2]; · iexact Ht2
    iexact Hu2
  iintro ⟨He2, HO⟩
  iapply (wp_send_slab m K c _ 3 (dev4_eq c) (off1_eq c) (off2_eq4 c) rfl rfl _ W) $$ [Hs3 Hd3 HO Ht3 Hu3]
  · isplitr; · iexact HR
    isplitl [Hs3]; · iexact Hs3
    isplitl [Hd3]; · iexact Hd3
    isplitl [HO]; · iexact HO
    isplitl [Ht3]; · iexact Ht3
    iexact Hu3
  iintro ⟨He3, HO⟩
  iapply (wp_send_slab m K c _ 4 (dev5_eq c) (off1_eq c) (off2_eq5 c) rfl rfl _ W) $$ [Hs4 Hd4 HO Ht4 Hu4]
  · isplitr; · iexact HR
    isplitl [Hs4]; · iexact Hs4
    isplitl [Hd4]; · iexact Hd4
    isplitl [HO]; · iexact HO
    isplitl [Ht4]; · iexact Ht4
    iexact Hu4
  iintro ⟨He4, HO⟩
  iapply (wp_send_slab m K c _ 5 (dev6_eq c) (off1_eq c) (off2_eq6 c) rfl rfl _ W) $$ [Hs5 Hd5 HO Ht5 Hu5]
  · isplitr; · iexact HR
    isplitl [Hs5]; · iexact Hs5
    isplitl [Hd5]; · iexact Hd5
    isplitl [HO]; · iexact HO
    isplitl [Ht5]; · iexact Ht5
    iexact Hu5
  iintro ⟨He5, HO⟩
  iapply (wp_send_slab m K c _ 6 (dev7_eq c) (off1_eq c) (off2_eq7 c) rfl rfl _ W) $$ [Hs6 Hd6 HO Ht6 Hu6]
  · isplitr; · iexact HR
    isplitl [Hs6]; · iexact Hs6
    isplitl [Hd6]; · iexact Hd6
    isplitl [HO]; · iexact HO
    isplitl [Ht6]; · iexact Ht6
    iexact Hu6
  iintro ⟨He6, HO⟩
  iapply (wp_wait_slab m K c (sIx 0) rfl src_credit _) $$ [He0 HO Ha0]
  · isplitr; · iexact HR
    isplitl [He0]; · iexact He0
    isplitl [HO]; · iexact HO
    iexact Ha0
  iintro ⟨HO, Ha0, Hp⟩
  ihave Hs0 := (Entails.of_eq (pay_src m c 0)) $$ Hp
  iapply (wp_wait_slab m K c (rIx 0) rfl dst_credit _) $$ [Hc0 HO Hb0]
  · isplitr; · iexact HR
    isplitl [Hc0]; · iexact Hc0
    isplitl [HO]; · iexact HO
    iexact Hb0
  iintro ⟨HO, Hb0, Hp⟩
  ihave Hd0 := (Entails.of_eq (pay_dst m c 0)) $$ Hp
  iapply (wp_wait_slab m K c (sIx 1) rfl src_credit _) $$ [He1 HO Ha1]
  · isplitr; · iexact HR
    isplitl [He1]; · iexact He1
    isplitl [HO]; · iexact HO
    iexact Ha1
  iintro ⟨HO, Ha1, Hp⟩
  ihave Hs1 := (Entails.of_eq (pay_src m c 1)) $$ Hp
  iapply (wp_wait_slab m K c (rIx 1) rfl dst_credit _) $$ [Hc1 HO Hb1]
  · isplitr; · iexact HR
    isplitl [Hc1]; · iexact Hc1
    isplitl [HO]; · iexact HO
    iexact Hb1
  iintro ⟨HO, Hb1, Hp⟩
  ihave Hd1 := (Entails.of_eq (pay_dst m c 1)) $$ Hp
  iapply (wp_wait_slab m K c (sIx 2) rfl src_credit _) $$ [He2 HO Ha2]
  · isplitr; · iexact HR
    isplitl [He2]; · iexact He2
    isplitl [HO]; · iexact HO
    iexact Ha2
  iintro ⟨HO, Ha2, Hp⟩
  ihave Hs2 := (Entails.of_eq (pay_src m c 2)) $$ Hp
  iapply (wp_wait_slab m K c (rIx 2) rfl dst_credit _) $$ [Hc2 HO Hb2]
  · isplitr; · iexact HR
    isplitl [Hc2]; · iexact Hc2
    isplitl [HO]; · iexact HO
    iexact Hb2
  iintro ⟨HO, Hb2, Hp⟩
  ihave Hd2 := (Entails.of_eq (pay_dst m c 2)) $$ Hp
  iapply (wp_wait_slab m K c (sIx 3) rfl src_credit _) $$ [He3 HO Ha3]
  · isplitr; · iexact HR
    isplitl [He3]; · iexact He3
    isplitl [HO]; · iexact HO
    iexact Ha3
  iintro ⟨HO, Ha3, Hp⟩
  ihave Hs3 := (Entails.of_eq (pay_src m c 3)) $$ Hp
  iapply (wp_wait_slab m K c (rIx 3) rfl dst_credit _) $$ [Hc3 HO Hb3]
  · isplitr; · iexact HR
    isplitl [Hc3]; · iexact Hc3
    isplitl [HO]; · iexact HO
    iexact Hb3
  iintro ⟨HO, Hb3, Hp⟩
  ihave Hd3 := (Entails.of_eq (pay_dst m c 3)) $$ Hp
  iapply (wp_wait_slab m K c (sIx 4) rfl src_credit _) $$ [He4 HO Ha4]
  · isplitr; · iexact HR
    isplitl [He4]; · iexact He4
    isplitl [HO]; · iexact HO
    iexact Ha4
  iintro ⟨HO, Ha4, Hp⟩
  ihave Hs4 := (Entails.of_eq (pay_src m c 4)) $$ Hp
  iapply (wp_wait_slab m K c (rIx 4) rfl dst_credit _) $$ [Hc4 HO Hb4]
  · isplitr; · iexact HR
    isplitl [Hc4]; · iexact Hc4
    isplitl [HO]; · iexact HO
    iexact Hb4
  iintro ⟨HO, Hb4, Hp⟩
  ihave Hd4 := (Entails.of_eq (pay_dst m c 4)) $$ Hp
  iapply (wp_wait_slab m K c (sIx 5) rfl src_credit _) $$ [He5 HO Ha5]
  · isplitr; · iexact HR
    isplitl [He5]; · iexact He5
    isplitl [HO]; · iexact HO
    iexact Ha5
  iintro ⟨HO, Ha5, Hp⟩
  ihave Hs5 := (Entails.of_eq (pay_src m c 5)) $$ Hp
  iapply (wp_wait_slab m K c (rIx 5) rfl dst_credit _) $$ [Hc5 HO Hb5]
  · isplitr; · iexact HR
    isplitl [Hc5]; · iexact Hc5
    isplitl [HO]; · iexact HO
    iexact Hb5
  iintro ⟨HO, Hb5, Hp⟩
  ihave Hd5 := (Entails.of_eq (pay_dst m c 5)) $$ Hp
  iapply (wp_wait_slab m K c (sIx 6) rfl src_credit _) $$ [He6 HO Ha6]
  · isplitr; · iexact HR
    isplitl [He6]; · iexact He6
    isplitl [HO]; · iexact HO
    iexact Ha6
  iintro ⟨HO, Ha6, Hp⟩
  ihave Hs6 := (Entails.of_eq (pay_src m c 6)) $$ Hp
  iapply (wp_wait_slab m K c (rIx 6) rfl dst_credit _) $$ [Hc6 HO Hb6]
  · isplitr; · iexact HR
    isplitl [Hc6]; · iexact Hc6
    isplitl [HO]; · iexact HO
    iexact Hb6
  iintro ⟨HO, Hb6, Hp⟩
  ihave Hd6 := (Entails.of_eq (pay_dst m c 6)) $$ Hp
  iapply (wp_wait_slab m K c lIx rfl dst_credit _) $$ [Hcl HO Ha]
  · isplitr; · iexact HR
    isplitl [Hcl]; · iexact Hcl
    isplitl [HO]; · iexact HO
    iexact Ha
  iintro ⟨HO, Ha, Hp⟩
  ihave Hp' := (Entails.of_eq (pay_loc m c)) $$ Hp
  icases Hp' with ⟨Hd, Hs⟩
  imod (close_cell m K c lIx) $$ [Ha] with Ha
  · isplitr; · iexact HR
    iexact Ha
  imod (close_cell m K c (sIx 0)) $$ [Ha0] with Ha0
  · isplitr; · iexact HR
    iexact Ha0
  imod (close_cell m K c (rIx 0)) $$ [Hb0] with Hb0
  · isplitr; · iexact HR
    iexact Hb0
  imod (close_cell m K c (sIx 1)) $$ [Ha1] with Ha1
  · isplitr; · iexact HR
    iexact Ha1
  imod (close_cell m K c (rIx 1)) $$ [Hb1] with Hb1
  · isplitr; · iexact HR
    iexact Hb1
  imod (close_cell m K c (sIx 2)) $$ [Ha2] with Ha2
  · isplitr; · iexact HR
    iexact Ha2
  imod (close_cell m K c (rIx 2)) $$ [Hb2] with Hb2
  · isplitr; · iexact HR
    iexact Hb2
  imod (close_cell m K c (sIx 3)) $$ [Ha3] with Ha3
  · isplitr; · iexact HR
    iexact Ha3
  imod (close_cell m K c (rIx 3)) $$ [Hb3] with Hb3
  · isplitr; · iexact HR
    iexact Hb3
  imod (close_cell m K c (sIx 4)) $$ [Ha4] with Ha4
  · isplitr; · iexact HR
    iexact Ha4
  imod (close_cell m K c (rIx 4)) $$ [Hb4] with Hb4
  · isplitr; · iexact HR
    iexact Hb4
  imod (close_cell m K c (sIx 5)) $$ [Ha5] with Ha5
  · isplitr; · iexact HR
    iexact Ha5
  imod (close_cell m K c (rIx 5)) $$ [Hb5] with Hb5
  · isplitr; · iexact HR
    iexact Hb5
  imod (close_cell m K c (sIx 6)) $$ [Ha6] with Ha6
  · isplitr; · iexact HR
    iexact Ha6
  imod (close_cell m K c (rIx 6)) $$ [Hb6] with Hb6
  · isplitr; · iexact HR
    iexact Hb6
  rw [wp_ret]; imodintro; iapply Hk
  isplitr [HO]
  · isplitl [Hs Hs0 Hs1 Hs2 Hs3 Hs4 Hs5 Hs6]
    · isplitl [Hs]; · iexact Hs
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    isplitl [Hd Hd0 Hd1 Hd2 Hd3 Hd4 Hd5 Hd6]
    · isplitl [Hd]; · iexact Hd
      isplitl [Hd0]; · iexact Hd0
      isplitl [Hd1]; · iexact Hd1
      isplitl [Hd2]; · iexact Hd2
      isplitl [Hd3]; · iexact Hd3
      isplitl [Hd4]; · iexact Hd4
      isplitl [Hd5]; · iexact Hd5
      iexact Hd6
    isplitl [Ha]; · iexact Ha
    isplitl [Ha0 Ha1 Ha2 Ha3 Ha4 Ha5 Ha6]
    · isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iexact Ha6
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  iexists _; iexact HO

end Cert.Proof
-- ==== Proof.Region1.lean ====
/-
  The optimiser's call, from any contents of its arrays. At grid point `t` the body reads rows `184 t … 184 t + 183` of the
  eight received slabs and of the packed weights and moments, and writes the same rows of its four results: the sum of the
  eight slabs, the step, and the two new moments.
-/
module

public import proofs.«01_k».proof.Proof.Exchange
public import proofs.«01_k».proof.Proof.Gen.KernelIdeal.Points
public import Idealize.ShloMosaic.Lib.Pipeline.FrameBody
public import Idealize.ShloMosaic.Lib.Pipeline.RegionArrays
public import Idealize.ShloMosaic.Lib.Ring
public import Idealize.ShloMosaic.Lib.WordCmp

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ U2 ℕ

/-! ### What one block of rows becomes -/

/-- A block of the received slabs, -/
abbrev Slabs (F : FTy → Type) [FloatOps F] : Type := Vec F S8x184x1024 .f32
/-- and of a packed array. -/
abbrev Rows (F : FTy → Type) [FloatOps F] : Type := Vec F S184x1024 .f32

/-- All of a block of rows. -/
abbrev allRows : Rect S184x1024 := Rect.unit (s := S184x1024) ![0, 0] S184x1024.size inb_S184x1024_S184x1024_0_0

/-- The sum of the eight slabs' rows, -/
def sumRows (p : Slabs F) : FVec F S184x1024 .f32 :=
  k1_pay3
    (View.ld p (Rect.unit (s := S8x184x1024) ![0, 0, 0] S1x184x1024.size inb_S8x184x1024_S1x184x1024_0_0_0))
    (View.ld p (Rect.unit (s := S8x184x1024) ![1, 0, 0] S1x184x1024.size inb_S8x184x1024_S1x184x1024_1_0_0))
    (View.ld p (Rect.unit (s := S8x184x1024) ![2, 0, 0] S1x184x1024.size inb_S8x184x1024_S1x184x1024_2_0_0))
    (View.ld p (Rect.unit (s := S8x184x1024) ![3, 0, 0] S1x184x1024.size inb_S8x184x1024_S1x184x1024_3_0_0))
    (View.ld p (Rect.unit (s := S8x184x1024) ![4, 0, 0] S1x184x1024.size inb_S8x184x1024_S1x184x1024_4_0_0))
    (View.ld p (Rect.unit (s := S8x184x1024) ![5, 0, 0] S1x184x1024.size inb_S8x184x1024_S1x184x1024_5_0_0))
    (View.ld p (Rect.unit (s := S8x184x1024) ![6, 0, 0] S1x184x1024.size inb_S8x184x1024_S1x184x1024_6_0_0))
    (View.ld p (Rect.unit (s := S8x184x1024) ![7, 0, 0] S1x184x1024.size inb_S8x184x1024_S1x184x1024_7_0_0))

/-- the new first moment, -/
def momRows (p : Slabs F) (mm : Rows F) : FVec F S184x1024 .f32 :=
  k1_pay4
    (View.ld p (Rect.unit (s := S8x184x1024) ![0, 0, 0] S1x184x1024.size inb_S8x184x1024_S1x184x1024_0_0_0))
    (View.ld p (Rect.unit (s := S8x184x1024) ![1, 0, 0] S1x184x1024.size inb_S8x184x1024_S1x184x1024_1_0_0))
    (View.ld p (Rect.unit (s := S8x184x1024) ![2, 0, 0] S1x184x1024.size inb_S8x184x1024_S1x184x1024_2_0_0))
    (View.ld p (Rect.unit (s := S8x184x1024) ![3, 0, 0] S1x184x1024.size inb_S8x184x1024_S1x184x1024_3_0_0))
    (View.ld p (Rect.unit (s := S8x184x1024) ![4, 0, 0] S1x184x1024.size inb_S8x184x1024_S1x184x1024_4_0_0))
    (View.ld p (Rect.unit (s := S8x184x1024) ![5, 0, 0] S1x184x1024.size inb_S8x184x1024_S1x184x1024_5_0_0))
    (View.ld p (Rect.unit (s := S8x184x1024) ![6, 0, 0] S1x184x1024.size inb_S8x184x1024_S1x184x1024_6_0_0))
    (View.ld p (Rect.unit (s := S8x184x1024) ![7, 0, 0] S1x184x1024.size inb_S8x184x1024_S1x184x1024_7_0_0))
    (View.ld mm allRows)

/-- the new second moment, -/
def varRows (p : Slabs F) (v : Rows F) : FVec F S184x1024 .f32 := k1_pay1 (sumRows p) (View.ld v allRows)

/-- and the step. -/
def stepRows (p : Slabs F) (w mm v : Rows F) : FVec F S184x1024 .f32 :=
  k1_pay2 (sumRows p) (momRows p mm) (View.ld v allRows) (View.ld w allRows)

/-- A buffer of rows after one store over all of it. -/
def stored (p : Vec F S184x1024 .f32) : Rows F := View.canon [⟨allRows, p⟩]

theorem stored_cover (p : Vec F S184x1024 .f32) (y : S184x1024.Idx) :
    ∃ pc ∈ ([⟨allRows, p⟩] : List (View.Piece (Elt F) S184x1024 .f32)), y ∈ pc.1.set :=
  View.cover_of_tiled [⟨allRows, p⟩] S184x1024.size (by rfl) y

set_option maxHeartbeats 1000000 in
/-- The body: from its eight buffers, the four inputs at given contents, to the inputs as they were and the outputs at the
    rows above. -/
theorem adamw_body (c : Dev nD) (i : grid1.Coords)
    (a1 : Memref sig .tc .vmem S8x184x1024 .f32) (h1 : a1.IsWhole) (a2 : Memref sig .tc .vmem S184x1024 .f32) (h2 : a2.IsWhole)
    (a3 : Memref sig .tc .vmem S184x1024 .f32) (h3 : a3.IsWhole) (a4 : Memref sig .tc .vmem S184x1024 .f32) (h4 : a4.IsWhole)
    (a5 : Memref sig .tc .vmem S184x1024 .f32) (h5 : a5.IsWhole) (a6 : Memref sig .tc .vmem S184x1024 .f32) (h6 : a6.IsWhole)
    (a7 : Memref sig .tc .vmem S184x1024 .f32) (h7 : a7.IsWhole) (a8 : Memref sig .tc .vmem S184x1024 .f32) (h8 : a8.IsWhole)
    (p : Slabs F) (w mm v : Rows F) (Kt : PUnit → sProp 𝕄) :
    iprop(owns (c : Thread nD τ) a1 fullShare p ∗ owns (c : Thread nD τ) a2 fullShare w ∗ owns (c : Thread nD τ) a3 fullShare mm
        ∗ owns (c : Thread nD τ) a4 fullShare v
        ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d)
        ∗ (iprop(owns (c : Thread nD τ) a1 fullShare p ∗ owns (c : Thread nD τ) a2 fullShare w ∗ owns (c : Thread nD τ) a3 fullShare mm
            ∗ owns (c : Thread nD τ) a4 fullShare v
            ∗ owns (c : Thread nD τ) a5 fullShare (stored (sumRows p)) ∗ owns (c : Thread nD τ) a6 fullShare (stored (stepRows p w mm v))
            ∗ owns (c : Thread nD τ) a7 fullShare (stored (momRows p mm)) ∗ owns (c : Thread nD τ) a8 fullShare (stored (varRows p v)))
          -∗ Kt ⟨⟩))
      ⊢ wp frame (wpE (defs₀ (F := F)) 𝒱₀ (c : Thread nD τ) none) Set.univ
          (cc1_adamw_sharded i a1 h1 a2 h2 a3 h3 a4 h4 a5 h5 a6 h6 a7 h7 a8 h8) Kt := by
  simp only [cc1_adamw_sharded_eq_skeleton]; unfold cc1_adamw_sharded_skel
  simp only [k1_part1_eq_skeleton]
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩, ⟨%d7, %f7, -, H7⟩, ⟨%d8, %f8, -, H8⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ _ (stored_cover _)).trans rfl
  isplitl [H6]
  · iexists _; isplitr
    swap; · iexact H6
    ipureintro
    exact (View.read_writes_eq_canon _ _ _ (stored_cover _)).trans rfl
  isplitl [H7]
  · iexists _; isplitr
    swap; · iexact H7
    ipureintro
    exact (View.read_writes_eq_canon _ _ _ (stored_cover _)).trans rfl
  iexists _; isplitr
  swap; · iexact H8
  ipureintro
  exact (View.read_writes_eq_canon _ _ _ (stored_cover _)).trans rfl

/-! ### The proof data, over any contents of the arrays at entry -/

variable (Wr : Dev nD → Valuation τ sig (Elt F))

/-- Window `w`'s block at point `t`, of the array's contents at entry. -/
def blk1 (c : Dev nD) (w : Fin cfg1.W) (t : Fin cfg1.N) : ((cfg1.win w).xblock (cfg1.grid.coords t)).Idx → Elt F (cfg1.win w).elt :=
  ((cfg1.win w).blk t).view.read (Elt F) (Wr c (Proc.devRef .tc (Pipeline.arrRef spec1 w)))

/-- The slabs' block and the three packed blocks at point `t`. -/
abbrev pB (c : Dev nD) (t : Fin cfg1.N) : Slabs F := blk1 Wr c 0 t
abbrev wB (c : Dev nD) (t : Fin cfg1.N) : Rows F := blk1 Wr c 1 t
abbrev mB (c : Dev nD) (t : Fin cfg1.N) : Rows F := blk1 Wr c 2 t
abbrev vB (c : Dev nD) (t : Fin cfg1.N) : Rows F := blk1 Wr c 3 t

/-- The arrays at the entry contents; after the body at point `t`, inputs at their blocks and outputs at the rows; the
    scoped buffers that no window stages ride along; nothing owed. -/
def dat1 (c : Dev nD) : Dat τ (Elt F) Unit ℕ U2 ℕ cfg1 c where
  A w := Wr c (Proc.devRef .tc (Pipeline.arrRef spec1 w))
  after w t := match w with
    | ⟨0, _⟩ => blk1 Wr c 0 t
    | ⟨1, _⟩ => blk1 Wr c 1 t
    | ⟨2, _⟩ => blk1 Wr c 2 t
    | ⟨3, _⟩ => blk1 Wr c 3 t
    | ⟨4, _⟩ => stored (sumRows (pB Wr c t))
    | ⟨5, _⟩ => stored (stepRows (pB Wr c t) (wB Wr c t) (mB Wr c t) (vB Wr c t))
    | ⟨6, _⟩ => stored (momRows (pB Wr c t) (mB Wr c t))
    | ⟨7, _⟩ => stored (varRows (pB Wr c t) (vB Wr c t))
  Φ _ := Pipeline.scopedRest spec1 c
  q _ := fullShare
  owed _ := 0

theorem dat1_A (c : Dev nD) (w : Fin cfg1.W) : (dat1 Wr c).A w = Wr c (Proc.devRef .tc (Pipeline.arrRef spec1 w)) := by dsimp only [dat1]

theorem after_in0 (c : Dev nD) (t) : (dat1 Wr c).after 0 t = blk1 Wr c 0 t := by dsimp only [dat1]
theorem after_in1 (c : Dev nD) (t) : (dat1 Wr c).after 1 t = blk1 Wr c 1 t := by dsimp only [dat1]
theorem after_in2 (c : Dev nD) (t) : (dat1 Wr c).after 2 t = blk1 Wr c 2 t := by dsimp only [dat1]
theorem after_in3 (c : Dev nD) (t) : (dat1 Wr c).after 3 t = blk1 Wr c 3 t := by dsimp only [dat1]
theorem after_sum (c : Dev nD) (t) : (dat1 Wr c).after 4 t = stored (sumRows (pB Wr c t)) := by dsimp only [dat1]
theorem after_step (c : Dev nD) (t) : (dat1 Wr c).after 5 t = stored (stepRows (pB Wr c t) (wB Wr c t) (mB Wr c t) (vB Wr c t)) := by dsimp only [dat1]
theorem after_mom (c : Dev nD) (t) : (dat1 Wr c).after 6 t = stored (momRows (pB Wr c t) (mB Wr c t)) := by dsimp only [dat1]
theorem after_var (c : Dev nD) (t) : (dat1 Wr c).after 7 t = stored (varRows (pB Wr c t) (vB Wr c t)) := by dsimp only [dat1]

/-- Before the body at any point an input's buffer holds its block. -/
theorem before_in0 (c : Dev nD) (t : Fin cfg1.N) (d) : (dat1 Wr c).before 0 t d = blk1 Wr c 0 t :=
  ((dat1 Wr c).before_in_eq_fetched 0 rfl (fun _ => rfl) (fun _ _ _ => rfl)
    (fun t => by rw [after_in0]; unfold Dat.blockOf blk1; rw [dat1_A]; try rfl) t d).trans
    (by unfold Dat.fetched Dat.blockOf blk1; rw [dat1_A]; try rfl)
theorem before_in1 (c : Dev nD) (t : Fin cfg1.N) (d) : (dat1 Wr c).before 1 t d = blk1 Wr c 1 t :=
  ((dat1 Wr c).before_in_eq_fetched 1 rfl (fun _ => rfl) (fun _ _ _ => rfl)
    (fun t => by rw [after_in1]; unfold Dat.blockOf blk1; rw [dat1_A]; try rfl) t d).trans
    (by unfold Dat.fetched Dat.blockOf blk1; rw [dat1_A]; try rfl)
theorem before_in2 (c : Dev nD) (t : Fin cfg1.N) (d) : (dat1 Wr c).before 2 t d = blk1 Wr c 2 t :=
  ((dat1 Wr c).before_in_eq_fetched 2 rfl (fun _ => rfl) (fun _ _ _ => rfl)
    (fun t => by rw [after_in2]; unfold Dat.blockOf blk1; rw [dat1_A]; try rfl) t d).trans
    (by unfold Dat.fetched Dat.blockOf blk1; rw [dat1_A]; try rfl)
theorem before_in3 (c : Dev nD) (t : Fin cfg1.N) (d) : (dat1 Wr c).before 3 t d = blk1 Wr c 3 t :=
  ((dat1 Wr c).before_in_eq_fetched 3 rfl (fun _ => rfl) (fun _ _ _ => rfl)
    (fun t => by rw [after_in3]; unfold Dat.blockOf blk1; rw [dat1_A]; try rfl) t d).trans
    (by unfold Dat.fetched Dat.blockOf blk1; rw [dat1_A]; try rfl)

/-- A window's staging buffer at point `t`, at the contents `x`. -/
abbrev stg (c : Dev nD) (t : Fin cfg1.N) (w : Fin cfg1.W) (x : (cfg1.win w).block.Idx → Elt F (cfg1.win w).elt) : sProp 𝕄 :=
  owns (c : Thread nD τ) ((cfg1.win w).stage (cfg1.slots t w)) fullShare x

/-- The body at point `t`, as the pipeline asks for it. -/
theorem adamw_point (c : Dev nD) (t : Fin cfg1.N) :
    iprop((dat1 Wr c).Φ t.castSucc ∗ (dat1 Wr c).owesAt () t.castSucc
        ∗ (∃ d, stg c t 0 ((dat1 Wr c).before 0 t d)) ∗ (∃ d, stg c t 1 ((dat1 Wr c).before 1 t d))
        ∗ (∃ d, stg c t 2 ((dat1 Wr c).before 2 t d)) ∗ (∃ d, stg c t 3 ((dat1 Wr c).before 3 t d))
        ∗ (∃ d, stg c t 4 ((dat1 Wr c).before 4 t d)) ∗ (∃ d, stg c t 5 ((dat1 Wr c).before 5 t d))
        ∗ (∃ d, stg c t 6 ((dat1 Wr c).before 6 t d)) ∗ (∃ d, stg c t 7 ((dat1 Wr c).before 7 t d)))
      ⊢ wp frame (wpE (defs₀ (F := F)) 𝒱₀ (c : Thread nD τ) none) Set.univ (bodyAt1 t)
          (fun _ => iprop((dat1 Wr c).Φ t.succ ∗ (dat1 Wr c).owesAt () t.succ
            ∗ stg c t 0 ((dat1 Wr c).after 0 t) ∗ stg c t 1 ((dat1 Wr c).after 1 t) ∗ stg c t 2 ((dat1 Wr c).after 2 t)
            ∗ stg c t 3 ((dat1 Wr c).after 3 t) ∗ stg c t 4 ((dat1 Wr c).after 4 t) ∗ stg c t 5 ((dat1 Wr c).after 5 t)
            ∗ stg c t 6 ((dat1 Wr c).after 6 t) ∗ stg c t 7 ((dat1 Wr c).after 7 t))) := by
  unfold bodyAt1
  simp only [before_in0, before_in1, before_in2, before_in3]
  rw [show (dat1 Wr c).Φ t.succ = (dat1 Wr c).Φ t.castSucc from rfl,
    show (dat1 Wr c).owesAt () t.succ = (dat1 Wr c).owesAt () t.castSucc from rfl,
    after_in0, after_in1, after_in2, after_in3, after_sum, after_step, after_mom, after_var]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (adamw_body c (grid1.coords t) _ _ _ _ _ _ _ _ _ _ _ _ _ _ _ _ (pB Wr c t) (wB Wr c t) (mB Wr c t) (vB Wr c t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row for this call. -/
theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 (F := F) Wr c) (defs₀ (F := F)) 𝒱₀ () Set.univ := fun t => by
  rw [bigSep_W1, bigSep_W1, row1]
  exact triple_restated (adamw_point Wr c t) rfl .rfl fun _ => .rfl

end Cert.Proof

end
-- ==== Proof.Region0.lean ====
/-
  The exchange's call on one device. The call has no staged window: what it starts from and what it leaves travel in the
  call's invariant. Its fifteen semaphores were handed to the exchange's invariants when the program was launched, so the
  call is entered without them; at its end they are back at zero.
-/
module

public import proofs.«01_k».proof.Proof.Exchange2
public import proofs.«01_k».proof.Proof.Region1

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ U2 ℕ

variable (m : (ℓ : Loc nD τ sig) → Buf (Elt F) ℓ)

/-! ### The fifteen cells by their use -/

def sEmb : Fin 7 ↪ Fin 15 := ⟨sIx, fun a b h => Fin.ext (Fin.mk.inj h)⟩
def rEmb : Fin 7 ↪ Fin 15 := ⟨rIx, fun a b h => Fin.ext (Nat.add_right_cancel (Fin.mk.inj h))⟩

theorem cells_split : (Finset.univ : Finset (Fin 15)) = insert lIx (Finset.univ.map sEmb ∪ Finset.univ.map rEmb) := by decide

/-- A product over the fifteen cells: the local copy's, the seven sources', the seven destinations'. -/
theorem fifteen {M : Type} [URA M] (Φ : Fin 15 → sProp M) :
    bigSep Finset.univ Φ = iprop(Φ lIx ∗ (bigSep Finset.univ fun r : Fin 7 => Φ (sIx r)) ∗ bigSep Finset.univ fun r : Fin 7 => Φ (rIx r)) := by
  rw [cells_split, bigSep_insert (by decide), bigSep_union (by decide), bigSep_map, bigSep_map]
  rfl

/-- The exchange's semaphores are scoped, distinct, and no staging cell. -/
theorem ownFacts : Pipeline.OwnSemFacts cfg0.spec osem := by decide

/-! ### The call's proof data -/

/-- What the call starts from: the records, and the exchange's start. -/
def enter (c : Dev nD) : sProp 𝕄 := iprop((∃ K, records m K) ∗ exStart m c)

/-- What it leaves besides the semaphores: the sent array whole again by slabs, and the received slabs. -/
def leave (c : Dev nD) : sProp 𝕄 :=
  iprop((srcP m c c ∗ bigSep Finset.univ fun r : Fin 7 => srcP m c (peer r c))
    ∗ (newP m c c ∗ bigSep Finset.univ fun r : Fin 7 => newP m c (peer r c)))

omit [FloatOps F] in
theorem exEnd_split (c : Dev nD) : exEnd m c ⊢ iprop(leave m c ∗ Pipeline.ownSems0 osem c) := by
  unfold exEnd leave Pipeline.ownSems0
  rw [fifteen]
  iintro ⟨Hs, Hn, Hz⟩
  isplitl [Hs Hn]
  · isplitl [Hs] <;> iassumption
  iexact Hz

def dat0 (c : Dev nD) : Dat τ (Elt F) Unit ℕ U2 ℕ cfg0 c where
  A w := w.elim0
  after w _ := w.elim0
  Φ t := if t.val = 0 then iprop(enter m c ∗ Pipeline.scopedRest cfg0.spec c) else iprop(exEnd m c ∗ Pipeline.scopedRest cfg0.spec c)
  q w := w.elim0
  owed t := if t.val = 0 then owed c else 0

theorem points0 (t : Fin cfg0.N) : t.val = 0 := by
  have h : cfg0.N = 1 := by decide
  have := t.isLt
  omega

theorem dat0_first (c : Dev nD) (t : Fin cfg0.N) :
    (dat0 m c).Φ t.castSucc = iprop(enter m c ∗ Pipeline.scopedRest cfg0.spec c) := if_pos (points0 t)
theorem dat0_last (c : Dev nD) (t : Fin cfg0.N) :
    (dat0 m c).Φ t.succ = iprop(exEnd m c ∗ Pipeline.scopedRest cfg0.spec c) := by
  dsimp only [dat0]; exact if_neg (show ¬ t.succ.val = 0 from Nat.succ_ne_zero t.val)
theorem owed0_first (c : Dev nD) (t : Fin cfg0.N) : (dat0 m c).owed t.castSucc = owed c := if_pos (points0 t)
theorem owed0_last (c : Dev nD) (t : Fin cfg0.N) : (dat0 m c).owed t.succ = 0 := by
  dsimp only [dat0]; exact if_neg (show ¬ t.succ.val = 0 from Nat.succ_ne_zero t.val)

/-- The body table's row for this call. -/
theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 m c) (defs₀ (F := F)) 𝒱₀ () Set.univ := fun t => by
  rw [Finset.univ_eq_empty, bigSep_empty, bigSep_empty, row0, dat0_first, dat0_last]
  unfold Dat.owesAt Pipeline.owesWithin
  rw [owed0_first, owed0_last]
  unfold enter
  iintro ⟨⟨⟨⟨%K, #HR⟩, HX⟩, Hrest⟩, ⟨%W, -, HO⟩, -⟩
  iapply (exchange_body m K c W)
  isplitr; · iexact HR
  isplitl [HX]; · iexact HX
  isplitl [HO]; · iexact HO
  iintro ⟨HE, ⟨%W', HO⟩⟩
  isplitl [HE Hrest]
  · isplitl [HE] <;> iassumption
  isplitl [HO]
  · iexists W'; isplitr
    · ipureintro; exact fun _ _ => Or.inl trivial
    iexact HO
  iempintro

/-! ### Both calls' data -/

variable (Wr : Dev nD → Valuation τ sig (Elt F))

def dats : (p : Fin 2) → (c : Dev nD) → Dat τ (Elt F) Unit ℕ U2 ℕ (cfgs p) c
  | ⟨0, _⟩, c => dat0 m c
  | ⟨1, _⟩, c => dat1 Wr c

/-! ### The call -/

local notation "𝔻" => Pipeline.defs (pcfgs (F := F)) (defs₀ (F := F))
local notation "𝕍" => Variants.lift 𝒱₀

/-- The semaphores the exchange's call does not use, at zero. -/
abbrev idle (c : Dev nD) : sProp 𝕄 := Pipeline.idleSems0 (Pipeline.pin (pcfgs (F := F)) adm) cellOf_inj 0 ownFacts c

/-- A device's state at the launch, its exchange semaphores taken away. -/
def part (c : Dev nD) : sProp 𝕄 :=
  iprop(scopedBufs (c : Thread nD τ) ∗ Pipeline.cellsSems0 (Pipeline.pin (pcfgs (F := F)) adm) 0 c ∗ idle c ∗ opIdle (c : Thread nD τ))

theorem boundary_part (c : Dev nD) :
    (boundary (c : Thread nD τ) : sProp 𝕄) ⊢ iprop(part c ∗ Pipeline.ownSems0 osem c) := by
  unfold boundary part idle
  rw [Pipeline.scopedSems0_split (Pipeline.pin (pcfgs (F := F)) adm) cellOf_inj 0 winFacts0.to₀ ownFacts c]
  iintro ⟨Hb, ⟨⟨Hc, Ho⟩, Hi⟩, Hop⟩
  isplitr [Ho]
  · isplitl [Hb]; · iexact Hb
    isplitl [Hc]; · iexact Hc
    isplitl [Hi] <;> iassumption
  iexact Ho

/-- One device runs the exchange's call: from its share of the launch state it comes back to the boundary between calls,
    with the sent array and the received slabs, owing nothing. -/
theorem run_exchange (c : Dev nD) (K : Dev nD × Fin 15 → ℕ) (W : Waits sig Unit) {α : Type}
    (k : PUnit → Prog (TpuEff nD τ sig (Elt F) (Pipeline.Sig Λ₀ (Fin 2) fun p => ((pcfgs (F := F)) p).Adm) .tc) α) (Q : α → sProp 𝕄) :
    iprop((iprop(boundary (c : Thread nD τ) ∗ leave m c ∗ ∃ W', owes (c : Thread nD τ) 0 W')
          -∗ wp frame (wpE 𝔻 𝕍 (c : Thread nD τ) none) Set.univ (k ⟨⟩) Q)
        ∗ part c ∗ records m K ∗ exStart m c ∗ owes (c : Thread nD τ) (owed c) W
        ∗ Pipeline.cellsGhost (Pipeline.pin (pcfgs (F := F)) adm) EP 0 c ∗ Pipeline.toksInit (Pipeline.pin (pcfgs (F := F)) adm) EP 0 c)
      ⊢ wp frame (wpE 𝔻 𝕍 (c : Thread nD τ) none) Set.univ (.op (.customCall (Pipeline.entry 0) ()) k) Q := by
  have hsb := Pipeline.scopedBufs_split (Pipeline.pin (pcfgs (F := F)) adm) 0 winFacts0.stage_scoped winFacts0.stage_inj launch0.stage_whole c
    (nD := nD) (τ := τ) (Ix := Unit) (Val := Elt F) (Name := ℕ) (U := U2) (Lvl := ℕ)
  have hss := Pipeline.scopedSems0_split (Pipeline.pin (pcfgs (F := F)) adm) cellOf_inj 0 winFacts0.to₀ ownFacts
    (Ix := Unit) (Val := Elt F) (Name := ℕ) (U := U2) (Lvl := ℕ) c
  have hin : iprop(enter m c ∗ Pipeline.prefHeld (pcfgs (F := F) 0).pre c (fun _ => fullShare) (adm (F := F) 0).1 ∗ Pipeline.scopedRest cfg0.spec c)
      ⊢ (dats m (V0 m) 0 c).Φ 0 := by
    show _ ⊢ iprop(enter m c ∗ Pipeline.scopedRest cfg0.spec c)
    iintro ⟨H, -, Hr⟩
    isplitl [H] <;> iassumption
  have hout : iprop((dats m (V0 m) 0 c).Φ (Fin.last (cfgs 0).N) ∗ Pipeline.cellsSems0 (Pipeline.pin (pcfgs (F := F)) adm) 0 c ∗ Dat.staging cfg0 c ∗ idle c)
      ⊢ iprop(leave m c ∗ scopedSems0 (c : Thread nD τ) ∗ scopedBufs (c : Thread nD τ)) := by
    rw [hss, hsb]
    show iprop(iprop(exEnd m c ∗ Pipeline.scopedRest cfg0.spec c) ∗ _) ⊢ _
    iintro ⟨⟨HE, Hr⟩, Hc, Hst, Hi⟩
    ihave HE' := (exEnd_split m c) $$ HE
    icases HE' with ⟨HL, Ho⟩
    isplitl [HL]; · iexact HL
    isplitl [Hc Ho Hi]
    · isplitl [Hc Ho]
      · isplitl [Hc] <;> iassumption
      iexact Hi
    isplitl [Hst] <;> iassumption
  unfold part
  iintro ⟨Hk, ⟨Hsc, Hcells, Hidle, Hop⟩, #HR, HX, HO, Hg, Ht⟩
  iapply (fupd_wp frame (wpE 𝔻 𝕍 (c : Thread nD τ) none) Set.univ _ _)
  imod (Pipeline.cellsInit_alloc (Pipeline.pin (pcfgs (F := F)) adm) (dats m (V0 m)) EP cellOf_inj 0 c) $$ [Hcells Hg] with ⟨%κ, -, Hinit⟩
  · isplitl [Hcells] <;> iassumption
  imodintro
  iapply (Pipeline.wp_customCall_entry_frame (pcfgs (F := F)) adm (dats m (V0 m)) () EP κ cellOf_inj 0 (defs₀ (F := F)) 𝒱₀ (fun _ => fullShare) c Set.univ
      (fun _ _ => Set.mem_univ _) (obligation0 m c).loose launch0.block_pos none (fun _ h => absurd h (by simp))
      (X := enter m c) (Y := leave m c) (R := Pipeline.scopedRest cfg0.spec c) (I := idle c) (Entails.of_eq hsb) hin hout (k := k) (Q := Q))
    $$ [HX HO Hinit Ht Hidle Hsc]
  · isplitl [HO Hinit Ht]
    · unfold Pipeline.EntryPre Pipeline.PerCore.EntryPre
      isplitr
      · unfold Dat.arrays; rw [show (Finset.univ : Finset (Fin (Pipeline.pin (pcfgs (F := F)) adm 0).W)) = ∅ from rfl, bigSep_empty]; iempintro
      isplitl [HO]
      · unfold Dat.owesAt Pipeline.owesWithin
        iexists W; isplitr
        · ipureintro; exact fun _ _ => Or.inl trivial
        iexact HO
      isplitr
      · unfold Pipeline.PerCore.cellsWaits Pipeline.PerCore.RDat.cellsWaits
        rw [show (Finset.univ : Finset (Fin (Pipeline.pin (pcfgs (F := F)) adm 0).W)) = ∅ from rfl, bigSep_empty]; iempintro
      isplitl [Hinit] <;> iassumption
    isplitr
    · rw [Pipeline.prefHeld_of_none _ rfl]; iempintro
    isplitl [HX]
    · unfold enter
      isplitr
      · iexists K; iexact HR
      iexact HX
    isplitl [Hidle]; · iexact Hidle
    iexact Hsc
  iintro ⟨Hpost, HY, Hss, Hsc⟩
  iapply Hk
  isplitl [Hss Hsc Hop]
  · unfold boundary
    isplitl [Hsc]; · iexact Hsc
    isplitl [Hss] <;> iassumption
  isplitl [HY]; · iexact HY
  unfold Pipeline.EntryPost Pipeline.PerCore.EntryPost
  icases Hpost with ⟨-, HO⟩
  unfold Dat.owesAt Pipeline.owesWithin
  icases HO with ⟨%W', -, HO⟩
  iexists W'; iexact HO

end Cert.Proof

end
-- ==== Proof.Seg1.lean ====
/-
  The optimiser's call as a segment of the program: entered with the exchanged slabs in `main_v1` and the host's packing
  done, left with its four results.
-/
module

public import proofs.«01_k».proof.Proof.Region0

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RegionSeg HostSeg Seg)

variable {F : FTy → Type} [FloatOps F]

local notation "𝕄" => MT nD τ sig Unit (Elt F) ℕ U2 ℕ

variable (m : (ℓ : Loc nD τ sig) → Buf (Elt F) ℓ)

/-! ### What the calls leave -/

/-- A device's buffers once the exchange is over. -/
def exchanged (c : Dev nD) : Valuation τ sig (Elt F) :=
  Function.update (V0 m c) (Proc.devRef .tc main_v1) (gathered m c)

/-- The exchange's result, as the program's valuations read it. -/
def outsA : Outs (F := F) := fun _ r c => exchanged m c (Proc.devRef .tc r)

/-- A device's buffers when the optimiser's call is entered. -/
def W8 (c : Dev nD) : Valuation τ sig (Elt F) := V8 m (outsA m) c

/-- What the optimiser's call leaves in window `w`'s array. -/
abbrev final (c : Dev nD) (w : Fin cfg1.W) : Buf (Elt F) ((cfg1.win w).arr.view.loc (c : Thread nD τ)) :=
  (dat1 (W8 m) c).arrAt w cfg1.N

/-- A device's buffers after it. -/
def W9 (c : Dev nD) : Valuation τ sig (Elt F) :=
  Function.update (Function.update (Function.update (Function.update (W8 m c)
    (Proc.devRef .tc main_v32_0) (final m c 4)) (Proc.devRef .tc main_v32_1) (final m c 5))
    (Proc.devRef .tc main_v32_2) (final m c 6)) (Proc.devRef .tc main_v32_3) (final m c 7)

/-- Both calls' results. -/
def outs : Outs (F := F) := fun J r c => if J = 9 then W9 m c (Proc.devRef .tc r) else outsA m J r c

theorem V1_eq (c : Dev nD) : V1 m (outs m) c = exchanged m c := by
  show Function.update (V0 m c) (Proc.devRef .tc main_v1) (outs m 1 main_v1 c) = _
  have h : outs m 1 main_v1 c = gathered m c := by
    show (if (1 : ℕ) = 9 then W9 m c (Proc.devRef .tc main_v1) else exchanged m c (Proc.devRef .tc main_v1)) = _
    rw [if_neg (by decide)]; exact Function.update_self _ _ _
  rw [h]; rfl

theorem V1A_eq (c : Dev nD) : V1 m (outsA m) c = exchanged m c := by
  show Function.update (V0 m c) (Proc.devRef .tc main_v1) (outsA m 1 main_v1 c) = _
  have h : outsA m 1 main_v1 c = gathered m c := by
    show exchanged m c (Proc.devRef .tc main_v1) = _
    exact Function.update_self _ _ _
  rw [h]; rfl

theorem V8_eq (c : Dev nD) : V8 m (outs m) c = W8 m c := by
  unfold W8
  dsimp only [V8, V7, V6, V5, V4, V3, V2]
  rw [V1_eq, V1A_eq]

theorem outs_9 (r : Ref sig .tc) (c : Dev nD) : outs m 9 r c = W9 m c (Proc.devRef .tc r) := if_pos rfl

theorem ne_refs {r s : Ref sig .tc} (h : r ≠ s) : (Proc.devRef .tc r : DevRef τ sig) ≠ Proc.devRef .tc s :=
  StableHlo.devRef_ne_of_ne h

theorem W9_3 (c : Dev nD) : W9 m c (Proc.devRef .tc main_v32_3) = final m c 7 := Function.update_self _ _ _
theorem W9_2 (c : Dev nD) : W9 m c (Proc.devRef .tc main_v32_2) = final m c 6 := by
  unfold W9; rw [Function.update_of_ne (ne_refs (by decide)), Function.update_self]
theorem W9_1 (c : Dev nD) : W9 m c (Proc.devRef .tc main_v32_1) = final m c 5 := by
  unfold W9; rw [Function.update_of_ne (ne_refs (by decide)), Function.update_of_ne (ne_refs (by decide)), Function.update_self]
theorem W9_0 (c : Dev nD) : W9 m c (Proc.devRef .tc main_v32_0) = final m c 4 := by
  unfold W9; rw [Function.update_of_ne (ne_refs (by decide)), Function.update_of_ne (ne_refs (by decide)),
    Function.update_of_ne (ne_refs (by decide)), Function.update_self]

/-- Off the four results the call changes nothing. -/
theorem W9_of (c : Dev nD) (b : DevRef τ sig) (h0 : b ≠ Proc.devRef .tc main_v32_0) (h1 : b ≠ Proc.devRef .tc main_v32_1)
    (h2 : b ≠ Proc.devRef .tc main_v32_2) (h3 : b ≠ Proc.devRef .tc main_v32_3) : W9 m c b = W8 m c b := by
  unfold W9
  rw [Function.update_of_ne h3, Function.update_of_ne h2, Function.update_of_ne h1, Function.update_of_ne h0]

theorem V9_eq (c : Dev nD) : V9 m (outs m) c = W9 m c := by
  dsimp only [V9]
  rw [V8_eq, outs_9, outs_9, outs_9, outs_9, W9_0, W9_1, W9_2, W9_3]
  rfl

/-! ### The segment -/

/-- No levels are assigned: every wait of the program happens while nothing is owed. -/
abbrev L0 : GSem nD τ sig → Finset Unit := fun _ => ∅
abbrev lv0 : GSem nD τ sig → Unit → ℕ := fun _ _ => 0

/-- A device owes nothing. -/
abbrev free (c : Dev nD) : sProp 𝕄 := iprop(∃ W, owes (c : Thread nD τ) (0 : CellTallies nD τ sig Unit) W)

theorem arrays_entry (c : Dev nD) :
    ((dats m (W8 m) 1 c).arrays ((dats m (W8 m) 1 c).arrAt · 0) : sProp 𝕄)
      = StableHlo.held (c : Thread nD τ) (Pipeline.arrRefs spec1) (W8 m c) :=
  Pipeline.arrays_held (pcfgs (F := F)) adm (dats m (W8 m)) 1 launch1.toP c ((dat1 (W8 m) c).share_full fun _ => rfl) _ _ fun w => rfl

attribute [local irreducible] W9 W8

theorem final_0 (c : Dev nD) : final m c 0 = W9 m c (Proc.devRef .tc main_v1) :=
  ((dat1 (W8 m) c).arrAt_in 0 rfl _).trans
    (W9_of m c (Proc.devRef .tc main_v1) (ne_refs (by decide)) (ne_refs (by decide)) (ne_refs (by decide)) (ne_refs (by decide))).symm

theorem final_1 (c : Dev nD) : final m c 1 = W9 m c (Proc.devRef .tc main_v11) :=
  ((dat1 (W8 m) c).arrAt_in 1 rfl _).trans
    (W9_of m c (Proc.devRef .tc main_v11) (ne_refs (by decide)) (ne_refs (by decide)) (ne_refs (by decide)) (ne_refs (by decide))).symm

theorem final_2 (c : Dev nD) : final m c 2 = W9 m c (Proc.devRef .tc main_v21) :=
  ((dat1 (W8 m) c).arrAt_in 2 rfl _).trans
    (W9_of m c (Proc.devRef .tc main_v21) (ne_refs (by decide)) (ne_refs (by decide)) (ne_refs (by decide)) (ne_refs (by decide))).symm

theorem final_3 (c : Dev nD) : final m c 3 = W9 m c (Proc.devRef .tc main_v31) :=
  ((dat1 (W8 m) c).arrAt_in 3 rfl _).trans
    (W9_of m c (Proc.devRef .tc main_v31) (ne_refs (by decide)) (ne_refs (by decide)) (ne_refs (by decide)) (ne_refs (by decide))).symm

theorem final_eq (c : Dev nD) : ∀ w : Fin cfg1.W, final m c w = W9 m c (Proc.devRef .tc (Pipeline.arrRef spec1 w)) :=
  Fin.cons (final_0 m c) <| Fin.cons (final_1 m c) <| Fin.cons (final_2 m c) <| Fin.cons (final_3 m c) <|
  Fin.cons (W9_0 m c).symm <| Fin.cons (W9_1 m c).symm <| Fin.cons (W9_2 m c).symm <| Fin.cons (W9_3 m c).symm finZeroElim

theorem arrays_exit (c : Dev nD) :
    ((dats m (W8 m) 1 c).arrays ((dats m (W8 m) 1 c).arrAt · cfg1.N) : sProp 𝕄)
      = StableHlo.held (c : Thread nD τ) (Pipeline.arrRefs spec1) (W9 m c) :=
  Pipeline.arrays_held (pcfgs (F := F)) adm (dats m (W8 m)) 1 launch1.toP c ((dat1 (W8 m) c).share_full fun _ => rfl) _ _ (final_eq m c)

theorem arrs_sub : Pipeline.arrRefs (τ := τ) spec1 ⊆ Pipeline.ucRefs τ sig :=
  Pipeline.arrRefs_sub_ucRefs spec1 winFacts1.arr_unscoped

theorem mem_arrs (w : Fin cfg1.W) : Proc.devRef .tc (Pipeline.arrRef spec1 w) ∈ Pipeline.arrRefs (τ := τ) spec1 :=
  Finset.mem_map.mpr ⟨_, Finset.mem_image.mpr ⟨w, Finset.mem_univ _, rfl⟩, rfl⟩

/-- The call's segment. -/
def seg8 : RegionSeg (pcfgs (F := F)) adm (dats m (W8 m)) () (defs₀ (F := F)) 𝒱₀ L0 lv0 1 where
  win := winFacts1.to₀
  block_pos := launch1.block_pos
  stage_whole := launch1.stage_whole
  K := PEmpty
  osem k := k.elim
  ho := Pipeline.OwnSemFacts.none _
  hbody c := (obligation1 (W8 m) c).loose
  hwaits c := (show _ ⊢ (BI.emp : sProp 𝕄) from by iintro -; iempintro).trans
    (Pipeline.cellsWaits_of_owed_zero _ _ _ _ _ fun _ => rfl)
  pre c := iprop(StableHlo.held (c : Thread nD τ) (Pipeline.ucRefs τ sig) (W8 m c) ∗ free c)
  post c := iprop(StableHlo.held (c : Thread nD τ) (Pipeline.ucRefs τ sig) (W9 m c) ∗ free c)
  X _ := BI.emp
  Y _ := BI.emp
  Z c := StableHlo.held (c : Thread nD τ) (Pipeline.ucRefs τ sig \ Pipeline.arrRefs spec1) (W8 m c)
  hentry c := by
    rw [Pipeline.ownSems0_none, Pipeline.prefHeld_of_none _ rfl, arrays_entry, StableHlo.held_sub_split _ arrs_sub]
    iintro ⟨⟨⟨Ha, Hr⟩, ⟨%W, HO⟩⟩, -, -⟩
    imodintro
    isplitl [Ha]; · iexact Ha
    isplitr; · iempintro
    isplitl [HO]
    · unfold Dat.owesAt Pipeline.owesWithin
      iexists W; isplitr
      · ipureintro; exact fun _ _ => Or.inl trivial
      iexact HO
    isplitr; · iempintro
    iexact Hr
  hin c := by
    show _ ⊢ Pipeline.scopedRest spec1 c
    iintro ⟨-, -, H⟩
    iexact H
  hout c := by
    rw [Pipeline.ownSems0_none]
    show Pipeline.scopedRest spec1 c ⊢ _
    iintro H
    isplitr; · iempintro
    isplitr; · iempintro
    iexact H
  hexit c := by
    have hx : ((dats m (W8 m) 1 c).arrays ((dats m (W8 m) 1 c).arrAt · (Pipeline.pin (pcfgs (F := F)) adm 1).N) : sProp 𝕄)
        = StableHlo.held (c : Thread nD τ) (Pipeline.arrRefs spec1) (W9 m c) := arrays_exit m c
    rw [hx,
      StableHlo.held_sub_split (c : Thread nD τ) arrs_sub (W9 m c),
      StableHlo.held_congr (c : Thread nD τ) (S := Pipeline.ucRefs τ sig \ Pipeline.arrRefs spec1) (V := W9 m c) (V' := W8 m c) fun b hb =>
        have hn := (Finset.mem_sdiff.mp hb).2
        W9_of m c b (fun h => hn (h ▸ mem_arrs 4)) (fun h => hn (h ▸ mem_arrs 5)) (fun h => hn (h ▸ mem_arrs 6)) (fun h => hn (h ▸ mem_arrs 7))]
    iintro ⟨Ha, HO, -, Hr⟩
    imodintro
    isplitl [Ha Hr]
    · isplitl [Ha] <;> iassumption
    unfold Dat.owesAt Pipeline.owesWithin
    icases HO with ⟨%W, -, HO⟩
    iexists W; iexact HO

end Cert.Proof

end
-- ==== Proof.Deal.lean ====
/-
  The launch dealt around the devices: the slabs of the received arrays to their senders, the receive tokens to their
  payers, the cells' invariants to everybody, the launch credits to the owners.
-/
module

public import proofs.«01_k».proof.Proof.Seg1

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ U2 ℕ

variable (m : (ℓ : Loc nD τ sig) → Buf (Elt F) ℓ)

/-! ### Products over the devices -/

section Products

variable {M : Type} [URA M]

/-- Two nested products change places. -/
theorem products_swap {I J : Type} [Fintype I] [Fintype J] (Φ : I → J → sProp M) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1),
    bigSep_univ_equiv (Equiv.prodComm J I) (fun x : I × J => Φ x.1 x.2)]
  rfl

theorem eight : (Finset.univ : Finset (Fin 8)) = insert 0 (Finset.univ.map (Fin.succEmb 7)) := by decide

/-- All devices, as seen from `c`: itself and its seven peers. -/
theorem around (c : Dev nD) (Φ : Dev nD → sProp M) :
    bigSep Finset.univ Φ = iprop(Φ c ∗ bigSep Finset.univ fun r : Fin 7 => Φ (peer r c)) := by
  rw [bigSep_univ_equiv (flipAll c) Φ, eight, bigSep_insert (by decide), bigSep_map]
  show iprop(Φ (flip 0 c) ∗ _) = _
  rw [flip_zero]
  rfl

/-- Each device's seven items, the `r`-th handed to its `r`-th peer. -/
theorem to_peers (Φ : Dev nD → Fin 7 → sProp M) :
    (bigSep Finset.univ fun c => bigSep Finset.univ fun r : Fin 7 => Φ c r)
      = bigSep Finset.univ fun c => bigSep Finset.univ fun r : Fin 7 => Φ (peer r c) r := by
  rw [products_swap, products_swap (fun c (r : Fin 7) => Φ (peer r c) r)]
  exact bigSep_congr fun r _ => bigSep_univ_equiv (flipPerm r.succ) (fun c => Φ c r)

end Products

/-! ### Slabs and whole arrays -/

theorem whole_slabs (c : Dev nD) (f : Buf (Elt F) ((c : Thread nD τ).loc main_arg0)) :
    ((((c : Thread nD τ).loc main_arg0) ↦{fullShare} f : sProp 𝕄)
      = bigSep Finset.univ fun s : Dev nD => (((c : Thread nD τ).loc main_arg0) ↦[slab s]{fullShare} f : sProp 𝕄)) := by
  exact Ring.pointsTo_blocks (ℓ := (c : Thread nD τ).loc main_arg0) (fun s : Dev nD => slab s) (fun s t h => slab_disjoint h)
    (Finset.ext fun i => ⟨fun _ => Finset.mem_univ _, fun _ => Finset.mem_biUnion.mpr
      ⟨⟨(i 0).val, (i 0).isLt⟩, Finset.mem_univ _, (mem_slab _ i).mpr rfl⟩⟩) f

theorem whole_slabs' (c : Dev nD) (f : Buf (Elt F) ((c : Thread nD τ).loc main_v1)) :
    ((((c : Thread nD τ).loc main_v1) ↦{fullShare} f : sProp 𝕄)
      = bigSep Finset.univ fun s : Dev nD => (((c : Thread nD τ).loc main_v1) ↦[slab s]{fullShare} f : sProp 𝕄)) := by
  exact Ring.pointsTo_blocks (ℓ := (c : Thread nD τ).loc main_v1) (fun s : Dev nD => slab s) (fun s t h => slab_disjoint h)
    (Finset.ext fun i => ⟨fun _ => Finset.mem_univ _, fun _ => Finset.mem_biUnion.mpr
      ⟨⟨(i 0).val, (i 0).isLt⟩, Finset.mem_univ _, (mem_slab _ i).mpr rfl⟩⟩) f

/-- What a device leaves the exchange with is its two arrays whole. -/
theorem leave_whole (c : Dev nD) :
    (leave m c : sProp 𝕄) = iprop((((c : Thread nD τ).loc main_arg0) ↦{fullShare} m ((c : Thread nD τ).loc main_arg0))
      ∗ (((c : Thread nD τ).loc main_v1) ↦{fullShare} gathered m c)) := by
  rw [whole_slabs, whole_slabs', around c, around c]
  rfl

/-- The received arrays dealt to the devices that send into them. -/
theorem deal_received :
    (bigSep Finset.univ fun c : Dev nD => (((c : Thread nD τ).loc main_v1) ↦{fullShare} m ((c : Thread nD τ).loc main_v1) : sProp 𝕄))
      = bigSep Finset.univ fun c : Dev nD => iprop(oldP m c c ∗ bigSep Finset.univ fun r : Fin 7 => oldP m (peer r c) c) := by
  rw [bigSep_congr fun c _ => whole_slabs' c (m ((c : Thread nD τ).loc main_v1)), products_swap]
  exact bigSep_congr fun s _ => around s fun c => oldP m c s

/-! ### Launch credits -/

theorem owed_sum : (owed : Dev nD → CellTallies nD τ sig Unit) = fun d => ∑ r : Fin 7, tallyAt (cell (peer r d) (rIx r)) () N := by
  funext d
  unfold owed
  rw [Fin.sum_univ_seven]
  abel

/-- A device's launch credit covers its seven receive cells. -/
theorem credits (c : Dev nD) :
    (Pipeline.launchCred owed c : sProp 𝕄) ⊢ bigSep Finset.univ fun r : Fin 7 => cred (tallyAt (cell c (rIx r)) () N) := by
  rw [owed_sum, Pipeline.launchCred_sum]
  exact bigSep_mono fun r _ => Pipeline.launchCred_tallyAt (osem (rIx r)) (flip r.succ) (flip r.succ) (flip_flip _) (flip_flip _) () N c

theorem all_credits : (bigSep Finset.univ fun c : Dev nD => (Pipeline.launchCred owed c : sProp 𝕄))
    ⊢ bigSep Finset.univ fun c : Dev nD => bigSep Finset.univ fun r : Fin 7 => cred (tallyAt (cell c (rIx r)) () N) :=
  bigSep_mono fun c _ => credits c

/-! ### The exchange's ghost state -/

/-- One token for each of a device's fifteen cells. -/
abbrev duty : Dev nD → Finset (Fin 15 × ℕ × Unit) := fun _ => Finset.univ.map ⟨fun j => (j, 0, ()), fun _ _ h => congrArg Prod.fst h⟩

/-- The ghost state of the pipelines' cells and of the exchange's. -/
def u₀ : U2 :=
  (Rounds.initOf (Pipeline.cells cfgs cellOf_inj) (Pipeline.launchToks cfgs cellOf_inj),
    Rounds.initOf (Pipeline.ownCells cfgs (0 : Fin 2) ownFacts) (Pipeline.ownToksOf cfgs (0 : Fin 2) ownFacts duty))

theorem halves (a b : UC) : (ownU (a, b) : sProp 𝕄) ⊢ iprop(BI.own (EP a) ∗ BI.own (EX b)) :=
  BI.own_op_elim ((uEmb (nD := nD) (sig := sig) (Ix := Unit) (Val := Elt F) (Name := ℕ) (U := U2) (Lvl := ℕ)).toEmb.op_of_mem
    (Prod.mk_mem_op (URA.mem_op_one a) (URA.mem_one_op b)))

theorem duty_toks (c : Dev nD) :
    (bigSep (duty c) fun x => (dutyTok EX (((c : Dev nD) : Thread nD τ), osem x.1) x.2.1 x.2.2 : sProp 𝕄))
      = bigSep Finset.univ fun j : Fin 15 => dutyTok EX (cell c j) 0 () := bigSep_map _

/-- One device's cells opened. -/
theorem open_cells (c : Dev nD) :
    iprop(Pipeline.ownSems0 osem c ∗ Pipeline.ownGhost cfgs (0 : Fin 2) ownFacts EX (sched m) c)
      ⊢ |={Set.univ}=> iprop((bigSep Finset.univ fun j : Fin 15 => iprop(∃ κ : ℕ, cellInv EX (sched m) κ (cell c j)))
          ∗ (bigSep Finset.univ fun j : Fin 15 => (atPos EX (cell c j) 0 ∅ 0 : sProp 𝕄))
          ∗ bigSep Finset.univ fun j : Fin 15 => reached EX (cell c j) 0) := by
  rw [Pipeline.ownGhost_eq]
  iintro ⟨Hz, ⟨Hst, Hpos⟩⟩
  imod (Pipeline.ownCells_alloc cfgs (0 : Fin 2) ownFacts EX (sched m) c) $$ [Hz Hst] with Hinv
  · isplitl [Hz] <;> iassumption
  imodintro
  isplitl [Hinv]; · iexact Hinv
  rw [← bigSep_sep']
  iexact Hpos

/-- The opened cells' records gathered under one choice of names. -/
theorem gather_records :
    (bigSep Finset.univ fun c : Dev nD => iprop((bigSep Finset.univ fun j : Fin 15 => iprop(∃ κ : ℕ, cellInv EX (sched m) κ (cell c j)))
          ∗ (bigSep Finset.univ fun j : Fin 15 => (atPos EX (cell c j) 0 ∅ 0 : sProp 𝕄))
          ∗ bigSep Finset.univ fun j : Fin 15 => reached EX (cell c j) 0) : sProp 𝕄)
      ⊢ iprop((∃ K, records m K)
          ∗ bigSep Finset.univ fun c : Dev nD => bigSep Finset.univ fun j : Fin 15 => (atPos EX (cell c j) 0 ∅ 0 : sProp 𝕄)) := by
  rw [bigSep_sep', bigSep_sep', ← bigSep_univ_prod (fun x : Dev nD × Fin 15 => iprop(∃ κ : ℕ, cellInv EX (sched m) κ (cell x.1 x.2))),
    ← bigSep_univ_prod (fun x : Dev nD × Fin 15 => (reached EX (cell x.1 x.2) 0 : sProp 𝕄))]
  iintro ⟨HI, Hpos, HR⟩
  ihave HK := (BI.bigSep_exists_pi Finset.univ (fun (x : Dev nD × Fin 15) (κ : ℕ) => (cellInv EX (sched m) κ (cell x.1 x.2) : sProp 𝕄))) $$ HI
  icases HK with ⟨%K, HI⟩
  isplitr [Hpos]
  · iexists K
    unfold records
    isplitl [HI] <;> iassumption
  iexact Hpos

/-- All devices' cells opened. -/
theorem open_all :
    (bigSep Finset.univ fun c => iprop(Pipeline.ownSems0 osem c ∗ Pipeline.ownGhost cfgs (0 : Fin 2) ownFacts EX (sched m) c) : sProp 𝕄)
      ⊢ |={Set.univ}=> iprop((∃ K, records m K)
          ∗ bigSep Finset.univ fun c : Dev nD => bigSep Finset.univ fun j : Fin 15 => (atPos EX (cell c j) 0 ∅ 0 : sProp 𝕄)) :=
  ((bigSep_mono fun c _ => open_cells m c).trans (bigSep_fupd _ _)).trans (BI.fupd_mono (gather_records m))

/-- Everything the devices start from, dealt. -/
theorem deal :
    iprop((bigSep Finset.univ fun c : Dev nD => (((c : Thread nD τ).loc main_arg0) ↦{fullShare} m ((c : Thread nD τ).loc main_arg0) : sProp 𝕄))
        ∗ (bigSep Finset.univ fun c : Dev nD => (((c : Thread nD τ).loc main_v1) ↦{fullShare} m ((c : Thread nD τ).loc main_v1) : sProp 𝕄))
        ∗ (bigSep Finset.univ fun c : Dev nD => bigSep Finset.univ fun j : Fin 15 => (dutyTok EX (cell c j) 0 () : sProp 𝕄))
        ∗ (bigSep Finset.univ fun c : Dev nD => bigSep Finset.univ fun j : Fin 15 => (atPos EX (cell c j) 0 ∅ 0 : sProp 𝕄))
        ∗ bigSep Finset.univ fun c : Dev nD => (Pipeline.launchCred owed c : sProp 𝕄))
      ⊢ bigSep Finset.univ fun c : Dev nD => exStart m c := by
  rw [deal_received, bigSep_congr fun c _ => (whole_slabs c (m ((c : Thread nD τ).loc main_arg0))).trans (around c _),
    bigSep_congr fun c _ => fifteen fun j => (dutyTok EX (cell c j) 0 () : sProp 𝕄),
    bigSep_congr fun c _ => fifteen fun j => (atPos EX (cell c j) 0 ∅ 0 : sProp 𝕄)]
  unfold exStart
  simp only [bigSep_sep']
  rw [to_peers fun c r => (dutyTok EX (cell c (rIx r)) 0 () : sProp 𝕄)]
  iintro ⟨Hs, Hd, Ht, Hp, Hc⟩
  isplitl [Hs]; · iexact Hs
  isplitl [Hd]; · iexact Hd
  isplitl [Ht]; · iexact Ht
  isplitl [Hp]; · iexact Hp
  iapply (all_credits (F := F))
  iexact Hc

end Cert.Proof

end
-- ==== Proof.Run.lean ====
/-
  The program run from the launch: the exchange, the host's packing, the optimiser's call, the host's unpacking. Every
  unscoped buffer of every device ends at the program's last valuation, and every semaphore at zero.
-/
module

public import proofs.«01_k».proof.Proof.Deal

@[expose] public section

noncomputable section

namespace Cert.Proof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RegionSeg HostSeg Seg)

variable {F : FTy → Type} [FloatOps F]

local notation "𝕄" => MT nD τ sig Unit (Elt F) ℕ U2 ℕ
local notation "𝔻" => Pipeline.defs (pcfgs (F := F)) defs₀
local notation "𝕍" => Variants.lift 𝒱₀

variable (m : (ℓ : Loc nD τ sig) → Buf (Elt F) ℓ) (ρ : Dev nD → PrngReg)

/-! ### One device's buffers -/

/-- The two arrays of the exchange, -/
def pair : Finset (DevRef τ sig) := {Proc.devRef .tc main_arg0, Proc.devRef .tc main_v1}
/-- and a device's other unscoped buffers. -/
abbrev others : Finset (DevRef τ sig) := Pipeline.ucRefs τ sig \ pair

theorem pair_sub : pair ⊆ Pipeline.ucRefs τ sig := by
  intro b hb
  rcases Finset.mem_insert.mp hb with h | h
  · rw [h]; exact Finset.mem_filter.mpr ⟨StableHlo.devRef_mem_tcRefs main_arg0, by decide⟩
  · rw [Finset.mem_singleton.mp h]; exact Finset.mem_filter.mpr ⟨StableHlo.devRef_mem_tcRefs main_v1, by decide⟩

theorem held_pair (c : Dev nD) (V : Valuation τ sig (Elt F)) :
    (StableHlo.held (c : Thread nD τ) pair V : sProp 𝕄)
      = iprop((((c : Thread nD τ).loc main_arg0) ↦{fullShare} V (Proc.devRef .tc main_arg0))
          ∗ (((c : Thread nD τ).loc main_v1) ↦{fullShare} V (Proc.devRef .tc main_v1))) := by
  unfold StableHlo.held pair
  rw [bigSep_insert (by rw [Finset.mem_singleton]; exact ne_refs (by decide)), bigSep_singleton]
  rfl

/-- A device's unscoped buffers at the launch: the exchange's two arrays and the others. -/
theorem launch_bufs (c : Dev nD) :
    (unscopedBufs c (fun b => m ((c : Thread nD τ).loc b)) : sProp 𝕄)
      = iprop(((((c : Thread nD τ).loc main_arg0) ↦{fullShare} m ((c : Thread nD τ).loc main_arg0))
          ∗ (((c : Thread nD τ).loc main_v1) ↦{fullShare} m ((c : Thread nD τ).loc main_v1)))
          ∗ StableHlo.held (c : Thread nD τ) others (V0 m c)) := by
  rw [show (unscopedBufs c (fun b => m ((c : Thread nD τ).loc b)) : sProp 𝕄)
      = StableHlo.held (c : Thread nD τ) (Pipeline.ucRefs τ sig) (V0 m c) from Pipeline.unscopedBufs_held c (V0 m c),
    StableHlo.held_sub_split (c : Thread nD τ) pair_sub, held_pair]

/-- The exchange done, they are held at `V1`. -/
theorem after_exchange (c : Dev nD) :
    iprop(leave m c ∗ StableHlo.held (c : Thread nD τ) others (V0 m c))
      ⊢ (StableHlo.held (c : Thread nD τ) (Pipeline.ucRefs τ sig) (V1 m (outs m) c) : sProp 𝕄) := by
  rw [StableHlo.held_sub_split (c : Thread nD τ) pair_sub (V1 m (outs m) c), held_pair, leave_whole, V1_eq]
  unfold exchanged
  rw [Function.update_self, Function.update_of_ne (ne_refs (by decide)),
    StableHlo.held_congr (c : Thread nD τ) (S := others) (V := Function.update (V0 m c) (Proc.devRef .tc main_v1) (gathered m c)) (V' := V0 m c)
      fun b hb => Function.update_of_ne (fun h => (Finset.mem_sdiff.mp hb).2 (by rw [h]; exact Finset.mem_insert_of_mem (Finset.mem_singleton_self _))) _ _]

/-! ### One device's run -/

/-- What rides along the host's stretches. -/
abbrev ride : Fin 3 → Dev nD → sProp 𝕄 := fun _ => free

/-- The program after the exchange. -/
def rest : List (Seg (pcfgs (F := F)) adm (dats m (W8 m)) () (defs₀ (F := F)) 𝒱₀ L0 lv0) :=
  [.host (seg1 m (outs m) 𝒱₀ L0 lv0 ride), .host (seg2 m (outs m) 𝒱₀ L0 lv0 ride), .host (seg3 m (outs m) 𝒱₀ L0 lv0 ride),
    .host (seg4 m (outs m) 𝒱₀ L0 lv0 ride), .host (seg5 m (outs m) 𝒱₀ L0 lv0 ride), .host (seg6 m (outs m) 𝒱₀ L0 lv0 ride),
    .host (seg7 m (outs m) 𝒱₀ L0 lv0 ride), .region (seg8 m), .host (seg9 m (outs m) 𝒱₀ L0 lv0 ride)]

/-- What a device has at the launch, -/
def start (c : Dev nD) : sProp 𝕄 :=
  iprop(part c ∗ (∃ K, records m K) ∗ exStart m c ∗ StableHlo.held (c : Thread nD τ) others (V0 m c) ∗ owes (c : Thread nD τ) (owed c) ∅
    ∗ (bigSep Finset.univ fun p => Pipeline.cellsGhost (Pipeline.pin (pcfgs (F := F)) adm) EP p c)
    ∗ bigSep Finset.univ fun p => Pipeline.toksInit (Pipeline.pin (pcfgs (F := F)) adm) EP p c)
/-- and at the end. -/
def finish (c : Dev nD) : sProp 𝕄 :=
  iprop(StableHlo.held (c : Thread nD τ) (Pipeline.ucRefs τ sig) (V10 m (outs m) c) ∗ boundary (c : Thread nD τ))

/-- The one pipeline entered after the exchange. -/
abbrev onlyOne : Finset (Fin 2) := {1}

theorem second_ghost (c : Dev nD) :
    iprop(Pipeline.cellsGhost (Pipeline.pin (pcfgs (F := F)) adm) EP 1 c ∗ Pipeline.toksInit (Pipeline.pin (pcfgs (F := F)) adm) EP 1 c)
      ⊢ (Pipeline.ghostOn (pcfgs (F := F)) adm EP onlyOne c : sProp 𝕄) := by
  unfold Pipeline.ghostOn Pipeline.PerCore.ghostOn onlyOne
  rw [bigSep_singleton]

theorem two_pipes (Φ : Fin 2 → sProp 𝕄) : bigSep Finset.univ Φ = iprop(Φ 0 ∗ Φ 1) :=
  bigSep_univ_eq_bigSepL [0, 1] (by decide) (by decide) Φ

theorem no_levels : (BI.emp : sProp 𝕄) ⊢ levAts L0 lv0 := by
  show _ ⊢ bigSep Finset.univ fun g : GSem nD τ sig => bigSep (∅ : Finset Unit) fun ι => levAt g ι 0
  rw [bigSep_congr fun g _ => bigSep_empty, BI.bigSep_emp_const]

set_option maxRecDepth 100000 in
set_option backward.isDefEq.respectTransparency.types false in
theorem rest_run (c : Dev nD) (Q : PUnit → sProp 𝕄) :
    wp frame (wpE 𝔻 𝕍 (c : Thread nD τ) none) Set.univ (Seg.run (rest m)) Q
      ⊢ wp frame (wpE 𝔻 𝕍 (c : Thread nD τ) none) Set.univ (Pipeline.chain [
          StableHlo.seq hostOps1, StableHlo.seq hostOps1_1, StableHlo.seq hostOps1_2, StableHlo.seq hostOps1_3, StableHlo.seq hostOps1_4,
          StableHlo.seq hostOps1_5, StableHlo.seq hostOps1_6, Prog.lift (.customCall (Pipeline.entry 1) ()), StableHlo.seq hostOps2 ]) Q := by
  rewrite [Seg.run_eq_chain, show (rest m).map Seg.prog = [
          StableHlo.seq hostOps1, StableHlo.seq hostOps1_1, StableHlo.seq hostOps1_2, StableHlo.seq hostOps1_3, StableHlo.seq hostOps1_4,
          StableHlo.seq hostOps1_5, StableHlo.seq hostOps1_6, Prog.lift (.customCall (Pipeline.entry 1) ()), StableHlo.seq hostOps2 ] from rfl]
  exact .rfl

set_option backward.isDefEq.respectTransparency.types false in
theorem rest_chains : Seg.Chains (fun c => iprop(StableHlo.held (c : Thread nD τ) (Pipeline.ucRefs τ sig) (V1 m (outs m) c) ∗ free c)) (rest m)
    (fun c => iprop(StableHlo.held (c : Thread nD τ) (Pipeline.ucRefs τ sig) (V10 m (outs m) c) ∗ free c)) :=
  ⟨fun _ => .rfl, fun _ => .rfl, fun _ => .rfl, fun _ => .rfl, fun _ => .rfl, fun _ => .rfl, fun _ => .rfl,
    fun c => Entails.of_eq (by
      show iprop(StableHlo.held (c : Thread nD τ) (Pipeline.ucRefs τ sig) (V8 m (outs m) c) ∗ free c) = _
      rw [V8_eq]; rfl),
    fun c => Entails.of_eq (by
      show _ = iprop(StableHlo.held (c : Thread nD τ) (Pipeline.ucRefs τ sig) (V9 m (outs m) c) ∗ free c)
      rw [V9_eq]; rfl),
    fun _ => .rfl⟩

set_option backward.isDefEq.respectTransparency.types false in
/-- One device's run of the program. -/
theorem run_device (c : Dev nD) :
    start m c ⊢ wp frame (wpE 𝔻 𝕍 (c : Thread nD τ) none) Set.univ (main (F := F) c)
      (fun _ => iprop(finish m c ∗ ∃ W, owes (c : Thread nD τ) (0 : CellTallies nD τ sig Unit) W)) := by
  rw [main_chain c]
  unfold start
  rw [two_pipes, two_pipes]
  iintro ⟨Hp, ⟨%K, HR⟩, Hx, Hh, HO, ⟨Hg0, Hg1⟩, ⟨Ht0, Ht1⟩⟩
  iapply (run_exchange m c K ∅ _ _)
  isplitl [Hh Hg1 Ht1]
  · iintro ⟨Hb, HL, HO⟩
    iapply (rest_run m c _)
    iapply (Pipeline.wp_segs (pcfgs (F := F)) adm (dats m (W8 m)) () cellOf_inj EP (defs₀ (F := F)) 𝒱₀ L0 lv0 c (rest m) onlyOne _ _
      (by simp only [rest, Seg.pipes_host, Seg.pipes_region, Seg.pipes_nil]; decide)
      (by simp only [rest, Seg.pipes_host, Seg.pipes_region, Seg.pipes_nil]; decide) (rest_chains m))
    isplitr [Hb HL HO Hh Hg1 Ht1]
    · iintro ⟨Hb, Hh, HO⟩
      unfold finish
      isplitr [HO]
      · isplitl [Hh] <;> iassumption
      iexact HO
    isplitl [Hb]; · iexact Hb
    isplitl [HL HO Hh]
    · isplitr [HO]
      · iapply (after_exchange m c)
        isplitl [HL] <;> iassumption
      iexact HO
    isplitr
    · iapply (no_levels (F := F)); iempintro
    iapply (second_ghost (F := F) c)
    isplitl [Hg1] <;> iassumption
  isplitl [Hp]; · iexact Hp
  isplitl [HR]; · iexact HR
  isplitl [Hx]; · iexact Hx
  isplitl [HO]; · iexact HO
  isplitl [Hg0] <;> iassumption

/-! ### The launch -/

/-- What the launch deals a device, grouped. -/
theorem core_launch (c : Dev nD) :
    coreInit (Ix := Unit) (Name := ℕ) (U := U2) (Lvl := ℕ) (Pipeline.owing owed) 0 (⟨m, fun _ => 0, ρ⟩ : MemSt nD τ sig (Elt F)) (c : Thread nD τ)
      ⊢ iprop(part c ∗ Pipeline.ownSems0 osem c ∗ (((c : Thread nD τ).loc main_arg0) ↦{fullShare} m ((c : Thread nD τ).loc main_arg0))
          ∗ (((c : Thread nD τ).loc main_v1) ↦{fullShare} m ((c : Thread nD τ).loc main_v1))
          ∗ StableHlo.held (c : Thread nD τ) others (V0 m c) ∗ owes (c : Thread nD τ) (owed c) ∅ ∗ Pipeline.launchCred owed c) := by
  refine (Pipeline.coreInit_boundary_owing owed m ρ c).trans ?_
  rw [launch_bufs]
  iintro ⟨Hb, ⟨⟨Ha, Hv⟩, Hh⟩, -, HO, -, -, Hc⟩
  ihave Hb' := (boundary_part (F := F) c) $$ Hb
  icases Hb' with ⟨Hp, Hs⟩
  isplitl [Hp]; · iexact Hp
  isplitl [Hs]; · iexact Hs
  isplitl [Ha]; · iexact Ha
  isplitl [Hv]; · iexact Hv
  isplitl [Hh]; · iexact Hh
  isplitl [HO] <;> iassumption

theorem cores_launch :
    (bigSep Finset.univ fun c : Dev nD =>
        coreInit (Ix := Unit) (Name := ℕ) (U := U2) (Lvl := ℕ) (Pipeline.owing owed) 0 (⟨m, fun _ => 0, ρ⟩ : MemSt nD τ sig (Elt F)) (c : Thread nD τ))
      ⊢ iprop((bigSep Finset.univ fun c : Dev nD => part c) ∗ (bigSep Finset.univ fun c : Dev nD => Pipeline.ownSems0 osem c)
          ∗ (bigSep Finset.univ fun c : Dev nD => ((c : Thread nD τ).loc main_arg0) ↦{fullShare} m ((c : Thread nD τ).loc main_arg0))
          ∗ (bigSep Finset.univ fun c : Dev nD => ((c : Thread nD τ).loc main_v1) ↦{fullShare} m ((c : Thread nD τ).loc main_v1))
          ∗ (bigSep Finset.univ fun c : Dev nD => StableHlo.held (c : Thread nD τ) others (V0 m c))
          ∗ (bigSep Finset.univ fun c : Dev nD => owes (c : Thread nD τ) (owed c) ∅)
          ∗ bigSep Finset.univ fun c : Dev nD => (Pipeline.launchCred owed c : sProp 𝕄)) := by
  simp only [← bigSep_sep']
  exact bigSep_mono fun c _ => core_launch m ρ c

theorem records_exist (K : Dev nD × Fin 15 → ℕ) : records m K ⊢ (iprop(∃ K, records m K) : sProp 𝕄) := by
  iintro H; iexists K; iexact H

theorem duty_deal :
    (bigSep (Pipeline.ownToksOf cfgs (0 : Fin 2) ownFacts duty) fun x => (dutyTok EX x.1 x.2.1 x.2.2 : sProp 𝕄))
      ⊢ bigSep Finset.univ fun c : Dev nD => bigSep Finset.univ fun j : Fin 15 => dutyTok EX (cell c j) 0 () := by
  rw [Pipeline.bigSep_ownToksOf]
  exact Entails.of_eq (bigSep_congr fun c _ => duty_toks (F := F) c)

/-- All devices' shares of the launch, dealt. -/
theorem launch :
    iprop((bigSep Finset.univ fun c : Dev nD =>
        coreInit (Ix := Unit) (Name := ℕ) (U := U2) (Lvl := ℕ) (Pipeline.owing owed) 0 (⟨m, fun _ => 0, ρ⟩ : MemSt nD τ sig (Elt F)) (c : Thread nD τ)) ∗ ownU u₀)
      ⊢ |={Set.univ}=> (bigSep Finset.univ fun c : Dev nD => start m c : sProp 𝕄) := by
  iintro ⟨H, HU⟩
  ihave H' := (cores_launch m ρ) $$ H
  icases H' with ⟨Hp, Hs, Ha, Hv, Hh, HO, Hc⟩
  ihave HU' := (show (ownU u₀ : sProp 𝕄) ⊢ _ from halves (F := F) _ _) $$ HU
  icases HU' with ⟨Hu, Hx⟩
  imod (Pipeline.fund_ghost (Pipeline.pin (pcfgs (F := F)) adm) EP cellOf_inj) $$ Hu with ⟨Hg, Ht⟩
  imod (Pipeline.fund_own cfgs (0 : Fin 2) ownFacts EX (sched m) (Pipeline.ownToksOf cfgs (0 : Fin 2) ownFacts duty)) $$ Hx with ⟨Hog, Hot⟩
  imod (open_all m) $$ [Hs Hog] with ⟨HK, Hpos⟩
  · rw [bigSep_sep']; isplitl [Hs] <;> iassumption
  ihave Hot' := (duty_deal (F := F)) $$ Hot
  ihave Hx := (deal m) $$ [Ha Hv Hot' Hpos Hc]
  · isplitl [Ha]; · iexact Ha
    isplitl [Hv]; · iexact Hv
    isplitl [Hot']; · iexact Hot'
    isplitl [Hpos] <;> iassumption
  icases HK with ⟨%K, #HK⟩
  imodintro
  unfold start
  simp only [bigSep_sep']
  isplitl [Hp]; · iexact Hp
  isplitr
  · iapply (BI.bigSep_intro_persistent (S := Finset.univ) fun (c : Dev nD) _ => (records_exist m K))
    iexact HK
  isplitl [Hx]; · iexact Hx
  isplitl [Hh]; · iexact Hh
  isplitl [HO]; · iexact HO
  isplitl [Hg] <;> iassumption

set_option maxRecDepth 100000 in
set_option backward.isDefEq.respectTransparency.types false in
/-- Every unscoped buffer of every device at the end, and every semaphore counter at zero. -/
theorem run_lifted :
    θ_run 𝔻 (onTc (τ := τ) (main (F := F))) ⟨m, fun _ => 0, ρ⟩ (fun r =>
      (∀ (c : Dev nD), ∀ b ∈ Pipeline.ucRefs τ sig, r.2.mem (((c : Thread nD τ).1, b) : Loc nD τ sig) = V10 m (outs m) c b)
      ∧ r.2.sem = fun _ => 0) := by
  refine (θ_run 𝔻 _ _).mono (Q := fun r =>
      (∀ c : Dev nD, (∀ b ∈ Pipeline.ucRefs τ sig, r.2.mem (((c : Thread nD τ).1, b) : Loc nD τ sig) = V10 m (outs m) c b)
        ∧ ∀ sm : SemLoc sig, sm.isScoped .tc = true → r.2.sem ((c : Thread nD τ), sm) = 0)
      ∧ ∀ g : GSem nD τ sig, g.1.2 ≠ .tc → r.2.sem g = 0)
    (fun r hr => ⟨fun c => (hr.1 c).1, funext fun g => sems_of_reads (fun c => (hr.1 c).2) hr.2 g (.inr (regions_no_unscoped g.2))⟩)
    (adequate_tpu 𝔻 _ _ _
      (reflect_intro_fupd_tc_sems (X := Unit) 𝕍 (Pipeline.owing owed) 0 (noBookings fun _ => le_rfl) (Pipeline.owing_of_ne owed) u₀
        (fun _ => start m) (fun _ => finish m) (fun _ => iprop(emp)) Set.univ ?_ (fun _ c => ?_) fun _ => ?_))
  · refine (launch m ρ).trans (BI.fupd_mono ?_)
    iintro H
    iexists ()
    isplitl [H]; · iexact H
    iempintro
  · unfold post
    simp only [liftTc_tc]
    exact run_device m c
  · have hcore (c : Dev nD) (s' : Phys nD τ sig (Elt F)) : iprop(finish m c ∗ SI s') ⊢ |={Set.univ}=>
        iprop(⌜(∀ b ∈ Pipeline.ucRefs τ sig, s'.mem.mem (((c : Thread nD τ).1, b) : Loc nD τ sig) = V10 m (outs m) c b)
          ∧ ∀ sm : SemLoc sig, sm.isScoped .tc = true → s'.mem.sem ((c : Thread nD τ), sm) = 0⌝ ∗ SI s') :=
      Pipeline.boundary_read c s' ((pointsTo_read_all (Pipeline.ucRefs τ sig) (fun b => ((c : Thread nD τ).1, b)) (V10 m (outs m) c) s').trans
        (by iintro H; imodintro; iexact H))
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

theorem run_main :
    θ_run defs (onTc (τ := τ) (main (F := F))) ⟨m, fun _ => 0, ρ⟩ (fun r =>
      (∀ (c : Dev nD), ∀ b ∈ Pipeline.ucRefs τ sig, r.2.mem (((c : Thread nD τ).1, b) : Loc nD τ sig) = V10 m (outs m) c b)
      ∧ r.2.sem = fun _ => 0) := run_lifted m ρ

end Cert.Proof

end
-- ==== Proof.Frames.lean ====
/-
  The three frames: the exchange and the update end with their arguments unchanged and every counter at zero, read off
  the one run of Proof/Run.lean at the ideal values and at the words; the reference is a line of host operations.
-/
module

public import proofs.«01_k».proof.Defs
public import proofs.«01_k».proof.Proof.Run
public import proofs.«01_k».proof.Proof.Gen.Kernel.Regions
public import proofs.«01_k».proof.Proof.Gen.ReferenceIdeal
public import proofs.«01_k».proof.Proof.Gen.ReferenceIdeal.Run

@[expose] public section

noncomputable section

namespace Cert.Proof

open Cert.KernelIdeal Cert.KernelIdeal.Gen
open Idealize.ShloMosaic Idealize.ShloMosaic.TcCoe Idealize.SL.Sem

variable {F : FTy → Type} [FloatOps F]

/-- The arguments are unchanged and the counters are back at zero. -/
theorem args_kept (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => ⟨
      (h.1 c _ (Finset.mem_filter.mpr ⟨StableHlo.devRef_mem_tcRefs main_arg0, by decide⟩)).trans (V10_main_arg0 m (outs m) c),
      (h.1 c _ (Finset.mem_filter.mpr ⟨StableHlo.devRef_mem_tcRefs main_arg1, by decide⟩)).trans (V10_main_arg1 m (outs m) c),
      (h.1 c _ (Finset.mem_filter.mpr ⟨StableHlo.devRef_mem_tcRefs main_arg2, by decide⟩)).trans (V10_main_arg2 m (outs m) c),
      (h.1 c _ (Finset.mem_filter.mpr ⟨StableHlo.devRef_mem_tcRefs main_arg3, by decide⟩)).trans (V10_main_arg3 m (outs m) c),
      (h.1 c _ (Finset.mem_filter.mpr ⟨StableHlo.devRef_mem_tcRefs main_arg4, by decide⟩)).trans (V10_main_arg4 m (outs m) c),
      (h.1 c _ (Finset.mem_filter.mpr ⟨StableHlo.devRef_mem_tcRefs main_arg5, by decide⟩)).trans (V10_main_arg5 m (outs m) c),
      (h.1 c _ (Finset.mem_filter.mpr ⟨StableHlo.devRef_mem_tcRefs main_arg6, by decide⟩)).trans (V10_main_arg6 m (outs m) c),
      (h.1 c _ (Finset.mem_filter.mpr ⟨StableHlo.devRef_mem_tcRefs main_arg7, by decide⟩)).trans (V10_main_arg7 m (outs m) c),
      (h.1 c _ (Finset.mem_filter.mpr ⟨StableHlo.devRef_mem_tcRefs main_arg8, by decide⟩)).trans (V10_main_arg8 m (outs m) c),
      (h.1 c _ (Finset.mem_filter.mpr ⟨StableHlo.devRef_mem_tcRefs main_arg9, by decide⟩)).trans (V10_main_arg9 m (outs m) c),
      (h.1 c _ (Finset.mem_filter.mpr ⟨StableHlo.devRef_mem_tcRefs main_arg10, by decide⟩)).trans (V10_main_arg10 m (outs m) c),
      (h.1 c _ (Finset.mem_filter.mpr ⟨StableHlo.devRef_mem_tcRefs main_arg11, by decide⟩)).trans (V10_main_arg11 m (outs m) c),
      (h.1 c _ (Finset.mem_filter.mpr ⟨StableHlo.devRef_mem_tcRefs main_arg12, by decide⟩)).trans (V10_main_arg12 m (outs m) c)⟩, h.2⟩) (run_main m ρ)

/-- The frame at the ideal values, -/
theorem frame_kernelIdeal : Cert.quiescent_KernelIdeal (hKernelIdeal := Cert.KernelIdeal.Gen.facts) :=
  fun m ρ _ => args_kept (F := Ideal) m ρ

section Transfer

attribute [local instance] Cert.Kernel.Gen.facts Cert.KernelIdeal.Gen.facts

set_option maxHeartbeats 4000000
set_option backward.isDefEq.respectTransparency.types false

/-- The two printed programs are one text: their kernels, -/
theorem defs0_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => exact rfl
  | 1, (t, s) => exact rfl

/-- their calls, -/
theorem defs_eq : Cert.Kernel.defs (F := Bits) = Cert.KernelIdeal.defs (F := Bits) :=
  congrArg (Pipeline.defs (Cert.KernelIdeal.pcfgs (F := Bits))) defs0_eq

/-- and their main functions. -/
theorem main_eq : Cert.Kernel.main (F := Bits) = Cert.KernelIdeal.main (F := Bits) := funext fun _ => rfl

/-- What one of two equal programs ends with, the other does. -/
theorem run_of_eq {d d' : Defs nD τ sig (Elt Bits) (Pipeline.Sig Λ₀ (Fin 2) fun p => (pcfgs (F := Bits) p).Adm)}
    {p p' : Dev nD → Prog (TpuEff nD τ sig (Elt Bits) (Pipeline.Sig Λ₀ (Fin 2) fun p => (pcfgs (F := Bits) p).Adm) .tc) PUnit}
    (hd : d = d') (hp : p = p') (s) (Q) (h : θ_run d' (onTc (τ := τ) p') s Q) : θ_run d (onTc (τ := τ) p) s Q := by
  subst hd hp; exact h

/-- At the words, -/
theorem frame_kernel : Cert.quiescent_Kernel (hKernel := Cert.Kernel.Gen.facts) :=
  fun m ρ _ => run_of_eq defs_eq main_eq _ _ (args_kept (F := Bits) m ρ)

end Transfer

/-- and the reference's. -/
theorem frame_referenceIdeal : Cert.quiescent_ReferenceIdeal (hReferenceIdeal := Cert.ReferenceIdeal.Gen.facts) :=
  fun m ρ _ => (θ_run Cert.ReferenceIdeal.defs _ _).mono
    (fun r h => ⟨fun c => by
        have hc := h c
        exact hc.2.2.2.2.2.2.2.2.2.2.2.2.2.2.2.2, sem_eq_zero_of_no_sems (by decide) r.2⟩)
    (Cert.ReferenceIdeal.Value.run (F := Ideal) m ρ)

end Cert.Proof

end
-- ==== Proof.Value.lean ====
/-
  What the optimiser's call leaves in its four result arrays, element by element, from the received slabs and the three
  packed arrays.
-/
module

public import proofs.«01_k».proof.Proof.Seg1
public import Idealize.ShloMosaic.Lib.Pipeline.ValueKit
public import Idealize.ShloMosaic.Lib.Pointwise

@[expose] public section

noncomputable section

namespace Cert.Proof

open Cert.KernelIdeal Cert.KernelIdeal.Gen
open Idealize.ShloMosaic Idealize.ShloMosaic.TcCoe Idealize.ShloMosaic.Tactic
open Idealize.ShloMosaic.Pipeline (Dat Cfg Window)

/-- The received slabs, -/
abbrev SlabArr : Type := Vec Ideal S8x920x1024 .f32
/-- and a packed array. -/
abbrev RowArr : Type := Vec Ideal S920x1024 .f32

/-- A constant of the program. -/
abbrev word (b : BitVec 32) : Ideal .f32 := Scalar.ofBits .f32 b

/-- The sum over the slabs, -/
def slabSum (p : SlabArr) : RowArr := fun i =>
  p (ix3 0 (i 0) (i 1)) + p (ix3 1 (i 0) (i 1)) + p (ix3 2 (i 0) (i 1)) + p (ix3 3 (i 0) (i 1))
    + p (ix3 4 (i 0) (i 1)) + p (ix3 5 (i 0) (i 1)) + p (ix3 6 (i 0) (i 1)) + p (ix3 7 (i 0) (i 1))

theorem stored_eq (p : Vec Ideal S184x1024 .f32) : stored p = p := by
  funext y
  have h : y = allRows.emb y := by
    funext a; apply Fin.ext; rw [Rect.emb_apply]; fin_cases a <;> simp [allRows, Rect.unit]
  conv_lhs => rw [h]
  unfold stored
  rw [View.canon_cons_emb]

set_option maxRecDepth 16384 in
theorem sumRows_apply (p : Slabs Ideal) (i : S184x1024.Idx) : sumRows p i =
    p (ix3 0 (i 0) (i 1)) + p (ix3 1 (i 0) (i 1)) + p (ix3 2 (i 0) (i 1)) + p (ix3 3 (i 0) (i 1))
    + p (ix3 4 (i 0) (i 1)) + p (ix3 5 (i 0) (i 1)) + p (ix3 6 (i 0) (i 1)) + p (ix3 7 (i 0) (i 1)) := by
  idx_vars i
  pointwise [sumRows, k1_pay3]

/-- the new first moment, -/
def newMom (p : SlabArr) (mm : RowArr) : RowArr := fun i => word 0x3F666666#32 * mm i + word 0x3DCCCCCD#32 * slabSum p i
/-- the new second moment, -/
def newVar (p : SlabArr) (v : RowArr) : RowArr := fun i =>
  word 0x3F7FBE77#32 * v i + word 0x3A83126F#32 * (slabSum p i * slabSum p i)
/-- and the step. -/
def newStep (p : SlabArr) (w mm v : RowArr) : RowArr := fun i =>
  word 0xBA83126F#32 * (Ideal.div (Ideal.div (newMom p mm i) (word 0x3F26BD02#32))
    (Ideal.sqrt (Ideal.div (newVar p v i) (word 0x3C231ACC#32)) + word 0x322BCC77#32) + word 0x3C23D70A#32 * w i)

set_option maxRecDepth 16384 in
theorem momRows_apply (p : Slabs Ideal) (mm : Rows Ideal) (i : S184x1024.Idx) :
    momRows p mm i = word 0x3F666666#32 * mm i + word 0x3DCCCCCD#32 * sumRows p i := by
  idx_vars i
  pointwise [momRows, sumRows, k1_pay4]

set_option maxRecDepth 16384 in
theorem varRows_apply (p : Slabs Ideal) (v : Rows Ideal) (i : S184x1024.Idx) :
    varRows p v i = word 0x3F7FBE77#32 * v i + word 0x3A83126F#32 * (sumRows p i * sumRows p i) := by
  idx_vars i
  pointwise [varRows, k1_pay1]

set_option maxRecDepth 16384 in
theorem stepRows_apply (p : Slabs Ideal) (w mm v : Rows Ideal) (i : S184x1024.Idx) :
    stepRows p w mm v i = word 0xBA83126F#32 * (Ideal.div (Ideal.div (momRows p mm i) (word 0x3F26BD02#32))
      (Ideal.sqrt (Ideal.div (varRows p v i) (word 0x3C231ACC#32)) + word 0x322BCC77#32) + word 0x3C23D70A#32 * w i) := by
  idx_vars i
  pointwise [stepRows, varRows, k1_pay2]

variable (Wr : Dev nD → Valuation τ sig (Elt Ideal))

/-- Row `y` of block `t`, in the arrays. -/
theorem slab_at (t : Fin cfg1.N) (s : Fin 8) (y : S184x1024.Idx) :
    (win1_0.blk t).view.emb (ix3 s (y 0) (y 1)) = ix3 s ((win1_4.blk t).view.emb y 0) ((win1_4.blk t).view.emb y 1) := by
  funext a; apply Fin.ext; fin_cases a
  · blk_simp [Pipeline.Window.cell_apply]
    show win1_0.index t 0 * 8 + s.val = s.val
    rw [show win1_0.index t 0 = 0 from rfl]; omega
  · blk_simp [Pipeline.Window.cell_apply]
    show win1_0.index t 1 * 184 + (y 0).val = ((win1_4.blk t).view.emb y 0).val
    blk_simp [Pipeline.Window.cell_apply]
    rfl
  · blk_simp [Pipeline.Window.cell_apply]
    show win1_0.index t 2 * 1024 + (y 1).val = ((win1_4.blk t).view.emb y 1).val
    blk_simp [Pipeline.Window.cell_apply]
    rfl
theorem row1_at (t : Fin cfg1.N) (y : S184x1024.Idx) : (win1_1.blk t).view.emb y = (win1_4.blk t).view.emb y := rfl
theorem row2_at (t : Fin cfg1.N) (y : S184x1024.Idx) : (win1_2.blk t).view.emb y = (win1_4.blk t).view.emb y := rfl
theorem row3_at (t : Fin cfg1.N) (y : S184x1024.Idx) : (win1_3.blk t).view.emb y = (win1_4.blk t).view.emb y := rfl
theorem row5_at (t : Fin cfg1.N) (y : S184x1024.Idx) : (win1_5.blk t).view.emb y = (win1_4.blk t).view.emb y := rfl
theorem row6_at (t : Fin cfg1.N) (y : S184x1024.Idx) : (win1_6.blk t).view.emb y = (win1_4.blk t).view.emb y := rfl
theorem row7_at (t : Fin cfg1.N) (y : S184x1024.Idx) : (win1_7.blk t).view.emb y = (win1_4.blk t).view.emb y := rfl

theorem rows_sum (c : Dev nD) (t : Fin cfg1.N) (y : S184x1024.Idx) :
    sumRows (pB Wr c t) y = slabSum (Wr c (Proc.devRef .tc main_v1)) ((win1_4.blk t).view.emb y) := by
  have h (s : Fin 8) : pB Wr c t (ix3 s (y 0) (y 1)) = Wr c (Proc.devRef .tc main_v1)
      (ix3 s ((win1_4.blk t).view.emb y 0) ((win1_4.blk t).view.emb y 1)) :=
    congrArg (Wr c (Proc.devRef .tc main_v1)) (slab_at t s y)
  rw [sumRows_apply, h 0, h 1, h 2, h 3, h 4, h 5, h 6, h 7]
  rfl

theorem rows_mom (c : Dev nD) (t : Fin cfg1.N) (y : S184x1024.Idx) :
    momRows (pB Wr c t) (mB Wr c t) y
      = newMom (Wr c (Proc.devRef .tc main_v1)) (Wr c (Proc.devRef .tc main_v21)) ((win1_4.blk t).view.emb y) := by
  rw [momRows_apply, rows_sum]; rfl

theorem rows_var (c : Dev nD) (t : Fin cfg1.N) (y : S184x1024.Idx) :
    varRows (pB Wr c t) (vB Wr c t) y
      = newVar (Wr c (Proc.devRef .tc main_v1)) (Wr c (Proc.devRef .tc main_v31)) ((win1_4.blk t).view.emb y) := by
  rw [varRows_apply, rows_sum]; rfl

theorem rows_step (c : Dev nD) (t : Fin cfg1.N) (y : S184x1024.Idx) :
    stepRows (pB Wr c t) (wB Wr c t) (mB Wr c t) (vB Wr c t) y
      = newStep (Wr c (Proc.devRef .tc main_v1)) (Wr c (Proc.devRef .tc main_v11)) (Wr c (Proc.devRef .tc main_v21))
          (Wr c (Proc.devRef .tc main_v31)) ((win1_4.blk t).view.emb y) := by
  rw [stepRows_apply, rows_mom, rows_var]; rfl

theorem arr_sum (c : Dev nD) : (dat1 Wr c).arrAt 4 cfg1.N = slabSum (Wr c (Proc.devRef .tc main_v1)) := by
  refine (dat1 Wr c).arrAt_eq_of_covers 4 _ (by decide +kernel) fun t hf y => ?_
  blk_simp
  rw [after_sum, stored_eq]
  exact rows_sum Wr c t y

theorem arr_step (c : Dev nD) : (dat1 Wr c).arrAt 5 cfg1.N = newStep (Wr c (Proc.devRef .tc main_v1))
    (Wr c (Proc.devRef .tc main_v11)) (Wr c (Proc.devRef .tc main_v21)) (Wr c (Proc.devRef .tc main_v31)) := by
  refine (dat1 Wr c).arrAt_eq_of_covers 5 _ (by decide +kernel) fun t hf y => ?_
  blk_simp
  rw [after_step, stored_eq]
  exact rows_step Wr c t y

theorem arr_mom (c : Dev nD) : (dat1 Wr c).arrAt 6 cfg1.N = newMom (Wr c (Proc.devRef .tc main_v1))
    (Wr c (Proc.devRef .tc main_v21)) := by
  refine (dat1 Wr c).arrAt_eq_of_covers 6 _ (by decide +kernel) fun t hf y => ?_
  blk_simp
  rw [after_mom, stored_eq]
  exact rows_mom Wr c t y

theorem arr_var (c : Dev nD) : (dat1 Wr c).arrAt 7 cfg1.N = newVar (Wr c (Proc.devRef .tc main_v1))
    (Wr c (Proc.devRef .tc main_v31)) := by
  refine (dat1 Wr c).arrAt_eq_of_covers 7 _ (by decide +kernel) fun t hf y => ?_
  blk_simp
  rw [after_var, stored_eq]
  exact rows_var Wr c t y

end Cert.Proof

end
-- ==== Proof.Pack.lean ====
/-
  The host's packing of four arrays into one of 920 rows, and its unpacking of a row array into four, element by element.
-/
module

public import proofs.«01_k».proof.Proof.Value

@[expose] public section

noncomputable section

namespace Cert.Proof

open Cert.KernelIdeal Cert.KernelIdeal.Gen
open Idealize.ShloMosaic Idealize.ShloMosaic.TcCoe Idealize.ShloMosaic.Tactic

/-- The four parameters' shapes. -/
abbrev PIn : Type := Vec Ideal S2x1024x320 .f32
abbrev POut : Type := Vec Ideal S2x128x1024 .f32
abbrev PPw : Type := Vec Ideal S2x32x256 .f32
abbrev PDw : Type := Vec Ideal S2x31x32 .f32

/-- Unpacking: the first projection, -/
def unIn (x : RowArr) : PIn := transpose S2x1024x320 [0, 2, 1]
  (shapeCast S2x320x1024 (extractStridedSlice S640x1024 ![0, 0] x slices_S920x1024_S640x1024_0_0) shapeCasts_S640x1024_S2x320x1024)
  transposes_S2x320x1024_S2x1024x320_0_2_1
/-- the second, -/
def unOut (x : RowArr) : POut :=
  shapeCast S2x128x1024 (extractStridedSlice S256x1024 ![640, 0] x slices_S920x1024_S256x1024_640_0) shapeCasts_S256x1024_S2x128x1024
/-- the pointwise convolution -/
def unPw (x : RowArr) : PPw :=
  shapeCast S2x32x256 (extractStridedSlice S16x1024 ![896, 0] x slices_S920x1024_S16x1024_896_0) shapeCasts_S16x1024_S2x32x256
/-- and the depthwise one. -/
def unDw (x : RowArr) : PDw := extractStridedSlice S2x31x32 ![0, 0, 0] (transpose S2x32x32 [0, 2, 1]
  (shapeCast S2x32x32 (extractStridedSlice S2x1024 ![912, 0] x slices_S920x1024_S2x1024_912_0) shapeCasts_S2x1024_S2x32x32)
  transposes_S2x32x32_S2x32x32_0_2_1) slices_S2x32x32_S2x31x32_0_0_0

set_option maxRecDepth 16384
theorem unIn_apply (x : RowArr) (l : Fin 2) (k : Fin 1024) (n : Fin 320) :
    unIn x (ix3 l k n) = x (ix2 ⟨l.val * 320 + n.val, by omega⟩ k) := by
  pointwise [unIn]
theorem unOut_apply (x : RowArr) (l : Fin 2) (k : Fin 128) (n : Fin 1024) :
    unOut x (ix3 l k n) = x (ix2 ⟨640 + (l.val * 128 + k.val), by omega⟩ n) := by
  pointwise [unOut]
theorem unPw_apply (x : RowArr) (l : Fin 2) (k : Fin 32) (n : Fin 256) :
    unPw x (ix3 l k n) = x (ix2 ⟨896 + (l.val * 8 + k.val / 4), by omega⟩ ⟨k.val % 4 * 256 + n.val, by omega⟩) := by
  pointwise [unPw]
theorem unDw_apply (x : RowArr) (l : Fin 2) (k : Fin 31) (n : Fin 32) :
    unDw x (ix3 l k n) = x (ix2 ⟨912 + l.val, by omega⟩ ⟨n.val * 32 + k.val, by omega⟩) := by
  pointwise [unDw]

/-- The padding's value, and the filling rows. -/
abbrev padWord : FVec Ideal S_ .f32 := sitofp .f32 (constantI S_ 32 0#32)
abbrev fillRows : FVec Ideal S6x1024 .f32 :=
  broadcastInDim S6x1024 ![] bcast_S_S6x1024 (constant S_ .f32 0x00000000#32 : FVec Ideal S_ .f32)

/-- Four blocks of rows one under the other, -/
def fourRows (x : FVec Ideal S640x1024 .f32) (y : FVec Ideal S256x1024 .f32) (z : FVec Ideal S16x1024 .f32) (u : FVec Ideal S2x1024 .f32) :
    FVec Ideal S914x1024 .f32 :=
  concatenate S914x1024 0 [⟨S640x1024, x⟩, ⟨S256x1024, y⟩, ⟨S16x1024, z⟩, ⟨S2x1024, u⟩]
    concatenates_S640x1024_S256x1024_S16x1024_S2x1024_S914x1024_d0
/-- and six more. -/
def allRowsOf (x : FVec Ideal S914x1024 .f32) (y : FVec Ideal S6x1024 .f32) : RowArr :=
  concatenate S920x1024 0 [⟨S914x1024, x⟩, ⟨S6x1024, y⟩] concatenates_S914x1024_S6x1024_S920x1024_d0

/-- Packing: the four arrays' rows one under the other, six filling rows at the end. -/
def packed (a : PIn) (b : POut) (p : PPw) (d : PDw) : RowArr :=
  allRowsOf (fourRows
    (shapeCast S640x1024 (transpose S2x320x1024 [0, 2, 1] a transposes_S2x1024x320_S2x320x1024_0_2_1) shapeCasts_S2x320x1024_S640x1024)
    (shapeCast S256x1024 b shapeCasts_S2x128x1024_S256x1024)
    (shapeCast S16x1024 p shapeCasts_S2x32x256_S16x1024)
    (shapeCast S2x1024 (pad S2x32x32 ![0, 0, 0] ![0, 0, 1] ![0, 0, 0]
       (transpose S2x32x31 [0, 2, 1] d transposes_S2x31x32_S2x32x31_0_2_1) padWord pads_S2x32x31_S2x32x32_000_000_010 h_S_) shapeCasts_S2x32x32_S2x1024))
    fillRows

theorem packed_in (a : PIn) (b : POut) (p : PPw) (d : PDw) (l : Fin 2) (k : Fin 1024) (n : Fin 320) :
    packed a b p d (ix2 ⟨l.val * 320 + n.val, by omega⟩ k) = a (ix3 l k n) := by
  pointwise [packed, allRowsOf, fourRows]
  rw [dif_pos (by omega), dif_pos (by omega)]
theorem packed_out (a : PIn) (b : POut) (p : PPw) (d : PDw) (l : Fin 2) (k : Fin 128) (n : Fin 1024) :
    packed a b p d (ix2 ⟨640 + (l.val * 128 + k.val), by omega⟩ n) = b (ix3 l k n) := by
  have h1 : 640 + (l.val * 128 + k.val) < 914 := by omega
  have h2 : ¬ 640 + (l.val * 128 + k.val) < 640 := by omega
  pointwise [packed, allRowsOf, fourRows]
  simp only [h1, h2, ↓reduceDIte]
  rw [dif_pos (by omega)]
theorem packed_pw (a : PIn) (b : POut) (p : PPw) (d : PDw) (l : Fin 2) (k : Fin 32) (n : Fin 256) :
    packed a b p d (ix2 ⟨896 + (l.val * 8 + k.val / 4), by omega⟩ ⟨k.val % 4 * 256 + n.val, by omega⟩) = p (ix3 l k n) := by
  have h1 : 896 + (l.val * 8 + k.val / 4) < 914 := by omega
  have h2 : ¬ 896 + (l.val * 8 + k.val / 4) < 640 := by omega
  pointwise [packed, allRowsOf, fourRows]
  simp only [h1, h2, ↓reduceDIte]
  rw [dif_neg (by omega), dif_pos (by omega)]
  exact congrArg (fun i => p (ix3 i k n)) (Fin.ext (by show (896 + (l.val * 8 + k.val / 4) - 640 - 256) / 8 = l.val; omega))
theorem packed_dw (a : PIn) (b : POut) (p : PPw) (d : PDw) (l : Fin 2) (k : Fin 31) (n : Fin 32) :
    packed a b p d (ix2 ⟨912 + l.val, by omega⟩ ⟨n.val * 32 + k.val, by omega⟩) = d (ix3 l k n) := by
  have h1 : 912 + l.val < 914 := by omega
  have h2 : ¬ 912 + l.val < 640 := by omega
  pointwise [packed, allRowsOf, fourRows]
  simp only [h1, h2, ↓reduceDIte]
  rw [dif_neg (by omega), dif_neg (by omega), dif_pos (by omega)]
  exact congrArg₂ (fun i j => d (ix3 i j n)) (Fin.ext (by show 912 + l.val - 640 - 256 - 16 = l.val; omega))
    (Fin.ext (by show (n.val * 32 + k.val) % 32 = k.val; omega))

end Cert.Proof

end
-- ==== Proof.Reads.lean ====
/-
  What the program's buffers hold at its end, at the ideal values: each result is the unpacking of one of the optimiser's
  four arrays, and these are computed from the received slabs and the packing of the arguments.
-/
module

public import proofs.«01_k».proof.Proof.Pack
public import Idealize.ShloMosaic.Lib.StableHlo.RunRead

@[expose] public section

noncomputable section

namespace Cert.Proof

open Cert.KernelIdeal Cert.KernelIdeal.Gen
open Idealize.ShloMosaic Idealize.ShloMosaic.TcCoe Idealize.ShloMosaic.Tactic Idealize.ShloMosaic.StableHlo

set_option maxRecDepth 16384

/-- The taps padded from 31 to 32. -/
def padTaps (x : FVec Ideal S2x32x31 .f32) (z : IVec S_ 32) : FVec Ideal S2x32x32 .f32 :=
  pad S2x32x32 ![0, 0, 0] ![0, 0, 1] ![0, 0, 0] x (sitofp .f32 z : FVec Ideal S_ .f32) pads_S2x32x31_S2x32x32_000_000_010 h_S_

/-! ### The host's lines, from any buffers -/

section After
variable (X : Valuation τ sig (Elt Ideal))

theorem read_v35 : after hostOps2 X (Proc.devRef .tc main_v35) = unIn (X (Proc.devRef .tc main_v32_0)) := by
  after_reads_simp <;> rfl
theorem read_v37 : after hostOps2 X (Proc.devRef .tc main_v37) = unOut (X (Proc.devRef .tc main_v32_0)) := by
  after_reads_simp <;> rfl
theorem read_v39 : after hostOps2 X (Proc.devRef .tc main_v39) = unPw (X (Proc.devRef .tc main_v32_0)) := by
  after_reads_simp <;> rfl
theorem read_v43 : after hostOps2 X (Proc.devRef .tc main_v43) = unDw (X (Proc.devRef .tc main_v32_0)) := by
  after_reads_simp <;> rfl

theorem read_v11 : after hostOps1_2 X (Proc.devRef .tc main_v11) = allRowsOf (fourRows
    (shapeCast S640x1024 (transpose S2x320x1024 [0, 2, 1] (X (Proc.devRef .tc main_arg1) : PIn) transposes_S2x1024x320_S2x320x1024_0_2_1) shapeCasts_S2x320x1024_S640x1024)
    (shapeCast S256x1024 (X (Proc.devRef .tc main_arg2) : POut) shapeCasts_S2x128x1024_S256x1024)
    (shapeCast S16x1024 (X (Proc.devRef .tc main_arg3) : PPw) shapeCasts_S2x32x256_S16x1024)
    (shapeCast S2x1024 (X (Proc.devRef .tc main_v3) : FVec Ideal S2x32x32 .f32) shapeCasts_S2x32x32_S2x1024)) fillRows := by
  after_reads_simp
  change allRowsOf _ _ = _
  after_reads_simp
  rfl
theorem read_v21 : after hostOps1_4 X (Proc.devRef .tc main_v21) = allRowsOf (fourRows
    (shapeCast S640x1024 (transpose S2x320x1024 [0, 2, 1] (X (Proc.devRef .tc main_arg5) : PIn) transposes_S2x1024x320_S2x320x1024_0_2_1) shapeCasts_S2x320x1024_S640x1024)
    (shapeCast S256x1024 (X (Proc.devRef .tc main_arg6) : POut) shapeCasts_S2x128x1024_S256x1024)
    (shapeCast S16x1024 (X (Proc.devRef .tc main_arg7) : PPw) shapeCasts_S2x32x256_S16x1024)
    (shapeCast S2x1024 (X (Proc.devRef .tc main_v13) : FVec Ideal S2x32x32 .f32) shapeCasts_S2x32x32_S2x1024)) fillRows := by
  after_reads_simp
  change allRowsOf _ _ = _
  after_reads_simp
  rfl
theorem read_v31 : after hostOps1_6 X (Proc.devRef .tc main_v31) = allRowsOf (fourRows
    (shapeCast S640x1024 (transpose S2x320x1024 [0, 2, 1] (X (Proc.devRef .tc main_arg9) : PIn) transposes_S2x1024x320_S2x320x1024_0_2_1) shapeCasts_S2x320x1024_S640x1024)
    (shapeCast S256x1024 (X (Proc.devRef .tc main_arg10) : POut) shapeCasts_S2x128x1024_S256x1024)
    (shapeCast S16x1024 (X (Proc.devRef .tc main_arg11) : PPw) shapeCasts_S2x32x256_S16x1024)
    (shapeCast S2x1024 (X (Proc.devRef .tc main_v23) : FVec Ideal S2x32x32 .f32) shapeCasts_S2x32x32_S2x1024)) fillRows := by
  after_reads_simp
  change allRowsOf _ _ = _
  after_reads_simp
  rfl
theorem read_v3 : after hostOps1_1 X (Proc.devRef .tc main_v3) = padTaps
    (X (Proc.devRef .tc main_v2)) (X (Proc.devRef .tc main_c)) := by
  after_reads_simp <;> rfl
theorem read_v13 : after hostOps1_3 X (Proc.devRef .tc main_v13) = padTaps
    (X (Proc.devRef .tc main_v12)) (X (Proc.devRef .tc main_c_0)) := by
  after_reads_simp <;> rfl
theorem read_v23 : after hostOps1_5 X (Proc.devRef .tc main_v23) = padTaps
    (X (Proc.devRef .tc main_v22)) (X (Proc.devRef .tc main_c_2)) := by
  after_reads_simp <;> rfl
theorem read_v2 : after hostOps1 X (Proc.devRef .tc main_v2) = transpose S2x32x31 [0, 2, 1]
    (X (Proc.devRef .tc main_arg4) : PDw) transposes_S2x31x32_S2x32x31_0_2_1 := by
  after_reads_simp <;> rfl
theorem read_c : after hostOps1 X (Proc.devRef .tc main_c) = constantI S_ 32 0#32 := by
  after_reads_simp <;> rfl
theorem read_v12 : after hostOps1_2 X (Proc.devRef .tc main_v12) = transpose S2x32x31 [0, 2, 1]
    (X (Proc.devRef .tc main_arg8) : PDw) transposes_S2x31x32_S2x32x31_0_2_1 := by
  after_reads_simp <;> rfl
theorem read_c_0 : after hostOps1_2 X (Proc.devRef .tc main_c_0) = constantI S_ 32 0#32 := by
  after_reads_simp <;> rfl
theorem read_v22 : after hostOps1_4 X (Proc.devRef .tc main_v22) = transpose S2x32x31 [0, 2, 1]
    (X (Proc.devRef .tc main_arg12) : PDw) transposes_S2x31x32_S2x32x31_0_2_1 := by
  after_reads_simp <;> rfl
theorem read_c_2 : after hostOps1_4 X (Proc.devRef .tc main_c_2) = constantI S_ 32 0#32 := by
  after_reads_simp <;> rfl

end After

variable (m : (ℓ : Loc nD τ sig) → Buf (Elt Ideal) ℓ)

theorem exchanged_of (c : Dev nD) (r : Ref sig .tc) (h : r ≠ main_v1) :
    exchanged m c (Proc.devRef .tc r) = m ((c.tc : Thread nD τ).loc r) := Function.update_of_ne (ne_refs h) _ _
theorem exchanged_v1 (c : Dev nD) : exchanged m c (Proc.devRef .tc main_v1) = gathered m c := Function.update_self _ _ _

theorem V3_arg1 (c : Dev nD) : V3 m (outsA m) c (Proc.devRef .tc main_arg1) = m ((c.tc : Thread nD τ).loc main_arg1) :=
  (V3_of m (outsA m) c main_arg1 (by decide)).trans <| (V2_of m (outsA m) c main_arg1 (by decide)).trans <|
    (congrFun (V1A_eq m c) _).trans (exchanged_of m c main_arg1 (by decide))
theorem V3_arg2 (c : Dev nD) : V3 m (outsA m) c (Proc.devRef .tc main_arg2) = m ((c.tc : Thread nD τ).loc main_arg2) :=
  (V3_of m (outsA m) c main_arg2 (by decide)).trans <| (V2_of m (outsA m) c main_arg2 (by decide)).trans <|
    (congrFun (V1A_eq m c) _).trans (exchanged_of m c main_arg2 (by decide))
theorem V3_arg3 (c : Dev nD) : V3 m (outsA m) c (Proc.devRef .tc main_arg3) = m ((c.tc : Thread nD τ).loc main_arg3) :=
  (V3_of m (outsA m) c main_arg3 (by decide)).trans <| (V2_of m (outsA m) c main_arg3 (by decide)).trans <|
    (congrFun (V1A_eq m c) _).trans (exchanged_of m c main_arg3 (by decide))
theorem V1_arg4 (c : Dev nD) : V1 m (outsA m) c (Proc.devRef .tc main_arg4) = m ((c.tc : Thread nD τ).loc main_arg4) :=
  (congrFun (V1A_eq m c) _).trans (exchanged_of m c main_arg4 (by decide))
theorem W8_v11 (c : Dev nD) : W8 m c (Proc.devRef .tc main_v11) = packed (m ((c.tc : Thread nD τ).loc main_arg1))
    (m ((c.tc : Thread nD τ).loc main_arg2)) (m ((c.tc : Thread nD τ).loc main_arg3)) (m ((c.tc : Thread nD τ).loc main_arg4)) := by
  refine (V8_of m (outsA m) c main_v11 (by decide)).trans <| (V7_of m (outsA m) c main_v11 (by decide)).trans <| (V6_of m (outsA m) c main_v11 (by decide)).trans <| (V5_of m (outsA m) c main_v11 (by decide)).trans <| (read_v11 (V3 m (outsA m) c)).trans ?_
  rw [V3_arg1, V3_arg2, V3_arg3]
  have h1 : V3 m (outsA m) c (Proc.devRef .tc main_v3) = _ := read_v3 (V2 m (outsA m) c)
  have h2 : V2 m (outsA m) c (Proc.devRef .tc main_v2) = _ := read_v2 (V1 m (outsA m) c)
  have h3 : V2 m (outsA m) c (Proc.devRef .tc main_c) = _ := read_c (V1 m (outsA m) c)
  rw [V1_arg4] at h2
  rw [h1, h2, h3]
  rfl

theorem V5_arg5 (c : Dev nD) : V5 m (outsA m) c (Proc.devRef .tc main_arg5) = m ((c.tc : Thread nD τ).loc main_arg5) :=
  (V5_of m (outsA m) c main_arg5 (by decide)).trans <| (V4_of m (outsA m) c main_arg5 (by decide)).trans <| (V3_of m (outsA m) c main_arg5 (by decide)).trans <| (V2_of m (outsA m) c main_arg5 (by decide)).trans <|
    (congrFun (V1A_eq m c) _).trans (exchanged_of m c main_arg5 (by decide))
theorem V5_arg6 (c : Dev nD) : V5 m (outsA m) c (Proc.devRef .tc main_arg6) = m ((c.tc : Thread nD τ).loc main_arg6) :=
  (V5_of m (outsA m) c main_arg6 (by decide)).trans <| (V4_of m (outsA m) c main_arg6 (by decide)).trans <| (V3_of m (outsA m) c main_arg6 (by decide)).trans <| (V2_of m (outsA m) c main_arg6 (by decide)).trans <|
    (congrFun (V1A_eq m c) _).trans (exchanged_of m c main_arg6 (by decide))
theorem V5_arg7 (c : Dev nD) : V5 m (outsA m) c (Proc.devRef .tc main_arg7) = m ((c.tc : Thread nD τ).loc main_arg7) :=
  (V5_of m (outsA m) c main_arg7 (by decide)).trans <| (V4_of m (outsA m) c main_arg7 (by decide)).trans <| (V3_of m (outsA m) c main_arg7 (by decide)).trans <| (V2_of m (outsA m) c main_arg7 (by decide)).trans <|
    (congrFun (V1A_eq m c) _).trans (exchanged_of m c main_arg7 (by decide))
theorem V3_arg8 (c : Dev nD) : V3 m (outsA m) c (Proc.devRef .tc main_arg8) = m ((c.tc : Thread nD τ).loc main_arg8) :=
  (V3_of m (outsA m) c main_arg8 (by decide)).trans <| (V2_of m (outsA m) c main_arg8 (by decide)).trans <|
    (congrFun (V1A_eq m c) _).trans (exchanged_of m c main_arg8 (by decide))
theorem W8_v21 (c : Dev nD) : W8 m c (Proc.devRef .tc main_v21) = packed (m ((c.tc : Thread nD τ).loc main_arg5))
    (m ((c.tc : Thread nD τ).loc main_arg6)) (m ((c.tc : Thread nD τ).loc main_arg7)) (m ((c.tc : Thread nD τ).loc main_arg8)) := by
  refine (V8_of m (outsA m) c main_v21 (by decide)).trans <| (V7_of m (outsA m) c main_v21 (by decide)).trans <| (read_v21 (V5 m (outsA m) c)).trans ?_
  rw [V5_arg5, V5_arg6, V5_arg7]
  have h1 : V5 m (outsA m) c (Proc.devRef .tc main_v13) = _ := read_v13 (V4 m (outsA m) c)
  have h2 : V4 m (outsA m) c (Proc.devRef .tc main_v12) = _ := read_v12 (V3 m (outsA m) c)
  have h3 : V4 m (outsA m) c (Proc.devRef .tc main_c_0) = _ := read_c_0 (V3 m (outsA m) c)
  rw [V3_arg8] at h2
  rw [h1, h2, h3]
  rfl

theorem V7_arg9 (c : Dev nD) : V7 m (outsA m) c (Proc.devRef .tc main_arg9) = m ((c.tc : Thread nD τ).loc main_arg9) :=
  (V7_of m (outsA m) c main_arg9 (by decide)).trans <| (V6_of m (outsA m) c main_arg9 (by decide)).trans <| (V5_of m (outsA m) c main_arg9 (by decide)).trans <| (V4_of m (outsA m) c main_arg9 (by decide)).trans <| (V3_of m (outsA m) c main_arg9 (by decide)).trans <| (V2_of m (outsA m) c main_arg9 (by decide)).trans <|
    (congrFun (V1A_eq m c) _).trans (exchanged_of m c main_arg9 (by decide))
theorem V7_arg10 (c : Dev nD) : V7 m (outsA m) c (Proc.devRef .tc main_arg10) = m ((c.tc : Thread nD τ).loc main_arg10) :=
  (V7_of m (outsA m) c main_arg10 (by decide)).trans <| (V6_of m (outsA m) c main_arg10 (by decide)).trans <| (V5_of m (outsA m) c main_arg10 (by decide)).trans <| (V4_of m (outsA m) c main_arg10 (by decide)).trans <| (V3_of m (outsA m) c main_arg10 (by decide)).trans <| (V2_of m (outsA m) c main_arg10 (by decide)).trans <|
    (congrFun (V1A_eq m c) _).trans (exchanged_of m c main_arg10 (by decide))
theorem V7_arg11 (c : Dev nD) : V7 m (outsA m) c (Proc.devRef .tc main_arg11) = m ((c.tc : Thread nD τ).loc main_arg11) :=
  (V7_of m (outsA m) c main_arg11 (by decide)).trans <| (V6_of m (outsA m) c main_arg11 (by decide)).trans <| (V5_of m (outsA m) c main_arg11 (by decide)).trans <| (V4_of m (outsA m) c main_arg11 (by decide)).trans <| (V3_of m (outsA m) c main_arg11 (by decide)).trans <| (V2_of m (outsA m) c main_arg11 (by decide)).trans <|
    (congrFun (V1A_eq m c) _).trans (exchanged_of m c main_arg11 (by decide))
theorem V5_arg12 (c : Dev nD) : V5 m (outsA m) c (Proc.devRef .tc main_arg12) = m ((c.tc : Thread nD τ).loc main_arg12) :=
  (V5_of m (outsA m) c main_arg12 (by decide)).trans <| (V4_of m (outsA m) c main_arg12 (by decide)).trans <| (V3_of m (outsA m) c main_arg12 (by decide)).trans <| (V2_of m (outsA m) c main_arg12 (by decide)).trans <|
    (congrFun (V1A_eq m c) _).trans (exchanged_of m c main_arg12 (by decide))
theorem W8_v31 (c : Dev nD) : W8 m c (Proc.devRef .tc main_v31) = packed (m ((c.tc : Thread nD τ).loc main_arg9))
    (m ((c.tc : Thread nD τ).loc main_arg10)) (m ((c.tc : Thread nD τ).loc main_arg11)) (m ((c.tc : Thread nD τ).loc main_arg12)) := by
  refine  (read_v31 (V7 m (outsA m) c)).trans ?_
  rw [V7_arg9, V7_arg10, V7_arg11]
  have h1 : V7 m (outsA m) c (Proc.devRef .tc main_v23) = _ := read_v23 (V6 m (outsA m) c)
  have h2 : V6 m (outsA m) c (Proc.devRef .tc main_v22) = _ := read_v22 (V5 m (outsA m) c)
  have h3 : V6 m (outsA m) c (Proc.devRef .tc main_c_2) = _ := read_c_2 (V5 m (outsA m) c)
  rw [V5_arg12] at h2
  rw [h1, h2, h3]
  rfl

theorem W8_v1 (c : Dev nD) : W8 m c (Proc.devRef .tc main_v1) = gathered m c :=
  (V8_of m (outsA m) c main_v1 (by decide)).trans <| (V7_of m (outsA m) c main_v1 (by decide)).trans <| (V6_of m (outsA m) c main_v1 (by decide)).trans <| (V5_of m (outsA m) c main_v1 (by decide)).trans <| (V4_of m (outsA m) c main_v1 (by decide)).trans <| (V3_of m (outsA m) c main_v1 (by decide)).trans <| (V2_of m (outsA m) c main_v1 (by decide)).trans <|
    (congrFun (V1A_eq m c) _).trans (exchanged_v1 m c)

end Cert.Proof

end
-- ==== Proof.Ref.lean ====
/-
  The reference at an index: each gradient is a sum over the eight devices' partial gradients, and the optimiser's three
  results are the same arithmetic of it as the kernel's.
-/
module

public import proofs.«01_k».proof.Defs
public import proofs.«01_k».proof.Proof.Value
public import proofs.«01_k».proof.Proof.Gen.ReferenceIdeal
public import Idealize.ShloMosaic.Lib.IdealHost

@[expose] public section

noncomputable section

namespace Cert.Proof

open Cert.ReferenceIdeal Cert.ReferenceIdeal.Gen
open Idealize.ShloMosaic Idealize.ShloMosaic.TcCoe Idealize.ShloMosaic.Tactic

set_option maxRecDepth 16384

attribute [local instance] Cert.ReferenceIdeal.Gen.facts

/-- All devices' partial gradients. -/
abbrev SendArr : Type := FVec Ideal S64x920x1024 .f32

/-- Their sum over the sending device. -/
def refTotal (S : SendArr) : FVec Ideal S8x920x1024 .f32 :=
  Host.reduceAdd (shapeCast S8x8x920x1024 S shapeCasts_S64x920x1024_S8x8x920x1024) (constant S_ .f32 0x00000000#32)
    reducesTo_S8x8x920x1024_S8x920x1024_d0 h_S_

theorem refTotal_apply (S : SendArr) (c : Fin 8) (r : Fin 920) (k : Fin 1024) :
    refTotal S (ix3 c r k) = ∑ s : Fin 8, S (ix3 ⟨s.val * 8 + c.val, by omega⟩ r k) := by
  pointwise [refTotal]

/-! ### The four gradients -/

/-- The first projection's, -/
def refIn (S : SendArr) : FVec Ideal S2x1024x2560 .f32 :=
  shapeCast S2x1024x2560 (transpose S2x1024x8x320 [1, 3, 0, 2] (shapeCast S8x2x320x1024
    (extractStridedSlice S8x640x1024 ![0, 0, 0] (refTotal S) slices_S8x920x1024_S8x640x1024_0_0_0) shapeCasts_S8x640x1024_S8x2x320x1024)
    transposes_S8x2x320x1024_S2x1024x8x320_1_3_0_2) shapeCasts_S2x1024x8x320_S2x1024x2560
/-- the second's, -/
def refOut (S : SendArr) : FVec Ideal S2x1024x1024 .f32 :=
  shapeCast S2x1024x1024 (transpose S2x8x128x1024 [1, 0, 2, 3] (shapeCast S8x2x128x1024
    (extractStridedSlice S8x256x1024 ![0, 640, 0] (refTotal S) slices_S8x920x1024_S8x256x1024_0_640_0) shapeCasts_S8x256x1024_S8x2x128x1024)
    transposes_S8x2x128x1024_S2x8x128x1024_1_0_2_3) shapeCasts_S2x8x128x1024_S2x1024x1024
/-- the pointwise convolution's -/
def refPw (S : SendArr) : FVec Ideal S2x256x256 .f32 :=
  shapeCast S2x256x256 (transpose S2x8x32x256 [1, 0, 2, 3] (shapeCast S8x2x32x256
    (extractStridedSlice S8x16x1024 ![0, 896, 0] (refTotal S) slices_S8x920x1024_S8x16x1024_0_896_0) shapeCasts_S8x16x1024_S8x2x32x256)
    transposes_S8x2x32x256_S2x8x32x256_1_0_2_3) shapeCasts_S2x8x32x256_S2x256x256
/-- and the depthwise one's. -/
def refDw (S : SendArr) : FVec Ideal S2x31x256 .f32 :=
  extractStridedSlice S2x31x256 ![0, 0, 0] (shapeCast S2x32x256 (transpose S2x32x8x32 [1, 3, 0, 2] (shapeCast S8x2x32x32
    (extractStridedSlice S8x2x1024 ![0, 912, 0] (refTotal S) slices_S8x920x1024_S8x2x1024_0_912_0) shapeCasts_S8x2x1024_S8x2x32x32)
    transposes_S8x2x32x32_S2x32x8x32_1_3_0_2) shapeCasts_S2x32x8x32_S2x32x256) slices_S2x32x256_S2x31x256_0_0_0

theorem refIn_apply (S : SendArr) (c : Fin 8) (l : Fin 2) (k : Fin 1024) (n : Fin 320) :
    refIn S (ix3 l k ⟨c.val * 320 + n.val, by omega⟩) = refTotal S (ix3 c ⟨l.val * 320 + n.val, by omega⟩ k) := by
  pointwise [refIn]
theorem refOut_apply (S : SendArr) (c : Fin 8) (l : Fin 2) (k : Fin 128) (n : Fin 1024) :
    refOut S (ix3 l ⟨c.val * 128 + k.val, by omega⟩ n) = refTotal S (ix3 c ⟨640 + (l.val * 128 + k.val), by omega⟩ n) := by
  pointwise [refOut]
theorem refPw_apply (S : SendArr) (c : Fin 8) (l : Fin 2) (k : Fin 32) (n : Fin 256) :
    refPw S (ix3 l ⟨c.val * 32 + k.val, by omega⟩ n)
      = refTotal S (ix3 c ⟨896 + (l.val * 8 + k.val / 4), by omega⟩ ⟨k.val % 4 * 256 + n.val, by omega⟩) := by
  pointwise [refPw]
theorem refDw_apply (S : SendArr) (c : Fin 8) (l : Fin 2) (k : Fin 31) (n : Fin 32) :
    refDw S (ix3 l k ⟨c.val * 32 + n.val, by omega⟩)
      = refTotal S (ix3 c ⟨912 + l.val, by omega⟩ ⟨n.val * 32 + k.val, by omega⟩) := by
  pointwise [refDw]

/-! ### The optimiser's results, of any parameter -/

section Step

variable {t : Shape} (hb : S_.BroadcastsInDim t (![] : Fin 0 → Fin t.rank))

/-- A constant over a shape. -/
abbrev cst (b : BitVec 32) : FVec Ideal t .f32 := broadcastInDim t ![] hb (constant S_ .f32 b : FVec Ideal S_ .f32)

/-- The new first moment, -/
def refMom (g mm : FVec Ideal t .f32) : FVec Ideal t .f32 :=
  addf (mulf (cst hb 0x3F666666#32) mm) (mulf (cst hb 0x3DCCCCCD#32) g)
/-- the new second moment -/
def refVar (g v : FVec Ideal t .f32) : FVec Ideal t .f32 :=
  addf (mulf (cst hb 0x3F7FBE77#32) v) (mulf (cst hb 0x3A83126F#32) (mulf g g))
/-- and the step. -/
def refStep (g w mm v : FVec Ideal t .f32) : FVec Ideal t .f32 :=
  mulf (cst hb 0xBA83126F#32) (addf (Host.divf (Host.divf (refMom hb g mm) (cst hb 0x3F26BD02#32))
    (addf (Host.sqrt (Host.divf (refVar hb g v) (cst hb 0x3C231ACC#32))) (cst hb 0x322BCC77#32)))
    (mulf (cst hb 0x3C23D70A#32) w))

theorem refMom_apply (g mm : FVec Ideal t .f32) (i : t.Idx) :
    refMom hb g mm i = word 0x3F666666#32 * mm i + word 0x3DCCCCCD#32 * g i := rfl
theorem refVar_apply (g v : FVec Ideal t .f32) (i : t.Idx) :
    refVar hb g v i = word 0x3F7FBE77#32 * v i + word 0x3A83126F#32 * (g i * g i) := rfl
theorem refStep_apply (g w mm v : FVec Ideal t .f32) (i : t.Idx) :
    refStep hb g w mm v i = word 0xBA83126F#32 * (Ideal.div (Ideal.div (refMom hb g mm i) (word 0x3F26BD02#32))
      (Ideal.sqrt (Ideal.div (refVar hb g v i) (word 0x3C231ACC#32)) + word 0x322BCC77#32) + word 0x3C23D70A#32 * w i) := rfl

end Step

end Cert.Proof

end
-- ==== Proof.Combine.lean ====
/-
  One device's sixteen results are its blocks of the reference's: the two descriptions compared element by element, for
  any partial gradients and any arguments.
-/
module

public import proofs.«01_k».proof.Proof.Pack
public import proofs.«01_k».proof.Proof.Ref
public import Idealize.ShloMosaic.Lib.Layout

@[expose] public section

noncomputable section

namespace Cert.Proof

open Cert.KernelIdeal Cert.KernelIdeal.Gen
open Idealize.ShloMosaic Idealize.ShloMosaic.TcCoe Idealize.ShloMosaic.Tactic

set_option maxRecDepth 16384

/-- The four whole parameters. -/
abbrev WIn : Type := FVec Ideal ⟨3, ![2, 1024, 2560]⟩ .f32
abbrev WOut : Type := FVec Ideal ⟨3, ![2, 1024, 1024]⟩ .f32
abbrev WPw : Type := FVec Ideal ⟨3, ![2, 256, 256]⟩ .f32
abbrev WDw : Type := FVec Ideal ⟨3, ![2, 31, 256]⟩ .f32

/-- Device `c`'s block of each. -/
abbrev bIn (c : Fin 8) (v : WIn) : PIn := Layout.block ⟨3, ![2, 1024, 320]⟩ ⟨3, ![2, 1024, 2560]⟩ 2 8 c v
abbrev bOut (c : Fin 8) (v : WOut) : POut := Layout.block ⟨3, ![2, 128, 1024]⟩ ⟨3, ![2, 1024, 1024]⟩ 1 8 c v
abbrev bPw (c : Fin 8) (v : WPw) : PPw := Layout.block ⟨3, ![2, 32, 256]⟩ ⟨3, ![2, 256, 256]⟩ 1 8 c v
abbrev bDw (c : Fin 8) (v : WDw) : PDw := Layout.block ⟨3, ![2, 31, 32]⟩ ⟨3, ![2, 31, 256]⟩ 2 8 c v

theorem bIn_apply (c : Fin 8) (v : WIn) (l : Fin 2) (k : Fin 1024) (n : Fin 320) :
    bIn c v (ix3 l k n) = v (ix3 l k ⟨c.val * 320 + n.val, by omega⟩) := by
  refine congrArg v (funext fun a => Fin.ext ?_)
  fin_cases a <;> rfl
theorem bOut_apply (c : Fin 8) (v : WOut) (l : Fin 2) (k : Fin 128) (n : Fin 1024) :
    bOut c v (ix3 l k n) = v (ix3 l ⟨c.val * 128 + k.val, by omega⟩ n) := by
  refine congrArg v (funext fun a => Fin.ext ?_)
  fin_cases a <;> rfl
theorem bPw_apply (c : Fin 8) (v : WPw) (l : Fin 2) (k : Fin 32) (n : Fin 256) :
    bPw c v (ix3 l k n) = v (ix3 l ⟨c.val * 32 + k.val, by omega⟩ n) := by
  refine congrArg v (funext fun a => Fin.ext ?_)
  fin_cases a <;> rfl
theorem bDw_apply (c : Fin 8) (v : WDw) (l : Fin 2) (k : Fin 31) (n : Fin 32) :
    bDw c v (ix3 l k n) = v (ix3 l k ⟨c.val * 32 + n.val, by omega⟩) := by
  refine congrArg v (funext fun a => Fin.ext ?_)
  fin_cases a <;> rfl

section Compare

variable (c : Fin 8) (S : SendArr) (p : SlabArr)
  (hp : ∀ (s : Fin 8) (r : Fin 920) (k : Fin 1024) (h : s.val * 8 + c.val < 64), p (ix3 s r k) = S (ix3 ⟨s.val * 8 + c.val, h⟩ r k))

include hp in
/-- The sum of the received slabs is the device's row of the total. -/
theorem slabSum_eq (r : Fin 920) (k : Fin 1024) : slabSum p (ix2 r k) = refTotal S (ix3 c r k) := by
  rw [refTotal_apply, Finset.sum_congr rfl (fun s _ => (hp s r k (by omega)).symm), Fin.sum_univ_eight]
  rfl

include hp in
theorem grad_in : unIn (slabSum p) = bIn c (refIn S) := by
  funext i; idx_vars i
  rw [unIn_apply, slabSum_eq c S p hp, bIn_apply, refIn_apply]
include hp in
theorem grad_out : unOut (slabSum p) = bOut c (refOut S) := by
  funext i; idx_vars i
  rw [unOut_apply, slabSum_eq c S p hp, bOut_apply, refOut_apply]
include hp in
theorem grad_pw : unPw (slabSum p) = bPw c (refPw S) := by
  funext i; idx_vars i
  rw [unPw_apply, slabSum_eq c S p hp, bPw_apply, refPw_apply]
include hp in
theorem grad_dw : unDw (slabSum p) = bDw c (refDw S) := by
  funext i; idx_vars i
  rw [unDw_apply, slabSum_eq c S p hp, bDw_apply, refDw_apply]

include hp in
theorem mom_in (hb : S_.BroadcastsInDim _ (![] : Fin 0 → Fin (Shape.rank ⟨3, ![2, 1024, 2560]⟩))) (M : WIn) (b : POut) (q : PPw) (d : PDw) :
    unIn (newMom p (packed (bIn c M) b q d)) = bIn c (refMom hb (refIn S) M) := by
  funext i; idx_vars i
  rw [unIn_apply, bIn_apply, refMom_apply, refIn_apply, newMom, packed_in, bIn_apply, slabSum_eq c S p hp]
include hp in
theorem var_in (hb : S_.BroadcastsInDim _ (![] : Fin 0 → Fin (Shape.rank ⟨3, ![2, 1024, 2560]⟩))) (V : WIn) (b : POut) (q : PPw) (d : PDw) :
    unIn (newVar p (packed (bIn c V) b q d)) = bIn c (refVar hb (refIn S) V) := by
  funext i; idx_vars i
  rw [unIn_apply, bIn_apply, refVar_apply, refIn_apply, newVar, packed_in, bIn_apply, slabSum_eq c S p hp]
include hp in
theorem step_in (hb : S_.BroadcastsInDim _ (![] : Fin 0 → Fin (Shape.rank ⟨3, ![2, 1024, 2560]⟩))) (W M V : WIn) (b b' b'' : POut) (q q' q'' : PPw) (d d' d'' : PDw) :
    unIn (newStep p (packed (bIn c W) b q d) (packed (bIn c M) b' q' d') (packed (bIn c V) b'' q'' d'')) = bIn c (refStep hb (refIn S) W M V) := by
  funext i; idx_vars i
  rw [unIn_apply, bIn_apply, refStep_apply, refMom_apply, refVar_apply, refIn_apply, newStep, newMom, newVar, packed_in, packed_in, packed_in,
    bIn_apply, bIn_apply, bIn_apply, slabSum_eq c S p hp]

include hp in
theorem mom_out (hb : S_.BroadcastsInDim _ (![] : Fin 0 → Fin (Shape.rank ⟨3, ![2, 1024, 1024]⟩))) (M : WOut) (a : PIn) (q : PPw) (d : PDw) :
    unOut (newMom p (packed a (bOut c M) q d)) = bOut c (refMom hb (refOut S) M) := by
  funext i; idx_vars i
  rw [unOut_apply, bOut_apply, refMom_apply, refOut_apply, newMom, packed_out, bOut_apply, slabSum_eq c S p hp]
include hp in
theorem var_out (hb : S_.BroadcastsInDim _ (![] : Fin 0 → Fin (Shape.rank ⟨3, ![2, 1024, 1024]⟩))) (V : WOut) (a : PIn) (q : PPw) (d : PDw) :
    unOut (newVar p (packed a (bOut c V) q d)) = bOut c (refVar hb (refOut S) V) := by
  funext i; idx_vars i
  rw [unOut_apply, bOut_apply, refVar_apply, refOut_apply, newVar, packed_out, bOut_apply, slabSum_eq c S p hp]
include hp in
theorem step_out (hb : S_.BroadcastsInDim _ (![] : Fin 0 → Fin (Shape.rank ⟨3, ![2, 1024, 1024]⟩))) (W M V : WOut) (a a' a'' : PIn) (q q' q'' : PPw) (d d' d'' : PDw) :
    unOut (newStep p (packed a (bOut c W) q d) (packed a' (bOut c M) q' d') (packed a'' (bOut c V) q'' d'')) = bOut c (refStep hb (refOut S) W M V) := by
  funext i; idx_vars i
  rw [unOut_apply, bOut_apply, refStep_apply, refMom_apply, refVar_apply, refOut_apply, newStep, newMom, newVar, packed_out, packed_out, packed_out,
    bOut_apply, bOut_apply, bOut_apply, slabSum_eq c S p hp]

include hp in
theorem mom_pw (hb : S_.BroadcastsInDim _ (![] : Fin 0 → Fin (Shape.rank ⟨3, ![2, 256, 256]⟩))) (M : WPw) (a : PIn) (b : POut) (d : PDw) :
    unPw (newMom p (packed a b (bPw c M) d)) = bPw c (refMom hb (refPw S) M) := by
  funext i; idx_vars i
  rw [unPw_apply, bPw_apply, refMom_apply, refPw_apply, newMom, packed_pw, bPw_apply, slabSum_eq c S p hp]
include hp in
theorem var_pw (hb : S_.BroadcastsInDim _ (![] : Fin 0 → Fin (Shape.rank ⟨3, ![2, 256, 256]⟩))) (V : WPw) (a : PIn) (b : POut) (d : PDw) :
    unPw (newVar p (packed a b (bPw c V) d)) = bPw c (refVar hb (refPw S) V) := by
  funext i; idx_vars i
  rw [unPw_apply, bPw_apply, refVar_apply, refPw_apply, newVar, packed_pw, bPw_apply, slabSum_eq c S p hp]
include hp in
theorem step_pw (hb : S_.BroadcastsInDim _ (![] : Fin 0 → Fin (Shape.rank ⟨3, ![2, 256, 256]⟩))) (W M V : WPw) (a a' a'' : PIn) (b b' b'' : POut) (d d' d'' : PDw) :
    unPw (newStep p (packed a b (bPw c W) d) (packed a' b' (bPw c M) d') (packed a'' b'' (bPw c V) d'')) = bPw c (refStep hb (refPw S) W M V) := by
  funext i; idx_vars i
  rw [unPw_apply, bPw_apply, refStep_apply, refMom_apply, refVar_apply, refPw_apply, newStep, newMom, newVar, packed_pw, packed_pw, packed_pw,
    bPw_apply, bPw_apply, bPw_apply, slabSum_eq c S p hp]

include hp in
theorem mom_dw (hb : S_.BroadcastsInDim _ (![] : Fin 0 → Fin (Shape.rank ⟨3, ![2, 31, 256]⟩))) (M : WDw) (a : PIn) (b : POut) (q : PPw) :
    unDw (newMom p (packed a b q (bDw c M))) = bDw c (refMom hb (refDw S) M) := by
  funext i; idx_vars i
  rw [unDw_apply, bDw_apply, refMom_apply, refDw_apply, newMom, packed_dw, bDw_apply, slabSum_eq c S p hp]
include hp in
theorem var_dw (hb : S_.BroadcastsInDim _ (![] : Fin 0 → Fin (Shape.rank ⟨3, ![2, 31, 256]⟩))) (V : WDw) (a : PIn) (b : POut) (q : PPw) :
    unDw (newVar p (packed a b q (bDw c V))) = bDw c (refVar hb (refDw S) V) := by
  funext i; idx_vars i
  rw [unDw_apply, bDw_apply, refVar_apply, refDw_apply, newVar, packed_dw, bDw_apply, slabSum_eq c S p hp]
include hp in
theorem step_dw (hb : S_.BroadcastsInDim _ (![] : Fin 0 → Fin (Shape.rank ⟨3, ![2, 31, 256]⟩))) (W M V : WDw) (a a' a'' : PIn) (b b' b'' : POut) (q q' q'' : PPw) :
    unDw (newStep p (packed a b q (bDw c W)) (packed a' b' q' (bDw c M)) (packed a'' b'' q'' (bDw c V))) = bDw c (refStep hb (refDw S) W M V) := by
  funext i; idx_vars i
  rw [unDw_apply, bDw_apply, refStep_apply, refMom_apply, refVar_apply, refDw_apply, newStep, newMom, newVar, packed_dw, packed_dw, packed_dw,
    bDw_apply, bDw_apply, bDw_apply, slabSum_eq c S p hp]

end Compare

end Cert.Proof

end
-- ==== Proof.Results.lean ====
/-
  The value claim: every device ends with its blocks of the reference's sixteen results.
-/
module

public import proofs.«01_k».proof.Proof.Frames
public import proofs.«01_k».proof.Proof.Reads
public import proofs.«01_k».proof.Proof.Combine

@[expose] public section

noncomputable section

namespace Cert.Proof

open Cert.KernelIdeal Cert.KernelIdeal.Gen
open Idealize.ShloMosaic Idealize.ShloMosaic.TcCoe Idealize.ShloMosaic.Tactic Idealize.ShloMosaic.StableHlo Idealize.SL.Sem

set_option maxRecDepth 16384

/-! ### The remaining results, from the optimiser's arrays -/

section After
variable (X : Valuation τ sig (Elt Ideal))

theorem read_v46 : after hostOps2 X (Proc.devRef .tc main_v46) = unIn (X (Proc.devRef .tc main_v32_1)) := by
  after_reads_simp <;> rfl
theorem read_v48 : after hostOps2 X (Proc.devRef .tc main_v48) = unOut (X (Proc.devRef .tc main_v32_1)) := by
  after_reads_simp <;> rfl
theorem read_v50 : after hostOps2 X (Proc.devRef .tc main_v50) = unPw (X (Proc.devRef .tc main_v32_1)) := by
  after_reads_simp <;> rfl
theorem read_v54 : after hostOps2 X (Proc.devRef .tc main_v54) = unDw (X (Proc.devRef .tc main_v32_1)) := by
  after_reads_simp <;> rfl
theorem read_v57 : after hostOps2 X (Proc.devRef .tc main_v57) = unIn (X (Proc.devRef .tc main_v32_2)) := by
  after_reads_simp <;> rfl
theorem read_v59 : after hostOps2 X (Proc.devRef .tc main_v59) = unOut (X (Proc.devRef .tc main_v32_2)) := by
  after_reads_simp <;> rfl
theorem read_v61 : after hostOps2 X (Proc.devRef .tc main_v61) = unPw (X (Proc.devRef .tc main_v32_2)) := by
  after_reads_simp <;> rfl
theorem read_v65 : after hostOps2 X (Proc.devRef .tc main_v65) = unDw (X (Proc.devRef .tc main_v32_2)) := by
  after_reads_simp <;> rfl
theorem read_v68 : after hostOps2 X (Proc.devRef .tc main_v68) = unIn (X (Proc.devRef .tc main_v32_3)) := by
  after_reads_simp <;> rfl
theorem read_v70 : after hostOps2 X (Proc.devRef .tc main_v70) = unOut (X (Proc.devRef .tc main_v32_3)) := by
  after_reads_simp <;> rfl
theorem read_v72 : after hostOps2 X (Proc.devRef .tc main_v72) = unPw (X (Proc.devRef .tc main_v32_3)) := by
  after_reads_simp <;> rfl
theorem read_v76 : after hostOps2 X (Proc.devRef .tc main_v76) = unDw (X (Proc.devRef .tc main_v32_3)) := by
  after_reads_simp <;> rfl

end After

section Device
variable (m : (ℓ : Loc nD τ sig) → Buf (Elt Ideal) ℓ) (c : Dev nD)

/-- A device's packed weights, first moments and second moments. -/
abbrev packW : RowArr := packed (m ((c.tc : Thread nD τ).loc main_arg1)) (m ((c.tc : Thread nD τ).loc main_arg2)) (m ((c.tc : Thread nD τ).loc main_arg3)) (m ((c.tc : Thread nD τ).loc main_arg4))
abbrev packM : RowArr := packed (m ((c.tc : Thread nD τ).loc main_arg5)) (m ((c.tc : Thread nD τ).loc main_arg6)) (m ((c.tc : Thread nD τ).loc main_arg7)) (m ((c.tc : Thread nD τ).loc main_arg8))
abbrev packV : RowArr := packed (m ((c.tc : Thread nD τ).loc main_arg9)) (m ((c.tc : Thread nD τ).loc main_arg10)) (m ((c.tc : Thread nD τ).loc main_arg11)) (m ((c.tc : Thread nD τ).loc main_arg12))

/-! ### The optimiser's arrays before the last host lines -/

theorem at_sum : V9 m (outs m) c (Proc.devRef .tc main_v32_0) = slabSum (gathered m c) := by
  rw [V9_eq, W9_0, ← W8_v1]; exact arr_sum (W8 m) c
theorem at_step : V9 m (outs m) c (Proc.devRef .tc main_v32_1) = newStep (gathered m c) (packW m c) (packM m c) (packV m c) := by
  rw [V9_eq, W9_1]
  refine (arr_step (W8 m) c).trans ?_
  rw [W8_v1, W8_v11, W8_v21, W8_v31]
theorem at_mom : V9 m (outs m) c (Proc.devRef .tc main_v32_2) = newMom (gathered m c) (packM m c) := by
  rw [V9_eq, W9_2]
  refine (arr_mom (W8 m) c).trans ?_
  rw [W8_v1, W8_v21]
theorem at_var : V9 m (outs m) c (Proc.devRef .tc main_v32_3) = newVar (gathered m c) (packV m c) := by
  rw [V9_eq, W9_3]
  refine (arr_var (W8 m) c).trans ?_
  rw [W8_v1, W8_v31]

/-- What a device received, from the whole of the partial gradients. -/
theorem gathered_slab (S : SendArr)
    (h : ∀ s : Dev nD, m ((s.tc : Thread nD τ).loc main_arg0) = Layout.block ⟨3, ![8, 920, 1024]⟩ ⟨3, ![64, 920, 1024]⟩ 0 8 s S)
    (s : Fin 8) (r : Fin 920) (k : Fin 1024) (hs : s.val * 8 + c.val < 64) : gathered m c (ix3 s r k) = S (ix3 ⟨s.val * 8 + c.val, hs⟩ r k) := by
  refine (congrFun (h s) _).trans (congrArg S (funext fun a => Fin.ext ?_))
  fin_cases a <;> rfl

end Device

/-! ### The claim -/

attribute [local instance] Cert.KernelIdeal.Gen.facts Cert.ReferenceIdeal.Gen.facts

/-- The arguments of the two programs match: each device holds its blocks. -/
def Matched (m : (ℓ : Loc nD τ sig) → Buf (Elt Ideal) ℓ)
    (m' : (ℓ : Loc Cert.ReferenceIdeal.nD Cert.ReferenceIdeal.τ Cert.ReferenceIdeal.sig) → Buf (Elt Ideal) ℓ) : Prop := ∀ c : Dev nD,
    m ((c.tc : Thread nD τ).loc main_arg0) = Layout.block ⟨3, ![8, 920, 1024]⟩ ⟨3, ![64, 920, 1024]⟩ 0 8 c (m' (((0 : Dev Cert.ReferenceIdeal.nD).tc : Thread Cert.ReferenceIdeal.nD Cert.ReferenceIdeal.τ).loc Cert.ReferenceIdeal.main_arg0))
  ∧ m ((c.tc : Thread nD τ).loc main_arg1) = Layout.block ⟨3, ![2, 1024, 320]⟩ ⟨3, ![2, 1024, 2560]⟩ 2 8 c (m' (((0 : Dev Cert.ReferenceIdeal.nD).tc : Thread Cert.ReferenceIdeal.nD Cert.ReferenceIdeal.τ).loc Cert.ReferenceIdeal.main_arg1))
  ∧ m ((c.tc : Thread nD τ).loc main_arg2) = Layout.block ⟨3, ![2, 128, 1024]⟩ ⟨3, ![2, 1024, 1024]⟩ 1 8 c (m' (((0 : Dev Cert.ReferenceIdeal.nD).tc : Thread Cert.ReferenceIdeal.nD Cert.ReferenceIdeal.τ).loc Cert.ReferenceIdeal.main_arg2))
  ∧ m ((c.tc : Thread nD τ).loc main_arg3) = Layout.block ⟨3, ![2, 32, 256]⟩ ⟨3, ![2, 256, 256]⟩ 1 8 c (m' (((0 : Dev Cert.ReferenceIdeal.nD).tc : Thread Cert.ReferenceIdeal.nD Cert.ReferenceIdeal.τ).loc Cert.ReferenceIdeal.main_arg3))
  ∧ m ((c.tc : Thread nD τ).loc main_arg4) = Layout.block ⟨3, ![2, 31, 32]⟩ ⟨3, ![2, 31, 256]⟩ 2 8 c (m' (((0 : Dev Cert.ReferenceIdeal.nD).tc : Thread Cert.ReferenceIdeal.nD Cert.ReferenceIdeal.τ).loc Cert.ReferenceIdeal.main_arg4))
  ∧ m ((c.tc : Thread nD τ).loc main_arg5) = Layout.block ⟨3, ![2, 1024, 320]⟩ ⟨3, ![2, 1024, 2560]⟩ 2 8 c (m' (((0 : Dev Cert.ReferenceIdeal.nD).tc : Thread Cert.ReferenceIdeal.nD Cert.ReferenceIdeal.τ).loc Cert.ReferenceIdeal.main_arg5))
  ∧ m ((c.tc : Thread nD τ).loc main_arg6) = Layout.block ⟨3, ![2, 128, 1024]⟩ ⟨3, ![2, 1024, 1024]⟩ 1 8 c (m' (((0 : Dev Cert.ReferenceIdeal.nD).tc : Thread Cert.ReferenceIdeal.nD Cert.ReferenceIdeal.τ).loc Cert.ReferenceIdeal.main_arg6))
  ∧ m ((c.tc : Thread nD τ).loc main_arg7) = Layout.block ⟨3, ![2, 32, 256]⟩ ⟨3, ![2, 256, 256]⟩ 1 8 c (m' (((0 : Dev Cert.ReferenceIdeal.nD).tc : Thread Cert.ReferenceIdeal.nD Cert.ReferenceIdeal.τ).loc Cert.ReferenceIdeal.main_arg7))
  ∧ m ((c.tc : Thread nD τ).loc main_arg8) = Layout.block ⟨3, ![2, 31, 32]⟩ ⟨3, ![2, 31, 256]⟩ 2 8 c (m' (((0 : Dev Cert.ReferenceIdeal.nD).tc : Thread Cert.ReferenceIdeal.nD Cert.ReferenceIdeal.τ).loc Cert.ReferenceIdeal.main_arg8))
  ∧ m ((c.tc : Thread nD τ).loc main_arg9) = Layout.block ⟨3, ![2, 1024, 320]⟩ ⟨3, ![2, 1024, 2560]⟩ 2 8 c (m' (((0 : Dev Cert.ReferenceIdeal.nD).tc : Thread Cert.ReferenceIdeal.nD Cert.ReferenceIdeal.τ).loc Cert.ReferenceIdeal.main_arg9))
  ∧ m ((c.tc : Thread nD τ).loc main_arg10) = Layout.block ⟨3, ![2, 128, 1024]⟩ ⟨3, ![2, 1024, 1024]⟩ 1 8 c (m' (((0 : Dev Cert.ReferenceIdeal.nD).tc : Thread Cert.ReferenceIdeal.nD Cert.ReferenceIdeal.τ).loc Cert.ReferenceIdeal.main_arg10))
  ∧ m ((c.tc : Thread nD τ).loc main_arg11) = Layout.block ⟨3, ![2, 32, 256]⟩ ⟨3, ![2, 256, 256]⟩ 1 8 c (m' (((0 : Dev Cert.ReferenceIdeal.nD).tc : Thread Cert.ReferenceIdeal.nD Cert.ReferenceIdeal.τ).loc Cert.ReferenceIdeal.main_arg11))
  ∧ m ((c.tc : Thread nD τ).loc main_arg12) = Layout.block ⟨3, ![2, 31, 32]⟩ ⟨3, ![2, 31, 256]⟩ 2 8 c (m' (((0 : Dev Cert.ReferenceIdeal.nD).tc : Thread Cert.ReferenceIdeal.nD Cert.ReferenceIdeal.τ).loc Cert.ReferenceIdeal.main_arg12))

theorem result_v35 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v35) = bIn c (refIn (m' (((0 : Dev Cert.ReferenceIdeal.nD).tc : Thread Cert.ReferenceIdeal.nD Cert.ReferenceIdeal.τ).loc Cert.ReferenceIdeal.main_arg0))) := by
  refine (read_v35 _).trans ?_
  rw [at_sum]
  exact grad_in c _ _ (fun s r k hs => gathered_slab m c _ (fun s => (hm s).1) s r k hs)
theorem result_v37 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v37) = bOut c (refOut (m' (((0 : Dev Cert.ReferenceIdeal.nD).tc : Thread Cert.ReferenceIdeal.nD Cert.ReferenceIdeal.τ).loc Cert.ReferenceIdeal.main_arg0))) := by
  refine (read_v37 _).trans ?_
  rw [at_sum]
  exact grad_out c _ _ (fun s r k hs => gathered_slab m c _ (fun s => (hm s).1) s r k hs)
theorem result_v39 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v39) = bPw c (refPw (m' (((0 : Dev Cert.ReferenceIdeal.nD).tc : Thread Cert.ReferenceIdeal.nD Cert.ReferenceIdeal.τ).loc Cert.ReferenceIdeal.main_arg0))) := by
  refine (read_v39 _).trans ?_
  rw [at_sum]
  exact grad_pw c _ _ (fun s r k hs => gathered_slab m c _ (fun s => (hm s).1) s r k hs)
theorem result_v43 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v43) = bDw c (refDw (m' (((0 : Dev Cert.ReferenceIdeal.nD).tc : Thread Cert.ReferenceIdeal.nD Cert.ReferenceIdeal.τ).loc Cert.ReferenceIdeal.main_arg0))) := by
  refine (read_v43 _).trans ?_
  rw [at_sum]
  exact grad_dw c _ _ (fun s r k hs => gathered_slab m c _ (fun s => (hm s).1) s r k hs)
theorem result_v46 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v46) = bIn c (refStep Cert.ReferenceIdeal.Gen.bcast_S_S2x1024x2560 (refIn (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg9))) := by
  refine (read_v46 _).trans ?_
  rw [at_step]
  unfold packW packM packV
  rw [(hm c).2.1]
  rw [(hm c).2.2.2.2.2.1]
  rw [(hm c).2.2.2.2.2.2.2.2.2.1]
  exact step_in c _ _ (fun s r k hs => gathered_slab m c _ (fun s => (hm s).1) s r k hs) Cert.ReferenceIdeal.Gen.bcast_S_S2x1024x2560 _ _ _ _ _ _ _ _ _ _ _ _
theorem result_v48 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v48) = bOut c (refStep Cert.ReferenceIdeal.Gen.bcast_S_S2x1024x1024 (refOut (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg10))) := by
  refine (read_v48 _).trans ?_
  rw [at_step]
  unfold packW packM packV
  rw [(hm c).2.2.1]
  rw [(hm c).2.2.2.2.2.2.1]
  rw [(hm c).2.2.2.2.2.2.2.2.2.2.1]
  exact step_out c _ _ (fun s r k hs => gathered_slab m c _ (fun s => (hm s).1) s r k hs) Cert.ReferenceIdeal.Gen.bcast_S_S2x1024x1024 _ _ _ _ _ _ _ _ _ _ _ _
theorem result_v50 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v50) = bPw c (refStep Cert.ReferenceIdeal.Gen.bcast_S_S2x256x256 (refPw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg7)) (m' (((0 : Dev Cert.ReferenceIdeal.nD).tc : Thread Cert.ReferenceIdeal.nD Cert.ReferenceIdeal.τ).loc Cert.ReferenceIdeal.main_arg11))) := by
  refine (read_v50 _).trans ?_
  rw [at_step]
  unfold packW packM packV
  rw [(hm c).2.2.2.1]
  rw [(hm c).2.2.2.2.2.2.2.1]
  rw [(hm c).2.2.2.2.2.2.2.2.2.2.2.1]
  exact step_pw c _ _ (fun s r k hs => gathered_slab m c _ (fun s => (hm s).1) s r k hs) Cert.ReferenceIdeal.Gen.bcast_S_S2x256x256 _ _ _ _ _ _ _ _ _ _ _ _
theorem result_v54 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v54) = bDw c (refStep Cert.ReferenceIdeal.Gen.bcast_S_S2x31x256 (refDw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg8)) (m' (((0 : Dev Cert.ReferenceIdeal.nD).tc : Thread Cert.ReferenceIdeal.nD Cert.ReferenceIdeal.τ).loc Cert.ReferenceIdeal.main_arg12))) := by
  refine (read_v54 _).trans ?_
  rw [at_step]
  unfold packW packM packV
  rw [(hm c).2.2.2.2.1]
  rw [(hm c).2.2.2.2.2.2.2.2.1]
  rw [(hm c).2.2.2.2.2.2.2.2.2.2.2.2]
  exact step_dw c _ _ (fun s r k hs => gathered_slab m c _ (fun s => (hm s).1) s r k hs) Cert.ReferenceIdeal.Gen.bcast_S_S2x31x256 _ _ _ _ _ _ _ _ _ _ _ _
theorem result_v57 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v57) = bIn c (refMom Cert.ReferenceIdeal.Gen.bcast_S_S2x1024x2560 (refIn (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg5))) := by
  refine (read_v57 _).trans ?_
  rw [at_mom]
  unfold packM
  rw [(hm c).2.2.2.2.2.1]
  exact mom_in c _ _ (fun s r k hs => gathered_slab m c _ (fun s => (hm s).1) s r k hs) Cert.ReferenceIdeal.Gen.bcast_S_S2x1024x2560 _ _ _ _
theorem result_v59 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v59) = bOut c (refMom Cert.ReferenceIdeal.Gen.bcast_S_S2x1024x1024 (refOut (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg6))) := by
  refine (read_v59 _).trans ?_
  rw [at_mom]
  unfold packM
  rw [(hm c).2.2.2.2.2.2.1]
  exact mom_out c _ _ (fun s r k hs => gathered_slab m c _ (fun s => (hm s).1) s r k hs) Cert.ReferenceIdeal.Gen.bcast_S_S2x1024x1024 _ _ _ _
theorem result_v61 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v61) = bPw c (refMom Cert.ReferenceIdeal.Gen.bcast_S_S2x256x256 (refPw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg7))) := by
  refine (read_v61 _).trans ?_
  rw [at_mom]
  unfold packM
  rw [(hm c).2.2.2.2.2.2.2.1]
  exact mom_pw c _ _ (fun s r k hs => gathered_slab m c _ (fun s => (hm s).1) s r k hs) Cert.ReferenceIdeal.Gen.bcast_S_S2x256x256 _ _ _ _
theorem result_v65 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v65) = bDw c (refMom Cert.ReferenceIdeal.Gen.bcast_S_S2x31x256 (refDw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg8))) := by
  refine (read_v65 _).trans ?_
  rw [at_mom]
  unfold packM
  rw [(hm c).2.2.2.2.2.2.2.2.1]
  exact mom_dw c _ _ (fun s r k hs => gathered_slab m c _ (fun s => (hm s).1) s r k hs) Cert.ReferenceIdeal.Gen.bcast_S_S2x31x256 _ _ _ _
theorem result_v68 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v68) = bIn c (refVar Cert.ReferenceIdeal.Gen.bcast_S_S2x1024x2560 (refIn (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg9))) := by
  refine (read_v68 _).trans ?_
  rw [at_var]
  unfold packV
  rw [(hm c).2.2.2.2.2.2.2.2.2.1]
  exact var_in c _ _ (fun s r k hs => gathered_slab m c _ (fun s => (hm s).1) s r k hs) Cert.ReferenceIdeal.Gen.bcast_S_S2x1024x2560 _ _ _ _
theorem result_v70 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v70) = bOut c (refVar Cert.ReferenceIdeal.Gen.bcast_S_S2x1024x1024 (refOut (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg10))) := by
  refine (read_v70 _).trans ?_
  rw [at_var]
  unfold packV
  rw [(hm c).2.2.2.2.2.2.2.2.2.2.1]
  exact var_out c _ _ (fun s r k hs => gathered_slab m c _ (fun s => (hm s).1) s r k hs) Cert.ReferenceIdeal.Gen.bcast_S_S2x1024x1024 _ _ _ _
theorem result_v72 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v72) = bPw c (refVar Cert.ReferenceIdeal.Gen.bcast_S_S2x256x256 (refPw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg11))) := by
  refine (read_v72 _).trans ?_
  rw [at_var]
  unfold packV
  rw [(hm c).2.2.2.2.2.2.2.2.2.2.2.1]
  exact var_pw c _ _ (fun s r k hs => gathered_slab m c _ (fun s => (hm s).1) s r k hs) Cert.ReferenceIdeal.Gen.bcast_S_S2x256x256 _ _ _ _
theorem result_v76 (m : (ℓ : Loc nD τ sig) → Buf (Elt Ideal) ℓ)
    (m' : (ℓ : Loc Cert.ReferenceIdeal.nD Cert.ReferenceIdeal.τ Cert.ReferenceIdeal.sig) → Buf (Elt Ideal) ℓ) (hm : Matched m m') (c : Dev nD) :
    V10 m (outs m) c (Proc.devRef .tc main_v76) = bDw c (refVar Cert.ReferenceIdeal.Gen.bcast_S_S2x31x256 (refDw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg12))) := by
  refine (read_v76 _).trans ?_
  rw [at_var]
  unfold packV
  rw [(hm c).2.2.2.2.2.2.2.2.2.2.2.2]
  exact var_dw c _ _ (fun s r k hs => gathered_slab m c _ (fun s => (hm s).1) s r k hs) Cert.ReferenceIdeal.Gen.bcast_S_S2x31x256 _ _ _ _

theorem algebraic_kernel_reference : Cert.algebraic_KernelIdeal_ReferenceIdeal := by
  intro m g m' g' _ hm
  have hm' : Matched m m' := hm
  refine ⟨refIn (m' (((0 : Dev Cert.ReferenceIdeal.nD).tc : Thread Cert.ReferenceIdeal.nD Cert.ReferenceIdeal.τ).loc Cert.ReferenceIdeal.main_arg0)),
    refOut (m' (((0 : Dev Cert.ReferenceIdeal.nD).tc : Thread Cert.ReferenceIdeal.nD Cert.ReferenceIdeal.τ).loc Cert.ReferenceIdeal.main_arg0)),
    refPw (m' (((0 : Dev Cert.ReferenceIdeal.nD).tc : Thread Cert.ReferenceIdeal.nD Cert.ReferenceIdeal.τ).loc Cert.ReferenceIdeal.main_arg0)),
    refDw (m' (((0 : Dev Cert.ReferenceIdeal.nD).tc : Thread Cert.ReferenceIdeal.nD Cert.ReferenceIdeal.τ).loc Cert.ReferenceIdeal.main_arg0)),
    refStep Cert.ReferenceIdeal.Gen.bcast_S_S2x1024x2560 (refIn (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg9)),
    refStep Cert.ReferenceIdeal.Gen.bcast_S_S2x1024x1024 (refOut (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg10)),
    refStep Cert.ReferenceIdeal.Gen.bcast_S_S2x256x256 (refPw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg7)) (m' (((0 : Dev Cert.ReferenceIdeal.nD).tc : Thread Cert.ReferenceIdeal.nD Cert.ReferenceIdeal.τ).loc Cert.ReferenceIdeal.main_arg11)),
    refStep Cert.ReferenceIdeal.Gen.bcast_S_S2x31x256 (refDw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg8)) (m' (((0 : Dev Cert.ReferenceIdeal.nD).tc : Thread Cert.ReferenceIdeal.nD Cert.ReferenceIdeal.τ).loc Cert.ReferenceIdeal.main_arg12)),
    refMom Cert.ReferenceIdeal.Gen.bcast_S_S2x1024x2560 (refIn (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg5)),
    refMom Cert.ReferenceIdeal.Gen.bcast_S_S2x1024x1024 (refOut (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg6)),
    refMom Cert.ReferenceIdeal.Gen.bcast_S_S2x256x256 (refPw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg7)),
    refMom Cert.ReferenceIdeal.Gen.bcast_S_S2x31x256 (refDw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg8)),
    refVar Cert.ReferenceIdeal.Gen.bcast_S_S2x1024x2560 (refIn (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg9)),
    refVar Cert.ReferenceIdeal.Gen.bcast_S_S2x1024x1024 (refOut (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg10)),
    refVar Cert.ReferenceIdeal.Gen.bcast_S_S2x256x256 (refPw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg11)),
    refVar Cert.ReferenceIdeal.Gen.bcast_S_S2x31x256 (refDw (m' (((0 : Dev Cert.ReferenceIdeal.nD).tc : Thread Cert.ReferenceIdeal.nD Cert.ReferenceIdeal.τ).loc Cert.ReferenceIdeal.main_arg0))) (m' (((0 : Dev Cert.ReferenceIdeal.nD).tc : Thread Cert.ReferenceIdeal.nD Cert.ReferenceIdeal.τ).loc Cert.ReferenceIdeal.main_arg12)), ?_, ?_⟩
  · refine (θ_run defs _ _).mono (fun r h c => ⟨?_, ?_, ?_, ?_, ?_, ?_, ?_, ?_, ?_, ?_, ?_, ?_, ?_, ?_, ?_, ?_, ?_, ?_, ?_, ?_, ?_, ?_, ?_, ?_, ?_, ?_, ?_, ?_, ?_⟩) (run_main (F := Ideal) m g)
    · exact (h.1 c _ (Finset.mem_filter.mpr ⟨StableHlo.devRef_mem_tcRefs main_v35, by decide⟩)).trans (result_v35 m m' hm' c)
    · exact (h.1 c _ (Finset.mem_filter.mpr ⟨StableHlo.devRef_mem_tcRefs main_v37, by decide⟩)).trans (result_v37 m m' hm' c)
    · exact (h.1 c _ (Finset.mem_filter.mpr ⟨StableHlo.devRef_mem_tcRefs main_v39, by decide⟩)).trans (result_v39 m m' hm' c)
    · exact (h.1 c _ (Finset.mem_filter.mpr ⟨StableHlo.devRef_mem_tcRefs main_v43, by decide⟩)).trans (result_v43 m m' hm' c)
    · exact (h.1 c _ (Finset.mem_filter.mpr ⟨StableHlo.devRef_mem_tcRefs main_v46, by decide⟩)).trans (result_v46 m m' hm' c)
    · exact (h.1 c _ (Finset.mem_filter.mpr ⟨StableHlo.devRef_mem_tcRefs main_v48, by decide⟩)).trans (result_v48 m m' hm' c)
    · exact (h.1 c _ (Finset.mem_filter.mpr ⟨StableHlo.devRef_mem_tcRefs main_v50, by decide⟩)).trans (result_v50 m m' hm' c)
    · exact (h.1 c _ (Finset.mem_filter.mpr ⟨StableHlo.devRef_mem_tcRefs main_v54, by decide⟩)).trans (result_v54 m m' hm' c)
    · exact (h.1 c _ (Finset.mem_filter.mpr ⟨StableHlo.devRef_mem_tcRefs main_v57, by decide⟩)).trans (result_v57 m m' hm' c)
    · exact (h.1 c _ (Finset.mem_filter.mpr ⟨StableHlo.devRef_mem_tcRefs main_v59, by decide⟩)).trans (result_v59 m m' hm' c)
    · exact (h.1 c _ (Finset.mem_filter.mpr ⟨StableHlo.devRef_mem_tcRefs main_v61, by decide⟩)).trans (result_v61 m m' hm' c)
    · exact (h.1 c _ (Finset.mem_filter.mpr ⟨StableHlo.devRef_mem_tcRefs main_v65, by decide⟩)).trans (result_v65 m m' hm' c)
    · exact (h.1 c _ (Finset.mem_filter.mpr ⟨StableHlo.devRef_mem_tcRefs main_v68, by decide⟩)).trans (result_v68 m m' hm' c)
    · exact (h.1 c _ (Finset.mem_filter.mpr ⟨StableHlo.devRef_mem_tcRefs main_v70, by decide⟩)).trans (result_v70 m m' hm' c)
    · exact (h.1 c _ (Finset.mem_filter.mpr ⟨StableHlo.devRef_mem_tcRefs main_v72, by decide⟩)).trans (result_v72 m m' hm' c)
    · exact (h.1 c _ (Finset.mem_filter.mpr ⟨StableHlo.devRef_mem_tcRefs main_v76, by decide⟩)).trans (result_v76 m m' hm' c)
    · exact (h.1 c _ (Finset.mem_filter.mpr ⟨StableHlo.devRef_mem_tcRefs main_arg0, by decide⟩)).trans (V10_main_arg0 m (outs m) c)
    · exact (h.1 c _ (Finset.mem_filter.mpr ⟨StableHlo.devRef_mem_tcRefs main_arg1, by decide⟩)).trans (V10_main_arg1 m (outs m) c)
    · exact (h.1 c _ (Finset.mem_filter.mpr ⟨StableHlo.devRef_mem_tcRefs main_arg2, by decide⟩)).trans (V10_main_arg2 m (outs m) c)
    · exact (h.1 c _ (Finset.mem_filter.mpr ⟨StableHlo.devRef_mem_tcRefs main_arg3, by decide⟩)).trans (V10_main_arg3 m (outs m) c)
    · exact (h.1 c _ (Finset.mem_filter.mpr ⟨StableHlo.devRef_mem_tcRefs main_arg4, by decide⟩)).trans (V10_main_arg4 m (outs m) c)
    · exact (h.1 c _ (Finset.mem_filter.mpr ⟨StableHlo.devRef_mem_tcRefs main_arg5, by decide⟩)).trans (V10_main_arg5 m (outs m) c)
    · exact (h.1 c _ (Finset.mem_filter.mpr ⟨StableHlo.devRef_mem_tcRefs main_arg6, by decide⟩)).trans (V10_main_arg6 m (outs m) c)
    · exact (h.1 c _ (Finset.mem_filter.mpr ⟨StableHlo.devRef_mem_tcRefs main_arg7, by decide⟩)).trans (V10_main_arg7 m (outs m) c)
    · exact (h.1 c _ (Finset.mem_filter.mpr ⟨StableHlo.devRef_mem_tcRefs main_arg8, by decide⟩)).trans (V10_main_arg8 m (outs m) c)
    · exact (h.1 c _ (Finset.mem_filter.mpr ⟨StableHlo.devRef_mem_tcRefs main_arg9, by decide⟩)).trans (V10_main_arg9 m (outs m) c)
    · exact (h.1 c _ (Finset.mem_filter.mpr ⟨StableHlo.devRef_mem_tcRefs main_arg10, by decide⟩)).trans (V10_main_arg10 m (outs m) c)
    · exact (h.1 c _ (Finset.mem_filter.mpr ⟨StableHlo.devRef_mem_tcRefs main_arg11, by decide⟩)).trans (V10_main_arg11 m (outs m) c)
    · exact (h.1 c _ (Finset.mem_filter.mpr ⟨StableHlo.devRef_mem_tcRefs main_arg12, by decide⟩)).trans (V10_main_arg12 m (outs m) c)
  · refine (θ_run Cert.ReferenceIdeal.defs _ _).mono (fun r h => ?_) (Cert.ReferenceIdeal.Value.run (F := Ideal) m' g')
    exact h 0

end Cert.Proof

end
-- ==== Proof.RepPack.lean ====
/-
  The replicated parameters' packed array: the host's packing of eight arrays into forty rows, its unpacking, and the
  reference's cutting of the summed rows, each by where an element sits among the rows.
-/
module

public import proofs.«01_k».proof.Defs
public import proofs.«01_k».proof.Proof.Ref
public import proofs.«01_k».proof.Proof.Gen.ReplicatedIdeal.Frame
public import proofs.«01_k».proof.Proof.Gen.ReplicatedReferenceIdeal

@[expose] public section

noncomputable section

namespace Cert.Proof.Rep

open Cert.ReplicatedIdeal Cert.ReplicatedIdeal.Gen
open Idealize.ShloMosaic Idealize.ShloMosaic.TcCoe Idealize.ShloMosaic.Tactic

set_option maxRecDepth 16384

/-- Forty packed rows. -/
abbrev Rows40 : Type := FVec Ideal S40x1024 .f32

/-- One array per replicated parameter. -/
structure Params where
  /-- the layer norms' gains -/
  ln : FVec Ideal S2x1024 .f32
  /-- the pooling weights -/
  pool : FVec Ideal S2x4x64x64 .f32
  /-- the pooling scales -/
  scale : FVec Ideal S2x256 .f32
  /-- the convolutions' biases -/
  bias : FVec Ideal S2x256 .f32
  /-- their norms' gains -/
  gain : FVec Ideal S2x256 .f32
  /-- and offsets -/
  shift : FVec Ideal S2x256 .f32
  /-- the sinks -/
  sinks : FVec Ideal S2x8 .f32
  /-- the last norm's gain -/
  last : FVec Ideal S1024 .f32

/-! ### Packing -/

/-- The sinks filled up to whole rows of 256. -/
def wideSinks (x : FVec Ideal S2x8 .f32) : FVec Ideal S2x256 .f32 :=
  pad S2x256 ![0, 0] ![0, 248] ![0, 0] x (sitofp .f32 (constantI S_ 32 0#32) : FVec Ideal S_ .f32) pads_S2x8_S2x256_000_02480 h_S_
/-- The five small parameters one under the other, -/
def tenRows (a b d e f : FVec Ideal S2x256 .f32) : FVec Ideal S10x256 .f32 :=
  concatenate S10x256 0 [⟨S2x256, a⟩, ⟨S2x256, b⟩, ⟨S2x256, d⟩, ⟨S2x256, e⟩, ⟨S2x256, f⟩]
    concatenates_S2x256_S2x256_S2x256_S2x256_S2x256_S10x256_d0
/-- with two rows of zeros. -/
def twelveRows (a : FVec Ideal S10x256 .f32) (b : FVec Ideal S2x256 .f32) : FVec Ideal S12x256 .f32 :=
  concatenate S12x256 0 [⟨S10x256, a⟩, ⟨S2x256, b⟩] concatenates_S10x256_S2x256_S12x256_d0
/-- The four blocks of rows, -/
def rows38 (a : FVec Ideal S2x1024 .f32) (b : FVec Ideal S1x1024 .f32) (d : FVec Ideal S32x1024 .f32) (e : FVec Ideal S3x1024 .f32) :
    FVec Ideal S38x1024 .f32 :=
  concatenate S38x1024 0 [⟨S2x1024, a⟩, ⟨S1x1024, b⟩, ⟨S32x1024, d⟩, ⟨S3x1024, e⟩]
    concatenates_S2x1024_S1x1024_S32x1024_S3x1024_S38x1024_d0
/-- with two rows of zeros. -/
def rows40 (a : FVec Ideal S38x1024 .f32) (b : FVec Ideal S2x1024 .f32) : Rows40 :=
  concatenate S40x1024 0 [⟨S38x1024, a⟩, ⟨S2x1024, b⟩] concatenates_S38x1024_S2x1024_S40x1024_d0

/-- The zeros that fill. -/
abbrev zero : FVec Ideal S_ .f32 := constant S_ .f32 0x00000000#32

/-- The small parameters' block. -/
def smallRows (P : Params) : FVec Ideal S12x256 .f32 :=
  twelveRows (tenRows P.scale P.bias P.gain P.shift (wideSinks P.sinks)) (broadcastInDim S2x256 ![] bcast_S_S2x256 zero)
/-- The packing of eight arrays. -/
def packed (P : Params) : Rows40 :=
  rows40 (rows38 P.ln (shapeCast S1x1024 P.last shapeCasts_S1024_S1x1024) (shapeCast S32x1024 P.pool shapeCasts_S2x4x64x64_S32x1024)
    (shapeCast S3x1024 (smallRows P) shapeCasts_S12x256_S3x1024)) (broadcastInDim S2x1024 ![] bcast_S_S2x1024 zero)

/-! ### Unpacking -/

/-- The rows that count, -/
def body (x : Rows40) : FVec Ideal S38x1024 .f32 := extractStridedSlice S38x1024 ![0, 0] x slices_S40x1024_S38x1024_0_0
/-- and among them the small parameters'. -/
def small (x : Rows40) : FVec Ideal S10x256 .f32 :=
  extractStridedSlice S10x256 ![0, 0] (shapeCast S12x256 (extractStridedSlice S3x1024 ![35, 0] (body x) slices_S38x1024_S3x1024_35_0)
    shapeCasts_S3x1024_S12x256) slices_S12x256_S10x256_0_0

def unLn (x : Rows40) : FVec Ideal S2x1024 .f32 := extractStridedSlice S2x1024 ![0, 0] (body x) slices_S38x1024_S2x1024_0_0
def unLast (x : Rows40) : FVec Ideal S1024 .f32 :=
  shapeCast S1024 (extractStridedSlice S1x1024 ![2, 0] (body x) slices_S38x1024_S1x1024_2_0) shapeCasts_S1x1024_S1024
def unPool (x : Rows40) : FVec Ideal S2x4x64x64 .f32 :=
  shapeCast S2x4x64x64 (extractStridedSlice S32x1024 ![3, 0] (body x) slices_S38x1024_S32x1024_3_0) shapeCasts_S32x1024_S2x4x64x64
def unScale (x : Rows40) : FVec Ideal S2x256 .f32 := extractStridedSlice S2x256 ![0, 0] (small x) slices_S10x256_S2x256_0_0
def unBias (x : Rows40) : FVec Ideal S2x256 .f32 := extractStridedSlice S2x256 ![2, 0] (small x) slices_S10x256_S2x256_2_0
def unGain (x : Rows40) : FVec Ideal S2x256 .f32 := extractStridedSlice S2x256 ![4, 0] (small x) slices_S10x256_S2x256_4_0
def unShift (x : Rows40) : FVec Ideal S2x256 .f32 := extractStridedSlice S2x256 ![6, 0] (small x) slices_S10x256_S2x256_6_0
def unSinks (x : Rows40) : FVec Ideal S2x8 .f32 := extractStridedSlice S2x8 ![8, 0] (small x) slices_S10x256_S2x8_8_0

/-! ### The reference's cutting -/

/-- The small parameters' rows of 256, -/
def cutSmall (x : Rows40) : FVec Ideal S12x256 .f32 :=
  shapeCast S12x256 (extractStridedSlice S3x1024 ![35, 0] x Cert.ReplicatedReferenceIdeal.Gen.slices_S40x1024_S3x1024_35_0)
    shapeCasts_S3x1024_S12x256
def cutLn (x : Rows40) : FVec Ideal S2x1024 .f32 :=
  extractStridedSlice S2x1024 ![0, 0] x Cert.ReplicatedReferenceIdeal.Gen.slices_S40x1024_S2x1024_0_0
def cutLast (x : Rows40) : FVec Ideal S1024 .f32 :=
  shapeCast S1024 (extractStridedSlice S1x1024 ![2, 0] x Cert.ReplicatedReferenceIdeal.Gen.slices_S40x1024_S1x1024_2_0) shapeCasts_S1x1024_S1024
def cutPool (x : Rows40) : FVec Ideal S2x4x64x64 .f32 :=
  shapeCast S2x4x64x64 (extractStridedSlice S32x1024 ![3, 0] x Cert.ReplicatedReferenceIdeal.Gen.slices_S40x1024_S32x1024_3_0)
    shapeCasts_S32x1024_S2x4x64x64
def cutScale (x : Rows40) : FVec Ideal S2x256 .f32 :=
  extractStridedSlice S2x256 ![0, 0] (cutSmall x) Cert.ReplicatedReferenceIdeal.Gen.slices_S12x256_S2x256_0_0
def cutBias (x : Rows40) : FVec Ideal S2x256 .f32 :=
  extractStridedSlice S2x256 ![2, 0] (cutSmall x) Cert.ReplicatedReferenceIdeal.Gen.slices_S12x256_S2x256_2_0
def cutGain (x : Rows40) : FVec Ideal S2x256 .f32 :=
  extractStridedSlice S2x256 ![4, 0] (cutSmall x) Cert.ReplicatedReferenceIdeal.Gen.slices_S12x256_S2x256_4_0
def cutShift (x : Rows40) : FVec Ideal S2x256 .f32 :=
  extractStridedSlice S2x256 ![6, 0] (cutSmall x) Cert.ReplicatedReferenceIdeal.Gen.slices_S12x256_S2x256_6_0
def cutSinks (x : Rows40) : FVec Ideal S2x8 .f32 :=
  extractStridedSlice S2x8 ![8, 0] (cutSmall x) Cert.ReplicatedReferenceIdeal.Gen.slices_S12x256_S2x8_8_0

/-! ### Where an element sits -/

/-- Each element of a parameter sits at one place among the rows, for the unpacking, the cutting and the packing alike. -/
def Placed {t : Shape} (un cut : Rows40 → FVec Ideal t .f32) (part : Params → FVec Ideal t .f32) : Prop :=
  ∀ i, ∃ j : S40x1024.Idx, (∀ x, un x i = x j) ∧ (∀ x, cut x i = x j) ∧ ∀ P, packed P j = part P i

theorem packed_ln (P : Params) (l : Fin 2) (k : Fin 1024) :
    packed P (ix2 ⟨l.val, by omega⟩ k) = P.ln (ix2 l k) := by
  pointwise [packed, rows40, rows38]
  rw [dif_pos (by omega)]
theorem packed_last (P : Params) (k : Fin 1024) : packed P (ix2 2 k) = P.last (ix1 k) := by
  pointwise [packed, rows40, rows38]
theorem packed_pool (P : Params) (l : Fin 2) (h : Fin 4) (i j : Fin 64) :
    packed P (ix2 ⟨3 + (l.val * 16 + h.val * 4 + i.val / 16), by omega⟩ ⟨i.val % 16 * 64 + j.val, by omega⟩) = P.pool (ix4 l h i j) := by
  pointwise [packed, rows40, rows38]
  rw [dif_pos (by omega), dif_neg (by omega), dif_neg (by omega), dif_pos (by omega)]
  exact congrArg₂ (fun a b => P.pool (ix4 a b i j))
    (Fin.ext (by show (3 + (l.val * 16 + h.val * 4 + i.val / 16) - 2 - 1) / 16 = l.val; omega))
    (Fin.ext (by show (3 + (l.val * 16 + h.val * 4 + i.val / 16) - 2 - 1) / 4 % 4 = h.val; omega))
theorem packed_small (P : Params) (r : Fin 12) (k : Fin 256) :
    packed P (ix2 ⟨35 + r.val / 4, by omega⟩ ⟨r.val % 4 * 256 + k.val, by omega⟩) = smallRows P (ix2 r k) := by
  pointwise [packed, rows40, rows38]
  rw [dif_pos (by omega), dif_neg (by omega), dif_neg (by omega), dif_neg (by omega)]

/-! The small parameters among their rows. -/

theorem small_scale (P : Params) (l : Fin 2) (k : Fin 256) : smallRows P (ix2 ⟨l.val, by omega⟩ k) = P.scale (ix2 l k) := by
  pointwise [smallRows, twelveRows, tenRows]
  rw [dif_pos (by omega)]
theorem small_bias (P : Params) (l : Fin 2) (k : Fin 256) : smallRows P (ix2 ⟨2 + l.val, by omega⟩ k) = P.bias (ix2 l k) := by
  pointwise [smallRows, twelveRows, tenRows]
  rw [dif_pos (by omega)]
theorem small_gain (P : Params) (l : Fin 2) (k : Fin 256) : smallRows P (ix2 ⟨4 + l.val, by omega⟩ k) = P.gain (ix2 l k) := by
  pointwise [smallRows, twelveRows, tenRows]
  rw [dif_pos (by omega), dif_neg (by omega), dif_neg (by omega), dif_pos (by omega)]
  exact congrArg (fun i => P.gain (ix2 i k)) (Fin.ext (by show 4 + l.val - 2 - 2 = l.val; omega))
theorem small_shift (P : Params) (l : Fin 2) (k : Fin 256) : smallRows P (ix2 ⟨6 + l.val, by omega⟩ k) = P.shift (ix2 l k) := by
  pointwise [smallRows, twelveRows, tenRows]
  rw [dif_pos (by omega), dif_neg (by omega), dif_neg (by omega), dif_neg (by omega), dif_pos (by omega)]
  exact congrArg (fun i => P.shift (ix2 i k)) (Fin.ext (by show 6 + l.val - 2 - 2 - 2 = l.val; omega))
theorem small_sinks (P : Params) (l : Fin 2) (k : Fin 8) :
    smallRows P (ix2 ⟨8 + l.val, by omega⟩ ⟨k.val, by omega⟩) = P.sinks (ix2 l k) := by
  pointwise [smallRows, twelveRows, tenRows, wideSinks]
  rw [dif_pos (by omega), dif_neg (by omega), dif_neg (by omega), dif_neg (by omega), dif_neg (by omega), dif_pos (by omega)]
  exact congrArg (fun i => P.sinks (ix2 i k)) (Fin.ext (by show 8 + l.val - 2 - 2 - 2 - 2 = l.val; omega))

theorem placed_ln : Placed unLn cutLn Params.ln := by
  intro i; idx_vars i
  exact ⟨_, fun x => by pointwise [unLn, body], fun x => by pointwise [cutLn], fun P => packed_ln P _ _⟩
theorem placed_last : Placed unLast cutLast Params.last := by
  intro i; idx_vars i
  exact ⟨_, fun x => by pointwise [unLast, body], fun x => by pointwise [cutLast], fun P => packed_last P _⟩
theorem placed_pool : Placed unPool cutPool Params.pool := by
  intro i; idx_vars i
  exact ⟨_, fun x => by pointwise [unPool, body], fun x => by pointwise [cutPool], fun P => packed_pool P _ _ _ _⟩
theorem placed_scale : Placed unScale cutScale Params.scale := by
  intro i; idx_vars i
  exact ⟨_, fun x => by pointwise [unScale, small, body], fun x => by pointwise [cutScale, cutSmall],
    fun P => (packed_small P _ _).trans (small_scale P _ _)⟩
theorem placed_bias : Placed unBias cutBias Params.bias := by
  intro i; idx_vars i
  exact ⟨_, fun x => by pointwise [unBias, small, body], fun x => by pointwise [cutBias, cutSmall],
    fun P => (packed_small P _ _).trans (small_bias P _ _)⟩
theorem placed_gain : Placed unGain cutGain Params.gain := by
  intro i; idx_vars i
  exact ⟨_, fun x => by pointwise [unGain, small, body], fun x => by pointwise [cutGain, cutSmall],
    fun P => (packed_small P _ _).trans (small_gain P _ _)⟩
theorem placed_shift : Placed unShift cutShift Params.shift := by
  intro i; idx_vars i
  exact ⟨_, fun x => by pointwise [unShift, small, body], fun x => by pointwise [cutShift, cutSmall],
    fun P => (packed_small P _ _).trans (small_shift P _ _)⟩
theorem placed_sinks : Placed unSinks cutSinks Params.sinks := by
  intro i; idx_vars i
  exact ⟨_, fun x => by pointwise [unSinks, small, body], fun x => by pointwise [cutSinks, cutSmall],
    fun P => (packed_small P _ _).trans (small_sinks P _ _)⟩

end Cert.Proof.Rep

end
-- ==== Proof.RepValue.lean ====
/-
  What the replicated update's call leaves in its four arrays, from the gathered parts and the three packed arrays, and
  what the host's lines before and after it hold.
-/
module

public import proofs.«01_k».proof.Proof.RepPack
public import Idealize.ShloMosaic.Lib.Pipeline.ValueKit
public import Idealize.ShloMosaic.Lib.Pointwise
public import Idealize.ShloMosaic.Lib.StableHlo.RunRead

@[expose] public section

noncomputable section

namespace Cert.Proof.Rep

open Cert.ReplicatedIdeal Cert.ReplicatedIdeal.Gen
open Idealize.ShloMosaic Idealize.ShloMosaic.TcCoe Idealize.ShloMosaic.Tactic Idealize.ShloMosaic.StableHlo
open Idealize.ShloMosaic.Pipeline (Dat Cfg Window)

set_option maxRecDepth 16384

/-- The eight devices' parts. -/
abbrev Parts : Type := FVec Ideal S8x40x1024 .f32

/-- Their sum, -/
def total (p : Parts) : Rows40 := fun i =>
  p (ix3 0 (i 0) (i 1)) + p (ix3 1 (i 0) (i 1)) + p (ix3 2 (i 0) (i 1)) + p (ix3 3 (i 0) (i 1))
    + p (ix3 4 (i 0) (i 1)) + p (ix3 5 (i 0) (i 1)) + p (ix3 6 (i 0) (i 1)) + p (ix3 7 (i 0) (i 1))
/-- the new first moment, -/
def mom (p : Parts) (mm : Rows40) : Rows40 := fun i => word 0x3F666666#32 * mm i + word 0x3DCCCCCD#32 * total p i
/-- the new second moment -/
def var (p : Parts) (v : Rows40) : Rows40 := fun i =>
  word 0x3F7FBE77#32 * v i + word 0x3A83126F#32 * (total p i * total p i)
/-- and the step. -/
def step (p : Parts) (w mm v : Rows40) : Rows40 := fun i =>
  word 0xBA83126F#32 * (Ideal.div (Ideal.div (mom p mm i) (word 0x3F26BD02#32))
    (Ideal.sqrt (Ideal.div (var p v i) (word 0x3C231ACC#32)) + word 0x322BCC77#32) + word 0x3C23D70A#32 * w i)

/-! ### The call's body -/

theorem stored_whole (p : Rows40) : View.canon ([⟨r0_8, p⟩] : List (View.Piece (Elt Ideal) S40x1024 .f32)) = p := by
  funext y
  have h : y = r0_8.emb y := by
    funext a; apply Fin.ext; rw [Rect.emb_apply]; fin_cases a <;> simp [r0_8, Rect.unit]
  conv_lhs => rw [h]
  rw [View.canon_cons_emb]

theorem out_total (p : Parts) (w mm v : Rows40) : out0_4 (F := Ideal) p w mm v = total p := by
  unfold out0_4
  rw [stored_whole]
  funext i; idx_vars i
  pointwise [k0_pay5, k0_pay3, total]
theorem out_mom (p : Parts) (w mm v : Rows40) : out0_6 (F := Ideal) p w mm v = mom p mm := by
  unfold out0_6
  rw [stored_whole]
  funext i; idx_vars i
  pointwise [k0_pay6, k0_pay4, k0_pay3, total, mom]
theorem out_var (p : Parts) (w mm v : Rows40) : out0_7 (F := Ideal) p w mm v = var p v := by
  unfold out0_7
  rw [stored_whole]
  funext i; idx_vars i
  pointwise [k0_pay5, k0_pay3, k0_pay1, total, var]
theorem out_step (p : Parts) (w mm v : Rows40) : out0_5 (F := Ideal) p w mm v = step p w mm v := by
  unfold out0_5
  rw [stored_whole]
  funext i; idx_vars i
  pointwise [k0_pay6, k0_pay5, k0_pay4, k0_pay3, k0_pay2, k0_pay1, total, mom, var, step]

/-! ### The call's arrays -/

section Arrays
variable (m : (ℓ : Loc nD τ sig) → Buf (Elt Ideal) ℓ) (c : Dev nD)

theorem blk0 (t : Fin cfg0.N) : iblk m c 0 t = (V m c main_arg0 : Parts) := by
  have h : ∀ a, win0_0.index t a = 0 := by revert t; decide +kernel
  funext y
  refine congrArg (V m c main_arg0) ?_
  funext a; apply Fin.ext; fin_cases a <;> blk_simp [Pipeline.Window.cell_apply] <;> rw [h, Nat.zero_mul, Nat.zero_add]
theorem blk1 (t : Fin cfg0.N) : iblk m c 1 t = (V m c main_v9 : Rows40) := by
  have h : ∀ a, win0_1.index t a = 0 := by revert t; decide +kernel
  funext y
  refine congrArg (V m c main_v9) ?_
  funext a; apply Fin.ext; fin_cases a <;> blk_simp [Pipeline.Window.cell_apply] <;> rw [h, Nat.zero_mul, Nat.zero_add]
theorem blk2 (t : Fin cfg0.N) : iblk m c 2 t = (V m c main_v19 : Rows40) := by
  have h : ∀ a, win0_2.index t a = 0 := by revert t; decide +kernel
  funext y
  refine congrArg (V m c main_v19) ?_
  funext a; apply Fin.ext; fin_cases a <;> blk_simp [Pipeline.Window.cell_apply] <;> rw [h, Nat.zero_mul, Nat.zero_add]
theorem blk3 (t : Fin cfg0.N) : iblk m c 3 t = (V m c main_v29 : Rows40) := by
  have h : ∀ a, win0_3.index t a = 0 := by revert t; decide +kernel
  funext y
  refine congrArg (V m c main_v29) ?_
  funext a; apply Fin.ext; fin_cases a <;> blk_simp [Pipeline.Window.cell_apply] <;> rw [h, Nat.zero_mul, Nat.zero_add]
theorem arr_total : (Cert.ReplicatedIdeal.Gen.dats m 0 c).arrAt 4 cfg0.N = total (V m c main_arg0) := by
  refine (Cert.ReplicatedIdeal.Gen.dats m 0 c).arrAt_eq_of_covers 4 _ (by decide +kernel) fun t hf y => ?_
  blk_simp
  rw [after0_4, blk0, blk1, blk2, blk3, out_total]
  have h : ∀ a, win0_4.index t a = 0 := by clear hf y; revert t; decide +kernel
  refine congrArg (total _) ?_
  funext a; apply Fin.ext; fin_cases a <;> blk_simp [Pipeline.Window.cell_apply] <;> rw [h, Nat.zero_mul, Nat.zero_add]
theorem arr_step : (Cert.ReplicatedIdeal.Gen.dats m 0 c).arrAt 5 cfg0.N = step (V m c main_arg0) (V m c main_v9) (V m c main_v19) (V m c main_v29) := by
  refine (Cert.ReplicatedIdeal.Gen.dats m 0 c).arrAt_eq_of_covers 5 _ (by decide +kernel) fun t hf y => ?_
  blk_simp
  rw [after0_5, blk0, blk1, blk2, blk3, out_step]
  have h : ∀ a, win0_5.index t a = 0 := by clear hf y; revert t; decide +kernel
  refine congrArg (step _ _ _ _) ?_
  funext a; apply Fin.ext; fin_cases a <;> blk_simp [Pipeline.Window.cell_apply] <;> rw [h, Nat.zero_mul, Nat.zero_add]
theorem arr_mom : (Cert.ReplicatedIdeal.Gen.dats m 0 c).arrAt 6 cfg0.N = mom (V m c main_arg0) (V m c main_v19) := by
  refine (Cert.ReplicatedIdeal.Gen.dats m 0 c).arrAt_eq_of_covers 6 _ (by decide +kernel) fun t hf y => ?_
  blk_simp
  rw [after0_6, blk0, blk1, blk2, blk3, out_mom]
  have h : ∀ a, win0_6.index t a = 0 := by clear hf y; revert t; decide +kernel
  refine congrArg (mom _ _) ?_
  funext a; apply Fin.ext; fin_cases a <;> blk_simp [Pipeline.Window.cell_apply] <;> rw [h, Nat.zero_mul, Nat.zero_add]
theorem arr_var : (Cert.ReplicatedIdeal.Gen.dats m 0 c).arrAt 7 cfg0.N = var (V m c main_arg0) (V m c main_v29) := by
  refine (Cert.ReplicatedIdeal.Gen.dats m 0 c).arrAt_eq_of_covers 7 _ (by decide +kernel) fun t hf y => ?_
  blk_simp
  rw [after0_7, blk0, blk1, blk2, blk3, out_var]
  have h : ∀ a, win0_7.index t a = 0 := by clear hf y; revert t; decide +kernel
  refine congrArg (var _ _) ?_
  funext a; apply Fin.ext; fin_cases a <;> blk_simp [Pipeline.Window.cell_apply] <;> rw [h, Nat.zero_mul, Nat.zero_add]

end Arrays

section Before
variable (m : (ℓ : Loc nD τ sig) → Buf (Elt Ideal) ℓ) (c : Dev nD)

/-- A device's weights, -/
def argW : Params := ⟨m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8)⟩
/-- first moments -/
def argM : Params := ⟨m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16)⟩
/-- and second moments. -/
def argV : Params := ⟨m ((c.tc : Thread nD τ).loc main_arg17), m ((c.tc : Thread nD τ).loc main_arg18), m ((c.tc : Thread nD τ).loc main_arg19), m ((c.tc : Thread nD τ).loc main_arg20), m ((c.tc : Thread nD τ).loc main_arg21), m ((c.tc : Thread nD τ).loc main_arg22), m ((c.tc : Thread nD τ).loc main_arg23), m ((c.tc : Thread nD τ).loc main_arg24)⟩
/-- The parts it has gathered. -/
abbrev parts : Parts := m ((c.tc : Thread nD τ).loc main_arg0)

set_option maxHeartbeats 1000000 in
theorem packed_W : V m c main_v9 = packed (argW m c) := by
  unfold V
  after_reads_simp
  change rows40 (rows38 _ _ _ _) _ = _
  after_reads_simp
  change rows40 (rows38 _ _ _ (shapeCast S3x1024 (twelveRows (tenRows _ _ _ _ _) _) _)) _ = _
  after_reads_simp
  rfl
set_option maxHeartbeats 1000000 in
theorem packed_M : V m c main_v19 = packed (argM m c) := by
  unfold V
  after_reads_simp
  change rows40 (rows38 _ _ _ _) _ = _
  after_reads_simp
  change rows40 (rows38 _ _ _ (shapeCast S3x1024 (twelveRows (tenRows _ _ _ _ _) _) _)) _ = _
  after_reads_simp
  rfl
set_option maxHeartbeats 1000000 in
theorem packed_V : V m c main_v29 = packed (argV m c) := by
  unfold V
  after_reads_simp
  change rows40 (rows38 _ _ _ _) _ = _
  after_reads_simp
  change rows40 (rows38 _ _ _ (shapeCast S3x1024 (twelveRows (tenRows _ _ _ _ _) _) _)) _ = _
  after_reads_simp
  rfl

end Before

/-! ### The host's lines after the call -/

section After
variable (X : Valuation τ sig (Elt Ideal))

theorem read_total :
    after hostOps1 X (Proc.devRef .tc main_v32) = unLn (X (Proc.devRef .tc main_v30_0))
    ∧ after hostOps1 X (Proc.devRef .tc main_v34) = unLast (X (Proc.devRef .tc main_v30_0))
    ∧ after hostOps1 X (Proc.devRef .tc main_v36) = unPool (X (Proc.devRef .tc main_v30_0))
    ∧ after hostOps1 X (Proc.devRef .tc main_v40) = unScale (X (Proc.devRef .tc main_v30_0))
    ∧ after hostOps1 X (Proc.devRef .tc main_v41) = unBias (X (Proc.devRef .tc main_v30_0))
    ∧ after hostOps1 X (Proc.devRef .tc main_v42) = unGain (X (Proc.devRef .tc main_v30_0))
    ∧ after hostOps1 X (Proc.devRef .tc main_v43) = unShift (X (Proc.devRef .tc main_v30_0))
    ∧ after hostOps1 X (Proc.devRef .tc main_v44) = unSinks (X (Proc.devRef .tc main_v30_0)) := by
  refine ⟨?_, ?_, ?_, ?_, ?_, ?_, ?_, ?_⟩ <;> (after_reads_simp <;> rfl)
theorem read_step :
    after hostOps1 X (Proc.devRef .tc main_v46) = unLn (X (Proc.devRef .tc main_v30_1))
    ∧ after hostOps1 X (Proc.devRef .tc main_v48) = unLast (X (Proc.devRef .tc main_v30_1))
    ∧ after hostOps1 X (Proc.devRef .tc main_v50) = unPool (X (Proc.devRef .tc main_v30_1))
    ∧ after hostOps1 X (Proc.devRef .tc main_v54) = unScale (X (Proc.devRef .tc main_v30_1))
    ∧ after hostOps1 X (Proc.devRef .tc main_v55) = unBias (X (Proc.devRef .tc main_v30_1))
    ∧ after hostOps1 X (Proc.devRef .tc main_v56) = unGain (X (Proc.devRef .tc main_v30_1))
    ∧ after hostOps1 X (Proc.devRef .tc main_v57) = unShift (X (Proc.devRef .tc main_v30_1))
    ∧ after hostOps1 X (Proc.devRef .tc main_v58) = unSinks (X (Proc.devRef .tc main_v30_1)) := by
  refine ⟨?_, ?_, ?_, ?_, ?_, ?_, ?_, ?_⟩ <;> (after_reads_simp <;> rfl)
theorem read_mom :
    after hostOps1 X (Proc.devRef .tc main_v60) = unLn (X (Proc.devRef .tc main_v30_2))
    ∧ after hostOps1 X (Proc.devRef .tc main_v62) = unLast (X (Proc.devRef .tc main_v30_2))
    ∧ after hostOps1 X (Proc.devRef .tc main_v64) = unPool (X (Proc.devRef .tc main_v30_2))
    ∧ after hostOps1 X (Proc.devRef .tc main_v68) = unScale (X (Proc.devRef .tc main_v30_2))
    ∧ after hostOps1 X (Proc.devRef .tc main_v69) = unBias (X (Proc.devRef .tc main_v30_2))
    ∧ after hostOps1 X (Proc.devRef .tc main_v70) = unGain (X (Proc.devRef .tc main_v30_2))
    ∧ after hostOps1 X (Proc.devRef .tc main_v71) = unShift (X (Proc.devRef .tc main_v30_2))
    ∧ after hostOps1 X (Proc.devRef .tc main_v72) = unSinks (X (Proc.devRef .tc main_v30_2)) := by
  refine ⟨?_, ?_, ?_, ?_, ?_, ?_, ?_, ?_⟩ <;> (after_reads_simp <;> rfl)
theorem read_var :
    after hostOps1 X (Proc.devRef .tc main_v74) = unLn (X (Proc.devRef .tc main_v30_3))
    ∧ after hostOps1 X (Proc.devRef .tc main_v76) = unLast (X (Proc.devRef .tc main_v30_3))
    ∧ after hostOps1 X (Proc.devRef .tc main_v78) = unPool (X (Proc.devRef .tc main_v30_3))
    ∧ after hostOps1 X (Proc.devRef .tc main_v82) = unScale (X (Proc.devRef .tc main_v30_3))
    ∧ after hostOps1 X (Proc.devRef .tc main_v83) = unBias (X (Proc.devRef .tc main_v30_3))
    ∧ after hostOps1 X (Proc.devRef .tc main_v84) = unGain (X (Proc.devRef .tc main_v30_3))
    ∧ after hostOps1 X (Proc.devRef .tc main_v85) = unShift (X (Proc.devRef .tc main_v30_3))
    ∧ after hostOps1 X (Proc.devRef .tc main_v86) = unSinks (X (Proc.devRef .tc main_v30_3)) := by
  refine ⟨?_, ?_, ?_, ?_, ?_, ?_, ?_, ?_⟩ <;> (after_reads_simp <;> rfl)

end After

end Cert.Proof.Rep

end
-- ==== Proof.RepResults.lean ====
/-
  The replicated update: its three frames, and the value claim, that every device ends with the reference's thirty-two
  arrays.
-/
module

public import proofs.«01_k».proof.Proof.RepValue
public import proofs.«01_k».proof.Proof.Gen.Replicated.Frame
public import proofs.«01_k».proof.Proof.Gen.ReplicatedReferenceIdeal.Run

@[expose] public section

noncomputable section

namespace Cert.Proof.Rep

open Cert.ReplicatedIdeal Cert.ReplicatedIdeal.Gen
open Idealize.ShloMosaic Idealize.ShloMosaic.TcCoe Idealize.ShloMosaic.Tactic Idealize.ShloMosaic.StableHlo Idealize.SL.Sem

set_option maxRecDepth 16384

/-! ### The frames -/

theorem frame_replicated : Cert.quiescent_Replicated (hReplicated := Cert.Replicated.Gen.facts) :=
  fun m ρ _ => Cert.Replicated.Gen.frame m ρ
theorem frame_replicatedIdeal : Cert.quiescent_ReplicatedIdeal (hReplicatedIdeal := Cert.ReplicatedIdeal.Gen.facts) :=
  fun m ρ _ => Cert.ReplicatedIdeal.Gen.frame m ρ
theorem frame_replicatedReference :
    Cert.quiescent_ReplicatedReferenceIdeal (hReplicatedReferenceIdeal := Cert.ReplicatedReferenceIdeal.Gen.facts) :=
  fun m ρ _ => (θ_run Cert.ReplicatedReferenceIdeal.defs _ _).mono
    (fun r h => ⟨fun c => by
        have hc := h c
        exact hc.2.2.2.2.2.2.2.2.2.2.2.2.2.2.2.2.2.2.2.2.2.2.2.2.2.2.2.2.2.2.2.2, sem_eq_zero_of_no_sems (by decide) r.2⟩)
    (Cert.ReplicatedReferenceIdeal.Value.run (F := Ideal) m ρ)

/-! ### One parameter -/

/-- The reference's sum over the devices. -/
def refTotal (p : Parts) : Rows40 :=
  Host.reduceAdd p (constant S_ .f32 0x00000000#32) Cert.ReplicatedReferenceIdeal.Gen.reducesTo_S8x40x1024_S40x1024_d0 Cert.ReplicatedReferenceIdeal.Gen.h_S_

theorem refTotal_eq (p : Parts) : refTotal p = total p := by
  funext i; idx_vars i
  pointwise [refTotal, total]
  rw [Fin.sum_univ_eight]

section One

variable {t : Shape} {un cut : Rows40 → FVec Ideal t .f32} {part : Params → FVec Ideal t .f32} (h : Placed un cut part)
  (hb : S_.BroadcastsInDim t (![] : Fin 0 → Fin t.rank)) (p : Parts)

include h

/-- The gradient, -/
theorem grad_of : un (total p) = cut (refTotal p) := by
  funext i
  obtain ⟨j, hu, hc, -⟩ := h i
  rw [hu, hc, refTotal_eq]
/-- the new first moment, -/
theorem mom_of (M : Params) : un (mom p (packed M)) = refMom hb (cut (refTotal p)) (part M) := by
  funext i
  obtain ⟨j, hu, hc, hp⟩ := h i
  rw [hu, refMom_apply, hc, refTotal_eq, ← hp]
  rfl
/-- the new second moment -/
theorem var_of (V : Params) : un (var p (packed V)) = refVar hb (cut (refTotal p)) (part V) := by
  funext i
  obtain ⟨j, hu, hc, hp⟩ := h i
  rw [hu, refVar_apply, hc, refTotal_eq, ← hp]
  rfl
/-- and the step. -/
theorem step_of (W M V : Params) :
    un (step p (packed W) (packed M) (packed V)) = refStep hb (cut (refTotal p)) (part W) (part M) (part V) := by
  funext i
  obtain ⟨j, hu, hc, hp⟩ := h i
  rw [hu, refStep_apply, refMom_apply, refVar_apply, hc, refTotal_eq, ← hp W, ← hp M, ← hp V]
  rfl

end One

/-! ### The program's end -/

section Device
variable (m : (ℓ : Loc nD τ sig) → Buf (Elt Ideal) ℓ) (c : Dev nD)

/-- A device's buffers as the call leaves them. -/
abbrev left : Valuation τ sig (Elt Ideal) :=
  Pipeline.withArrays spec0 c (V0 m c) fun w => (Cert.ReplicatedIdeal.Gen.dats m 0 c).arrAt w cfg0.N

theorem spec_inj : Function.Injective (Pipeline.arrRef spec0) := by decide

theorem left_total : left m c (Proc.devRef .tc main_v30_0) = total (parts m c) := by
  refine (Pipeline.withArrays_arr spec0 spec_inj c _ _ 4).trans ((arr_total m c).trans ?_)
  rw [V_main_arg0]
theorem left_step : left m c (Proc.devRef .tc main_v30_1)
    = step (parts m c) (packed (argW m c)) (packed (argM m c)) (packed (argV m c)) := by
  refine (Pipeline.withArrays_arr spec0 spec_inj c _ _ 5).trans ((arr_step m c).trans ?_)
  rw [V_main_arg0, packed_W, packed_M, packed_V]
theorem left_mom : left m c (Proc.devRef .tc main_v30_2) = mom (parts m c) (packed (argM m c)) := by
  refine (Pipeline.withArrays_arr spec0 spec_inj c _ _ 6).trans ((arr_mom m c).trans ?_)
  rw [V_main_arg0, packed_M]
theorem left_var : left m c (Proc.devRef .tc main_v30_3) = var (parts m c) (packed (argV m c)) := by
  refine (Pipeline.withArrays_arr spec0 spec_inj c _ _ 7).trans ((arr_var m c).trans ?_)
  rw [V_main_arg0, packed_V]

/-- What the program ends with, at a buffer that is no array of the call. -/
theorem end_eq (b : Ref sig .tc) :
    Pipeline.afterTail₀ cfgs (Cert.ReplicatedIdeal.Gen.dats m) 0 (V0 m) [hostOps1] c b = after hostOps1 (left m c) (Proc.devRef .tc b) := by
  unfold Pipeline.afterTail₀
  rw [List.flatten_cons, List.flatten_nil, List.append_nil]

end Device

/-! ### The claim -/

section Reference
variable (m' : (ℓ : Loc Cert.ReplicatedReferenceIdeal.nD Cert.ReplicatedReferenceIdeal.τ Cert.ReplicatedReferenceIdeal.sig) → Buf (Elt Ideal) ℓ) (c : Dev Cert.ReplicatedReferenceIdeal.nD)

/-- The reference's arguments. -/
abbrev parts' : Parts := m' ((c.tc : Thread Cert.ReplicatedReferenceIdeal.nD Cert.ReplicatedReferenceIdeal.τ).loc Cert.ReplicatedReferenceIdeal.main_arg0)
def argW' : Params := ⟨m' ((c.tc : Thread Cert.ReplicatedReferenceIdeal.nD Cert.ReplicatedReferenceIdeal.τ).loc Cert.ReplicatedReferenceIdeal.main_arg1), m' ((c.tc : Thread Cert.ReplicatedReferenceIdeal.nD Cert.ReplicatedReferenceIdeal.τ).loc Cert.ReplicatedReferenceIdeal.main_arg2), m' ((c.tc : Thread Cert.ReplicatedReferenceIdeal.nD Cert.ReplicatedReferenceIdeal.τ).loc Cert.ReplicatedReferenceIdeal.main_arg3), m' ((c.tc : Thread Cert.ReplicatedReferenceIdeal.nD Cert.ReplicatedReferenceIdeal.τ).loc Cert.ReplicatedReferenceIdeal.main_arg4), m' ((c.tc : Thread Cert.ReplicatedReferenceIdeal.nD Cert.ReplicatedReferenceIdeal.τ).loc Cert.ReplicatedReferenceIdeal.main_arg5), m' ((c.tc : Thread Cert.ReplicatedReferenceIdeal.nD Cert.ReplicatedReferenceIdeal.τ).loc Cert.ReplicatedReferenceIdeal.main_arg6), m' ((c.tc : Thread Cert.ReplicatedReferenceIdeal.nD Cert.ReplicatedReferenceIdeal.τ).loc Cert.ReplicatedReferenceIdeal.main_arg7), m' ((c.tc : Thread Cert.ReplicatedReferenceIdeal.nD Cert.ReplicatedReferenceIdeal.τ).loc Cert.ReplicatedReferenceIdeal.main_arg8)⟩
def argM' : Params := ⟨m' ((c.tc : Thread Cert.ReplicatedReferenceIdeal.nD Cert.ReplicatedReferenceIdeal.τ).loc Cert.ReplicatedReferenceIdeal.main_arg9), m' ((c.tc : Thread Cert.ReplicatedReferenceIdeal.nD Cert.ReplicatedReferenceIdeal.τ).loc Cert.ReplicatedReferenceIdeal.main_arg10), m' ((c.tc : Thread Cert.ReplicatedReferenceIdeal.nD Cert.ReplicatedReferenceIdeal.τ).loc Cert.ReplicatedReferenceIdeal.main_arg11), m' ((c.tc : Thread Cert.ReplicatedReferenceIdeal.nD Cert.ReplicatedReferenceIdeal.τ).loc Cert.ReplicatedReferenceIdeal.main_arg12), m' ((c.tc : Thread Cert.ReplicatedReferenceIdeal.nD Cert.ReplicatedReferenceIdeal.τ).loc Cert.ReplicatedReferenceIdeal.main_arg13), m' ((c.tc : Thread Cert.ReplicatedReferenceIdeal.nD Cert.ReplicatedReferenceIdeal.τ).loc Cert.ReplicatedReferenceIdeal.main_arg14), m' ((c.tc : Thread Cert.ReplicatedReferenceIdeal.nD Cert.ReplicatedReferenceIdeal.τ).loc Cert.ReplicatedReferenceIdeal.main_arg15), m' ((c.tc : Thread Cert.ReplicatedReferenceIdeal.nD Cert.ReplicatedReferenceIdeal.τ).loc Cert.ReplicatedReferenceIdeal.main_arg16)⟩
def argV' : Params := ⟨m' ((c.tc : Thread Cert.ReplicatedReferenceIdeal.nD Cert.ReplicatedReferenceIdeal.τ).loc Cert.ReplicatedReferenceIdeal.main_arg17), m' ((c.tc : Thread Cert.ReplicatedReferenceIdeal.nD Cert.ReplicatedReferenceIdeal.τ).loc Cert.ReplicatedReferenceIdeal.main_arg18), m' ((c.tc : Thread Cert.ReplicatedReferenceIdeal.nD Cert.ReplicatedReferenceIdeal.τ).loc Cert.ReplicatedReferenceIdeal.main_arg19), m' ((c.tc : Thread Cert.ReplicatedReferenceIdeal.nD Cert.ReplicatedReferenceIdeal.τ).loc Cert.ReplicatedReferenceIdeal.main_arg20), m' ((c.tc : Thread Cert.ReplicatedReferenceIdeal.nD Cert.ReplicatedReferenceIdeal.τ).loc Cert.ReplicatedReferenceIdeal.main_arg21), m' ((c.tc : Thread Cert.ReplicatedReferenceIdeal.nD Cert.ReplicatedReferenceIdeal.τ).loc Cert.ReplicatedReferenceIdeal.main_arg22), m' ((c.tc : Thread Cert.ReplicatedReferenceIdeal.nD Cert.ReplicatedReferenceIdeal.τ).loc Cert.ReplicatedReferenceIdeal.main_arg23), m' ((c.tc : Thread Cert.ReplicatedReferenceIdeal.nD Cert.ReplicatedReferenceIdeal.τ).loc Cert.ReplicatedReferenceIdeal.main_arg24)⟩

end Reference

set_option maxHeartbeats 8000000 in
theorem algebraic_replicated_reference : Cert.algebraic_ReplicatedIdeal_ReplicatedReferenceIdeal := by
  intro m g m' g' _ hm
  have h0 : ∀ c, parts m c = parts' m' c := fun c => (hm c).1.symm
  have hW : ∀ c, argW m c = argW' m' c := fun c => by
    obtain ⟨_, e1, e2, e3, e4, e5, e6, e7, e8, _, _, _, _, _, _, _, _, _, _, _, _, _, _, _, _⟩ := hm c
    unfold argW argW'; rw [e1, e2, e3, e4, e5, e6, e7, e8]
  have hM : ∀ c, argM m c = argM' m' c := fun c => by
    obtain ⟨_, _, _, _, _, _, _, _, _, e9, e10, e11, e12, e13, e14, e15, e16, _, _, _, _, _, _, _, _⟩ := hm c
    unfold argM argM'; rw [e9, e10, e11, e12, e13, e14, e15, e16]
  have hV : ∀ c, argV m c = argV' m' c := fun c => by
    obtain ⟨_, _, _, _, _, _, _, _, _, _, _, _, _, _, _, _, _, e17, e18, e19, e20, e21, e22, e23, e24⟩ := hm c
    unfold argV argV'; rw [e17, e18, e19, e20, e21, e22, e23, e24]
  refine ⟨
    fun c => cutLn (refTotal (parts' m' c)),
    fun c => cutPool (refTotal (parts' m' c)),
    fun c => cutScale (refTotal (parts' m' c)),
    fun c => cutBias (refTotal (parts' m' c)),
    fun c => cutGain (refTotal (parts' m' c)),
    fun c => cutShift (refTotal (parts' m' c)),
    fun c => cutSinks (refTotal (parts' m' c)),
    fun c => cutLast (refTotal (parts' m' c)),
    fun c => refStep Cert.ReplicatedReferenceIdeal.Gen.bcast_S_S2x1024 (cutLn (refTotal (parts' m' c))) (argW' m' c).ln (argM' m' c).ln (argV' m' c).ln,
    fun c => refStep Cert.ReplicatedReferenceIdeal.Gen.bcast_S_S2x4x64x64 (cutPool (refTotal (parts' m' c))) (argW' m' c).pool (argM' m' c).pool (argV' m' c).pool,
    fun c => refStep Cert.ReplicatedReferenceIdeal.Gen.bcast_S_S2x256 (cutScale (refTotal (parts' m' c))) (argW' m' c).scale (argM' m' c).scale (argV' m' c).scale,
    fun c => refStep Cert.ReplicatedReferenceIdeal.Gen.bcast_S_S2x256 (cutBias (refTotal (parts' m' c))) (argW' m' c).bias (argM' m' c).bias (argV' m' c).bias,
    fun c => refStep Cert.ReplicatedReferenceIdeal.Gen.bcast_S_S2x256 (cutGain (refTotal (parts' m' c))) (argW' m' c).gain (argM' m' c).gain (argV' m' c).gain,
    fun c => refStep Cert.ReplicatedReferenceIdeal.Gen.bcast_S_S2x256 (cutShift (refTotal (parts' m' c))) (argW' m' c).shift (argM' m' c).shift (argV' m' c).shift,
    fun c => refStep Cert.ReplicatedReferenceIdeal.Gen.bcast_S_S2x8 (cutSinks (refTotal (parts' m' c))) (argW' m' c).sinks (argM' m' c).sinks (argV' m' c).sinks,
    fun c => refStep Cert.ReplicatedReferenceIdeal.Gen.bcast_S_S1024 (cutLast (refTotal (parts' m' c))) (argW' m' c).last (argM' m' c).last (argV' m' c).last,
    fun c => refMom Cert.ReplicatedReferenceIdeal.Gen.bcast_S_S2x1024 (cutLn (refTotal (parts' m' c))) (argM' m' c).ln,
    fun c => refMom Cert.ReplicatedReferenceIdeal.Gen.bcast_S_S2x4x64x64 (cutPool (refTotal (parts' m' c))) (argM' m' c).pool,
    fun c => refMom Cert.ReplicatedReferenceIdeal.Gen.bcast_S_S2x256 (cutScale (refTotal (parts' m' c))) (argM' m' c).scale,
    fun c => refMom Cert.ReplicatedReferenceIdeal.Gen.bcast_S_S2x256 (cutBias (refTotal (parts' m' c))) (argM' m' c).bias,
    fun c => refMom Cert.ReplicatedReferenceIdeal.Gen.bcast_S_S2x256 (cutGain (refTotal (parts' m' c))) (argM' m' c).gain,
    fun c => refMom Cert.ReplicatedReferenceIdeal.Gen.bcast_S_S2x256 (cutShift (refTotal (parts' m' c))) (argM' m' c).shift,
    fun c => refMom Cert.ReplicatedReferenceIdeal.Gen.bcast_S_S2x8 (cutSinks (refTotal (parts' m' c))) (argM' m' c).sinks,
    fun c => refMom Cert.ReplicatedReferenceIdeal.Gen.bcast_S_S1024 (cutLast (refTotal (parts' m' c))) (argM' m' c).last,
    fun c => refVar Cert.ReplicatedReferenceIdeal.Gen.bcast_S_S2x1024 (cutLn (refTotal (parts' m' c))) (argV' m' c).ln,
    fun c => refVar Cert.ReplicatedReferenceIdeal.Gen.bcast_S_S2x4x64x64 (cutPool (refTotal (parts' m' c))) (argV' m' c).pool,
    fun c => refVar Cert.ReplicatedReferenceIdeal.Gen.bcast_S_S2x256 (cutScale (refTotal (parts' m' c))) (argV' m' c).scale,
    fun c => refVar Cert.ReplicatedReferenceIdeal.Gen.bcast_S_S2x256 (cutBias (refTotal (parts' m' c))) (argV' m' c).bias,
    fun c => refVar Cert.ReplicatedReferenceIdeal.Gen.bcast_S_S2x256 (cutGain (refTotal (parts' m' c))) (argV' m' c).gain,
    fun c => refVar Cert.ReplicatedReferenceIdeal.Gen.bcast_S_S2x256 (cutShift (refTotal (parts' m' c))) (argV' m' c).shift,
    fun c => refVar Cert.ReplicatedReferenceIdeal.Gen.bcast_S_S2x8 (cutSinks (refTotal (parts' m' c))) (argV' m' c).sinks,
    fun c => refVar Cert.ReplicatedReferenceIdeal.Gen.bcast_S_S1024 (cutLast (refTotal (parts' m' c))) (argV' m' c).last, ?_, ?_⟩
  · refine (θ_run defs _ _).mono (fun r h c => ?_) (run_main (F := Ideal) m g)
    have hr : ∀ b, b ∈ Pipeline.restRefs sig spec0 → r.2.mem ((c.tc : Thread nD τ).loc b) = after hostOps1 (left m c) (Proc.devRef .tc b) :=
      fun b hb => ((h c).2 b hb).trans (end_eq m c b)
    have ht := read_total (left m c)
    have hs := read_step (left m c)
    have ha := read_mom (left m c)
    have hq := read_var (left m c)
    rw [left_total, h0] at ht
    rw [left_step, h0, hW, hM, hV] at hs
    rw [left_mom, h0, hM] at ha
    rw [left_var, h0, hV] at hq
    refine ⟨
      (hr main_v32 (Pipeline.mem_restRefs_of main_v32 (by decide) (by decide))).trans (ht.1.trans (grad_of placed_ln _)),
      (hr main_v36 (Pipeline.mem_restRefs_of main_v36 (by decide) (by decide))).trans (ht.2.2.1.trans (grad_of placed_pool _)),
      (hr main_v40 (Pipeline.mem_restRefs_of main_v40 (by decide) (by decide))).trans (ht.2.2.2.1.trans (grad_of placed_scale _)),
      (hr main_v41 (Pipeline.mem_restRefs_of main_v41 (by decide) (by decide))).trans (ht.2.2.2.2.1.trans (grad_of placed_bias _)),
      (hr main_v42 (Pipeline.mem_restRefs_of main_v42 (by decide) (by decide))).trans (ht.2.2.2.2.2.1.trans (grad_of placed_gain _)),
      (hr main_v43 (Pipeline.mem_restRefs_of main_v43 (by decide) (by decide))).trans (ht.2.2.2.2.2.2.1.trans (grad_of placed_shift _)),
      (hr main_v44 (Pipeline.mem_restRefs_of main_v44 (by decide) (by decide))).trans (ht.2.2.2.2.2.2.2.trans (grad_of placed_sinks _)),
      (hr main_v34 (Pipeline.mem_restRefs_of main_v34 (by decide) (by decide))).trans (ht.2.1.trans (grad_of placed_last _)),
      (hr main_v46 (Pipeline.mem_restRefs_of main_v46 (by decide) (by decide))).trans (hs.1.trans (step_of placed_ln Cert.ReplicatedReferenceIdeal.Gen.bcast_S_S2x1024 _ _ _ _)),
      (hr main_v50 (Pipeline.mem_restRefs_of main_v50 (by decide) (by decide))).trans (hs.2.2.1.trans (step_of placed_pool Cert.ReplicatedReferenceIdeal.Gen.bcast_S_S2x4x64x64 _ _ _ _)),
      (hr main_v54 (Pipeline.mem_restRefs_of main_v54 (by decide) (by decide))).trans (hs.2.2.2.1.trans (step_of placed_scale Cert.ReplicatedReferenceIdeal.Gen.bcast_S_S2x256 _ _ _ _)),
      (hr main_v55 (Pipeline.mem_restRefs_of main_v55 (by decide) (by decide))).trans (hs.2.2.2.2.1.trans (step_of placed_bias Cert.ReplicatedReferenceIdeal.Gen.bcast_S_S2x256 _ _ _ _)),
      (hr main_v56 (Pipeline.mem_restRefs_of main_v56 (by decide) (by decide))).trans (hs.2.2.2.2.2.1.trans (step_of placed_gain Cert.ReplicatedReferenceIdeal.Gen.bcast_S_S2x256 _ _ _ _)),
      (hr main_v57 (Pipeline.mem_restRefs_of main_v57 (by decide) (by decide))).trans (hs.2.2.2.2.2.2.1.trans (step_of placed_shift Cert.ReplicatedReferenceIdeal.Gen.bcast_S_S2x256 _ _ _ _)),
      (hr main_v58 (Pipeline.mem_restRefs_of main_v58 (by decide) (by decide))).trans (hs.2.2.2.2.2.2.2.trans (step_of placed_sinks Cert.ReplicatedReferenceIdeal.Gen.bcast_S_S2x8 _ _ _ _)),
      (hr main_v48 (Pipeline.mem_restRefs_of main_v48 (by decide) (by decide))).trans (hs.2.1.trans (step_of placed_last Cert.ReplicatedReferenceIdeal.Gen.bcast_S_S1024 _ _ _ _)),
      (hr main_v60 (Pipeline.mem_restRefs_of main_v60 (by decide) (by decide))).trans (ha.1.trans (mom_of placed_ln Cert.ReplicatedReferenceIdeal.Gen.bcast_S_S2x1024 _ _)),
      (hr main_v64 (Pipeline.mem_restRefs_of main_v64 (by decide) (by decide))).trans (ha.2.2.1.trans (mom_of placed_pool Cert.ReplicatedReferenceIdeal.Gen.bcast_S_S2x4x64x64 _ _)),
      (hr main_v68 (Pipeline.mem_restRefs_of main_v68 (by decide) (by decide))).trans (ha.2.2.2.1.trans (mom_of placed_scale Cert.ReplicatedReferenceIdeal.Gen.bcast_S_S2x256 _ _)),
      (hr main_v69 (Pipeline.mem_restRefs_of main_v69 (by decide) (by decide))).trans (ha.2.2.2.2.1.trans (mom_of placed_bias Cert.ReplicatedReferenceIdeal.Gen.bcast_S_S2x256 _ _)),
      (hr main_v70 (Pipeline.mem_restRefs_of main_v70 (by decide) (by decide))).trans (ha.2.2.2.2.2.1.trans (mom_of placed_gain Cert.ReplicatedReferenceIdeal.Gen.bcast_S_S2x256 _ _)),
      (hr main_v71 (Pipeline.mem_restRefs_of main_v71 (by decide) (by decide))).trans (ha.2.2.2.2.2.2.1.trans (mom_of placed_shift Cert.ReplicatedReferenceIdeal.Gen.bcast_S_S2x256 _ _)),
      (hr main_v72 (Pipeline.mem_restRefs_of main_v72 (by decide) (by decide))).trans (ha.2.2.2.2.2.2.2.trans (mom_of placed_sinks Cert.ReplicatedReferenceIdeal.Gen.bcast_S_S2x8 _ _)),
      (hr main_v62 (Pipeline.mem_restRefs_of main_v62 (by decide) (by decide))).trans (ha.2.1.trans (mom_of placed_last Cert.ReplicatedReferenceIdeal.Gen.bcast_S_S1024 _ _)),
      (hr main_v74 (Pipeline.mem_restRefs_of main_v74 (by decide) (by decide))).trans (hq.1.trans (var_of placed_ln Cert.ReplicatedReferenceIdeal.Gen.bcast_S_S2x1024 _ _)),
      (hr main_v78 (Pipeline.mem_restRefs_of main_v78 (by decide) (by decide))).trans (hq.2.2.1.trans (var_of placed_pool Cert.ReplicatedReferenceIdeal.Gen.bcast_S_S2x4x64x64 _ _)),
      (hr main_v82 (Pipeline.mem_restRefs_of main_v82 (by decide) (by decide))).trans (hq.2.2.2.1.trans (var_of placed_scale Cert.ReplicatedReferenceIdeal.Gen.bcast_S_S2x256 _ _)),
      (hr main_v83 (Pipeline.mem_restRefs_of main_v83 (by decide) (by decide))).trans (hq.2.2.2.2.1.trans (var_of placed_bias Cert.ReplicatedReferenceIdeal.Gen.bcast_S_S2x256 _ _)),
      (hr main_v84 (Pipeline.mem_restRefs_of main_v84 (by decide) (by decide))).trans (hq.2.2.2.2.2.1.trans (var_of placed_gain Cert.ReplicatedReferenceIdeal.Gen.bcast_S_S2x256 _ _)),
      (hr main_v85 (Pipeline.mem_restRefs_of main_v85 (by decide) (by decide))).trans (hq.2.2.2.2.2.2.1.trans (var_of placed_shift Cert.ReplicatedReferenceIdeal.Gen.bcast_S_S2x256 _ _)),
      (hr main_v86 (Pipeline.mem_restRefs_of main_v86 (by decide) (by decide))).trans (hq.2.2.2.2.2.2.2.trans (var_of placed_sinks Cert.ReplicatedReferenceIdeal.Gen.bcast_S_S2x8 _ _)),
      (hr main_v76 (Pipeline.mem_restRefs_of main_v76 (by decide) (by decide))).trans (hq.2.1.trans (var_of placed_last Cert.ReplicatedReferenceIdeal.Gen.bcast_S_S1024 _ _)),
      ((h c).1 0).trans (((Cert.ReplicatedIdeal.Gen.dats m 0 c).arrAt_in 0 rfl _).trans ((A_eq m c 0).trans (V_main_arg0 m c))),
      ((h c).2 main_arg1 (Pipeline.mem_restRefs_of main_arg1 (by decide) (by decide))).trans (W_main_arg1 m (Cert.ReplicatedIdeal.Gen.dats m) c),
      ((h c).2 main_arg2 (Pipeline.mem_restRefs_of main_arg2 (by decide) (by decide))).trans (W_main_arg2 m (Cert.ReplicatedIdeal.Gen.dats m) c),
      ((h c).2 main_arg3 (Pipeline.mem_restRefs_of main_arg3 (by decide) (by decide))).trans (W_main_arg3 m (Cert.ReplicatedIdeal.Gen.dats m) c),
      ((h c).2 main_arg4 (Pipeline.mem_restRefs_of main_arg4 (by decide) (by decide))).trans (W_main_arg4 m (Cert.ReplicatedIdeal.Gen.dats m) c),
      ((h c).2 main_arg5 (Pipeline.mem_restRefs_of main_arg5 (by decide) (by decide))).trans (W_main_arg5 m (Cert.ReplicatedIdeal.Gen.dats m) c),
      ((h c).2 main_arg6 (Pipeline.mem_restRefs_of main_arg6 (by decide) (by decide))).trans (W_main_arg6 m (Cert.ReplicatedIdeal.Gen.dats m) c),
      ((h c).2 main_arg7 (Pipeline.mem_restRefs_of main_arg7 (by decide) (by decide))).trans (W_main_arg7 m (Cert.ReplicatedIdeal.Gen.dats m) c),
      ((h c).2 main_arg8 (Pipeline.mem_restRefs_of main_arg8 (by decide) (by decide))).trans (W_main_arg8 m (Cert.ReplicatedIdeal.Gen.dats m) c),
      ((h c).2 main_arg9 (Pipeline.mem_restRefs_of main_arg9 (by decide) (by decide))).trans (W_main_arg9 m (Cert.ReplicatedIdeal.Gen.dats m) c),
      ((h c).2 main_arg10 (Pipeline.mem_restRefs_of main_arg10 (by decide) (by decide))).trans (W_main_arg10 m (Cert.ReplicatedIdeal.Gen.dats m) c),
      ((h c).2 main_arg11 (Pipeline.mem_restRefs_of main_arg11 (by decide) (by decide))).trans (W_main_arg11 m (Cert.ReplicatedIdeal.Gen.dats m) c),
      ((h c).2 main_arg12 (Pipeline.mem_restRefs_of main_arg12 (by decide) (by decide))).trans (W_main_arg12 m (Cert.ReplicatedIdeal.Gen.dats m) c),
      ((h c).2 main_arg13 (Pipeline.mem_restRefs_of main_arg13 (by decide) (by decide))).trans (W_main_arg13 m (Cert.ReplicatedIdeal.Gen.dats m) c),
      ((h c).2 main_arg14 (Pipeline.mem_restRefs_of main_arg14 (by decide) (by decide))).trans (W_main_arg14 m (Cert.ReplicatedIdeal.Gen.dats m) c),
      ((h c).2 main_arg15 (Pipeline.mem_restRefs_of main_arg15 (by decide) (by decide))).trans (W_main_arg15 m (Cert.ReplicatedIdeal.Gen.dats m) c),
      ((h c).2 main_arg16 (Pipeline.mem_restRefs_of main_arg16 (by decide) (by decide))).trans (W_main_arg16 m (Cert.ReplicatedIdeal.Gen.dats m) c),
      ((h c).2 main_arg17 (Pipeline.mem_restRefs_of main_arg17 (by decide) (by decide))).trans (W_main_arg17 m (Cert.ReplicatedIdeal.Gen.dats m) c),
      ((h c).2 main_arg18 (Pipeline.mem_restRefs_of main_arg18 (by decide) (by decide))).trans (W_main_arg18 m (Cert.ReplicatedIdeal.Gen.dats m) c),
      ((h c).2 main_arg19 (Pipeline.mem_restRefs_of main_arg19 (by decide) (by decide))).trans (W_main_arg19 m (Cert.ReplicatedIdeal.Gen.dats m) c),
      ((h c).2 main_arg20 (Pipeline.mem_restRefs_of main_arg20 (by decide) (by decide))).trans (W_main_arg20 m (Cert.ReplicatedIdeal.Gen.dats m) c),
      ((h c).2 main_arg21 (Pipeline.mem_restRefs_of main_arg21 (by decide) (by decide))).trans (W_main_arg21 m (Cert.ReplicatedIdeal.Gen.dats m) c),
      ((h c).2 main_arg22 (Pipeline.mem_restRefs_of main_arg22 (by decide) (by decide))).trans (W_main_arg22 m (Cert.ReplicatedIdeal.Gen.dats m) c),
      ((h c).2 main_arg23 (Pipeline.mem_restRefs_of main_arg23 (by decide) (by decide))).trans (W_main_arg23 m (Cert.ReplicatedIdeal.Gen.dats m) c),
      ((h c).2 main_arg24 (Pipeline.mem_restRefs_of main_arg24 (by decide) (by decide))).trans (W_main_arg24 m (Cert.ReplicatedIdeal.Gen.dats m) c)⟩
  · refine (θ_run Cert.ReplicatedReferenceIdeal.defs _ _).mono (fun r h c => ?_) (Cert.ReplicatedReferenceIdeal.Value.run (F := Ideal) m' g')
    exact h c

end Cert.Proof.Rep

end
-- ==== Proof.LossBody.lean ====
/-
  The loss's call, from any contents of its arrays. At grid point `t` the body reads rows `512 t … 512 t + 511` of the hidden
  state and of the target and the one row of gains. It adds the tile's squared error to one running array and the tile's
  share of the gains' gradient to another, both set to zero at the first point, and writes the tile's rows of the gradient.
-/
module

public import proofs.«01_k».proof.Proof.Gen.HeadIdeal.Skeleton
public import proofs.«01_k».proof.Proof.Gen.HeadIdeal.Points
public import proofs.«01_k».proof.Proof.Gen.HeadIdeal.Regions
public import Idealize.ShloMosaic.Lib.Pipeline.FrameBody
public import Idealize.ShloMosaic.Lib.Pipeline.ValueKit
public import Idealize.ShloMosaic.Lib.Pipeline.RegionArrays
public import Idealize.ShloMosaic.Lib.Ring
public import Idealize.ShloMosaic.Lib.WordCmp

@[expose] public section

set_option maxRecDepth 16384

noncomputable section

namespace Cert.Proof.Loss

open Cert.HeadIdeal Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

/-- The pipeline's rounds beside the all-reduce's. -/
abbrev UL : Type := UR sig nD τ × Sites.UC

local notation "𝕄" => MT nD τ sig ℕ (Elt F) ℕ UL ℕ

/-- No word of a variant is read. -/
abbrev 𝒱₀ : Variants := Variants.none

/-! ### What one tile gives -/

abbrev Tile (F : FTy → Type) [FloatOps F] : Type := Vec F S512x1024 .f32
abbrev Gain (F : FTy → Type) [FloatOps F] : Type := Vec F S1x1024 .f32
abbrev Acc (F : FTy → Type) [FloatOps F] : Type := Vec F S1x128 .f32

/-- All of a tile, of the row of gains and of the running sum. -/
abbrev allTile : Rect S512x1024 := Rect.unit (s := S512x1024) ![0, 0] S512x1024.size inb_S512x1024_S512x1024_0_0
abbrev allGain : Rect S1x1024 := Rect.unit (s := S1x1024) ![0, 0] S1x1024.size inb_S1x1024_S1x1024_0_0
abbrev allAcc : Rect S1x128 := Rect.unit (s := S1x128) ![0, 0] S1x128.size inb_S1x128_S1x128_0_0

/-- A tile's squared error, row by row. -/
def errRows (x t : Tile F) (g : Gain F) : FVec F S512x1 .f32 := k0_pay12 x g t

/-- The running squared error after a tile, -/
def nextSq (x t : Tile F) (g : Gain F) (s : Acc F) : Acc F := k0_pay1 (errRows x t g) s

/-- the running gradient of the gains, -/
def nextDg (x t : Tile F) (g : Gain F) (s : Gain F) : Gain F := k0_pay2 (k0_pay6 x) (k0_pay8 x g t) s

/-- and the tile's rows of the gradient. -/
def tileDx (x t : Tile F) (g : Gain F) : Tile F := k0_pay9 x g t

/-- The zeros that the first point stores. -/
def zeroSq : Acc F := k0_pay10
def zeroDg : Gain F := k0_pay11

/-- A load of all of a buffer reads it. -/
theorem ld_tile (x : Tile F) : View.ld x allTile = x := View.ld_unit_lit _ x (by decide)
theorem ld_gain (x : Gain F) : View.ld x allGain = x := View.ld_unit_lit _ x (by decide)
theorem ld_acc (x : Acc F) : View.ld x allAcc = x := View.ld_unit_lit _ x (by decide)

/-- A store over all of a buffer, last, leaves what it stored. -/
theorem put_tile (p : Tile F) (L) : View.canon ((⟨allTile, p⟩ : View.Piece (Elt F) S512x1024 .f32) :: L) = p := View.canon_cons_unit_lit _ p L (by decide)
theorem put_gain (p : Gain F) (L) : View.canon ((⟨allGain, p⟩ : View.Piece (Elt F) S1x1024 .f32) :: L) = p := View.canon_cons_unit_lit _ p L (by decide)
theorem put_acc (p : Acc F) (L) : View.canon ((⟨allAcc, p⟩ : View.Piece (Elt F) S1x128 .f32) :: L) = p := View.canon_cons_unit_lit _ p L (by decide)

theorem err_ld (x t : Tile F) (g : Gain F) : k0_pay12 (View.ld x allTile) (View.ld g allGain) (View.ld t allTile) = errRows x t g := by
  rw [ld_tile, ld_gain, ld_tile]; rfl
theorem dx_ld (x t : Tile F) (g : Gain F) : k0_pay9 (View.ld x allTile) (View.ld g allGain) (View.ld t allTile) = tileDx x t g := by
  rw [ld_tile, ld_gain, ld_tile]; rfl
theorem dg_ld (x t : Tile F) (g d : Gain F) :
    k0_pay2 (k0_pay6 (View.ld x allTile)) (k0_pay8 (View.ld x allTile) (View.ld g allGain) (View.ld t allTile)) d = nextDg x t g d := by
  rw [ld_tile, ld_gain, ld_tile]; rfl

theorem tile_cover (L : List (View.Piece (Elt F) S512x1024 .f32)) (p : Tile F) (y : S512x1024.Idx) :
    ∃ pc ∈ ((⟨allTile, p⟩ :: L : List (View.Piece (Elt F) S512x1024 .f32))), y ∈ pc.1.set :=
  let ⟨pc, h, hy⟩ := View.cover_of_tiled ([⟨allTile, p⟩] : List (View.Piece (Elt F) S512x1024 .f32)) S512x1024.size (by rfl) y
  ⟨pc, by rw [List.mem_singleton.mp h]; exact List.mem_cons_self, hy⟩
theorem gain_cover (L : List (View.Piece (Elt F) S1x1024 .f32)) (p : Gain F) (y : S1x1024.Idx) :
    ∃ pc ∈ ((⟨allGain, p⟩ :: L : List (View.Piece (Elt F) S1x1024 .f32))), y ∈ pc.1.set :=
  let ⟨pc, h, hy⟩ := View.cover_of_tiled ([⟨allGain, p⟩] : List (View.Piece (Elt F) S1x1024 .f32)) S1x1024.size (by rfl) y
  ⟨pc, by rw [List.mem_singleton.mp h]; exact List.mem_cons_self, hy⟩
theorem acc_cover (L : List (View.Piece (Elt F) S1x128 .f32)) (p : Acc F) (y : S1x128.Idx) :
    ∃ pc ∈ ((⟨allAcc, p⟩ :: L : List (View.Piece (Elt F) S1x128 .f32))), y ∈ pc.1.set :=
  let ⟨pc, h, hy⟩ := View.cover_of_tiled ([⟨allAcc, p⟩] : List (View.Piece (Elt F) S1x128 .f32)) S1x128.size (by rfl) y
  ⟨pc, by rw [List.mem_singleton.mp h]; exact List.mem_cons_self, hy⟩

/-! ### The body -/

/-- Whether the body's grid coordinate is its first, as the body asks. -/
abbrev atStart (i : grid0.Coords) : Prop :=
  (Scalar.cmpi .ne (Scalar.extui (Scalar.cmpi .eq (BitVec.ofNat 32 (i 0).val) 0#32)) 0#32) = 1#1

theorem atStart_iff : ∀ t : Fin cfg0.N, atStart (grid0.coords t) ↔ t.val = 0 := by decide +kernel

set_option maxHeartbeats 1000000 in
/-- The body past the first point: the running arrays at given contents, to the next ones. -/
theorem body_next (c : Dev nD) (i : grid0.Coords) (hi : ¬atStart i)
    (a1 : Memref sig .tc .vmem S512x1024 .f32) (h1 : a1.IsWhole) (a2 : Memref sig .tc .vmem S512x1024 .f32) (h2 : a2.IsWhole)
    (a3 : Memref sig .tc .vmem S1x1024 .f32) (h3 : a3.IsWhole) (a4 : Memref sig .tc .vmem S1x128 .f32) (h4 : a4.IsWhole)
    (a5 : Memref sig .tc .vmem S1x1024 .f32) (h5 : a5.IsWhole) (a6 : Memref sig .tc .vmem S512x1024 .f32) (h6 : a6.IsWhole)
    (x t : Tile F) (g : Gain F) (s : Acc F) (d : Gain F) (Kt : PUnit → sProp 𝕄) :
    iprop(owns (c : Thread nD τ) a1 fullShare x ∗ owns (c : Thread nD τ) a2 fullShare t ∗ owns (c : Thread nD τ) a3 fullShare g
        ∗ owns (c : Thread nD τ) a4 fullShare s ∗ owns (c : Thread nD τ) a5 fullShare d ∗ (∃ e, owns (c : Thread nD τ) a6 fullShare e)
        ∗ (iprop(owns (c : Thread nD τ) a1 fullShare x ∗ owns (c : Thread nD τ) a2 fullShare t ∗ owns (c : Thread nD τ) a3 fullShare g
            ∗ owns (c : Thread nD τ) a4 fullShare (nextSq x t g s) ∗ owns (c : Thread nD τ) a5 fullShare (nextDg x t g d)
            ∗ owns (c : Thread nD τ) a6 fullShare (tileDx x t g))
          -∗ Kt ⟨⟩))
      ⊢ wp frame (wpE (defs₀ (F := F)) 𝒱₀ (c : Thread nD τ) none) Set.univ
          (cc0_loss_bwd i a1 h1 a2 h2 a3 h3 a4 h4 a5 h5 a6 h6) Kt := by
  simp only [cc0_loss_bwd_eq_skeleton]; unfold cc0_loss_bwd_skel
  simp only [k0_part1_eq_skeleton]
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec (disch := first | sl_exact hi)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (acc_cover _ _)).trans ((put_acc _ _).trans (congrArg₂ k0_pay1 (err_ld _ _ _) (ld_acc _)))
  isplitl [H5]
  · iexists _; isplitr
    swap; · iexact H5
    ipureintro
    exact (View.read_writes_eq_canon _ _ _ (gain_cover _ _)).trans
      ((put_gain _ _).trans ((dg_ld _ _ _ _).trans (congrArg (nextDg _ _ _) (ld_gain _))))
  iexists _; isplitr
  swap; · iexact H6
  ipureintro
  exact (View.read_writes_eq_canon _ _ _ (tile_cover _ _)).trans ((put_tile _ _).trans (dx_ld _ _ _))

set_option maxHeartbeats 1000000 in
/-- The body at the first point: the running arrays at anything, to the next ones over zeros. -/
theorem body_first (c : Dev nD) (i : grid0.Coords) (hi : atStart i)
    (a1 : Memref sig .tc .vmem S512x1024 .f32) (h1 : a1.IsWhole) (a2 : Memref sig .tc .vmem S512x1024 .f32) (h2 : a2.IsWhole)
    (a3 : Memref sig .tc .vmem S1x1024 .f32) (h3 : a3.IsWhole) (a4 : Memref sig .tc .vmem S1x128 .f32) (h4 : a4.IsWhole)
    (a5 : Memref sig .tc .vmem S1x1024 .f32) (h5 : a5.IsWhole) (a6 : Memref sig .tc .vmem S512x1024 .f32) (h6 : a6.IsWhole)
    (x t : Tile F) (g : Gain F) (Kt : PUnit → sProp 𝕄) :
    iprop(owns (c : Thread nD τ) a1 fullShare x ∗ owns (c : Thread nD τ) a2 fullShare t ∗ owns (c : Thread nD τ) a3 fullShare g
        ∗ (∃ e, owns (c : Thread nD τ) a4 fullShare e) ∗ (∃ e, owns (c : Thread nD τ) a5 fullShare e) ∗ (∃ e, owns (c : Thread nD τ) a6 fullShare e)
        ∗ (iprop(owns (c : Thread nD τ) a1 fullShare x ∗ owns (c : Thread nD τ) a2 fullShare t ∗ owns (c : Thread nD τ) a3 fullShare g
            ∗ owns (c : Thread nD τ) a4 fullShare (nextSq x t g zeroSq) ∗ owns (c : Thread nD τ) a5 fullShare (nextDg x t g zeroDg)
            ∗ owns (c : Thread nD τ) a6 fullShare (tileDx x t g))
          -∗ Kt ⟨⟩))
      ⊢ wp frame (wpE (defs₀ (F := F)) 𝒱₀ (c : Thread nD τ) none) Set.univ
          (cc0_loss_bwd i a1 h1 a2 h2 a3 h3 a4 h4 a5 h5 a6 h6) Kt := by
  simp only [cc0_loss_bwd_eq_skeleton]; unfold cc0_loss_bwd_skel
  simp only [k0_part1_eq_skeleton]
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, Hk⟩
  subst e1 e2 e3
  sl_exec (disch := first | sl_exact hi)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact (View.read_writes_eq_canon _ _ _ (acc_cover _ _)).trans
      ((put_acc _ _).trans (congrArg₂ k0_pay1 (err_ld _ _ _) (View.readCov_unit_lit _ _ _ (by decide))))
  isplitl [H5]
  · iexists _; isplitr
    swap; · iexact H5
    ipureintro
    exact (View.read_writes_eq_canon _ _ _ (gain_cover _ _)).trans
      ((put_gain _ _).trans ((dg_ld _ _ _ _).trans (congrArg (nextDg _ _ _) (View.readCov_unit_lit _ _ _ (by decide)))))
  iexists _; isplitr
  swap; · iexact H6
  ipureintro
  exact (View.read_writes_eq_canon _ _ _ (tile_cover _ _)).trans ((put_tile _ _).trans (dx_ld _ _ _))

/-! ### The proof data, over any contents of the arrays at entry -/

variable (Wr : Dev nD → Valuation τ sig (Elt F))

/-- Window `w`'s block at point `t`, of the array's contents at entry. -/
def blk (c : Dev nD) (w : Fin cfg0.W) (t : Fin cfg0.N) : ((cfg0.win w).xblock (cfg0.grid.coords t)).Idx → Elt F (cfg0.win w).elt :=
  ((cfg0.win w).blk t).view.read (Elt F) (Wr c (Proc.devRef .tc (Pipeline.arrRef spec0 w)))

abbrev xB (c : Dev nD) (t : Fin cfg0.N) : Tile F := blk Wr c 0 t
abbrev tB (c : Dev nD) (t : Fin cfg0.N) : Tile F := blk Wr c 1 t
abbrev gB (c : Dev nD) (t : Fin cfg0.N) : Gain F := blk Wr c 2 t

/-- The running squared error before point `n`. -/
def sqAt (c : Dev nD) : ℕ → Acc F
  | 0 => zeroSq
  | n + 1 => if h : n < cfg0.N then nextSq (xB Wr c ⟨n, h⟩) (tB Wr c ⟨n, h⟩) (gB Wr c ⟨n, h⟩) (sqAt c n) else sqAt c n

/-- The running gradient of the gains before point `n`. -/
def dgAt (c : Dev nD) : ℕ → Gain F
  | 0 => zeroDg
  | n + 1 => if h : n < cfg0.N then nextDg (xB Wr c ⟨n, h⟩) (tB Wr c ⟨n, h⟩) (gB Wr c ⟨n, h⟩) (dgAt c n) else dgAt c n

theorem sqAt_succ (c : Dev nD) (t : Fin cfg0.N) : sqAt Wr c (t.val + 1) = nextSq (xB Wr c t) (tB Wr c t) (gB Wr c t) (sqAt Wr c t.val) :=
  dif_pos t.isLt
theorem dgAt_succ (c : Dev nD) (t : Fin cfg0.N) : dgAt Wr c (t.val + 1) = nextDg (xB Wr c t) (tB Wr c t) (gB Wr c t) (dgAt Wr c t.val) :=
  dif_pos t.isLt

/-- The arrays at the entry contents; after the body at point `t`, inputs at their blocks and outputs at what the body
    leaves; the scoped buffers that no window stages ride along; the all-reduce's dues owed throughout. -/
def dat (c : Dev nD) : Dat τ (Elt F) ℕ ℕ UL ℕ cfg0 c where
  A w := Wr c (Proc.devRef .tc (Pipeline.arrRef spec0 w))
  after w t := match w with
    | ⟨0, _⟩ => blk Wr c 0 t
    | ⟨1, _⟩ => blk Wr c 1 t
    | ⟨2, _⟩ => blk Wr c 2 t
    | ⟨3, _⟩ => sqAt Wr c (t.val + 1)
    | ⟨4, _⟩ => dgAt Wr c (t.val + 1)
    | ⟨5, _⟩ => tileDx (xB Wr c t) (tB Wr c t) (gB Wr c t)
  Φ _ := Pipeline.scopedRest spec0 c
  q _ := fullShare
  owed _ := Sites.O0 (F := F) c

theorem dat_A (c : Dev nD) (w : Fin cfg0.W) : (dat Wr c).A w = Wr c (Proc.devRef .tc (Pipeline.arrRef spec0 w)) := by dsimp only [dat]

theorem after_0 (c : Dev nD) (t) : (dat Wr c).after 0 t = blk Wr c 0 t := by dsimp only [dat]
theorem after_1 (c : Dev nD) (t) : (dat Wr c).after 1 t = blk Wr c 1 t := by dsimp only [dat]
theorem after_2 (c : Dev nD) (t) : (dat Wr c).after 2 t = blk Wr c 2 t := by dsimp only [dat]
theorem after_3 (c : Dev nD) (t : Fin cfg0.N) : (dat Wr c).after 3 t = sqAt Wr c (t.val + 1) := by dsimp only [dat]
theorem after_4 (c : Dev nD) (t : Fin cfg0.N) : (dat Wr c).after 4 t = dgAt Wr c (t.val + 1) := by dsimp only [dat]
theorem after_5 (c : Dev nD) (t) : (dat Wr c).after 5 t = tileDx (xB Wr c t) (tB Wr c t) (gB Wr c t) := by dsimp only [dat]

/-- Before the body at any point an input's buffer holds its block; -/
theorem before_0 (c : Dev nD) (t : Fin cfg0.N) (d) : (dat Wr c).before 0 t d = blk Wr c 0 t :=
  ((dat Wr c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg0.N) (d) : (dat Wr c).before 1 t d = blk Wr c 1 t :=
  ((dat Wr c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg0.N) (d) : (dat Wr c).before 2 t d = blk Wr c 2 t :=
  ((dat Wr c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-- past the first point a running array's buffer holds what the point before left: it is written back at the last alone. -/
theorem before_3 (c : Dev nD) (t : Fin cfg0.N) (ht : t.val ≠ 0) (d) : (dat Wr c).before 3 t d = sqAt Wr c t.val := by
  have hN : t.val < 16 := lt_of_lt_of_eq t.isLt (show cfg0.N = 16 from N_0)
  rw [Dat.before_out_kept _ 3 rfl t (by omega)
    (Bool.eq_false_iff.mpr fun h => by have := (flush0_3 _).mp h; dsimp only at this; omega) (fun _ => rfl) (fun _ _ => rfl)]
  rw [after_3]; dsimp only; rw [Nat.sub_add_cancel (by omega)]
theorem before_4 (c : Dev nD) (t : Fin cfg0.N) (ht : t.val ≠ 0) (d) : (dat Wr c).before 4 t d = dgAt Wr c t.val := by
  have hN : t.val < 16 := lt_of_lt_of_eq t.isLt (show cfg0.N = 16 from N_0)
  rw [Dat.before_out_kept _ 4 rfl t (by omega)
    (Bool.eq_false_iff.mpr fun h => by have := (flush0_4 _).mp h; dsimp only at this; omega) (fun _ => rfl) (fun _ _ => rfl)]
  rw [after_4]; dsimp only; rw [Nat.sub_add_cancel (by omega)]

/-- A window's staging buffer at point `t`, at the contents `x`. -/
abbrev stg (c : Dev nD) (t : Fin cfg0.N) (w : Fin cfg0.W) (x : (cfg0.win w).block.Idx → Elt F (cfg0.win w).elt) : sProp 𝕄 :=
  owns (c : Thread nD τ) ((cfg0.win w).stage (cfg0.slots t w)) fullShare x

/-- The body at point `t`, as the pipeline asks for it. -/
theorem point (c : Dev nD) (t : Fin cfg0.N) :
    iprop((dat Wr c).Φ t.castSucc ∗ (dat Wr c).owesAt 0 t.castSucc
        ∗ (∃ d, stg c t 0 ((dat Wr c).before 0 t d)) ∗ (∃ d, stg c t 1 ((dat Wr c).before 1 t d))
        ∗ (∃ d, stg c t 2 ((dat Wr c).before 2 t d)) ∗ (∃ d, stg c t 3 ((dat Wr c).before 3 t d))
        ∗ (∃ d, stg c t 4 ((dat Wr c).before 4 t d)) ∗ (∃ d, stg c t 5 ((dat Wr c).before 5 t d)))
      ⊢ wp frame (wpE (defs₀ (F := F)) 𝒱₀ (c : Thread nD τ) none) Set.univ (bodyAt0 t)
          (fun _ => iprop((dat Wr c).Φ t.succ ∗ (dat Wr c).owesAt 0 t.succ
            ∗ stg c t 0 ((dat Wr c).after 0 t) ∗ stg c t 1 ((dat Wr c).after 1 t) ∗ stg c t 2 ((dat Wr c).after 2 t)
            ∗ stg c t 3 ((dat Wr c).after 3 t) ∗ stg c t 4 ((dat Wr c).after 4 t) ∗ stg c t 5 ((dat Wr c).after 5 t))) := by
  unfold bodyAt0
  simp only [before_0, before_1, before_2]
  rw [show (dat Wr c).Φ t.succ = (dat Wr c).Φ t.castSucc from rfl,
    show (dat Wr c).owesAt 0 t.succ = (dat Wr c).owesAt 0 t.castSucc from rfl,
    after_0, after_1, after_2, after_3, after_4, after_5, sqAt_succ, dgAt_succ]
  by_cases ht : t.val = 0
  · rw [show sqAt Wr c t.val = zeroSq from by rw [ht]; rfl, show dgAt Wr c t.val = zeroDg from by rw [ht]; rfl]
    iintro ⟨HΦ, Ho, ⟨%d0, H0⟩, ⟨%d1, H1⟩, ⟨%d2, H2⟩, ⟨%d3, H3⟩, ⟨%d4, H4⟩, ⟨%d5, H5⟩⟩
    iapply (body_first c (grid0.coords t) ((atStart_iff t).mpr ht) _ _ _ _ _ _ _ _ _ _ _ _ (xB Wr c t) (tB Wr c t) (gB Wr c t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_3 Wr c t ht, before_4 Wr c t ht]
    iintro ⟨HΦ, Ho, ⟨%d0, H0⟩, ⟨%d1, H1⟩, ⟨%d2, H2⟩, ⟨%d3, H3⟩, ⟨%d4, H4⟩, ⟨%d5, H5⟩⟩
    iapply (body_next c (grid0.coords t) (fun h => ht ((atStart_iff t).mp h)) _ _ _ _ _ _ _ _ _ _ _ _
      (xB Wr c t) (tB Wr c t) (gB Wr c t) (sqAt Wr c t.val) (dgAt Wr c t.val) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row for this call. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dat (F := F) Wr c) (defs₀ (F := F)) 𝒱₀ 0 Set.univ := fun t => by
  rw [bigSep_W0, bigSep_W0, row]
  exact triple_restated (point Wr c t) rfl .rfl fun _ => .rfl

end Cert.Proof.Loss

end
-- ==== Proof.LossRun.lean ====
/-
  The run of the loss: the call, the host's lines that scale its sum, and the sum over the devices, from any memory. At the
  end every device's buffers hold the contents named here and every semaphore counter is zero.
-/
module

public import proofs.«01_k».proof.Proof.LossBody

@[expose] public section

set_option maxRecDepth 16384

noncomputable section

namespace Cert.Proof.Loss

open Cert.HeadIdeal Cert.HeadIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RegionSeg HostSeg Seg)

variable {F : FTy → Type} [FloatOps F]

local notation "𝕄" => MT nD τ sig ℕ (Elt F) ℕ UL ℕ

variable (m : (ℓ : Loc nD τ sig) → Buf (Elt F) ℓ) (ρ : Dev nD → PrngReg)

/-- The pipeline's rounds and the all-reduce's, in the product. -/
abbrev EP : Emb (UR sig nD τ) (MT nD τ sig ℕ (Elt F) ℕ UL ℕ) := embL
abbrev EC : Emb Sites.UC (MT nD τ sig ℕ (Elt F) ℕ UL ℕ) := embR

/-! ### What the buffers hold between the program's lines -/

def pdats : (p : Fin 1) → (c : Dev nD) → Dat τ (Elt F) ℕ ℕ UL ℕ (Pipeline.pin (pcfgs (F := F)) adm p) c
  | 0 => dat (V0 m)

/-- What the call leaves in window `w`'s array. -/
abbrev final (c : Dev nD) (w : Fin cfg0.W) : Buf (Elt F) ((cfg0.win w).arr.view.loc (c : Thread nD τ)) := (dat (V0 m) c).arrAt w cfg0.N

/-- A device's buffers after the call, -/
def U1 (c : Dev nD) : Valuation τ sig (Elt F) :=
  Function.update (Function.update (Function.update (V0 m c)
    (Proc.devRef .tc main_v1_0) (final m c 3)) (Proc.devRef .tc main_v1_1) (final m c 4)) (Proc.devRef .tc main_v1_2) (final m c 5)

/-- after the host's scaling, -/
def U2 (c : Dev nD) : Valuation τ sig (Elt F) := StableHlo.after hostOps1 (U1 m c)

/-- and after the sum over the devices. -/
def U3 (c : Dev nD) : Valuation τ sig (Elt F) := (ar0 (F := F)).after₀ (U2 m) c

theorem ne_refs {r s : Ref sig .tc} (h : r ≠ s) : (Proc.devRef .tc r : DevRef τ sig) ≠ Proc.devRef .tc s :=
  StableHlo.devRef_ne_of_ne h

theorem U1_2 (c : Dev nD) : U1 m c (Proc.devRef .tc main_v1_2) = final m c 5 := Function.update_self _ _ _
theorem U1_1 (c : Dev nD) : U1 m c (Proc.devRef .tc main_v1_1) = final m c 4 := by
  unfold U1; rw [Function.update_of_ne (ne_refs (by decide)), Function.update_self]
theorem U1_0 (c : Dev nD) : U1 m c (Proc.devRef .tc main_v1_0) = final m c 3 := by
  unfold U1; rw [Function.update_of_ne (ne_refs (by decide)), Function.update_of_ne (ne_refs (by decide)), Function.update_self]

theorem U1_of (c : Dev nD) (b : DevRef τ sig) (h0 : b ≠ Proc.devRef .tc main_v1_0) (h1 : b ≠ Proc.devRef .tc main_v1_1)
    (h2 : b ≠ Proc.devRef .tc main_v1_2) : U1 m c b = V0 m c b := by
  unfold U1
  rw [Function.update_of_ne h2, Function.update_of_ne h1, Function.update_of_ne h0]

/-- The lines after the call leave what they do not write. -/
theorem U3_of (c : Dev nD) (r : Ref sig .tc) (h1 : r ∉ hostOps1_W) (h2 : Proc.devRef .tc r ∉ (ar0 (F := F)).foldBufs) :
    U3 m c r = U1 m c r := by
  unfold U3; rw [(ar0 (F := F)).after₀_of_notMem (U2 m) c h2]
  unfold U2; rw [StableHlo.after_of_writes_sub hostOps1 _ hostOps1_writes h1]

/-- No line changes an argument. -/
theorem U3_arg (c : Dev nD) (r : Ref sig .tc) (h1 : r ∉ hostOps1_W) (h0 : r ∉ ([main_v1_0, main_v1_1, main_v1_2] : List (Ref sig .tc)))
    (h2 : Proc.devRef .tc r ∉ (ar0 (F := F)).foldBufs) : U3 m c r = m ((c : Thread nD τ).loc r) := by
  rw [U3_of m c r h1 h2]
  have hne (s : Ref sig .tc) (hs : s ∈ ([main_v1_0, main_v1_1, main_v1_2] : List (Ref sig .tc))) : (Proc.devRef .tc r : DevRef τ sig) ≠ Proc.devRef .tc s :=
    ne_refs fun h => h0 (h ▸ hs)
  exact U1_of m c _ (hne _ (by decide)) (hne _ (by decide)) (hne _ (by decide))

/-! ### The call's segment -/

theorem arrays_entry (c : Dev nD) :
    ((pdats m 0 c).arrays ((pdats m 0 c).arrAt · 0) : sProp 𝕄) = StableHlo.held (c : Thread nD τ) (Pipeline.arrRefs spec0) (V0 m c) :=
  Pipeline.arrays_held (pcfgs (F := F)) adm (pdats m) 0 launch0.toP c ((dat (V0 m) c).share_full fun _ => rfl) _ _ fun w => rfl

attribute [local irreducible] U1

theorem final_0 (c : Dev nD) : final m c 0 = U1 m c (Proc.devRef .tc main_arg0) :=
  ((dat (V0 m) c).arrAt_in 0 rfl _).trans
    (U1_of m c (Proc.devRef .tc main_arg0) (ne_refs (by decide)) (ne_refs (by decide)) (ne_refs (by decide))).symm
theorem final_1 (c : Dev nD) : final m c 1 = U1 m c (Proc.devRef .tc main_arg1) :=
  ((dat (V0 m) c).arrAt_in 1 rfl _).trans
    (U1_of m c (Proc.devRef .tc main_arg1) (ne_refs (by decide)) (ne_refs (by decide)) (ne_refs (by decide))).symm
theorem final_2 (c : Dev nD) : final m c 2 = U1 m c (Proc.devRef .tc main_arg2) :=
  ((dat (V0 m) c).arrAt_in 2 rfl _).trans
    (U1_of m c (Proc.devRef .tc main_arg2) (ne_refs (by decide)) (ne_refs (by decide)) (ne_refs (by decide))).symm

theorem final_eq (c : Dev nD) : ∀ w : Fin cfg0.W, final m c w = U1 m c (Proc.devRef .tc (Pipeline.arrRef spec0 w)) :=
  Fin.cons (final_0 m c) <| Fin.cons (final_1 m c) <| Fin.cons (final_2 m c) <|
  Fin.cons (U1_0 m c).symm <| Fin.cons (U1_1 m c).symm <| Fin.cons (U1_2 m c).symm finZeroElim

theorem arrays_exit (c : Dev nD) :
    ((pdats m 0 c).arrays ((pdats m 0 c).arrAt · cfg0.N) : sProp 𝕄) = StableHlo.held (c : Thread nD τ) (Pipeline.arrRefs spec0) (U1 m c) :=
  Pipeline.arrays_held (pcfgs (F := F)) adm (pdats m) 0 launch0.toP c ((dat (V0 m) c).share_full fun _ => rfl) _ _ (final_eq m c)

theorem arrs_sub : Pipeline.arrRefs (τ := τ) spec0 ⊆ Pipeline.ucRefs τ sig :=
  Pipeline.arrRefs_sub_ucRefs spec0 winFacts0.arr_unscoped

theorem mem_arrs (w : Fin cfg0.W) : Proc.devRef .tc (Pipeline.arrRef spec0 w) ∈ Pipeline.arrRefs (τ := τ) spec0 :=
  Finset.mem_map.mpr ⟨_, Finset.mem_image.mpr ⟨w, Finset.mem_univ _, rfl⟩, rfl⟩

/-- A device may wait for its own staging while it owes the all-reduce's dues: they stand at higher levels. -/
theorem may_stage (c : Dev nD) (sm : SemLoc sig) :
    (levAts Sites.L Sites.lv : sProp 𝕄) ⊢ MayWait (c : Thread nD τ) sm 0 (Sites.O0 (F := F) c) :=
  MayOwe.of_cut (L := Sites.L) (lev := Sites.lv) 0 (fun p hp => by rw [Finset.mem_singleton.mp hp]; exact Sites.mem_L _ _ (by decide : (0 : ℕ) < 4))
    (fun g i hg => (Sites.O0_pos hg).1) (fun p hp => by rw [Finset.mem_singleton.mp hp]; exact le_refl _)
    (fun g i hg => (Sites.O0_pos hg).2)

/-- What rides past the call: what is owed, the generator register and the all-reduce's launch state. -/
abbrev rest (c : Dev nD) : sProp 𝕄 := Sites.Es (F := F) EC (U2 m) 0 c

/-- The call's segment. -/
def callSeg : RegionSeg (pcfgs (F := F)) adm (pdats m) 0 (defs₀ (F := F)) 𝒱₀ Sites.L Sites.lv 0 where
  win := winFacts0.to₀
  block_pos := launch0.block_pos
  stage_whole := launch0.stage_whole
  K := PEmpty
  osem k := k.elim
  ho := Pipeline.OwnSemFacts.none _
  hbody c := (obligation (V0 m) c).loose
  hwaits c := Pipeline.cellsWaits_intro _ (pdats m) 0 0 c fun w s t => may_stage c _
  pre c := iprop(StableHlo.held (c : Thread nD τ) (Pipeline.ucRefs τ sig) (V0 m c) ∗ rest m c)
  post c := iprop(StableHlo.held (c : Thread nD τ) (Pipeline.ucRefs τ sig) (U1 m c) ∗ rest m c)
  X _ := BI.emp
  Y _ := BI.emp
  Z c := iprop(StableHlo.held (c : Thread nD τ) (Pipeline.ucRefs τ sig \ Pipeline.arrRefs spec0) (V0 m c)
    ∗ (∃ r, prngReg c r) ∗ Sites.rides0 (F := F) EC (U2 m) c)
  hentry c := by
    rw [Pipeline.ownSems0_none, Pipeline.prefHeld_of_none _ rfl, arrays_entry, StableHlo.held_sub_split _ arrs_sub]
    unfold rest
    rw [Sites.Es_0]
    iintro ⟨⟨⟨Ha, Hr⟩, ⟨%W, HO⟩, Hp, Hd⟩, -, -⟩
    imodintro
    isplitl [Ha]; · iexact Ha
    isplitr; · iempintro
    isplitl [HO]
    · unfold Dat.owesAt Pipeline.owesWithin
      iexists W; isplitr
      · ipureintro; exact fun _ _ => Or.inl trivial
      iexact HO
    isplitr; · iempintro
    isplitl [Hr]; · iexact Hr
    isplitl [Hp] <;> iassumption
  hin c := by
    show _ ⊢ Pipeline.scopedRest spec0 c
    iintro ⟨-, -, H⟩
    iexact H
  hout c := by
    rw [Pipeline.ownSems0_none]
    show Pipeline.scopedRest spec0 c ⊢ _
    iintro H
    isplitr; · iempintro
    isplitr; · iempintro
    iexact H
  hexit c := by
    have hx : ((pdats m 0 c).arrays ((pdats m 0 c).arrAt · (Pipeline.pin (pcfgs (F := F)) adm 0).N) : sProp 𝕄)
        = StableHlo.held (c : Thread nD τ) (Pipeline.arrRefs spec0) (U1 m c) := arrays_exit m c
    unfold rest
    rw [hx, Sites.Es_0,
      StableHlo.held_sub_split (c : Thread nD τ) arrs_sub (U1 m c),
      StableHlo.held_congr (c : Thread nD τ) (S := Pipeline.ucRefs τ sig \ Pipeline.arrRefs spec0) (V := U1 m c) (V' := V0 m c) fun b hb =>
        have hn := (Finset.mem_sdiff.mp hb).2
        U1_of m c b (fun h => hn (h ▸ mem_arrs 3)) (fun h => hn (h ▸ mem_arrs 4)) (fun h => hn (h ▸ mem_arrs 5))]
    iintro ⟨Ha, HO, -, Hr, Hp, Hd⟩
    imodintro
    isplitl [Ha Hr]
    · isplitl [Ha] <;> iassumption
    isplitl [HO]
    · unfold Dat.owesAt Pipeline.owesWithin
      icases HO with ⟨%W, -, HO⟩
      iexists W; iexact HO
    isplitl [Hp] <;> iassumption

/-! ### The host's lines and the sum over the devices -/

/-- The host's scaling, everything else riding. -/
def scaleSeg : HostSeg (Ix := ℕ) (Name := ℕ) (U := UL) (Lvl := ℕ) (pcfgs (F := F)) defs₀ 𝒱₀ Sites.L Sites.lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) (rest m)

/-- The record that the all-reduce's cells are under their invariants, kept to read the counters at the end. -/
abbrev kept : sProp 𝕄 :=
  iprop(∃ κ, (AllReduce.Dat.once (Ix := ℕ) (Name := ℕ) (U := UL) (Lvl := ℕ) (ar0 (F := F)) (U2 m)).cellInvs EC κ)

/-- The sum over the devices. -/
def sumSeg : HostSeg (Ix := ℕ) (Name := ℕ) (U := UL) (Lvl := ℕ) (pcfgs (F := F)) defs₀ 𝒱₀ Sites.L Sites.lv :=
  Sites.seg0 EC 𝒱₀ (U2 m) (Sites.Rest0 (F := F) (U2 m) fun _ => kept m)

theorem rides_kept (c : Dev nD) : Sites.rides0 (F := F) EC (U2 m) c ⊢ kept m := by
  unfold Sites.rides0 AllReduce.Dat.rides; iintro ⟨Hi, -⟩; iexact Hi

theorem scale_sum (c : Dev nD) : (scaleSeg m).post c ⊢ (sumSeg m).pre c := by
  refine BIBase.Entails.trans ?_ (Sites.pre0 EC 𝒱₀ (U2 m) (fun _ => kept m) c)
  dsimp only [scaleSeg, HostSeg.ofOps]
  unfold rest
  rw [show StableHlo.after (hostOps1 (F := F)) (U1 m c) = U2 m c from rfl, Sites.Es_0]
  iintro ⟨Hh, HO, Hp, Hd⟩
  ihave #Hi := (rides_kept m c) $$ Hd
  isplitl [Hh]; · iexact Hh
  isplitl
  · isplitl [HO]; · iexact HO
    isplitl [Hp] <;> iassumption
  iexact Hi

/-- The end: every buffer held, and the all-reduce's cells past their execution. -/
abbrev done (c : Dev nD) : sProp 𝕄 :=
  iprop(StableHlo.held (c : Thread nD τ) (Pipeline.ucRefs τ sig) (U3 m c) ∗ kept m ∗ Sites.Ghost0 (F := F) EC c)

theorem sum_done (c : Dev nD) : (sumSeg m).post c ⊢ iprop(done m c ∗ ∃ W, owes (c : Thread nD τ) (0 : CellTallies nD τ sig ℕ) W) := by
  refine (Sites.post0 EC 𝒱₀ (U2 m) (fun _ => kept m) c).trans ?_
  iintro ⟨Hh, HE, Hg, Hk⟩
  isplitr [HE]
  · isplitl [Hh]; · iexact Hh
    isplitl [Hk] <;> iassumption
  iapply (Sites.hE_last EC (U2 m) c)
  iexact HE

def segments : List (Seg (pcfgs (F := F)) adm (pdats m) 0 defs₀ 𝒱₀ Sites.L Sites.lv) :=
  [.region (callSeg m), .host (scaleSeg m), .host (sumSeg m)]

theorem main_eq (c : Dev nD) : main (F := F) c = Seg.run (segments m) :=
  main_segs adm (pdats m) 0 𝒱₀ Sites.L Sites.lv (scaleSeg m) (sumSeg m) (callSeg m) rfl rfl c

/-! ### The launch and the run -/

def u₀ : UL :=
  (initOf (Pipeline.cells (Pipeline.pin (pcfgs (F := F)) adm) cellOf_inj) (Pipeline.launchToks (Pipeline.pin (pcfgs (F := F)) adm) cellOf_inj),
    Sites.uC (F := F) (U := UL) (U2 m))

theorem launch :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (U2 m) c))
        ∗ levAts Sites.L Sites.lv)
      ⊢ (|={Set.univ}=> bigSep Finset.univ fun c : Dev nD => (callSeg m).pre c : sProp 𝕄) := by
  have hs : (bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (U2 m) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (Sites.O0 (F := F) c) ∅
            ∗ Pipeline.launchCred (Sites.O0 (F := F)) c ∗ prngReg c (ρ c) ∗ Sites.G EC (U2 m) c)) : sProp 𝕄) := by
    rw [← bigSep_sep']
    exact bigSep_mono fun c _ => by
      rw [← Pipeline.unscopedBufs_held (Ix := ℕ) (Name := ℕ) (U := UL) (Lvl := ℕ) c (V0 m c)]; exact BI.Entails.refl _
  show _ ⊢ |={Set.univ}=> bigSep Finset.univ fun c : Dev nD =>
    iprop(StableHlo.held (c : Thread nD τ) (Pipeline.ucRefs τ sig) (V0 m c) ∗ rest m c)
  iintro ⟨H, Hl⟩
  ihave H' := hs $$ H
  icases H' with ⟨Hh, Hr⟩
  imod (Sites.hE0 EC (U2 m) ρ) $$ [Hr Hl] with HE
  · isplitl [Hr] <;> iassumption
  imodintro
  rw [bigSep_sep']
  isplitl [Hh]; · iexact Hh
  iexact HE

set_option backward.isDefEq.respectTransparency.types false in
/-- Every unscoped buffer of every device at the end, and every semaphore counter at zero. -/
theorem run_main :
    θ_run defs (onTc (τ := τ) (main (F := F))) ⟨m, fun _ => 0, ρ⟩ (fun r =>
      (∀ (c : Dev nD), ∀ b ∈ Pipeline.ucRefs τ sig, r.2.mem (((c : Thread nD τ).1, b) : Loc nD τ sig) = U3 m c b)
      ∧ r.2.sem = fun _ => 0) :=
  Pipeline.θ_run_regions_kit_sems (pcfgs (F := F)) adm (pdats m) 0 cellOf_inj EP defs₀ 𝒱₀ Sites.L Sites.lv m ρ main (segments m)
    (fun c Q => by rw [main_eq m c])
    (by simp only [segments, Seg.pipes_host, Seg.pipes_region, Seg.pipes_nil]; decide)
    (O₀ := Sites.O0 (F := F)) (hL := Sites.hL) (G := Sites.G EC (U2 m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := (callSeg m).pre) (Tₙ := done m)
    (hch := ⟨fun c => .rfl, fun c => .rfl, scale_sum m, sum_done m⟩)
    (hinit := launch m ρ)
    (QY := fun c s => (∀ b ∈ Pipeline.ucRefs τ sig, s.mem (((c : Thread nD τ).1, b) : Loc nD τ sig) = U3 m c b)
      ∧ s.sem ((ar0 (F := F)).barrierCell c) = 0 ∧ s.sem ((ar0 (F := F)).recvCell c) = 0 ∧ s.sem ((ar0 (F := F)).sendCell c) = 0)
    (hfin := fun c s' => by
      unfold done StableHlo.held
      iintro ⟨⟨Hh, Hg⟩, HSI⟩
      ihave Hr := (pointsTo_read_all (Pipeline.ucRefs τ sig) (fun b => ((c : Thread nD τ).1, b)) (U3 m c) s') $$ [Hh HSI]
      · isplitl [Hh] <;> iassumption
      icases Hr with ⟨%h, HSI⟩
      imod ((AllReduce.Dat.once (Ix := ℕ) (Name := ℕ) (U := UL) (Lvl := ℕ) (ar0 (F := F)) (U2 m)).ghostAfter_read EC c (k := 0) le_rfl s') $$ [Hg HSI] with ⟨%hz, HSI⟩
      · isplitl [Hg] <;> iassumption
      imodintro
      isplitr; · ipureintro; exact ⟨h, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

end Cert.Proof.Loss

end
-- ==== Proof.LossValue.lean ====
/-
  The loss at the ideal values: what the call's running sum holds at its end, what a device scales and the devices sum, and
  what the reference says, all in terms of the squared error of one row.
-/
module

public import proofs.«01_k».proof.Proof.LossRun
public import proofs.«01_k».proof.Proof.Gen.HeadReferenceIdeal.Run
public import Idealize.ShloMosaic.Lib.Pipeline.ValueKit
public import Idealize.ShloMosaic.Lib.Pointwise
public import Idealize.ShloMosaic.Lib.StableHlo.RunRead
public import Idealize.ShloMosaic.Lib.StableHlo.AllReduceFold

@[expose] public section

set_option maxRecDepth 16384

noncomputable section

namespace Cert.Proof.Loss

open Cert.HeadIdeal Cert.HeadIdeal.Gen
open Idealize.ShloMosaic Idealize.ShloMosaic.TcCoe Idealize.ShloMosaic.Tactic Idealize.ShloMosaic.StableHlo
open Idealize.ShloMosaic.Pipeline (Dat Cfg Window)

/-- A constant of the programs. -/
abbrev word (b : BitVec 32) : Ideal .f32 := Scalar.ofBits .f32 b

/-- A row of 1024 values. -/
abbrev Row : Type := Fin 1024 → Ideal .f32

/-! ### One row -/

/-- The reciprocal of a row's root mean square, -/
def scale (x : Row) : Ideal .f32 := Ideal.rsqrt (Ideal.div (∑ k, x k * x k) (word 0x44800000#32) + word 0x358637BD#32)
/-- how far the scaled row lies from the target's, -/
def gap (x t g : Row) (k : Fin 1024) : Ideal .f32 := x k * scale x * g k - t k
/-- and the row's squared error. -/
def rowErr (x t g : Row) : Ideal .f32 := ∑ k, gap x t g k * gap x t g k

/-- Row `r` of an array of such rows. -/
abbrev rowOf {n : ℕ} (A : FVec Ideal ⟨2, ![n, 1024]⟩ .f32) (r : Fin n) : Row := fun k => A (ix2 r k)

/-! ### One tile -/

theorem errRows_apply (x t : Tile Ideal) (g : Gain Ideal) (r : Fin 512) :
    errRows x t g (ix2 r 0) = rowErr (rowOf x r) (rowOf t r) (rowOf g 0) := by
  pointwise [errRows, k0_pay12, k0_pay7, k0_pay6, k0_pay5, k0_pay4, k0_pay3, rowErr, gap, scale]

theorem nextSq_apply (x t : Tile Ideal) (g : Gain Ideal) (s : Acc Ideal) (q : Fin 128) :
    nextSq x t g s (ix2 0 q) = s (ix2 0 q) + ∑ r : Fin 512, rowErr (rowOf x r) (rowOf t r) (rowOf g 0) := by
  simp only [← errRows_apply]
  generalize hE : errRows x t g = E
  unfold nextSq
  rw [hE]
  pointwise [k0_pay1]

theorem zeroSq_apply (q : Fin 128) : (zeroSq : Acc Ideal) (ix2 0 q) = 0 := by
  pointwise [zeroSq, k0_pay10]

/-! ### One device -/

section Device
variable (m : (ℓ : Loc nD τ sig) → Buf (Elt Ideal) ℓ) (c : Dev nD)

/-- A device's rows of the hidden state, -/
abbrev argX : FVec Ideal S8192x1024 .f32 := m ((c.tc : Thread nD τ).loc main_arg0)
/-- of the target -/
abbrev argT : FVec Ideal S8192x1024 .f32 := m ((c.tc : Thread nD τ).loc main_arg1)
/-- and the gains. -/
abbrev argG : Gain Ideal := m ((c.tc : Thread nD τ).loc main_arg2)

theorem tile_lt (t : Fin cfg0.N) (r : Fin 512) : t.val * 512 + r.val < 8192 := by
  have := lt_of_lt_of_eq t.isLt (show cfg0.N = 16 from N_0)
  omega

theorem row_x (t : Fin cfg0.N) (r : Fin 512) : rowOf (xB (V0 m) c t) r = rowOf (argX m c) ⟨t.val * 512 + r.val, tile_lt t r⟩ := by
  have h : win0_0.index t 0 = t.val ∧ win0_0.index t 1 = 0 := by revert t; decide +kernel
  funext k
  refine congrArg (argX m c) ?_
  funext a; apply Fin.ext; fin_cases a <;> blk_simp [Pipeline.Window.cell_apply]
  · rw [h.1]; rfl
  · rw [h.2, Nat.zero_mul, Nat.zero_add]; rfl
theorem row_t (t : Fin cfg0.N) (r : Fin 512) : rowOf (tB (V0 m) c t) r = rowOf (argT m c) ⟨t.val * 512 + r.val, tile_lt t r⟩ := by
  have h : win0_1.index t 0 = t.val ∧ win0_1.index t 1 = 0 := by revert t; decide +kernel
  funext k
  refine congrArg (argT m c) ?_
  funext a; apply Fin.ext; fin_cases a <;> blk_simp [Pipeline.Window.cell_apply]
  · rw [h.1]; rfl
  · rw [h.2, Nat.zero_mul, Nat.zero_add]; rfl
theorem row_g (t : Fin cfg0.N) : gB (V0 m) c t = argG m c := by
  have h : ∀ a, win0_2.index t a = 0 := by revert t; decide +kernel
  funext y
  refine congrArg (argG m c) ?_
  funext a; apply Fin.ext; fin_cases a <;> blk_simp [Pipeline.Window.cell_apply] <;> first | rw [h, Nat.zero_mul, Nat.zero_add] | rw [h]

/-- The squared error of a device's row. -/
def devErr (i : Fin 8192) : Ideal .f32 := rowErr (rowOf (argX m c) i) (rowOf (argT m c) i) (rowOf (argG m c) 0)

theorem sqAt_apply (q : Fin 128) (n : ℕ) (hn : n ≤ cfg0.N) : sqAt (V0 m) c n (ix2 0 q)
    = ∑ t : Fin n, ∑ r : Fin 512, devErr m c ⟨t.val * 512 + r.val, tile_lt ⟨t.val, lt_of_lt_of_le t.isLt hn⟩ r⟩ := by
  induction n with
  | zero => exact (zeroSq_apply q).trans (by simp)
  | succ n ih =>
    rw [show sqAt (V0 m) c (n + 1) = _ from sqAt_succ (V0 m) c ⟨n, hn⟩, nextSq_apply, ih (Nat.le_of_succ_le hn)]
    refine Eq.trans ?_ (Fin.sum_univ_castSucc _).symm
    refine congrArg₂ (fun a b : EReal => a + b) rfl (Finset.sum_congr rfl fun r _ => ?_)
    rw [row_x, row_t, row_g]; rfl

/-- All of a device's squared error. -/
def devSum : Ideal .f32 := ∑ i : Fin 8192, devErr m c i

theorem sqAt_end (q : Fin 128) : sqAt (V0 m) c 16 (ix2 0 q) = devSum m c :=
  (sqAt_apply m c q 16 (by decide)).trans (Fin.sum_mul_add_fin 16 512 (devErr m c))

theorem arr_sq : final m c 3 = sqAt (V0 m) c 16 := by
  refine (dat (V0 m) c).arrAt_eq_of_covers 3 _ (by decide +kernel) fun t hf y => ?_
  blk_simp
  have ht : t.val = 15 := by revert hf; clear y; revert t; decide +kernel
  rw [after_3, ht]
  have h : ∀ a, win0_3.index t a = 0 := by clear hf y ht; revert t; decide +kernel
  refine congrArg (sqAt (V0 m) c 16) ?_
  funext a; apply Fin.ext; fin_cases a <;> blk_simp [Pipeline.Window.cell_apply] <;> first | rw [h, Nat.zero_mul, Nat.zero_add] | rw [h]

/-- What the host makes of the running sum. -/
def scaled (q : Acc Ideal) : FVec Ideal S_ .f32 :=
  mulf (constant S_ .f32 0x3A000000#32) (shapeCast S_ (extractStridedSlice S1x1 ![0, 0] q slices_S1x128_S1x1_0_0) shapeCasts_S1x1_S_)

theorem scaled_apply (q : Acc Ideal) (i : S_.Idx) : scaled q i = word 0x3A000000#32 * q (ix2 0 0) := by
  pointwise [scaled]

/-- What a device adds to the sum over the devices. -/
theorem share_eq (i : S_.Idx) : (U2 m c (Proc.devRef .tc main_v4) : FVec Ideal S_ .f32) i = word 0x3A000000#32 * devSum m c := by
  have hr : U2 m c (Proc.devRef .tc main_v4) = scaled (U1 m c (Proc.devRef .tc main_v1_0)) := by
    unfold U2 scaled
    after_reads_simp <;> rfl
  rw [hr, U1_0, arr_sq, scaled_apply, sqAt_end]

/-- The all-reduce's fold is the sum over the devices. -/
theorem fold_sum (v : Fin 8 → FVec Ideal S_ .f32) (i : S_.Idx) : (ar0 (F := Ideal)).foldGroup v i = ∑ j, v j i :=
  (ar0 (F := Ideal)).foldGroup_graded_top (Grading.ofHom (M := EReal) (fun a => a) fun _ _ => rfl) v i 0 (fun j => v j i) fun _ => rfl

theorem peer_eq (j : Fin 8) : (ar0 (F := Ideal)).peer c j = j := by
  unfold AllReduce.Cfg.peer
  show ar0_mem ((ar0_pos c).1, j) = j
  revert c j; decide +kernel

theorem result_eq (Y : FVec Ideal S_ .f32) : (ar0 (F := Ideal)).toResult Y = Y := rfl

attribute [local irreducible] U2 devSum AllReduce.Cfg.foldGroup in
/-- What the devices end with. -/
theorem loss_eq (i : S_.Idx) : (U3 m c (Proc.devRef .tc main_v5) : FVec Ideal S_ .f32) i = ∑ d : Dev nD, word 0x3A000000#32 * devSum m d := by
  have h := (ar0 (F := Ideal)).after₀_result (U2 m) c
  refine (congrFun (h.trans (result_eq _)) i).trans
    ((fold_sum (fun j => U2 m ((ar0 (F := Ideal)).peer c j) (Proc.devRef .tc main_v4)) i).trans ?_)
  refine Finset.sum_congr (M := EReal) rfl fun j _ => ?_
  rw [peer_eq]
  exact share_eq m j i

end Device

/-! ### The reference -/

section Reference
open Cert.HeadReferenceIdeal Cert.HeadReferenceIdeal.Gen

abbrev Rows : Type := FVec Ideal Cert.HeadReferenceIdeal.S65536x1024 .f32

/-- The reference's distance of every element, -/
def refGap (X T : Rows) (G : Gain Ideal) : Rows :=
  subf (mulf (mulf X (broadcastInDim S65536x1024 ![0, 1] bcast_S65536x1_S65536x1024_0_1
      (Host.rsqrt (addf (Host.divf (broadcastInDim S65536x1 ![0] bcast_S65536_S65536x1_0
          (Host.reduceAdd (mulf X X) (constant Cert.HeadReferenceIdeal.S_ .f32 0x00000000#32) reducesTo_S65536x1024_S65536_d1 Cert.HeadReferenceIdeal.Gen.h_S_))
        (broadcastInDim S65536x1 ![] bcast_S_S65536x1 (constant Cert.HeadReferenceIdeal.S_ .f32 0x44800000#32)))
        (broadcastInDim S65536x1 ![] bcast_S_S65536x1 (constant Cert.HeadReferenceIdeal.S_ .f32 0x358637BD#32))))))
    (broadcastInDim S65536x1024 ![0, 1] bcast_S1x1024_S65536x1024_0_1 G)) T
/-- its mean squared error of every row, -/
def refMean (X T : Rows) (G : Gain Ideal) : FVec Ideal S65536 .f32 :=
  Host.divf (Host.reduceAdd (mulf (refGap X T G) (refGap X T G)) (constant Cert.HeadReferenceIdeal.S_ .f32 0x00000000#32)
      reducesTo_S65536x1024_S65536_d1 Cert.HeadReferenceIdeal.Gen.h_S_)
    (broadcastInDim S65536 ![] bcast_S_S65536 (constant Cert.HeadReferenceIdeal.S_ .f32 0x44800000#32))
/-- and its loss. -/
def refLoss (X T : Rows) (G : Gain Ideal) : FVec Ideal Cert.HeadReferenceIdeal.S_ .f32 :=
  mulf (constant Cert.HeadReferenceIdeal.S_ .f32 0x3F000000#32)
    (Host.reduceAdd (refMean X T G) (constant Cert.HeadReferenceIdeal.S_ .f32 0x00000000#32) reducesTo_S65536_S_d0 Cert.HeadReferenceIdeal.Gen.h_S_)

variable (X T : Rows) (G : Gain Ideal)

theorem refGap_apply (r : Fin 65536) (k : Fin 1024) : refGap X T G (ix2 r k) = gap (rowOf X r) (rowOf T r) (rowOf G 0) k := by
  pointwise [refGap, gap, scale]

theorem refMean_apply (r : Fin 65536) : refMean X T G (ix1 r) = Ideal.div (rowErr (rowOf X r) (rowOf T r) (rowOf G 0)) (word 0x44800000#32) := by
  unfold rowErr
  simp only [← refGap_apply]
  generalize hD : refGap X T G = D
  unfold refMean
  rw [hD]
  pointwise []

theorem refLoss_apply (i : Cert.HeadReferenceIdeal.S_.Idx) : refLoss X T G i
    = word 0x3F000000#32 * ∑ r : Fin 65536, Ideal.div (rowErr (rowOf X r) (rowOf T r) (rowOf G 0)) (word 0x44800000#32) := by
  simp only [← refMean_apply]
  generalize hD : refMean X T G = D
  unfold refLoss
  rw [hD]
  pointwise []

end Reference

/-! ### The two scalings -/

/-- A finite nonnegative factor goes into a sum. -/
theorem scale_sum_eq {n : ℕ} (a : ℝ) (ha : 0 ≤ a) (f : Fin n → EReal) : ∑ i, (a : EReal) * f i = (a : EReal) * ∑ i, f i := by
  induction n with
  | zero => simp
  | succ n ih =>
    rw [Fin.sum_univ_castSucc, Fin.sum_univ_castSucc, ih,
      EReal.left_distrib_of_nonneg_of_ne_top (by exact_mod_cast ha) (EReal.coe_ne_top a)]

theorem word_half : word 0x3F000000#32 = ((1 / 2 : ℝ) : EReal) := by
  show Ideal.ofBits .f32 _ = _
  simp [Ideal.ofBits, Ideal.ieee, -EReal.coe_mul]; norm_num
theorem word_width : word 0x44800000#32 = ((1024 : ℝ) : EReal) := by
  show Ideal.ofBits .f32 _ = _
  simp [Ideal.ofBits, Ideal.ieee, -EReal.coe_mul]; norm_num
theorem word_share : word 0x3A000000#32 = ((1 / 2048 : ℝ) : EReal) := by
  show Ideal.ofBits .f32 _ = _
  simp [Ideal.ofBits, Ideal.ieee, -EReal.coe_mul]; norm_num

/-- Half the sum of the rows' means is the sum of the devices' shares. -/
theorem shares_eq (e : Fin 65536 → EReal) (E : Fin 8 → Fin 8192 → EReal) (h : ∀ d i, E d i = e ⟨d.val * 8192 + i.val, by omega⟩) :
    (∑ d, word 0x3A000000#32 * ∑ i, E d i : EReal) = word 0x3F000000#32 * ∑ r, Ideal.div (e r) (word 0x44800000#32) := by
  have h1 : ∑ d, ∑ i, E d i = ∑ r, e r := Fin.sum_mul_add_congr (S := 8) (n := 8192) (f := e) fun d i _ => h d i
  have h2 : ∀ r, Ideal.div (e r) (word 0x44800000#32) = ((1 / 1024 : ℝ) : EReal) * e r := fun r => by
    rw [word_width, Ideal.div_coe (by norm_num), mul_comm]
  simp only [h2]
  rw [word_share, word_half, scale_sum_eq _ (by norm_num), scale_sum_eq _ (by norm_num), h1, ← mul_assoc, ← EReal.coe_mul]
  norm_num

end Cert.Proof.Loss

end
-- ==== Proof.LossGrad.lean ====
/-
  The loss's gradients at the ideal values: of the gains, summed over a device's rows, and of the hidden state, row by row;
  and the derivative that the reference takes, which is the kernel's formula at the infinities too.
-/
module

public import proofs.«01_k».proof.Proof.LossValue

@[expose] public section

set_option maxRecDepth 16384

noncomputable section

namespace Cert.Proof.Loss

open Cert.HeadIdeal Cert.HeadIdeal.Gen
open Idealize.ShloMosaic Idealize.ShloMosaic.TcCoe Idealize.ShloMosaic.Tactic Idealize.ShloMosaic.StableHlo
open Idealize.ShloMosaic.Pipeline (Dat Cfg Window)

/-! ### One row -/

/-- A row's mean square, with the small constant. -/
def meanSq (x : Row) : Ideal .f32 := Ideal.div (∑ k, x k * x k) (word 0x44800000#32) + word 0x358637BD#32

/-- What the gradient of the gains takes from a row, -/
def gainTerm (x t g : Row) (k : Fin 1024) : Ideal .f32 := gap x t g k * word 0x3A800000#32 * (x k * scale x)
/-- the gradient at the scaled row -/
def pull (x t g : Row) (k : Fin 1024) : Ideal .f32 := gap x t g k * word 0x3A800000#32 * g k
/-- and at the row itself. -/
def rowDx (x t g : Row) (k : Fin 1024) : Ideal .f32 :=
  scale x * (pull x t g k - x k * scale x * Ideal.div (∑ j, pull x t g j * (x j * scale x)) (word 0x44800000#32))

/-! ### One tile -/

theorem tileDx_apply (x t : Tile Ideal) (g : Gain Ideal) (r : Fin 512) (k : Fin 1024) :
    tileDx x t g (ix2 r k) = rowDx (rowOf x r) (rowOf t r) (rowOf g 0) k := by
  pointwise [tileDx, k0_pay9, k0_pay8, k0_pay7, k0_pay6, k0_pay5, k0_pay4, k0_pay3, rowDx, pull, gap, scale]

theorem nextDg_apply (x t : Tile Ideal) (g s : Gain Ideal) (k : Fin 1024) :
    nextDg x t g s (ix2 0 k) = s (ix2 0 k) + ∑ r : Fin 512, gainTerm (rowOf x r) (rowOf t r) (rowOf g 0) k := by
  pointwise [nextDg, k0_pay2, k0_pay8, k0_pay7, k0_pay6, k0_pay5, k0_pay4, k0_pay3, gainTerm, gap, scale]

theorem zeroDg_apply (k : Fin 1024) : (zeroDg : Gain Ideal) (ix2 0 k) = 0 := by
  pointwise [zeroDg, k0_pay11]

/-! ### One device -/

section Device
variable (m : (ℓ : Loc nD τ sig) → Buf (Elt Ideal) ℓ) (c : Dev nD)

/-- What the gradient of the gains takes from a device's row, -/
def devGain (k : Fin 1024) (i : Fin 8192) : Ideal .f32 := gainTerm (rowOf (argX m c) i) (rowOf (argT m c) i) (rowOf (argG m c) 0) k

theorem dgAt_apply (k : Fin 1024) (n : ℕ) (hn : n ≤ cfg0.N) : dgAt (V0 m) c n (ix2 0 k)
    = ∑ t : Fin n, ∑ r : Fin 512, devGain m c k ⟨t.val * 512 + r.val, tile_lt ⟨t.val, lt_of_lt_of_le t.isLt hn⟩ r⟩ := by
  induction n with
  | zero => exact (zeroDg_apply k).trans (by simp)
  | succ n ih =>
    rw [show dgAt (V0 m) c (n + 1) = _ from dgAt_succ (V0 m) c ⟨n, hn⟩, nextDg_apply, ih (Nat.le_of_succ_le hn)]
    refine Eq.trans ?_ (Fin.sum_univ_castSucc _).symm
    refine congrArg₂ (fun a b : EReal => a + b) rfl (Finset.sum_congr rfl fun r _ => ?_)
    rw [row_x, row_t, row_g]; rfl

theorem dgAt_end (k : Fin 1024) : dgAt (V0 m) c 16 (ix2 0 k) = ∑ i : Fin 8192, devGain m c k i :=
  (dgAt_apply m c k 16 (by decide)).trans (Fin.sum_mul_add_fin 16 512 (devGain m c k))

theorem arr_dg : final m c 4 = dgAt (V0 m) c 16 := by
  refine (dat (V0 m) c).arrAt_eq_of_covers 4 _ (by decide +kernel) fun t hf y => ?_
  blk_simp
  have ht : t.val = 15 := by revert hf; clear y; revert t; decide +kernel
  rw [after_4, ht]
  have h : ∀ a, win0_4.index t a = 0 := by clear hf y ht; revert t; decide +kernel
  refine congrArg (dgAt (V0 m) c 16) ?_
  funext a; apply Fin.ext; fin_cases a <;> blk_simp [Pipeline.Window.cell_apply] <;> first | rw [h, Nat.zero_mul, Nat.zero_add] | rw [h]

/-- The gradient of the gains that a device leaves. -/
theorem gains_eq (k : Fin 1024) : (final m c 4 : Gain Ideal) (ix2 0 k) = ∑ i : Fin 8192, devGain m c k i :=
  (congrFun (arr_dg m c) (ix2 0 k)).trans (dgAt_end m c k)

/-- The gradient of the hidden state, of a device's rows. -/
def devDx : FVec Ideal S8192x1024 .f32 := fun y =>
  rowDx (rowOf (argX m c) (y 0)) (rowOf (argT m c) (y 0)) (rowOf (argG m c) 0) (y 1)

theorem dx_at (t : Fin cfg0.N) (r : Fin 512) (k : Fin 1024) :
    (win0_5.blk t).view.emb (ix2 r k) = (ix2 ⟨t.val * 512 + r.val, tile_lt t r⟩ k : S8192x1024.Idx) := by
  have h : win0_5.index t 0 = t.val ∧ win0_5.index t 1 = 0 := by clear r k; revert t; decide +kernel
  funext a; apply Fin.ext; fin_cases a <;> blk_simp [Pipeline.Window.cell_apply]
  · rw [h.1]; rfl
  · rw [h.2, Nat.zero_mul, Nat.zero_add]; rfl

theorem dx_block (t : Fin cfg0.N) (y : S512x1024.Idx) :
    tileDx (xB (V0 m) c t) (tB (V0 m) c t) (gB (V0 m) c t) y = devDx m c ((win0_5.blk t).view.emb y) := by
  obtain ⟨r, k, rfl⟩ : ∃ r k, y = ix2 r k := ⟨y 0, y 1, by funext a; fin_cases a <;> rfl⟩
  rw [tileDx_apply, row_x, row_t, row_g, dx_at]
  rfl

theorem arr_dx : final m c 5 = devDx m c := by
  refine (dat (V0 m) c).arrAt_eq_of_covers 5 _ (by decide +kernel) fun t hf y => ?_
  blk_simp
  rw [after_5]
  exact dx_block m c t y

end Device

/-! ### The reference -/

section Reference
open Cert.HeadReferenceIdeal Cert.HeadReferenceIdeal.Gen

/-- The reference's mean squares with the small constant, -/
def refMs (X : Rows) : FVec Ideal S65536x1 .f32 :=
  addf (Host.divf (broadcastInDim S65536x1 ![0] bcast_S65536_S65536x1_0
      (Host.reduceAdd (mulf X X) (constant Cert.HeadReferenceIdeal.S_ .f32 0x00000000#32) reducesTo_S65536x1024_S65536_d1 Cert.HeadReferenceIdeal.Gen.h_S_))
    (broadcastInDim S65536x1 ![] bcast_S_S65536x1 (constant Cert.HeadReferenceIdeal.S_ .f32 0x44800000#32)))
    (broadcastInDim S65536x1 ![] bcast_S_S65536x1 (constant Cert.HeadReferenceIdeal.S_ .f32 0x358637BD#32))
/-- and their reciprocal roots; -/
def refScale (X : Rows) : FVec Ideal S65536x1 .f32 := Host.rsqrt (refMs X)
/-- the derivative at the scaled rows, -/
def refPull (X T : Rows) (G : Gain Ideal) : Rows :=
  mulf (mulf (broadcastInDim S65536x1024 ![0] bcast_S65536_S65536x1024_0
      (Host.divf (broadcastInDim S65536 ![] bcast_S_S65536
          (mulf (constant Cert.HeadReferenceIdeal.S_ .f32 0x3F000000#32) (constant Cert.HeadReferenceIdeal.S_ .f32 0x3F800000#32)))
        (broadcastInDim S65536 ![] bcast_S_S65536 (constant Cert.HeadReferenceIdeal.S_ .f32 0x44800000#32))))
    (mulf (broadcastInDim S65536x1024 ![] bcast_S_S65536x1024 (constant Cert.HeadReferenceIdeal.S_ .f32 0x40000000#32)) (refGap X T G)))
    (broadcastInDim S65536x1024 ![0, 1] bcast_S1x1024_S65536x1024_0_1 G)
/-- what comes back through the mean squares, -/
def refBack (X T : Rows) (G : Gain Ideal) : FVec Ideal S65536 .f32 :=
  Host.reduceAdd (Host.divf
      (mulf (shapeCast S65536x1 (Host.reduceAdd (mulf X (refPull X T G)) (constant Cert.HeadReferenceIdeal.S_ .f32 0x00000000#32)
          reducesTo_S65536x1024_S65536_d1 Cert.HeadReferenceIdeal.Gen.h_S_) shapeCasts_S65536_S65536x1)
        (mulf (broadcastInDim S65536x1 ![] bcast_S_S65536x1 (constant Cert.HeadReferenceIdeal.S_ .f32 0xBF000000#32))
          (Host.divf (refScale X) (refMs X))))
      (broadcastInDim S65536x1 ![] bcast_S_S65536x1 (constant Cert.HeadReferenceIdeal.S_ .f32 0x44800000#32)))
    (constant Cert.HeadReferenceIdeal.S_ .f32 0x00000000#32) reducesTo_S65536x1_S65536_d1 Cert.HeadReferenceIdeal.Gen.h_S_
/-- the derivative at the rows, -/
def refDx (X T : Rows) (G : Gain Ideal) : Rows :=
  addf (addf (mulf (refPull X T G) (broadcastInDim S65536x1024 ![0, 1] bcast_S65536x1_S65536x1024_0_1 (refScale X)))
      (mulf X (broadcastInDim S65536x1024 ![0] bcast_S65536_S65536x1024_0 (refBack X T G))))
    (mulf (broadcastInDim S65536x1024 ![0] bcast_S65536_S65536x1024_0 (refBack X T G)) X)
/-- and the gradient of the gains, of every device's rows. -/
def refDg (X T : Rows) (G : Gain Ideal) : FVec Ideal S8x1024 .f32 :=
  Host.reduceAdd (shapeCast S8x8192x1024
      (mulf (mulf X (broadcastInDim S65536x1024 ![0, 1] bcast_S65536x1_S65536x1024_0_1 (refScale X)))
        (Host.divf (refGap X T G) (broadcastInDim S65536x1024 ![] bcast_S_S65536x1024 (constant Cert.HeadReferenceIdeal.S_ .f32 0x44800000#32))))
      shapeCasts_S65536x1024_S8x8192x1024)
    (constant Cert.HeadReferenceIdeal.S_ .f32 0x00000000#32) reducesTo_S8x8192x1024_S8x1024_d1 Cert.HeadReferenceIdeal.Gen.h_S_

variable (X T : Rows) (G : Gain Ideal)

theorem refMs_apply (r : Fin 65536) : refMs X (ix2 r 0) = meanSq (rowOf X r) := by
  pointwise [refMs, meanSq]

theorem refScale_apply (r : Fin 65536) : refScale X (ix2 r 0) = scale (rowOf X r) := by
  pointwise [refScale, refMs, scale]

/-- The derivative at a scaled row, as the reference multiplies it out, -/
def pull' (x t g : Row) (k : Fin 1024) : Ideal .f32 :=
  Ideal.div (word 0x3F000000#32 * word 0x3F800000#32) (word 0x44800000#32) * (word 0x40000000#32 * gap x t g k) * g k
/-- and what comes back through a row's mean square from such a derivative. -/
def backOf (x p : Row) : Ideal .f32 :=
  Ideal.div ((∑ k, x k * p k) * (word 0xBF000000#32 * Ideal.div (scale x) (meanSq x))) (word 0x44800000#32)
def back (x t g : Row) : Ideal .f32 := backOf x (pull' x t g)

theorem refPull_apply (r : Fin 65536) (k : Fin 1024) : refPull X T G (ix2 r k) = pull' (rowOf X r) (rowOf T r) (rowOf G 0) k := by
  unfold pull'
  simp only [← refGap_apply]
  generalize hD : refGap X T G = D
  unfold refPull
  rw [hD]
  pointwise []

theorem refBack_apply (r : Fin 65536) : refBack X T G (ix1 r) = back (rowOf X r) (rowOf T r) (rowOf G 0) := by
  unfold back backOf
  simp only [← refPull_apply, ← refScale_apply, ← refMs_apply]
  generalize hD : refPull X T G = D
  generalize hS : refScale X = S
  generalize hM : refMs X = M
  unfold refBack
  rw [hD, hS, hM]
  pointwise []
  exact Fin.sum_univ_one _

theorem refDx_apply (r : Fin 65536) (k : Fin 1024) : refDx X T G (ix2 r k)
    = pull' (rowOf X r) (rowOf T r) (rowOf G 0) k * scale (rowOf X r) + X (ix2 r k) * back (rowOf X r) (rowOf T r) (rowOf G 0)
      + back (rowOf X r) (rowOf T r) (rowOf G 0) * X (ix2 r k) := by
  simp only [← refPull_apply, ← refScale_apply, ← refBack_apply]
  generalize hD : refPull X T G = D
  generalize hS : refScale X = S
  generalize hB : refBack X T G = B
  unfold refDx
  rw [hD, hS, hB]
  pointwise []

theorem refDg_apply (c : Fin 8) (k : Fin 1024) : refDg X T G (ix2 c k)
    = ∑ i : Fin 8192, X (ix2 ⟨c.val * 8192 + i.val, by omega⟩ k) * scale (rowOf X ⟨c.val * 8192 + i.val, by omega⟩)
        * Ideal.div (gap (rowOf X ⟨c.val * 8192 + i.val, by omega⟩) (rowOf T ⟨c.val * 8192 + i.val, by omega⟩) (rowOf G 0) k) (word 0x44800000#32) := by
  simp only [← refGap_apply, ← refScale_apply]
  generalize hD : refGap X T G = D
  generalize hS : refScale X = S
  unfold refDg
  rw [hD, hS]
  pointwise []

end Reference

/-! ### The derivative -/

theorem word_recip : word 0x3A800000#32 = ((1 / 1024 : ℝ) : EReal) := by
  show Ideal.ofBits .f32 _ = _
  simp [Ideal.ofBits, Ideal.ieee, -EReal.coe_mul]; norm_num
theorem word_one : word 0x3F800000#32 = ((1 : ℝ) : EReal) := by
  show Ideal.ofBits .f32 _ = _
  simp [Ideal.ofBits, Ideal.ieee, -EReal.coe_mul]; norm_num
theorem word_two : word 0x40000000#32 = ((2 : ℝ) : EReal) := by
  show Ideal.ofBits .f32 _ = _
  simp [Ideal.ofBits, Ideal.ieee, -EReal.coe_mul]; norm_num
theorem word_neg_half : word 0xBF000000#32 = ((-(1 / 2) : ℝ) : EReal) := by
  show Ideal.ofBits .f32 _ = _
  simp [Ideal.ofBits, Ideal.ieee, -EReal.coe_mul]; norm_num
theorem word_small_pos : 0 < word 0x358637BD#32 := by
  show (0 : EReal) < Ideal.ofBits .f32 _
  simp [Ideal.ofBits, Ideal.ieee, -EReal.coe_mul]

theorem square_nonneg (a : EReal) : 0 ≤ a * a :=
  (le_total 0 a).elim (fun h => EReal.mul_nonneg h h) fun h => EReal.mul_nonneg_iff.mpr (.inr ⟨h, h⟩)

theorem meanSq_pos (x : Row) : 0 < meanSq x := by
  have h : (0 : EReal) ≤ Ideal.div (∑ k, x k * x k) (word 0x44800000#32) := by
    rw [word_width, Ideal.div_coe (by norm_num)]
    exact EReal.mul_nonneg (Finset.sum_nonneg fun k _ => square_nonneg (x k)) (by exact_mod_cast (by norm_num : (0 : ℝ) ≤ 1 / 1024))
  exact lt_of_lt_of_le word_small_pos (le_add_of_nonneg_left h)

/-- A positive value's reciprocal root is a nonnegative real, whose cube is its quotient by that value. -/
theorem root_real (v : EReal) (h : 0 < v) : ∃ s : ℝ, 0 ≤ s ∧ Ideal.rsqrt v = s ∧ Ideal.div (Ideal.rsqrt v) v = ((s * s * s : ℝ) : EReal) := by
  induction v with
  | bot => exact absurd h (by simp)
  | top => exact ⟨0, le_refl _, by simp, by simp [Ideal.div]⟩
  | coe v =>
    have hv : 0 < v := by exact_mod_cast h
    refine ⟨(Real.sqrt v)⁻¹, by positivity, by simp [hv.not_gt, hv.ne'], ?_⟩
    rw [Ideal.div_coe hv.ne', Ideal.rsqrt_coe, if_neg hv.not_gt, if_neg hv.ne', ← EReal.coe_mul]
    congr 1
    have hs : (Real.sqrt v)⁻¹ * (Real.sqrt v)⁻¹ = 1 / v := by rw [← mul_inv, Real.mul_self_sqrt hv.le, one_div]
    rw [mul_assoc, hs]

theorem scale_real (x : Row) : ∃ s : ℝ, 0 ≤ s ∧ scale x = s ∧ Ideal.div (scale x) (meanSq x) = ((s * s * s : ℝ) : EReal) :=
  root_real (meanSq x) (meanSq_pos x)

theorem pull_eq (x t g : Row) (k : Fin 1024) : pull' x t g k = pull x t g k := by
  unfold pull' pull
  rw [word_half, word_one, word_width, word_two, word_recip, Ideal.div_coe (by norm_num), ← mul_assoc, ← EReal.coe_mul, ← EReal.coe_mul,
    ← EReal.coe_mul, mul_comm (gap x t g k)]
  norm_num

theorem twice (a : EReal) : a + a = ((2 : ℝ) : EReal) * a := by
  induction a with
  | bot => rw [EReal.coe_mul_bot_of_pos (by norm_num)]; rfl
  | top => rw [EReal.coe_mul_top_of_pos (by norm_num)]; rfl
  | coe a => rw [← EReal.coe_add, ← EReal.coe_mul]; congr 1; ring

/-- The derivative of a scaled row, multiplied out: what comes back at a row from `p` at the scaled row. -/
theorem derivative_of (x p : Row) (k : Fin 1024) :
    p k * scale x + x k * backOf x p + backOf x p * x k
      = scale x * (p k - x k * scale x * Ideal.div (∑ j, p j * (x j * scale x)) (word 0x44800000#32)) := by
  obtain ⟨s, hs, h1, h2⟩ := scale_real x
  have hc : (0 : EReal) ≤ (s : EReal) := by exact_mod_cast hs
  unfold backOf
  rw [h2, h1, word_width, word_neg_half, Ideal.div_coe (by norm_num), Ideal.div_coe (by norm_num)]
  have hS : ∑ j, p j * (x j * (s : EReal)) = (s : EReal) * ∑ j, x j * p j := by
    rw [← scale_sum_eq s hs]
    exact Finset.sum_congr rfl fun j _ => by rw [← mul_assoc, mul_comm, mul_comm (x j)]
  rw [hS]
  generalize ∑ j, x j * p j = S
  generalize p k = w
  generalize x k = a
  rw [sub_eq_add_neg, EReal.left_distrib_of_nonneg_of_ne_top hc (EReal.coe_ne_top s), add_assoc, mul_comm _ a, twice, mul_comm w]
  congr 1
  rw [mul_neg, ← EReal.coe_mul]
  have e1 : ((2 : ℝ) : EReal) * (a * (S * ((-(1 / 2) * (s * s * s) : ℝ) : EReal) * ((1 / 1024 : ℝ) : EReal)))
      = (((2 : ℝ) : EReal) * ((-(1 / 2) * (s * s * s) : ℝ) : EReal) * ((1 / 1024 : ℝ) : EReal)) * (a * S) := by ac_rfl
  have e2 : (s : EReal) * (a * (s : EReal) * ((s : EReal) * S * ((1 / 1024 : ℝ) : EReal)))
      = ((s : EReal) * (s : EReal) * (s : EReal) * ((1 / 1024 : ℝ) : EReal)) * (a * S) := by ac_rfl
  rw [e1, e2, ← neg_mul, ← EReal.coe_mul, ← EReal.coe_mul, ← EReal.coe_mul, ← EReal.coe_mul, ← EReal.coe_mul, ← EReal.coe_neg]
  congr 2
  ring

/-- The reference's derivative of a row is the kernel's. -/
theorem derivative_eq (x t g : Row) (k : Fin 1024) :
    pull' x t g k * scale x + x k * back x t g + back x t g * x k = rowDx x t g k := by
  have h : pull' x t g = pull x t g := funext (pull_eq x t g)
  unfold back rowDx
  rw [h]
  exact derivative_of x (pull x t g) k

/-- The reference's summand of the gains' gradient is the kernel's. -/
theorem gain_eq (x t g : Row) (k : Fin 1024) : x k * scale x * Ideal.div (gap x t g k) (word 0x44800000#32) = gainTerm x t g k := by
  unfold gainTerm
  rw [word_width, word_recip, Ideal.div_coe (by norm_num), mul_comm]

end Cert.Proof.Loss

end
-- ==== Proof.LossResults.lean ====
/-
  The loss and its gradients: the three frames, and the value claim, that every device ends with the reference's loss and
  with its block of the two gradients.
-/
module

public import proofs.«01_k».proof.Defs
public import proofs.«01_k».proof.Proof.LossGrad
public import proofs.«01_k».proof.Proof.Gen.Head.Launch

@[expose] public section

set_option maxRecDepth 16384

noncomputable section

namespace Cert.Proof.Loss

open Cert.HeadIdeal Cert.HeadIdeal.Gen
open Idealize.ShloMosaic Idealize.ShloMosaic.TcCoe Idealize.SL.Sem

/-! ### The frames -/

section Kept
variable {F : FTy → Type} [FloatOps F]

/-- The all-reduce writes its result and its eight slots alone. -/
theorem not_fold (r : Ref sig .tc) (hr : r ≠ main_v5) (hs : ∀ j, r ≠ ar0_stage j) : Proc.devRef .tc r ∉ (ar0 (F := F)).foldBufs := fun h => by
  rcases Finset.mem_insert.mp h with h | h
  · exact hr (Proc.devRef_injective _ h)
  · obtain ⟨j, -, e⟩ := Finset.mem_map.mp h
    exact hs j (Proc.devRef_injective _ e.symm)

/-- The three results at the end, the arguments as they were, and the counters back at zero. -/
theorem ends (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v5) = U3 m c (Proc.devRef .tc main_v5)
      ∧ r.2.mem ((c.tc : Thread nD τ).loc main_v1_1) = final m c 4
      ∧ r.2.mem ((c.tc : Thread nD τ).loc main_v1_2) = final m c 5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      h.1 c _ (Finset.mem_filter.mpr ⟨StableHlo.devRef_mem_tcRefs main_v5, by revert c; decide⟩),
      (h.1 c _ (Finset.mem_filter.mpr ⟨StableHlo.devRef_mem_tcRefs main_v1_1, by decide⟩)).trans ((U3_of m c main_v1_1 (by decide) (not_fold _ (by decide) (by decide))).trans (U1_1 m c)),
      (h.1 c _ (Finset.mem_filter.mpr ⟨StableHlo.devRef_mem_tcRefs main_v1_2, by decide⟩)).trans ((U3_of m c main_v1_2 (by decide) (not_fold _ (by decide) (by decide))).trans (U1_2 m c)),
      (h.1 c _ (Finset.mem_filter.mpr ⟨StableHlo.devRef_mem_tcRefs main_arg0, by decide⟩)).trans (U3_arg m c main_arg0 (by decide) (by decide) (not_fold _ (by decide) (by decide))),
      (h.1 c _ (Finset.mem_filter.mpr ⟨StableHlo.devRef_mem_tcRefs main_arg1, by decide⟩)).trans (U3_arg m c main_arg1 (by decide) (by decide) (not_fold _ (by decide) (by decide))),
      (h.1 c _ (Finset.mem_filter.mpr ⟨StableHlo.devRef_mem_tcRefs main_arg2, by decide⟩)).trans (U3_arg m c main_arg2 (by decide) (by decide) (not_fold _ (by decide) (by decide)))⟩,
    h.2⟩) (run_main m ρ)

end Kept

/-- At the ideal values, -/
theorem frame_headIdeal : Cert.quiescent_HeadIdeal (hHeadIdeal := Cert.HeadIdeal.Gen.facts) :=
  fun m ρ _ => (θ_run defs _ _).mono (fun _ h => ⟨fun c => (h.1 c).2.2.2, h.2⟩) (ends (F := Ideal) m ρ)

section Transfer

attribute [local instance] Cert.Head.Gen.facts Cert.HeadIdeal.Gen.facts

set_option maxHeartbeats 4000000
set_option backward.isDefEq.respectTransparency.types false

/-- The two printed programs are one text: the kernel, -/
theorem defs0_eq : Cert.Head.defs₀ (F := Bits) = Cert.HeadIdeal.defs₀ (F := Bits) := by
  unfold Cert.Head.defs₀ Cert.HeadIdeal.defs₀
  refine congrArg Defs.onTc (funext fun l => funext fun x => ?_)
  match l, x with
  | 0, (t, s) => exact rfl

/-- its calls, -/
theorem defs_eq : Cert.Head.defs (F := Bits) = Cert.HeadIdeal.defs (F := Bits) :=
  congrArg (Pipeline.defs (Cert.HeadIdeal.pcfgs (F := Bits))) defs0_eq

/-- and the main function. -/
theorem mains_eq : Cert.Head.main (F := Bits) = Cert.HeadIdeal.main (F := Bits) := funext fun _ => rfl

/-- What one of two equal programs ends with, the other does. -/
theorem run_of_eq {d d' : Defs nD τ sig (Elt Bits) (Pipeline.Sig Λ₀ (Fin 1) fun p => (pcfgs (F := Bits) p).Adm)}
    {p p' : Dev nD → Prog (TpuEff nD τ sig (Elt Bits) (Pipeline.Sig Λ₀ (Fin 1) fun p => (pcfgs (F := Bits) p).Adm) .tc) PUnit}
    (hd : d = d') (hp : p = p') (s) (Q) (h : θ_run d' (onTc (τ := τ) p') s Q) : θ_run d (onTc (τ := τ) p) s Q := by
  subst hd hp; exact h

/-- at the words, -/
theorem frame_head : Cert.quiescent_Head (hHead := Cert.Head.Gen.facts) :=
  fun m ρ _ => run_of_eq defs_eq mains_eq _ _
    ((θ_run defs _ _).mono (fun _ h => ⟨fun c => (h.1 c).2.2.2, h.2⟩) (ends (F := Bits) m ρ))

end Transfer

/-- and the reference's. -/
theorem frame_headReference : Cert.quiescent_HeadReferenceIdeal (hHeadReferenceIdeal := Cert.HeadReferenceIdeal.Gen.facts) :=
  fun m ρ _ => (θ_run Cert.HeadReferenceIdeal.defs _ _).mono
    (fun r h => ⟨fun c => (h c).2.2.2, sem_eq_zero_of_no_sems (by decide) r.2⟩)
    (Cert.HeadReferenceIdeal.Value.run (F := Ideal) m ρ)

/-! ### The claim -/

/-- Row `i` of device `c`'s block is row `8192 c + i` of the whole. -/
theorem block_row (c : Fin 8) (X : Rows) (i : Fin 8192) (hi : c.val * 8192 + i.val < 65536) :
    rowOf (Layout.block ⟨2, ![8192, 1024]⟩ ⟨2, ![65536, 1024]⟩ 0 8 c X) i = rowOf X ⟨c.val * 8192 + i.val, hi⟩ := by
  funext k
  refine congrArg X (funext fun a => Fin.ext ?_)
  fin_cases a <;> rfl

attribute [local instance] Cert.HeadIdeal.Gen.facts Cert.HeadReferenceIdeal.Gen.facts

/-- A device's rows of the hidden state's gradient are its block of the reference's, -/
theorem dx_eq (m : (ℓ : Loc nD τ sig) → Buf (Elt Ideal) ℓ) (c : Dev nD) (X T : Rows) (G : Gain Ideal)
    (hx : argX m c = Layout.block ⟨2, ![8192, 1024]⟩ ⟨2, ![65536, 1024]⟩ 0 8 c X)
    (ht : argT m c = Layout.block ⟨2, ![8192, 1024]⟩ ⟨2, ![65536, 1024]⟩ 0 8 c T) (hg : argG m c = G) :
    devDx m c = Layout.block ⟨2, ![8192, 1024]⟩ ⟨2, ![65536, 1024]⟩ 0 8 c (refDx X T G) := by
  funext y
  obtain ⟨i, k, rfl⟩ : ∃ (i : Fin 8192) (k : Fin 1024), y = ix2 i k := ⟨y 0, y 1, by funext a; fin_cases a <;> rfl⟩
  have hi : c.val * 8192 + i.val < 65536 := by have : c.val < 8 := c.isLt; omega
  refine Eq.trans ?_ (congrFun (block_row c (refDx X T G) i hi) k).symm
  refine Eq.trans ?_ ((refDx_apply X T G ⟨c.val * 8192 + i.val, hi⟩ k).trans (derivative_eq _ _ _ k)).symm
  show rowDx (rowOf (argX m c) i) (rowOf (argT m c) i) (rowOf (argG m c) 0) k = _
  rw [hx, ht, hg, block_row c X i hi, block_row c T i hi]

/-- and so is its gradient of the gains. -/
theorem dg_eq (m : (ℓ : Loc nD τ sig) → Buf (Elt Ideal) ℓ) (c : Dev nD) (X T : Rows) (G : Gain Ideal)
    (hx : argX m c = Layout.block ⟨2, ![8192, 1024]⟩ ⟨2, ![65536, 1024]⟩ 0 8 c X)
    (ht : argT m c = Layout.block ⟨2, ![8192, 1024]⟩ ⟨2, ![65536, 1024]⟩ 0 8 c T) (hg : argG m c = G) :
    final m c 4 = Layout.block ⟨2, ![1, 1024]⟩ ⟨2, ![8, 1024]⟩ 0 8 c (refDg X T G) := by
  funext y
  obtain ⟨k, rfl⟩ : ∃ k : Fin 1024, y = ix2 (0 : Fin 1) k := ⟨y 1, by funext a; fin_cases a; exacts [Subsingleton.elim (α := Fin 1) _ _, rfl]⟩
  refine (gains_eq m c k).trans ?_
  have hb : (Layout.block ⟨2, ![1, 1024]⟩ ⟨2, ![8, 1024]⟩ 0 8 c (refDg X T G) : Gain Ideal) (ix2 (0 : Fin 1) k) = refDg X T G (ix2 c k) := by
    refine congrArg (refDg X T G) (funext fun a => Fin.ext ?_)
    fin_cases a
    · exact Nat.mul_one c.val
    · rfl
  refine Eq.trans ?_ (hb.trans (refDg_apply X T G c k)).symm
  refine Finset.sum_congr (M := EReal) rfl fun i _ => ?_
  have hi : c.val * 8192 + i.val < 65536 := by have : c.val < 8 := c.isLt; omega
  refine Eq.trans ?_ (gain_eq (rowOf X ⟨c.val * 8192 + i.val, hi⟩) _ _ k).symm
  unfold devGain
  rw [hx, ht, hg, block_row c X i hi, block_row c T i hi]

theorem algebraic_head_reference : Cert.algebraic_HeadIdeal_HeadReferenceIdeal := by
  intro m g m' g' _ hm
  let X : Rows := m' (((0 : Dev Cert.HeadReferenceIdeal.nD).tc : Thread Cert.HeadReferenceIdeal.nD Cert.HeadReferenceIdeal.τ).loc Cert.HeadReferenceIdeal.main_arg0)
  let T : Rows := m' (((0 : Dev Cert.HeadReferenceIdeal.nD).tc : Thread Cert.HeadReferenceIdeal.nD Cert.HeadReferenceIdeal.τ).loc Cert.HeadReferenceIdeal.main_arg1)
  let G : Gain Ideal := m' (((0 : Dev Cert.HeadReferenceIdeal.nD).tc : Thread Cert.HeadReferenceIdeal.nD Cert.HeadReferenceIdeal.τ).loc Cert.HeadReferenceIdeal.main_arg2)
  refine ⟨refLoss X T G, refDg X T G, refDx X T G, ?_, ?_⟩
  · refine (θ_run defs _ _).mono (fun r h c => ⟨(h.1 c).1.trans ?_, (h.1 c).2.1.trans (dg_eq m c X T G (hm c).1 (hm c).2.1 (hm c).2.2), (h.1 c).2.2.1.trans ((arr_dx m c).trans (dx_eq m c X T G (hm c).1 (hm c).2.1 (hm c).2.2)), (h.1 c).2.2.2⟩) (ends (F := Ideal) m g)
    funext i
    refine (loss_eq m c i).trans (Eq.trans ?_ (refLoss_apply X T G i).symm)
    unfold devSum
    refine shares_eq (fun r => rowErr (rowOf X r) (rowOf T r) (rowOf G 0)) (fun d i => devErr m d i) fun d i => ?_
    obtain ⟨hx, ht, hg⟩ := hm d
    unfold devErr argX argT argG
    rw [hx, ht, hg, block_row, block_row]
  · exact (θ_run Cert.HeadReferenceIdeal.defs _ _).mono (fun r h => h 0) (Cert.HeadReferenceIdeal.Value.run (F := Ideal) m' g')

end Cert.Proof.Loss

end
-- ==== Proof.EntryTile.lean ====
/-
  The gradient at a layer's entry, one tile at a time: what the kernel's formulas give at the ideal values for a row of a tile,
  in terms of the row of the projections' gradient that it assembles from the two branches.
-/
module

public import proofs.«01_k».proof.Proof.LossGrad
public import proofs.«01_k».proof.Proof.Gen.EntryIdeal.Frame

@[expose] public section

set_option maxRecDepth 16384

noncomputable section

namespace Cert.Proof.Entry

open Cert.EntryIdeal Cert.EntryIdeal.Gen
open Idealize.ShloMosaic Idealize.ShloMosaic.TcCoe Idealize.ShloMosaic.Tactic
open Cert.Proof.Loss (Row word scale rowOf)

/-! ### One row -/

/-- A row of the gradient of the projections: a row of the first branch's, then the second branch's queries, its keys and
values together with those that the next window adds to this row, and its gate. -/
def joined (a : Fin 1280 → Ideal .f32) (d : Fin 1536 → Ideal .f32) (l : Fin 256 → Ideal .f32) (o : Fin 2560) : Ideal .f32 :=
  if h : o.val < 1280 then a ⟨o.val, h⟩
  else if h : o.val - 1280 < 512 then d ⟨o.val - 1280, by omega⟩
  else if h : o.val - 1280 - 512 < 256 then d ⟨512 + (o.val - 1280 - 512), by omega⟩ + l ⟨o.val - 1280 - 512, h⟩
  else d ⟨1024 + (o.val - 1280 - 512 - 256), by omega⟩

/-- What comes back through the weights, -/
def through (p : Fin 2560 → Ideal .f32) (W : FVec Ideal S2560x1024 .bf16) : Row := fun k => ∑ o, p o * W (ix2 o k)
/-- what a row's gradient adds to the gradient of the row itself, -/
def rowDx (x p g : Row) (k : Fin 1024) : Ideal .f32 :=
  scale x * (p k * g k - x k * scale x * Ideal.div (∑ j, p j * g j * (x j * scale x)) (word 0x44800000#32))
/-- to the gradient of the gains -/
def gainTerm (x p : Row) (k : Fin 1024) : Ideal .f32 := p k * (x k * scale x)
/-- and to the gradient of the weights. -/
def weightTerm (x g : Row) (p : Fin 2560 → Ideal .f32) (o : Fin 2560) (k : Fin 1024) : Ideal .f32 := p o * (x k * scale x * g k)

/-! ### One tile -/

/-- What the next window adds to the rows of a tile: to its first half from the tile itself, to its second half from the
rows read after it, none at the last tile. -/
def laterTile (i : grid0.Coords) (d : Vec Ideal S256x1536 .f32) (n : Vec Ideal S128x256 .f32) (r : Fin 256) (j : Fin 256) : Ideal .f32 :=
  if h : r.val < 128 then d (ix2 ⟨128 + r.val, by omega⟩ ⟨768 + j.val, by omega⟩)
  else if (i 0).val < 31 then n (ix2 ⟨r.val - 128, by omega⟩ j) else 0

variable (i : grid0.Coords) (d : Vec Ideal S256x1536 .f32) (n : Vec Ideal S128x256 .f32) (a : Vec Ideal S256x1280 .bf16)
  (W : Vec Ideal S2560x1024 .bf16) (x : Vec Ideal S256x1024 .f32) (g : Vec Ideal S1x1024 .f32)

theorem before_last (u v : Ideal .f32) :
    Scalar.select (Scalar.cmpi .slt (BitVec.ofNat 32 (i 0).val) 31#32) u v = if (i 0).val < 31 then u else v := by
  have h : ∀ k : Fin 32, Scalar.cmpi .slt (BitVec.ofNat 32 k.val) 31#32 = 1#1 ↔ k.val < 31 := by decide +kernel
  unfold Scalar.select
  exact if_congr (h (i 0)) rfl rfl

theorem assembled_apply (r : Fin 256) (o : Fin 2560) : k0_pay6 i d n a (ix2 r o)
    = joined (fun k => a (ix2 r k)) (fun k => d (ix2 r k)) (laterTile i d n r) o := by
  pointwise [k0_pay6, joined, laterTile]
  simp only [before_last]

theorem through_apply (r : Fin 256) (k : Fin 1024) : k0_pay7 i d n a W (ix2 r k) = through (fun o => k0_pay6 i d n a (ix2 r o)) W k := by
  unfold k0_pay7 through
  generalize k0_pay6 i d n a = P
  pointwise []

theorem scale_apply (r : Fin 256) : k0_pay8 x (ix2 r 0) = scale (rowOf x r) := by
  pointwise [k0_pay8, scale]

theorem scaled_apply (r : Fin 256) (k : Fin 1024) : k0_pay9 x (ix2 r k) = x (ix2 r k) * scale (rowOf x r) := by
  rw [← scale_apply]
  unfold k0_pay9
  generalize k0_pay8 x = S
  pointwise []

theorem scaled_row (r : Fin 256) (k : Fin 1024) : rowOf x r k * scale (rowOf x r) = k0_pay9 x (ix2 r k) := (scaled_apply x r k).symm

theorem dx_apply (b : Vec Ideal S256x1024 .f32) (r : Fin 256) (k : Fin 1024) :
    k0_pay1 (k0_pay8 x) (k0_pay9 x) (k0_pay10 i d n a W g) b (k0_pay11 i d n a W x g) (k0_pay12 (F := Ideal)) (ix2 r k)
      = b (ix2 r k) + rowDx (rowOf x r) (rowOf (k0_pay7 i d n a W) r) (rowOf g 0) k := by
  unfold rowDx
  simp only [← scale_apply]
  unfold k0_pay11 k0_pay10 k0_pay9
  generalize k0_pay7 i d n a W = P
  generalize k0_pay8 x = S
  pointwise [k0_pay1, k0_pay12]

theorem dg_apply (P : FVec Ideal S256x1024 .f32) (s : Vec Ideal S1x1024 .f32) (k : Fin 1024) :
    k0_pay4 P (k0_pay9 x) s (ix2 0 k) = s (ix2 0 k) + ∑ r : Fin 256, gainTerm (rowOf x r) (rowOf P r) k := by
  unfold gainTerm
  simp only [scaled_row]
  generalize k0_pay9 x = S
  pointwise [k0_pay4]

theorem dw_apply (P : FVec Ideal S256x2560 .bf16) (s : Vec Ideal S2560x1024 .f32) (o : Fin 2560) (k : Fin 1024) :
    k0_pay5 P g (k0_pay9 x) s (ix2 o k)
      = s (ix2 o k) + ∑ r : Fin 256, weightTerm (rowOf x r) (rowOf g 0) (fun q => P (ix2 r q)) o k := by
  unfold weightTerm
  simp only [scaled_row]
  generalize k0_pay9 x = S
  pointwise [k0_pay5]

theorem zeroDg_apply (k : Fin 1024) : k0_pay2 (F := Ideal) (ix2 0 k) = 0 := by
  pointwise [k0_pay2]

theorem zeroDw_apply (o : Fin 2560) (k : Fin 1024) : k0_pay3 (F := Ideal) (ix2 o k) = 0 := by
  pointwise [k0_pay3]

end Cert.Proof.Entry

end
-- ==== Proof.EntryVisit.lean ====
/-
  The gradient at a layer's entry, one visit of the grid: what the call leaves in its three output blocks, in terms of the
  blocks that it reads and, after the first visit, of what the visit before left in the two running sums.
-/
module

public import proofs.«01_k».proof.Proof.Gen.EntryIdeal.Frame
public import Idealize.ShloMosaic.Lib.Pipeline.ValueKit

@[expose] public section

set_option maxRecDepth 16384

noncomputable section

namespace Cert.Proof.Entry

open Cert.EntryIdeal Cert.EntryIdeal.Gen
open Idealize.ShloMosaic Idealize.ShloMosaic.TcCoe Idealize.ShloMosaic.Tactic

variable {F : FTy → Type} [FloatOps F]

theorem origin : (![0, 0] : Fin 2 → Nat) = fun _ => 0 := by decide

/-- A visit's block of the gradient of the rows, -/
def tileDx (i : grid0.Coords) (da : Vec F S256x1280 .bf16) (dat : Vec F S256x1536 .f32) (nxt : Vec F S128x256 .f32)
    (x b : Vec F S256x1024 .f32) (g : Vec F S1x1024 .f32) (W : Vec F S2560x1024 .bf16) : Vec F S256x1024 .f32 :=
  k0_pay1 (k0_pay8 x) (k0_pay9 x) (k0_pay10 i dat nxt da W g) b (k0_pay11 i dat nxt da W x g) (k0_pay12 (F := F))
/-- the gradient of the gains after it -/
def nextDg (i : grid0.Coords) (da : Vec F S256x1280 .bf16) (dat : Vec F S256x1536 .f32) (nxt : Vec F S128x256 .f32)
    (x : Vec F S256x1024 .f32) (W : Vec F S2560x1024 .bf16) (s : Vec F S1x1024 .f32) : Vec F S1x1024 .f32 :=
  k0_pay4 (k0_pay7 i dat nxt da W) (k0_pay9 x) s
/-- and the gradient of the weights after it. -/
def nextDw (i : grid0.Coords) (da : Vec F S256x1280 .bf16) (dat : Vec F S256x1536 .f32) (nxt : Vec F S128x256 .f32)
    (x : Vec F S256x1024 .f32) (g : Vec F S1x1024 .f32) (s : Vec F S2560x1024 .f32) : Vec F S2560x1024 .f32 :=
  k0_pay5 (k0_pay6 i dat nxt da) g (k0_pay9 x) s

section Visit
variable (c : Dev nD) (i : grid0.Coords)
  (a1 : Memref sig .tc .vmem S256x1280 .bf16) (h1 : a1.IsWhole)
  (a2 : Memref sig .tc .vmem S256x1536 .f32) (h2 : a2.IsWhole)
  (a3 : Memref sig .tc .vmem S128x256 .f32) (h3 : a3.IsWhole)
  (a4 : Memref sig .tc .vmem S256x1024 .f32) (h4 : a4.IsWhole)
  (a5 : Memref sig .tc .vmem S256x1024 .f32) (h5 : a5.IsWhole)
  (a6 : Memref sig .tc .vmem S1x1024 .f32) (h6 : a6.IsWhole)
  (a7 : Memref sig .tc .vmem S2560x1024 .bf16) (h7 : a7.IsWhole)
  (a8 : Memref sig .tc .vmem S256x1024 .f32) (h8 : a8.IsWhole)
  (a9 : Memref sig .tc .vmem S1x1024 .f32) (h9 : a9.IsWhole)
  (a10 : Memref sig .tc .vmem S2560x1024 .f32) (h10 : a10.IsWhole)
  (da : Vec F S256x1280 .bf16)  (dat : Vec F S256x1536 .f32)  (nxt : Vec F S128x256 .f32)  (x : Vec F S256x1024 .f32)  (b : Vec F S256x1024 .f32)  (g : Vec F S1x1024 .f32)  (W : Vec F S2560x1024 .bf16)

/-! The first visit. -/
theorem visit_A_7 (hc : cond0_0 i) :
    out0_A_7 c i a1 h1 a2 h2 a3 h3 a4 h4 a5 h5 a6 h6 a7 h7 a8 h8 a9 h9 a10 h10 hc da dat nxt x b g W = tileDx i da dat nxt x b g W := by
  unfold out0_A_7 tileDx
  rw [View.read_writes_eq_canon _ _ _ (cover0_A_7 c i a1 h1 a2 h2 a3 h3 a4 h4 a5 h5 a6 h6 a7 h7 a8 h8 a9 h9 a10 h10 hc da dat nxt x b g W)]
  unfold kernelRun0_A
  dsimp only
  sl_unfold_words
  rw [View.canon_unit_zero origin]
  simp only [View.readAt_eq_ld, h1.read_unread, h2.read_unread, h3.read_unread, h4.read_unread, h5.read_unread, h6.read_unread, h7.read_unread, h8.read_unread, h9.read_unread, h10.read_unread,
    View.ld_unit_zero (S := S256x1280) origin, View.ld_unit_zero (S := S256x1536) origin, View.ld_unit_zero (S := S128x256) origin,
    View.ld_unit_zero (S := S256x1024) origin, View.ld_unit_zero (S := S1x1024) origin, View.ld_unit_zero (S := S2560x1024) origin, shapeCast_self]
theorem visit_A_8 (hc : cond0_0 i) :
    out0_A_8 c i a1 h1 a2 h2 a3 h3 a4 h4 a5 h5 a6 h6 a7 h7 a8 h8 a9 h9 a10 h10 hc da dat nxt x b g W = nextDg i da dat nxt x W k0_pay2 := by
  unfold out0_A_8 nextDg
  rw [View.read_writes_eq_canon _ _ _ (cover0_A_8 c i a1 h1 a2 h2 a3 h3 a4 h4 a5 h5 a6 h6 a7 h7 a8 h8 a9 h9 a10 h10 hc da dat nxt x b g W)]
  unfold kernelRun0_A
  dsimp only
  sl_unfold_words
  rw [View.canon_cons_unit_zero (S := S1x1024) origin]
  simp only [View.readAt_eq_ld, h1.read_unread, h2.read_unread, h3.read_unread, h4.read_unread, h5.read_unread, h6.read_unread, h7.read_unread, h8.read_unread, h9.read_unread, h10.read_unread, View.readCov_unit_zero (S := S1x1024) _ origin,
    View.ld_unit_zero (S := S256x1280) origin, View.ld_unit_zero (S := S256x1536) origin, View.ld_unit_zero (S := S128x256) origin,
    View.ld_unit_zero (S := S256x1024) origin, View.ld_unit_zero (S := S1x1024) origin, View.ld_unit_zero (S := S2560x1024) origin, shapeCast_self]
theorem visit_A_9 (hc : cond0_0 i) :
    out0_A_9 c i a1 h1 a2 h2 a3 h3 a4 h4 a5 h5 a6 h6 a7 h7 a8 h8 a9 h9 a10 h10 hc da dat nxt x b g W = nextDw i da dat nxt x g k0_pay3 := by
  unfold out0_A_9 nextDw
  rw [View.read_writes_eq_canon _ _ _ (cover0_A_9 c i a1 h1 a2 h2 a3 h3 a4 h4 a5 h5 a6 h6 a7 h7 a8 h8 a9 h9 a10 h10 hc da dat nxt x b g W)]
  unfold kernelRun0_A
  dsimp only
  sl_unfold_words
  rw [View.canon_cons_unit_zero (S := S2560x1024) origin]
  simp only [View.readAt_eq_ld, h1.read_unread, h2.read_unread, h3.read_unread, h4.read_unread, h5.read_unread, h6.read_unread, h7.read_unread, h8.read_unread, h9.read_unread, h10.read_unread, View.readCov_unit_zero (S := S2560x1024) _ origin,
    View.ld_unit_zero (S := S256x1280) origin, View.ld_unit_zero (S := S256x1536) origin, View.ld_unit_zero (S := S128x256) origin,
    View.ld_unit_zero (S := S256x1024) origin, View.ld_unit_zero (S := S1x1024) origin, View.ld_unit_zero (S := S2560x1024) origin, shapeCast_self]

/-! A later visit. -/
theorem visit_B_7 (hc : ¬cond0_0 i) (s8 : Vec F S1x1024 .f32) (s9 : Vec F S2560x1024 .f32) :
    out0_B_7 c i a1 h1 a2 h2 a3 h3 a4 h4 a5 h5 a6 h6 a7 h7 a8 h8 a9 h9 a10 h10 hc da dat nxt x b g W s8 s9 = tileDx i da dat nxt x b g W := by
  unfold out0_B_7 tileDx
  rw [View.read_writes_eq_canon _ _ _ (cover0_B_7 c i a1 h1 a2 h2 a3 h3 a4 h4 a5 h5 a6 h6 a7 h7 a8 h8 a9 h9 a10 h10 hc da dat nxt x b g W s8 s9)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, h9.read_unread, h10.read_unread,
    View.ld_unit_zero (S := S256x1280) origin, View.ld_unit_zero (S := S256x1536) origin, View.ld_unit_zero (S := S128x256) origin,
    View.ld_unit_zero (S := S256x1024) origin, View.ld_unit_zero (S := S1x1024) origin, View.ld_unit_zero (S := S2560x1024) origin, shapeCast_self]
theorem visit_B_8 (hc : ¬cond0_0 i) (s8 : Vec F S1x1024 .f32) (s9 : Vec F S2560x1024 .f32) :
    out0_B_8 c i a1 h1 a2 h2 a3 h3 a4 h4 a5 h5 a6 h6 a7 h7 a8 h8 a9 h9 a10 h10 hc da dat nxt x b g W s8 s9 = nextDg i da dat nxt x W s8 := by
  unfold out0_B_8 nextDg
  rw [View.read_writes_eq_canon _ _ _ (cover0_B_8 c i a1 h1 a2 h2 a3 h3 a4 h4 a5 h5 a6 h6 a7 h7 a8 h8 a9 h9 a10 h10 hc da dat nxt x b g W s8 s9)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, h9.read_unread, h10.read_unread,
    View.ld_unit_zero (S := S256x1280) origin, View.ld_unit_zero (S := S256x1536) origin, View.ld_unit_zero (S := S128x256) origin,
    View.ld_unit_zero (S := S256x1024) origin, View.ld_unit_zero (S := S1x1024) origin, View.ld_unit_zero (S := S2560x1024) origin, shapeCast_self]
theorem visit_B_9 (hc : ¬cond0_0 i) (s8 : Vec F S1x1024 .f32) (s9 : Vec F S2560x1024 .f32) :
    out0_B_9 c i a1 h1 a2 h2 a3 h3 a4 h4 a5 h5 a6 h6 a7 h7 a8 h8 a9 h9 a10 h10 hc da dat nxt x b g W s8 s9 = nextDw i da dat nxt x g s9 := by
  unfold out0_B_9 nextDw
  rw [View.read_writes_eq_canon _ _ _ (cover0_B_9 c i a1 h1 a2 h2 a3 h3 a4 h4 a5 h5 a6 h6 a7 h7 a8 h8 a9 h9 a10 h10 hc da dat nxt x b g W s8 s9)]
  unfold kernelRun0_B
  dsimp only
  sl_unfold_words
  rw [View.canon_unit_zero origin]
  simp only [View.readAt_eq_ld, h1.read_unread, h2.read_unread, h3.read_unread, h4.read_unread, h5.read_unread, h6.read_unread, h7.read_unread, h8.read_unread, h9.read_unread, h10.read_unread,
    View.ld_unit_zero (S := S256x1280) origin, View.ld_unit_zero (S := S256x1536) origin, View.ld_unit_zero (S := S128x256) origin,
    View.ld_unit_zero (S := S256x1024) origin, View.ld_unit_zero (S := S1x1024) origin, View.ld_unit_zero (S := S2560x1024) origin, shapeCast_self]

end Visit

end Cert.Proof.Entry

end
-- ==== Proof.EntryValue.lean ====
/-
  The gradient at a layer's entry, the whole call at the ideal values: the three arrays that it leaves, element by element, in
  terms of the rows of its arguments.
-/
module

public import proofs.«01_k».proof.Proof.EntryTile
public import proofs.«01_k».proof.Proof.EntryVisit

@[expose] public section

set_option maxRecDepth 16384

noncomputable section

namespace Cert.Proof.Entry

open Cert.EntryIdeal Cert.EntryIdeal.Gen
open Idealize.ShloMosaic Idealize.ShloMosaic.TcCoe Idealize.ShloMosaic.Tactic
open Idealize.ShloMosaic.Pipeline (Dat Cfg Window)
open Cert.Proof.Loss (Row word scale rowOf)

/-! ### The rows of the arguments -/

/-- What the next window adds to a row: none at the last window. -/
def later (D : FVec Ideal S8192x1536 .f32) (r : Fin 8192) (j : Fin 256) : Ideal .f32 :=
  if h : r.val < 8064 then D (ix2 ⟨128 + r.val, by omega⟩ ⟨768 + j.val, by omega⟩) else 0
/-- A row of the gradient of the projections. -/
def wide (A : FVec Ideal S8192x1280 .bf16) (D : FVec Ideal S8192x1536 .f32) (r : Fin 8192) : Fin 2560 → Ideal .f32 :=
  joined (fun k => A (ix2 r k)) (fun k => D (ix2 r k)) (later D r)

variable (m : (ℓ : Loc nD τ sig) → Buf (Elt Ideal) ℓ) (c : Dev nD)

/-- The first branch's gradient, -/
abbrev argA : FVec Ideal S8192x1280 .bf16 := m ((c.tc : Thread nD τ).loc main_arg0)
/-- the second branch's, -/
abbrev argD : FVec Ideal S8192x1536 .f32 := m ((c.tc : Thread nD τ).loc main_arg1)
/-- the layer's input, -/
abbrev argX : FVec Ideal S8192x1024 .f32 := m ((c.tc : Thread nD τ).loc main_arg2)
/-- the gradient from above, -/
abbrev argB : FVec Ideal S8192x1024 .f32 := m ((c.tc : Thread nD τ).loc main_arg3)
/-- the gains -/
abbrev argG : FVec Ideal S1x1024 .f32 := m ((c.tc : Thread nD τ).loc main_arg4)
/-- and the weights. -/
abbrev argW : FVec Ideal S2560x1024 .bf16 := m ((c.tc : Thread nD τ).loc main_arg5)

theorem visits (t : Fin cfg0.N) : t.val < 32 := lt_of_lt_of_eq t.isLt (show cfg0.N = 32 from N_0)
theorem tile_lt (t : Fin cfg0.N) (r : Fin 256) : t.val * 256 + r.val < 8192 := by
  have := visits t
  omega
/-- Row `r` of visit `t`. -/
abbrev at_ (t : Fin cfg0.N) (r : Fin 256) : Fin 8192 := ⟨t.val * 256 + r.val, tile_lt t r⟩

/-! ### The blocks that a visit reads -/

/-- The blocks, at their shapes. -/
abbrev bA (t : Fin cfg0.N) : Vec Ideal S256x1280 .bf16 := iblk m c 0 t
abbrev bD (t : Fin cfg0.N) : Vec Ideal S256x1536 .f32 := iblk m c 1 t
abbrev bN (t : Fin cfg0.N) : Vec Ideal S128x256 .f32 := iblk m c 2 t
abbrev bX (t : Fin cfg0.N) : Vec Ideal S256x1024 .f32 := iblk m c 3 t
abbrev bB (t : Fin cfg0.N) : Vec Ideal S256x1024 .f32 := iblk m c 4 t
abbrev bG (t : Fin cfg0.N) : Vec Ideal S1x1024 .f32 := iblk m c 5 t
abbrev bW (t : Fin cfg0.N) : Vec Ideal S2560x1024 .bf16 := iblk m c 6 t

theorem bA_apply (t : Fin cfg0.N) (r : Fin 256) (k : Fin 1280) : bA m c t (ix2 r k) = argA m c (ix2 (at_ t r) k) := by
  have h : win0_0.index t 0 = t.val ∧ win0_0.index t 1 = 0 := by clear r k; revert t; decide +kernel
  refine congrArg (argA m c) ?_
  funext a; apply Fin.ext; fin_cases a <;> blk_simp [Pipeline.Window.cell_apply]
  · rw [h.1]; rfl
  · rw [h.2, Nat.zero_mul, Nat.zero_add]; rfl
theorem bD_apply (t : Fin cfg0.N) (r : Fin 256) (k : Fin 1536) : bD m c t (ix2 r k) = argD m c (ix2 (at_ t r) k) := by
  have h : win0_1.index t 0 = t.val ∧ win0_1.index t 1 = 0 := by clear r k; revert t; decide +kernel
  refine congrArg (argD m c) ?_
  funext a; apply Fin.ext; fin_cases a <;> blk_simp [Pipeline.Window.cell_apply]
  · rw [h.1]; rfl
  · rw [h.2, Nat.zero_mul, Nat.zero_add]; rfl
theorem bN_apply (t : Fin cfg0.N) (ht : t.val < 31) (r : Fin 128) (k : Fin 256) :
    bN m c t (ix2 r k) = argD m c (ix2 ⟨(t.val + 1) * 256 + r.val, by omega⟩ ⟨768 + k.val, by omega⟩) := by
  have h : win0_2.index t 0 = min (2 * (t.val + 1)) 63 ∧ win0_2.index t 1 = 3 := by clear r k ht; revert t; decide +kernel
  refine congrArg (argD m c) ?_
  funext a; apply Fin.ext; fin_cases a <;> blk_simp [Pipeline.Window.cell_apply]
  · rw [h.1, Nat.min_eq_left (by omega)]
    show 2 * (t.val + 1) * 128 + r.val = (t.val + 1) * 256 + r.val
    omega
  · rw [h.2]; rfl
theorem bX_row (t : Fin cfg0.N) (r : Fin 256) : rowOf (bX m c t) r = rowOf (argX m c) (at_ t r) := by
  have h : win0_3.index t 0 = t.val ∧ win0_3.index t 1 = 0 := by clear r; revert t; decide +kernel
  funext k
  refine congrArg (argX m c) ?_
  funext a; apply Fin.ext; fin_cases a <;> blk_simp [Pipeline.Window.cell_apply]
  · rw [h.1]; rfl
  · rw [h.2, Nat.zero_mul, Nat.zero_add]; rfl
theorem bB_row (t : Fin cfg0.N) (r : Fin 256) : rowOf (bB m c t) r = rowOf (argB m c) (at_ t r) := by
  have h : win0_4.index t 0 = t.val ∧ win0_4.index t 1 = 0 := by clear r; revert t; decide +kernel
  funext k
  refine congrArg (argB m c) ?_
  funext a; apply Fin.ext; fin_cases a <;> blk_simp [Pipeline.Window.cell_apply]
  · rw [h.1]; rfl
  · rw [h.2, Nat.zero_mul, Nat.zero_add]; rfl
theorem bG_eq (t : Fin cfg0.N) : bG m c t = argG m c := by
  have h : ∀ a, win0_5.index t a = 0 := by revert t; decide +kernel
  funext y
  refine congrArg (argG m c) ?_
  funext a; apply Fin.ext; fin_cases a <;> blk_simp [Pipeline.Window.cell_apply] <;> first | rw [h, Nat.zero_mul, Nat.zero_add] | rw [h]
theorem bW_eq (t : Fin cfg0.N) : bW m c t = argW m c := by
  have h : ∀ a, win0_6.index t a = 0 := by revert t; decide +kernel
  funext y
  refine congrArg (argW m c) ?_
  funext a; apply Fin.ext; fin_cases a <;> blk_simp [Pipeline.Window.cell_apply] <;> first | rw [h, Nat.zero_mul, Nat.zero_add] | rw [h]

theorem visit_coord (t : Fin cfg0.N) : (grid0.coords t 0).val = t.val :=
  (Pipeline.Grid.coords_val (S := 1) (B := 32) t 0 (by decide) rfl).trans (by rw [Nat.div_one]; exact Nat.mod_eq_of_lt (visits t))

theorem later_eq (t : Fin cfg0.N) (r j : Fin 256) :
    laterTile (grid0.coords t) (bD m c t) (bN m c t) r j = later (argD m c) (at_ t r) j := by
  have ht := visits t
  unfold laterTile later
  rw [visit_coord]
  by_cases hr : r.val < 128
  · rw [dif_pos hr, dif_pos (show t.val * 256 + r.val < 8064 by omega), bD_apply]
    refine congrArg (fun i => argD m c (ix2 i _)) (Fin.ext ?_)
    show t.val * 256 + (128 + r.val) = 128 + (t.val * 256 + r.val)
    omega
  · rw [dif_neg hr]
    by_cases hl : t.val < 31
    · rw [if_pos hl, dif_pos (show t.val * 256 + r.val < 8064 by omega), bN_apply m c t hl]
      refine congrArg (fun i => argD m c (ix2 i _)) (Fin.ext ?_)
      show (t.val + 1) * 256 + (r.val - 128) = 128 + (t.val * 256 + r.val)
      omega
    · rw [if_neg hl, dif_neg (show ¬ t.val * 256 + r.val < 8064 by omega)]

/-- The row that a visit assembles is the row of the whole. -/
theorem assembled_eq (t : Fin cfg0.N) (r : Fin 256) :
    (fun o => k0_pay6 (grid0.coords t) (bD m c t) (bN m c t) (bA m c t) (ix2 r o)) = wide (argA m c) (argD m c) (at_ t r) := by
  funext o
  rw [assembled_apply]
  unfold wide
  congr 1
  · funext k; exact bA_apply m c t r k
  · funext k; exact bD_apply m c t r k
  · funext j; exact later_eq m c t r j

/-- What comes back through the weights at a row of the whole. -/
def back (r : Fin 8192) : Row := through (wide (argA m c) (argD m c) r) (argW m c)

theorem through_eq (t : Fin cfg0.N) (r : Fin 256) :
    rowOf (k0_pay7 (grid0.coords t) (bD m c t) (bN m c t) (bA m c t) (bW m c t)) r = back m c (at_ t r) := by
  funext k
  refine (through_apply _ _ _ _ _ r k).trans ?_
  rw [assembled_eq, bW_eq]
  rfl

/-! ### The three outputs of a visit -/

theorem out_dx (t : Fin cfg0.N) : (outsAt0 m c t.val t.isLt).1
    = tileDx (grid0.coords t) (bA m c t) (bD m c t) (bN m c t) (bX m c t) (bB m c t) (bG m c t) (bW m c t) := by
  by_cases h0 : t.val % 32 = 0
  · rw [outsAt0_A m c t h0]; dsimp only; exact visit_A_7 ..
  · rw [outsAt0_B m c t h0]; dsimp only; exact visit_B_7 ..

theorem out_dg_first (t : Fin cfg0.N) (h0 : t.val % 32 = 0) : (outsAt0 m c t.val t.isLt).2.1
    = nextDg (grid0.coords t) (bA m c t) (bD m c t) (bN m c t) (bX m c t) (bW m c t) (k0_pay2 (F := Ideal)) := by
  rw [outsAt0_A m c t h0]; dsimp only; exact visit_A_8 ..
theorem out_dg_later (n : ℕ) (hn : n + 1 < cfg0.N) : (outsAt0 m c (n + 1) hn).2.1
    = nextDg (grid0.coords ⟨n + 1, hn⟩) (bA m c ⟨n + 1, hn⟩) (bD m c ⟨n + 1, hn⟩) (bN m c ⟨n + 1, hn⟩) (bX m c ⟨n + 1, hn⟩) (bW m c ⟨n + 1, hn⟩)
        (outsAt0 m c n (Nat.lt_of_succ_lt hn)).2.1 := by
  have h := visits ⟨n + 1, hn⟩
  have h0 : ¬ (⟨n + 1, hn⟩ : Fin cfg0.N).val % 32 = 0 := by
    show ¬ (n + 1) % 32 = 0
    have : n + 1 < 32 := h
    omega
  rw [outsAt0_B m c ⟨n + 1, hn⟩ h0]; dsimp only; exact visit_B_8 ..
theorem out_dw_first (t : Fin cfg0.N) (h0 : t.val % 32 = 0) : (outsAt0 m c t.val t.isLt).2.2
    = nextDw (grid0.coords t) (bA m c t) (bD m c t) (bN m c t) (bX m c t) (bG m c t) (k0_pay3 (F := Ideal)) := by
  rw [outsAt0_A m c t h0]; dsimp only; exact visit_A_9 ..
theorem out_dw_later (n : ℕ) (hn : n + 1 < cfg0.N) : (outsAt0 m c (n + 1) hn).2.2
    = nextDw (grid0.coords ⟨n + 1, hn⟩) (bA m c ⟨n + 1, hn⟩) (bD m c ⟨n + 1, hn⟩) (bN m c ⟨n + 1, hn⟩) (bX m c ⟨n + 1, hn⟩) (bG m c ⟨n + 1, hn⟩)
        (outsAt0 m c n (Nat.lt_of_succ_lt hn)).2.2 := by
  have h := visits ⟨n + 1, hn⟩
  have h0 : ¬ (⟨n + 1, hn⟩ : Fin cfg0.N).val % 32 = 0 := by
    show ¬ (n + 1) % 32 = 0
    have : n + 1 < 32 := h
    omega
  rw [outsAt0_B m c ⟨n + 1, hn⟩ h0]; dsimp only; exact visit_B_9 ..

attribute [local irreducible] outsAt0

/-! ### The gradient of the rows -/

/-- The gradient of the layer's input: the gradient from above, and what comes back through the scaling. -/
def devDx : FVec Ideal S8192x1024 .f32 := fun y =>
  argB m c y + rowDx (rowOf (argX m c) (y 0)) (back m c (y 0)) (rowOf (argG m c) 0) (y 1)

theorem dx_at (t : Fin cfg0.N) (r : Fin 256) (k : Fin 1024) :
    (win0_7.blk t).view.emb (ix2 r k) = (ix2 (at_ t r) k : S8192x1024.Idx) := by
  have h : win0_7.index t 0 = t.val ∧ win0_7.index t 1 = 0 := by clear r k; revert t; decide +kernel
  funext a; apply Fin.ext; fin_cases a <;> blk_simp [Pipeline.Window.cell_apply]
  · rw [h.1]; rfl
  · rw [h.2, Nat.zero_mul, Nat.zero_add]; rfl

theorem dx_block (t : Fin cfg0.N) (y : S256x1024.Idx) :
    tileDx (grid0.coords t) (bA m c t) (bD m c t) (bN m c t) (bX m c t) (bB m c t) (bG m c t) (bW m c t) y
      = devDx m c ((win0_7.blk t).view.emb y) := by
  obtain ⟨r, k, rfl⟩ : ∃ r k, y = ix2 r k := ⟨y 0, y 1, by funext a; fin_cases a <;> rfl⟩
  rw [dx_at]
  refine (dx_apply _ _ _ _ _ _ _ _ r k).trans ?_
  rw [through_eq, bX_row, bG_eq]
  exact congrArg₂ (fun u v : EReal => u + v) (congrFun (bB_row m c t r) k) rfl

theorem arr_dx : (dats m 0 c).arrAt 7 cfg0.N = devDx m c := by
  refine (dats m 0 c).arrAt_eq_of_covers 7 _ (by decide +kernel) fun t hf y => ?_
  blk_simp
  rw [after0_7, out_dx]
  exact dx_block m c t y

/-! ### The two running sums -/

/-- What a row adds to the gradient of the gains -/
def devGain (k : Fin 1024) (r : Fin 8192) : Ideal .f32 := gainTerm (rowOf (argX m c) r) (back m c r) k
/-- and to the gradient of the weights. -/
def devWeight (o : Fin 2560) (k : Fin 1024) (r : Fin 8192) : Ideal .f32 :=
  weightTerm (rowOf (argX m c) r) (rowOf (argG m c) 0) (wide (argA m c) (argD m c) r) o k

theorem dg_add (t : Fin cfg0.N) (s : Vec Ideal S1x1024 .f32) (k : Fin 1024) :
    nextDg (grid0.coords t) (bA m c t) (bD m c t) (bN m c t) (bX m c t) (bW m c t) s (ix2 0 k)
      = s (ix2 0 k) + ∑ r : Fin 256, devGain m c k (at_ t r) := by
  refine (dg_apply _ _ s k).trans (congrArg₂ (fun u v : EReal => u + v) rfl (Finset.sum_congr rfl fun r _ => ?_))
  rw [through_eq, bX_row]; rfl

theorem dw_add (t : Fin cfg0.N) (s : Vec Ideal S2560x1024 .f32) (o : Fin 2560) (k : Fin 1024) :
    nextDw (grid0.coords t) (bA m c t) (bD m c t) (bN m c t) (bX m c t) (bG m c t) s (ix2 o k)
      = s (ix2 o k) + ∑ r : Fin 256, devWeight m c o k (at_ t r) := by
  refine (dw_apply _ _ _ s o k).trans (congrArg₂ (fun u v : EReal => u + v) rfl (Finset.sum_congr rfl fun r _ => ?_))
  rw [assembled_eq, bX_row, bG_eq]; rfl

theorem dg_sum (k : Fin 1024) (n : ℕ) (hn : n < cfg0.N) : (outsAt0 m c n hn).2.1 (ix2 0 k)
    = ∑ t : Fin (n + 1), ∑ r : Fin 256, devGain m c k (at_ ⟨t.val, lt_of_lt_of_le t.isLt hn⟩ r) := by
  induction n with
  | zero =>
    refine (congrFun (out_dg_first m c ⟨0, hn⟩ rfl) (ix2 0 k)).trans ((dg_add m c ⟨0, hn⟩ _ k).trans ?_)
    rw [zeroDg_apply]
    refine Eq.trans ?_ (Fin.sum_univ_one (M := EReal) _).symm
    exact zero_add _
  | succ n ih =>
    refine (congrFun (out_dg_later m c n hn) (ix2 0 k)).trans ((dg_add m c ⟨n + 1, hn⟩ _ k).trans ?_)
    rw [ih (Nat.lt_of_succ_lt hn)]
    refine Eq.trans ?_ (Fin.sum_univ_castSucc (M := EReal) _).symm
    rfl

theorem dw_sum (o : Fin 2560) (k : Fin 1024) (n : ℕ) (hn : n < cfg0.N) : (outsAt0 m c n hn).2.2 (ix2 o k)
    = ∑ t : Fin (n + 1), ∑ r : Fin 256, devWeight m c o k (at_ ⟨t.val, lt_of_lt_of_le t.isLt hn⟩ r) := by
  induction n with
  | zero =>
    refine (congrFun (out_dw_first m c ⟨0, hn⟩ rfl) (ix2 o k)).trans ((dw_add m c ⟨0, hn⟩ _ o k).trans ?_)
    rw [zeroDw_apply]
    refine Eq.trans ?_ (Fin.sum_univ_one (M := EReal) _).symm
    exact zero_add _
  | succ n ih =>
    refine (congrFun (out_dw_later m c n hn) (ix2 o k)).trans ((dw_add m c ⟨n + 1, hn⟩ _ o k).trans ?_)
    rw [ih (Nat.lt_of_succ_lt hn)]
    refine Eq.trans ?_ (Fin.sum_univ_castSucc (M := EReal) _).symm
    rfl

/-- There is a last visit. -/
theorem last_lt : 31 < cfg0.N := lt_of_lt_of_eq (by decide) (show cfg0.N = 32 from N_0).symm

theorem arr_dg : (dats m 0 c).arrAt 8 cfg0.N = (outsAt0 m c 31 last_lt).2.1 := by
  refine (dats m 0 c).arrAt_eq_of_covers 8 _ (by decide +kernel) fun t hf y => ?_
  blk_simp
  have ht : t.val = 31 := by revert hf; clear y; revert t; decide +kernel
  have e : outsAt0 m c t.val t.isLt = outsAt0 m c 31 last_lt :=
    congrArg (fun s : Fin cfg0.N => outsAt0 m c s.val s.isLt) (Fin.ext ht : t = ⟨31, last_lt⟩)
  rw [after0_8, e]
  have h : ∀ a, win0_8.index t a = 0 := by clear hf y ht e; revert t; decide +kernel
  refine congrArg (outsAt0 m c 31 last_lt).2.1 ?_
  funext a; apply Fin.ext; fin_cases a <;> blk_simp [Pipeline.Window.cell_apply] <;> first | rw [h, Nat.zero_mul, Nat.zero_add] | rw [h]

theorem arr_dw : (dats m 0 c).arrAt 9 cfg0.N = (outsAt0 m c 31 last_lt).2.2 := by
  refine (dats m 0 c).arrAt_eq_of_covers 9 _ (by decide +kernel) fun t hf y => ?_
  blk_simp
  have ht : t.val = 31 := by revert hf; clear y; revert t; decide +kernel
  have e : outsAt0 m c t.val t.isLt = outsAt0 m c 31 last_lt :=
    congrArg (fun s : Fin cfg0.N => outsAt0 m c s.val s.isLt) (Fin.ext ht : t = ⟨31, last_lt⟩)
  rw [after0_9, e]
  have h : ∀ a, win0_9.index t a = 0 := by clear hf y ht e; revert t; decide +kernel
  refine congrArg (outsAt0 m c 31 last_lt).2.2 ?_
  funext a; apply Fin.ext; fin_cases a <;> blk_simp [Pipeline.Window.cell_apply] <;> first | rw [h, Nat.zero_mul, Nat.zero_add] | rw [h]

/-- The gradient of the gains, -/
theorem gains_eq (k : Fin 1024) : ((dats m 0 c).arrAt 8 cfg0.N : FVec Ideal S1x1024 .f32) (ix2 0 k) = ∑ r : Fin 8192, devGain m c k r :=
  (congrFun (arr_dg m c) (ix2 0 k)).trans ((dg_sum m c k 31 last_lt).trans (Fin.sum_mul_add_fin 32 256 (devGain m c k)))
/-- and of the weights. -/
theorem weights_eq (o : Fin 2560) (k : Fin 1024) :
    ((dats m 0 c).arrAt 9 cfg0.N : FVec Ideal S2560x1024 .f32) (ix2 o k) = ∑ r : Fin 8192, devWeight m c o k r :=
  (congrFun (arr_dw m c) (ix2 o k)).trans ((dw_sum m c o k 31 last_lt).trans (Fin.sum_mul_add_fin 32 256 (devWeight m c o k)))

end Cert.Proof.Entry

end
-- ==== Proof.EntryRef.lean ====
/-
  The gradient at a layer's entry as the reference takes it: its intermediate arrays and its three results, element by element,
  in the same terms as the kernel's.
-/
module

public import proofs.«01_k».proof.Proof.EntryValue
public import proofs.«01_k».proof.Proof.Gen.EntryReferenceIdeal.Run

@[expose] public section

set_option maxRecDepth 16384

noncomputable section

namespace Cert.Proof.Entry

open Cert.EntryReferenceIdeal Cert.EntryReferenceIdeal.Gen
open Idealize.ShloMosaic Idealize.ShloMosaic.TcCoe Idealize.ShloMosaic.Tactic
open Cert.Proof.Loss (Row word scale meanSq rowOf backOf)

/-- What the next windows add, their rows moved up by one window, with zeros behind; -/
def refLater (D : FVec Ideal S8192x1536 .f32) : FVec Ideal S8192x256 .f32 :=
  concatenate S8192x256 0 [⟨S8064x256, (extractStridedSlice S8064x256 ![128, 768] D slices_S8192x1536_S8064x256_128_768)⟩,
    ⟨S128x256, (broadcastInDim S128x256 ![] bcast_S_S128x256 (constant S_ .f32 0x00000000#32))⟩] concatenates_S8064x256_S128x256_S8192x256_d0
/-- the gradient of the projections; -/
def refJoin (A : FVec Ideal S8192x1280 .bf16) (D : FVec Ideal S8192x1536 .f32) : FVec Ideal S8192x2560 .f32 :=
  concatenate S8192x2560 1 [⟨S8192x1280, (extf .f32 A bitsLt_bf16_f32 : FVec Ideal S8192x1280 .f32)⟩,
    ⟨S8192x512, (extractStridedSlice S8192x512 ![0, 0] D slices_S8192x1536_S8192x512_0_0 : FVec Ideal S8192x512 .f32)⟩,
    ⟨S8192x256, (addf (extractStridedSlice S8192x256 ![0, 512] D slices_S8192x1536_S8192x256_0_512) (refLater D) : FVec Ideal S8192x256 .f32)⟩,
    ⟨S8192x512, (extractStridedSlice S8192x512 ![0, 1024] D slices_S8192x1536_S8192x512_0_1024 : FVec Ideal S8192x512 .f32)⟩]
    concatenates_S8192x1280_S8192x512_S8192x256_S8192x512_S8192x2560_d1
/-- the mean squares with the small constant -/
def refMs (X : FVec Ideal S8192x1024 .f32) : FVec Ideal S8192x1 .f32 :=
  addf (Host.divf (broadcastInDim S8192x1 ![0] bcast_S8192_S8192x1_0
      (Host.reduceAdd (mulf X X) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))
/-- and their reciprocal roots; -/
def refScale (X : FVec Ideal S8192x1024 .f32) : FVec Ideal S8192x1 .f32 := Host.rsqrt (refMs X)
/-- what comes back through the weights; -/
def refThrough (A : FVec Ideal S8192x1280 .bf16) (D : FVec Ideal S8192x1536 .f32) (W : FVec Ideal S2560x1024 .bf16) : FVec Ideal S8192x1024 .f32 :=
  Host.dotGeneral dot_S8192x2560_S1024x2560_S8192x1024_1_1_0_0_n_n none (refJoin A D)
    (transpose S1024x2560 [1, 0] (extf .f32 W bitsLt_bf16_f32) transposes_S2560x1024_S1024x2560_1_0)

/-! Of `H`, what comes back through the weights: -/

/-- the derivative at the scaled rows, -/
def refPull (H : FVec Ideal S8192x1024 .f32) (G : FVec Ideal S1x1024 .f32) : FVec Ideal S8192x1024 .f32 :=
  mulf H (broadcastInDim S8192x1024 ![0, 1] bcast_S1x1024_S8192x1024_0_1 G)
/-- what comes back from it through the mean squares, -/
def refBack (X P : FVec Ideal S8192x1024 .f32) : FVec Ideal S8192 .f32 :=
  Host.reduceAdd (Host.divf
      (mulf (shapeCast S8192x1 (Host.reduceAdd (mulf X P) (constant S_ .f32 0x00000000#32) reducesTo_S8192x1024_S8192_d1 h_S_) shapeCasts_S8192_S8192x1)
        (mulf (broadcastInDim S8192x1 ![] bcast_S_S8192x1 (constant S_ .f32 0xBF000000#32)) (Host.divf (refScale X) (refMs X))))
      (broadcastInDim S8192x1 ![] bcast_S_S8192x1 (constant S_ .f32 0x44800000#32)))
    (constant S_ .f32 0x00000000#32) reducesTo_S8192x1_S8192_d1 h_S_
/-- the gradient of the layer's input, -/
def refDx (X B P : FVec Ideal S8192x1024 .f32) : FVec Ideal S8192x1024 .f32 :=
  addf B (addf (addf (mulf P (broadcastInDim S8192x1024 ![0, 1] bcast_S8192x1_S8192x1024_0_1 (refScale X)))
      (mulf X (broadcastInDim S8192x1024 ![0] bcast_S8192_S8192x1024_0 (refBack X P))))
    (mulf (broadcastInDim S8192x1024 ![0] bcast_S8192_S8192x1024_0 (refBack X P)) X))
/-- of the gains -/
def refDg (X H : FVec Ideal S8192x1024 .f32) : FVec Ideal S1x1024 .f32 :=
  shapeCast S1x1024 (Host.reduceAdd (mulf (mulf X (broadcastInDim S8192x1024 ![0, 1] bcast_S8192x1_S8192x1024_0_1 (refScale X))) H)
    (constant S_ .f32 0x00000000#32) reducesTo_S8192x1024_S1024_d0 h_S_) shapeCasts_S1024_S1x1024
/-- and of the weights, from the gradient `J` of the projections. -/
def refDw (J : FVec Ideal S8192x2560 .f32) (X : FVec Ideal S8192x1024 .f32) (G : FVec Ideal S1x1024 .f32) : FVec Ideal S2560x1024 .f32 :=
  transpose S2560x1024 [1, 0] (transpose S1024x2560 [1, 0] (Host.dotGeneral dot_S8192x2560_S8192x1024_S2560x1024_0_0_1_1_n_n none J
    (mulf (mulf X (broadcastInDim S8192x1024 ![0, 1] bcast_S8192x1_S8192x1024_0_1 (refScale X)))
      (broadcastInDim S8192x1024 ![0, 1] bcast_S1x1024_S8192x1024_0_1 G))) transposes_S2560x1024_S1024x2560_1_0) transposes_S1024x2560_S2560x1024_1_0

variable (A : FVec Ideal S8192x1280 .bf16) (D : FVec Ideal S8192x1536 .f32) (X B H P : FVec Ideal S8192x1024 .f32)
  (G : FVec Ideal S1x1024 .f32) (W : FVec Ideal S2560x1024 .bf16) (J : FVec Ideal S8192x2560 .f32)

theorem refLater_apply (r : Fin 8192) (j : Fin 256) : refLater D (ix2 r j) = later D r j := by
  pointwise [refLater, later]

theorem refJoin_apply (r : Fin 8192) (o : Fin 2560) : refJoin A D (ix2 r o) = wide A D r o := by
  have h : later D r = fun j => refLater D (ix2 r j) := funext fun j => (refLater_apply D r j).symm
  unfold wide
  rw [h]
  unfold refJoin
  generalize refLater D = L
  pointwise [joined]

theorem refMs_apply (r : Fin 8192) : refMs X (ix2 r 0) = meanSq (rowOf X r) := by
  pointwise [refMs, meanSq]

theorem refScale_apply (r : Fin 8192) : refScale X (ix2 r 0) = scale (rowOf X r) := by
  pointwise [refScale, refMs, scale]

theorem refThrough_apply (r : Fin 8192) (k : Fin 1024) : refThrough A D W (ix2 r k) = through (wide A D r) W k := by
  unfold through
  simp only [← refJoin_apply]
  unfold refThrough
  generalize refJoin A D = J
  pointwise []

theorem refPull_apply (r : Fin 8192) (k : Fin 1024) : refPull H G (ix2 r k) = H (ix2 r k) * G (ix2 0 k) := by
  pointwise [refPull]

theorem refBack_apply (r : Fin 8192) : refBack X P (ix1 r) = backOf (rowOf X r) (rowOf P r) := by
  unfold backOf
  simp only [← refScale_apply, ← refMs_apply]
  unfold refBack
  generalize refScale X = S
  generalize refMs X = M
  pointwise []
  exact Fin.sum_univ_one _

theorem refDx_apply (r : Fin 8192) (k : Fin 1024) : refDx X B P (ix2 r k)
    = B (ix2 r k) + (P (ix2 r k) * scale (rowOf X r) + X (ix2 r k) * backOf (rowOf X r) (rowOf P r)
      + backOf (rowOf X r) (rowOf P r) * X (ix2 r k)) := by
  simp only [← refScale_apply, ← refBack_apply]
  unfold refDx
  generalize refScale X = S
  generalize refBack X P = Q
  pointwise []

theorem refDg_apply (k : Fin 1024) : refDg X H (ix2 0 k) = ∑ r : Fin 8192, X (ix2 r k) * scale (rowOf X r) * H (ix2 r k) := by
  simp only [← refScale_apply]
  unfold refDg
  generalize refScale X = S
  pointwise []

theorem refDw_apply (o : Fin 2560) (k : Fin 1024) :
    refDw J X G (ix2 o k) = ∑ r : Fin 8192, J (ix2 r o) * (X (ix2 r k) * scale (rowOf X r) * G (ix2 0 k)) := by
  simp only [← refScale_apply]
  unfold refDw
  generalize refScale X = S
  pointwise []

end Cert.Proof.Entry

end
-- ==== Proof.EntryResults.lean ====
/-
  The gradient at a layer's entry: the three frames, and the value claim, that the call ends with the reference's gradients of
  the layer's input, of the gains and of the weights.
-/
module

public import proofs.«01_k».proof.Defs
public import proofs.«01_k».proof.Proof.EntryRef
public import proofs.«01_k».proof.Proof.Gen.Entry.Frame
public import proofs.«01_k».proof.Proof.Gen.EntryIdeal.Value

@[expose] public section

set_option maxRecDepth 16384

noncomputable section

namespace Cert.Proof.Entry

open Cert.EntryIdeal Cert.EntryIdeal.Gen
open Idealize.ShloMosaic Idealize.ShloMosaic.TcCoe Idealize.SL.Sem
open Cert.Proof.Loss (Row word scale rowOf backOf derivative_of)

/-! ### The frames -/

theorem frame_entry : Cert.quiescent_Entry (hEntry := Cert.Entry.Gen.facts) :=
  fun m ρ _ => Cert.Entry.Gen.frame m ρ
theorem frame_entryIdeal : Cert.quiescent_EntryIdeal (hEntryIdeal := Cert.EntryIdeal.Gen.facts) :=
  fun m ρ _ => Cert.EntryIdeal.Gen.frame m ρ
theorem frame_entryReference : Cert.quiescent_EntryReferenceIdeal (hEntryReferenceIdeal := Cert.EntryReferenceIdeal.Gen.facts) :=
  fun m ρ _ => (θ_run Cert.EntryReferenceIdeal.defs _ _).mono
    (fun r h => ⟨fun c => (h c).2.2.2, sem_eq_zero_of_no_sems (by decide) r.2⟩)
    (Cert.EntryReferenceIdeal.Value.run (F := Ideal) m ρ)

/-! ### The kernel's results and the reference's -/

section Compare
variable (m : (ℓ : Loc nD τ sig) → Buf (Elt Ideal) ℓ) (c : Dev nD)

theorem back_row (r : Fin 8192) : rowOf (refThrough (argA m c) (argD m c) (argW m c)) r = back m c r :=
  funext fun k => refThrough_apply (argA m c) (argD m c) (argW m c) r k

theorem pull_row (H : FVec Ideal S8192x1024 .f32) (G : FVec Ideal S1x1024 .f32) (r : Fin 8192) :
    rowOf (refPull H G) r = fun k => rowOf H r k * rowOf G 0 k := funext fun k => refPull_apply H G r k

/-- The gradient of the layer's input, -/
theorem dx_eq : (dats m 0 c).arrAt 7 cfg0.N
    = refDx (argX m c) (argB m c) (refPull (refThrough (argA m c) (argD m c) (argW m c)) (argG m c)) := by
  rw [arr_dx]
  funext y
  obtain ⟨r, k, rfl⟩ : ∃ (r : Fin 8192) (k : Fin 1024), y = ix2 r k := ⟨y 0, y 1, by funext a; fin_cases a <;> rfl⟩
  refine Eq.trans ?_ (refDx_apply _ _ _ r k).symm
  refine congrArg₂ (fun u v : EReal => u + v) rfl ?_
  refine Eq.trans ?_ (derivative_of (rowOf (argX m c) r) (rowOf (refPull (refThrough (argA m c) (argD m c) (argW m c)) (argG m c)) r) k).symm
  rw [pull_row, back_row]
  rfl

/-- of the gains -/
theorem dg_eq : (dats m 0 c).arrAt 8 cfg0.N = refDg (argX m c) (refThrough (argA m c) (argD m c) (argW m c)) := by
  funext y
  obtain ⟨k, rfl⟩ : ∃ k : Fin 1024, y = ix2 (0 : Fin 1) k := ⟨y 1, by funext a; fin_cases a; exacts [Subsingleton.elim (α := Fin 1) _ _, rfl]⟩
  refine (gains_eq m c k).trans (Eq.trans ?_ (refDg_apply _ _ k).symm)
  refine Finset.sum_congr (M := EReal) rfl fun r _ => ?_
  rw [refThrough_apply]
  exact mul_comm (G := EReal) _ _

/-- and of the weights. -/
theorem dw_eq : (dats m 0 c).arrAt 9 cfg0.N = refDw (refJoin (argA m c) (argD m c)) (argX m c) (argG m c) := by
  funext y
  obtain ⟨o, k, rfl⟩ : ∃ (o : Fin 2560) (k : Fin 1024), y = ix2 o k := ⟨y 0, y 1, by funext a; fin_cases a <;> rfl⟩
  refine (weights_eq m c o k).trans (Eq.trans ?_ (refDw_apply _ _ _ o k).symm)
  refine Finset.sum_congr (M := EReal) rfl fun r _ => ?_
  rw [refJoin_apply]
  rfl

end Compare

/-! ### The claim -/

attribute [local instance] Cert.EntryIdeal.Gen.facts Cert.EntryReferenceIdeal.Gen.facts

theorem algebraic_entry_reference : Cert.algebraic_EntryIdeal_EntryReferenceIdeal := by
  intro m g m' g' _ hm
  refine ⟨fun c => (dats m 0 c).arrAt 7 cfg0.N, fun c => (dats m 0 c).arrAt 8 cfg0.N, fun c => (dats m 0 c).arrAt 9 cfg0.N,
    Cert.EntryIdeal.Value.run_blocks m g, ?_⟩
  refine (θ_run Cert.EntryReferenceIdeal.defs _ _).mono (fun r h c => ?_) (Cert.EntryReferenceIdeal.Value.run (F := Ideal) m' g')
  obtain ⟨h0, h1, h2, h3, h4, h5⟩ := hm c
  refine ⟨(h c).1.trans ?_, (h c).2.1.trans ?_, (h c).2.2.1.trans ?_, (h c).2.2.2⟩
  · refine Eq.trans ?_ (dx_eq m c).symm
    unfold Cert.EntryReferenceIdeal.Value.res_main_v50
    rw [h0, h1, h2, h3, h4, h5]
    rfl
  · refine Eq.trans ?_ (dg_eq m c).symm
    rw [h0, h1, h2, h5]
    rfl
  · refine Eq.trans ?_ (dw_eq m c).symm
    rw [h0, h1, h2, h4]
    rfl

end Cert.Proof.Entry

end
-- ==== Proof.ProjResults.lean ====
/-
  The projections at a layer's entry, in the forward pass: the three frames, and the value claim, that the call ends with each row
  of the layer's input, scaled by the reciprocal of its root mean square and by the gains, times the weights.
-/
module

public import proofs.«01_k».proof.Defs
public import proofs.«01_k».proof.Proof.LossGrad
public import proofs.«01_k».proof.Proof.Gen.Project.Frame
public import proofs.«01_k».proof.Proof.Gen.ProjectIdeal.Value
public import proofs.«01_k».proof.Proof.Gen.ProjectReferenceIdeal.Run

@[expose] public section

set_option maxRecDepth 16384

noncomputable section

namespace Cert.Proof.Proj

open Idealize.ShloMosaic Idealize.ShloMosaic.TcCoe Idealize.ShloMosaic.Tactic Idealize.SL.Sem
open Idealize.ShloMosaic.Pipeline (Dat Cfg Window)
open Cert.Proof.Loss (Row word scale rowOf)

/-! ### The frames -/

theorem frame_project : Cert.quiescent_Project (hProject := Cert.Project.Gen.facts) :=
  fun m ρ _ => Cert.Project.Gen.frame m ρ
theorem frame_projectIdeal : Cert.quiescent_ProjectIdeal (hProjectIdeal := Cert.ProjectIdeal.Gen.facts) :=
  fun m ρ _ => Cert.ProjectIdeal.Gen.frame m ρ
theorem frame_projectReference : Cert.quiescent_ProjectReferenceIdeal (hProjectReferenceIdeal := Cert.ProjectReferenceIdeal.Gen.facts) :=
  fun m ρ _ => (θ_run Cert.ProjectReferenceIdeal.defs _ _).mono
    (fun r h => ⟨fun c => (h c).2, sem_eq_zero_of_no_sems (by decide) r.2⟩)
    (Cert.ProjectReferenceIdeal.Value.run (F := Ideal) m ρ)

/-! ### One row -/

section Tile
open Cert.ProjectIdeal Cert.ProjectIdeal.Gen

/-- A row's projection: the row, scaled and times the gains, times column `o` of the weights. -/
def projected (x g : Row) (W : FVec Ideal S2560x1024 .bf16) (o : Fin 2560) : Ideal .f32 := ∑ k, x k * scale x * g k * W (ix2 o k)

theorem tile_apply (x : Vec Ideal S512x1024 .f32) (g : Vec Ideal S1x1024 .f32) (W : Vec Ideal S2560x1024 .bf16) (r : Fin 512) (o : Fin 2560) :
    k0_pay1 x g W (ix2 r o) = projected (rowOf x r) (rowOf g 0) W o := by
  pointwise [k0_pay1, projected, scale]

end Tile

/-! ### The array that the call leaves -/

section Array
open Cert.ProjectIdeal Cert.ProjectIdeal.Gen
variable (m : (ℓ : Loc nD τ sig) → Buf (Elt Ideal) ℓ) (c : Dev nD)

/-- The layer's input, -/
abbrev argX : FVec Ideal S8192x1024 .f32 := m ((c.tc : Thread nD τ).loc main_arg0)
/-- the gains -/
abbrev argG : FVec Ideal S1x1024 .f32 := m ((c.tc : Thread nD τ).loc main_arg1)
/-- and the weights. -/
abbrev argW : FVec Ideal S2560x1024 .bf16 := m ((c.tc : Thread nD τ).loc main_arg2)

/-- The blocks that a visit reads, at their shapes. -/
abbrev bX (t : Fin cfg0.N) : Vec Ideal S512x1024 .f32 := iblk m c 0 t
abbrev bG (t : Fin cfg0.N) : Vec Ideal S1x1024 .f32 := iblk m c 1 t
abbrev bW (t : Fin cfg0.N) : Vec Ideal S2560x1024 .bf16 := iblk m c 2 t

theorem tile_lt (t : Fin cfg0.N) (r : Fin 512) : t.val * 512 + r.val < 8192 := by
  have : t.val < 16 := lt_of_lt_of_eq t.isLt (show cfg0.N = 16 from N_0)
  omega
/-- Row `r` of visit `t`. -/
abbrev at_ (t : Fin cfg0.N) (r : Fin 512) : Fin 8192 := ⟨t.val * 512 + r.val, tile_lt t r⟩

theorem bX_row (t : Fin cfg0.N) (r : Fin 512) : rowOf (bX m c t) r = rowOf (argX m c) (at_ t r) := by
  have h : win0_0.index t 0 = t.val ∧ win0_0.index t 1 = 0 := by clear r; revert t; decide +kernel
  funext k
  refine congrArg (argX m c) ?_
  funext a; apply Fin.ext; fin_cases a <;> blk_simp [Pipeline.Window.cell_apply]
  · rw [h.1]; rfl
  · rw [h.2, Nat.zero_mul, Nat.zero_add]; rfl
theorem bG_eq (t : Fin cfg0.N) : bG m c t = argG m c := by
  have h : ∀ a, win0_1.index t a = 0 := by revert t; decide +kernel
  funext y
  refine congrArg (argG m c) ?_
  funext a; apply Fin.ext; fin_cases a <;> blk_simp [Pipeline.Window.cell_apply] <;> first | rw [h, Nat.zero_mul, Nat.zero_add] | rw [h]
theorem bW_eq (t : Fin cfg0.N) : bW m c t = argW m c := by
  have h : ∀ a, win0_2.index t a = 0 := by revert t; decide +kernel
  funext y
  refine congrArg (argW m c) ?_
  funext a; apply Fin.ext; fin_cases a <;> blk_simp [Pipeline.Window.cell_apply] <;> first | rw [h, Nat.zero_mul, Nat.zero_add] | rw [h]

/-- The projections of all rows. -/
def devProj : FVec Ideal S8192x2560 .f32 := fun y => projected (rowOf (argX m c) (y 0)) (rowOf (argG m c) 0) (argW m c) (y 1)

theorem origin : (![0, 0] : Fin 2 → Nat) = fun _ => 0 := by decide

theorem out_tile (x : Vec Ideal S512x1024 .f32) (g : Vec Ideal S1x1024 .f32) (W : Vec Ideal S2560x1024 .bf16) :
    out0_3 x g W = k0_pay1 x g W := by
  unfold out0_3
  rw [View.canon_unit_zero origin]
  simp only [View.ld_unit_zero (S := S512x1024) origin, View.ld_unit_zero (S := S1x1024) origin, View.ld_unit_zero (S := S2560x1024) origin]

theorem block_at (t : Fin cfg0.N) (r : Fin 512) (o : Fin 2560) :
    (win0_3.blk t).view.emb (ix2 r o) = (ix2 (at_ t r) o : S8192x2560.Idx) := by
  have h : win0_3.index t 0 = t.val ∧ win0_3.index t 1 = 0 := by clear r o; revert t; decide +kernel
  funext a; apply Fin.ext; fin_cases a <;> blk_simp [Pipeline.Window.cell_apply]
  · rw [h.1]; rfl
  · rw [h.2, Nat.zero_mul, Nat.zero_add]; rfl

theorem block (t : Fin cfg0.N) (y : S512x2560.Idx) :
    k0_pay1 (bX m c t) (bG m c t) (bW m c t) y = devProj m c ((win0_3.blk t).view.emb y) := by
  obtain ⟨r, o, rfl⟩ : ∃ r o, y = ix2 r o := ⟨y 0, y 1, by funext a; fin_cases a <;> rfl⟩
  rw [block_at, tile_apply, bX_row, bG_eq, bW_eq]
  rfl

theorem arr_proj : (dats m 0 c).arrAt 3 cfg0.N = devProj m c := by
  refine (dats m 0 c).arrAt_eq_of_covers 3 _ (by decide +kernel) fun t hf y => ?_
  blk_simp
  rw [after0_3, out_tile]
  exact block m c t y

end Array

/-! ### The reference -/

section Reference
open Cert.ProjectReferenceIdeal Cert.ProjectReferenceIdeal.Gen

/-- The reference's rows, scaled, -/
def refScale (X : FVec Ideal S8192x1024 .f32) : FVec Ideal S8192x1 .f32 :=
  Host.rsqrt (addf (Host.divf (broadcastInDim S8192x1 ![0] bcast_S8192_S8192x1_0
      (Host.reduceAdd (mulf X X) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32)))
/-- and its result. -/
def refProj (X : FVec Ideal S8192x1024 .f32) (G : FVec Ideal S1x1024 .f32) (W : FVec Ideal S2560x1024 .bf16) : FVec Ideal S8192x2560 .f32 :=
  Host.dotGeneral dot_S8192x1024_S1024x2560_S8192x2560_1_0_0_1_n_n none
    (mulf (mulf X (broadcastInDim S8192x1024 ![0, 1] bcast_S8192x1_S8192x1024_0_1 (refScale X)))
      (broadcastInDim S8192x1024 ![0, 1] bcast_S1x1024_S8192x1024_0_1 G))
    (transpose S1024x2560 [1, 0] (extf .f32 W bitsLt_bf16_f32) transposes_S2560x1024_S1024x2560_1_0)

theorem refScale_apply (X : FVec Ideal S8192x1024 .f32) (r : Fin 8192) : refScale X (ix2 r 0) = scale (rowOf X r) := by
  pointwise [refScale, scale]

theorem refProj_apply (X : FVec Ideal S8192x1024 .f32) (G : FVec Ideal S1x1024 .f32) (W : FVec Ideal S2560x1024 .bf16) (r : Fin 8192) (o : Fin 2560) :
    refProj X G W (ix2 r o) = projected (rowOf X r) (rowOf G 0) W o := by
  unfold projected
  simp only [← refScale_apply]
  unfold refProj
  generalize refScale X = S
  pointwise []

end Reference

/-! ### The claim -/

open Cert.ProjectIdeal Cert.ProjectIdeal.Gen

theorem proj_eq (m : (ℓ : Loc nD τ sig) → Buf (Elt Ideal) ℓ) (c : Dev nD) :
    (dats m 0 c).arrAt 3 cfg0.N = refProj (argX m c) (argG m c) (argW m c) := by
  rw [arr_proj]
  funext y
  obtain ⟨r, o, rfl⟩ : ∃ (r : Fin 8192) (o : Fin 2560), y = ix2 r o := ⟨y 0, y 1, by funext a; fin_cases a <;> rfl⟩
  exact (refProj_apply _ _ _ r o).symm

attribute [local instance] Cert.ProjectIdeal.Gen.facts Cert.ProjectReferenceIdeal.Gen.facts

theorem algebraic_project_reference : Cert.algebraic_ProjectIdeal_ProjectReferenceIdeal := by
  intro m g m' g' _ hm
  refine ⟨fun c => (dats m 0 c).arrAt 3 cfg0.N, Cert.ProjectIdeal.Value.run_blocks m g, ?_⟩
  refine (θ_run Cert.ProjectReferenceIdeal.defs _ _).mono (fun r h c => ?_) (Cert.ProjectReferenceIdeal.Value.run (F := Ideal) m' g')
  obtain ⟨h0, h1, h2⟩ := hm c
  refine ⟨(h c).1.trans ?_, (h c).2⟩
  refine Eq.trans ?_ (proj_eq m c).symm
  rw [h0, h1, h2]
  rfl

end Cert.Proof.Proj

end
-- ==== Proof.MixResults.lean ====
/-
  The output projection, in the forward pass: the three frames, and the value claim, that the call ends with the layer's input and
  the two branches, side by side, times the output weights.
-/
module

public import proofs.«01_k».proof.Defs
public import proofs.«01_k».proof.Proof.LossGrad
public import proofs.«01_k».proof.Proof.Gen.Mix.Frame
public import proofs.«01_k».proof.Proof.Gen.MixIdeal.Value
public import proofs.«01_k».proof.Proof.Gen.MixReferenceIdeal.Run

@[expose] public section

set_option maxRecDepth 16384

noncomputable section

namespace Cert.Proof.Mixing

open Idealize.ShloMosaic Idealize.ShloMosaic.TcCoe Idealize.ShloMosaic.Tactic Idealize.SL.Sem
open Idealize.ShloMosaic.Pipeline (Dat Cfg Window)
open Cert.Proof.Loss (Row rowOf)

/-! ### The frames -/

theorem frame_mix : Cert.quiescent_Mix (hMix := Cert.Mix.Gen.facts) :=
  fun m ρ _ => Cert.Mix.Gen.frame m ρ
theorem frame_mixIdeal : Cert.quiescent_MixIdeal (hMixIdeal := Cert.MixIdeal.Gen.facts) :=
  fun m ρ _ => Cert.MixIdeal.Gen.frame m ρ
theorem frame_mixReference : Cert.quiescent_MixReferenceIdeal (hMixReferenceIdeal := Cert.MixReferenceIdeal.Gen.facts) :=
  fun m ρ _ => (θ_run Cert.MixReferenceIdeal.defs _ _).mono
    (fun r h => ⟨fun c => (h c).2, sem_eq_zero_of_no_sems (by decide) r.2⟩)
    (Cert.MixReferenceIdeal.Value.run (F := Ideal) m ρ)

/-! ### One row -/

section Tile
open Cert.MixIdeal Cert.MixIdeal.Gen

/-- A row of the two branches, side by side, -/
def beside (a b : Fin 512 → Ideal .f32) (k : Fin 1024) : Ideal .f32 :=
  if h : k.val < 512 then a ⟨k.val, h⟩ else b ⟨k.val - 512, by omega⟩
/-- and times the output weights. -/
def mixed (a b : Fin 512 → Ideal .f32) (W : FVec Ideal S1024x1024 .bf16) (o : Fin 1024) : Ideal .f32 := ∑ k, beside a b k * W (ix2 k o)

theorem tile_apply (a b : Vec Ideal S512x512 .bf16) (x : Vec Ideal S512x1024 .f32) (W : Vec Ideal S1024x1024 .bf16) (r : Fin 512) (o : Fin 1024) :
    k0_pay1 a b x W (ix2 r o) = x (ix2 r o) + mixed (fun k => a (ix2 r k)) (fun k => b (ix2 r k)) W o := by
  pointwise [k0_pay1, mixed, beside]

end Tile

/-! ### The array that the call leaves -/

section Array
open Cert.MixIdeal Cert.MixIdeal.Gen
variable (m : (ℓ : Loc nD τ sig) → Buf (Elt Ideal) ℓ) (c : Dev nD)

/-- The layer's input, -/
abbrev argX : FVec Ideal S8192x1024 .f32 := m ((c.tc : Thread nD τ).loc main_arg0)
/-- the first branch, -/
abbrev argA : FVec Ideal S8192x512 .bf16 := m ((c.tc : Thread nD τ).loc main_arg1)
/-- the second branch -/
abbrev argB : FVec Ideal S8192x512 .bf16 := m ((c.tc : Thread nD τ).loc main_arg2)
/-- and the weights. -/
abbrev argW : FVec Ideal S1024x1024 .bf16 := m ((c.tc : Thread nD τ).loc main_arg3)

/-- The blocks that a visit reads, at their shapes. -/
abbrev bX (t : Fin cfg0.N) : Vec Ideal S512x1024 .f32 := iblk m c 0 t
abbrev bA (t : Fin cfg0.N) : Vec Ideal S512x512 .bf16 := iblk m c 1 t
abbrev bB (t : Fin cfg0.N) : Vec Ideal S512x512 .bf16 := iblk m c 2 t
abbrev bW (t : Fin cfg0.N) : Vec Ideal S1024x1024 .bf16 := iblk m c 3 t

theorem tile_lt (t : Fin cfg0.N) (r : Fin 512) : t.val * 512 + r.val < 8192 := by
  have : t.val < 16 := lt_of_lt_of_eq t.isLt (show cfg0.N = 16 from N_0)
  omega
/-- Row `r` of visit `t`. -/
abbrev at_ (t : Fin cfg0.N) (r : Fin 512) : Fin 8192 := ⟨t.val * 512 + r.val, tile_lt t r⟩

theorem bX_apply (t : Fin cfg0.N) (r : Fin 512) (k : Fin 1024) : bX m c t (ix2 r k) = argX m c (ix2 (at_ t r) k) := by
  have h : win0_0.index t 0 = t.val ∧ win0_0.index t 1 = 0 := by clear r k; revert t; decide +kernel
  refine congrArg (argX m c) ?_
  funext a; apply Fin.ext; fin_cases a <;> blk_simp [Pipeline.Window.cell_apply]
  · rw [h.1]; rfl
  · rw [h.2, Nat.zero_mul, Nat.zero_add]; rfl
theorem bA_apply (t : Fin cfg0.N) (r : Fin 512) (k : Fin 512) : bA m c t (ix2 r k) = argA m c (ix2 (at_ t r) k) := by
  have h : win0_1.index t 0 = t.val ∧ win0_1.index t 1 = 0 := by clear r k; revert t; decide +kernel
  refine congrArg (argA m c) ?_
  funext a; apply Fin.ext; fin_cases a <;> blk_simp [Pipeline.Window.cell_apply]
  · rw [h.1]; rfl
  · rw [h.2, Nat.zero_mul, Nat.zero_add]; rfl
theorem bB_apply (t : Fin cfg0.N) (r : Fin 512) (k : Fin 512) : bB m c t (ix2 r k) = argB m c (ix2 (at_ t r) k) := by
  have h : win0_2.index t 0 = t.val ∧ win0_2.index t 1 = 0 := by clear r k; revert t; decide +kernel
  refine congrArg (argB m c) ?_
  funext a; apply Fin.ext; fin_cases a <;> blk_simp [Pipeline.Window.cell_apply]
  · rw [h.1]; rfl
  · rw [h.2, Nat.zero_mul, Nat.zero_add]; rfl
theorem bW_eq (t : Fin cfg0.N) : bW m c t = argW m c := by
  have h : ∀ a, win0_3.index t a = 0 := by revert t; decide +kernel
  funext y
  refine congrArg (argW m c) ?_
  funext a; apply Fin.ext; fin_cases a <;> blk_simp [Pipeline.Window.cell_apply] <;> first | rw [h, Nat.zero_mul, Nat.zero_add] | rw [h]

/-- The layer's output. -/
def devMix : FVec Ideal S8192x1024 .f32 := fun y =>
  argX m c y + mixed (fun k => argA m c (ix2 (y 0) k)) (fun k => argB m c (ix2 (y 0) k)) (argW m c) (y 1)

theorem origin : (![0, 0] : Fin 2 → Nat) = fun _ => 0 := by decide

theorem out_tile (x : Vec Ideal S512x1024 .f32) (a b : Vec Ideal S512x512 .bf16) (W : Vec Ideal S1024x1024 .bf16) :
    out0_4 x a b W = k0_pay1 a b x W := by
  unfold out0_4
  rw [View.canon_unit_zero origin]
  simp only [View.ld_unit_zero (S := S512x1024) origin, View.ld_unit_zero (S := S512x512) origin, View.ld_unit_zero (S := S1024x1024) origin]

theorem block_at (t : Fin cfg0.N) (r : Fin 512) (o : Fin 1024) :
    (win0_4.blk t).view.emb (ix2 r o) = (ix2 (at_ t r) o : S8192x1024.Idx) := by
  have h : win0_4.index t 0 = t.val ∧ win0_4.index t 1 = 0 := by clear r o; revert t; decide +kernel
  funext a; apply Fin.ext; fin_cases a <;> blk_simp [Pipeline.Window.cell_apply]
  · rw [h.1]; rfl
  · rw [h.2, Nat.zero_mul, Nat.zero_add]; rfl

theorem block (t : Fin cfg0.N) (y : S512x1024.Idx) :
    k0_pay1 (bA m c t) (bB m c t) (bX m c t) (bW m c t) y = devMix m c ((win0_4.blk t).view.emb y) := by
  obtain ⟨r, o, rfl⟩ : ∃ r o, y = ix2 r o := ⟨y 0, y 1, by funext a; fin_cases a <;> rfl⟩
  rw [block_at, tile_apply, bX_apply, bW_eq]
  refine congrArg₂ (fun u v : EReal => u + v) rfl (congrArg₂ (fun u v => mixed u v (argW m c) o) ?_ ?_)
  · funext k; exact bA_apply m c t r k
  · funext k; exact bB_apply m c t r k

theorem arr_mix : (dats m 0 c).arrAt 4 cfg0.N = devMix m c := by
  refine (dats m 0 c).arrAt_eq_of_covers 4 _ (by decide +kernel) fun t hf y => ?_
  blk_simp
  rw [after0_4, out_tile]
  exact block m c t y

end Array

/-! ### The reference -/

section Reference
open Cert.MixReferenceIdeal Cert.MixReferenceIdeal.Gen

/-- The reference's result. -/
def refMix (X : FVec Ideal S8192x1024 .f32) (A B : FVec Ideal S8192x512 .bf16) (W : FVec Ideal S1024x1024 .bf16) : FVec Ideal S8192x1024 .f32 :=
  addf X (Host.dotGeneral dot_S8192x1024_S1024x1024_S8192x1024_1_0_0_1_n_n none
    (extf .f32 (concatenate S8192x1024 1 [⟨S8192x512, A⟩, ⟨S8192x512, B⟩] concatenates_S8192x512_S8192x512_S8192x1024_d1) bitsLt_bf16_f32)
    (extf .f32 W bitsLt_bf16_f32))

theorem refMix_apply (X : FVec Ideal S8192x1024 .f32) (A B : FVec Ideal S8192x512 .bf16) (W : FVec Ideal S1024x1024 .bf16) (r : Fin 8192) (o : Fin 1024) :
    refMix X A B W (ix2 r o) = X (ix2 r o) + mixed (fun k => A (ix2 r k)) (fun k => B (ix2 r k)) W o := by
  pointwise [refMix, mixed, beside]

end Reference

/-! ### The claim -/

open Cert.MixIdeal Cert.MixIdeal.Gen

theorem mix_eq (m : (ℓ : Loc nD τ sig) → Buf (Elt Ideal) ℓ) (c : Dev nD) :
    (dats m 0 c).arrAt 4 cfg0.N = refMix (argX m c) (argA m c) (argB m c) (argW m c) := by
  rw [arr_mix]
  funext y
  obtain ⟨r, o, rfl⟩ : ∃ (r : Fin 8192) (o : Fin 1024), y = ix2 r o := ⟨y 0, y 1, by funext a; fin_cases a <;> rfl⟩
  exact (refMix_apply _ _ _ _ r o).symm

attribute [local instance] Cert.MixIdeal.Gen.facts Cert.MixReferenceIdeal.Gen.facts

theorem algebraic_mix_reference : Cert.algebraic_MixIdeal_MixReferenceIdeal := by
  intro m g m' g' _ hm
  refine ⟨fun c => (dats m 0 c).arrAt 4 cfg0.N, Cert.MixIdeal.Value.run_blocks m g, ?_⟩
  refine (θ_run Cert.MixReferenceIdeal.defs _ _).mono (fun r h c => ?_) (Cert.MixReferenceIdeal.Value.run (F := Ideal) m' g')
  obtain ⟨h0, h1, h2, h3⟩ := hm c
  refine ⟨(h c).1.trans ?_, (h c).2⟩
  refine Eq.trans ?_ (mix_eq m c).symm
  rw [h0, h1, h2, h3]
  rfl

end Cert.Proof.Mixing

end
-- ==== Proof.BackValue.lean ====
/-
  The gradient at the output projection, the kernel's side: what a visit of the call's grid leaves in its two output blocks, its
  formulas row by row, and the two arrays after the last visit.
-/
module

public import proofs.«01_k».proof.Proof.MixResults
public import proofs.«01_k».proof.Proof.Gen.BackIdeal.Frame
public import Idealize.ShloMosaic.Lib.Pipeline.ValueKit

@[expose] public section

set_option maxRecDepth 16384

noncomputable section

namespace Cert.Proof.Back

open Cert.BackIdeal Cert.BackIdeal.Gen
open Idealize.ShloMosaic Idealize.ShloMosaic.TcCoe Idealize.ShloMosaic.Tactic
open Idealize.ShloMosaic.Pipeline (Dat Cfg Window)
open Cert.Proof.Loss (Row rowOf)
open Cert.Proof.Mixing (beside)

/-! ### One visit -/

section Visit
variable {F : FTy → Type} [FloatOps F]

theorem origin : (![0, 0] : Fin 2 → Nat) = fun _ => 0 := by decide

variable (c : Dev nD) (i : grid0.Coords)
  (a1 : Memref sig .tc .vmem S512x1024 .f32) (h1 : a1.IsWhole)
  (a2 : Memref sig .tc .vmem S512x512 .bf16) (h2 : a2.IsWhole)
  (a3 : Memref sig .tc .vmem S512x512 .bf16) (h3 : a3.IsWhole)
  (a4 : Memref sig .tc .vmem S1024x1024 .bf16) (h4 : a4.IsWhole)
  (a5 : Memref sig .tc .vmem S512x1024 .f32) (h5 : a5.IsWhole)
  (a6 : Memref sig .tc .vmem S1024x1024 .f32) (h6 : a6.IsWhole)
  (x : Vec F S512x1024 .f32) (a b : Vec F S512x512 .bf16) (W : Vec F S1024x1024 .bf16)

/-! The first visit. -/
theorem visit_A_4 (hc : cond0_0 i) :
    out0_A_4 c i a1 h1 a2 h2 a3 h3 a4 h4 a5 h5 a6 h6 hc x a b W = k0_pay2 x W := by
  unfold out0_A_4
  rw [View.read_writes_eq_canon _ _ _ (cover0_A_4 c i a1 h1 a2 h2 a3 h3 a4 h4 a5 h5 a6 h6 hc x a b W)]
  unfold kernelRun0_A
  dsimp only
  sl_unfold_words
  rw [View.canon_unit_zero origin]
  simp only [View.readAt_eq_ld, h1.read_unread, h2.read_unread, h3.read_unread, h4.read_unread, h5.read_unread, h6.read_unread,
    View.ld_unit_zero (S := S512x1024) origin, View.ld_unit_zero (S := S512x512) origin, View.ld_unit_zero (S := S1024x1024) origin, shapeCast_self]
theorem visit_A_5 (hc : cond0_0 i) :
    out0_A_5 c i a1 h1 a2 h2 a3 h3 a4 h4 a5 h5 a6 h6 hc x a b W = k0_pay4 x a b k0_pay3 := by
  unfold out0_A_5
  rw [View.read_writes_eq_canon _ _ _ (cover0_A_5 c i a1 h1 a2 h2 a3 h3 a4 h4 a5 h5 a6 h6 hc x a b W)]
  unfold kernelRun0_A
  dsimp only
  sl_unfold_words
  rw [View.canon_cons_unit_zero (S := S1024x1024) origin]
  simp only [View.readAt_eq_ld, h1.read_unread, h2.read_unread, h3.read_unread, h4.read_unread, h5.read_unread, h6.read_unread, View.readCov_unit_zero (S := S1024x1024) _ origin,
    View.ld_unit_zero (S := S512x1024) origin, View.ld_unit_zero (S := S512x512) origin, View.ld_unit_zero (S := S1024x1024) origin, shapeCast_self]

/-! A later visit. -/
theorem visit_B_4 (hc : ¬cond0_0 i) (s : Vec F S1024x1024 .f32) :
    out0_B_4 c i a1 h1 a2 h2 a3 h3 a4 h4 a5 h5 a6 h6 hc x a b W s = k0_pay2 x W := by
  unfold out0_B_4
  rw [View.read_writes_eq_canon _ _ _ (cover0_B_4 c i a1 h1 a2 h2 a3 h3 a4 h4 a5 h5 a6 h6 hc x a b W s)]
  unfold kernelRun0_B
  dsimp only
  sl_unfold_words
  rw [View.canon_unit_zero origin]
  simp only [View.readAt_eq_ld, h1.read_unread, h2.read_unread, h3.read_unread, h4.read_unread, h5.read_unread, h6.read_unread,
    View.ld_unit_zero (S := S512x1024) origin, View.ld_unit_zero (S := S512x512) origin, View.ld_unit_zero (S := S1024x1024) origin, shapeCast_self]
theorem visit_B_5 (hc : ¬cond0_0 i) (s : Vec F S1024x1024 .f32) :
    out0_B_5 c i a1 h1 a2 h2 a3 h3 a4 h4 a5 h5 a6 h6 hc x a b W s = k0_pay4 x a b s := by
  unfold out0_B_5
  rw [View.read_writes_eq_canon _ _ _ (cover0_B_5 c i a1 h1 a2 h2 a3 h3 a4 h4 a5 h5 a6 h6 hc x a b W s)]
  unfold kernelRun0_B
  dsimp only
  sl_unfold_words
  rw [View.canon_unit_zero origin]
  simp only [View.readAt_eq_ld, h1.read_unread, h2.read_unread, h3.read_unread, h4.read_unread, h5.read_unread, h6.read_unread,
    View.ld_unit_zero (S := S512x1024) origin, View.ld_unit_zero (S := S512x512) origin, View.ld_unit_zero (S := S1024x1024) origin, shapeCast_self]

end Visit

/-! ### One row -/

/-- What comes back through the output weights at a row, -/
def pulled (d : Row) (W : FVec Ideal S1024x1024 .bf16) (o : Fin 1024) : Ideal .f32 := ∑ k, d k * W (ix2 o k)
/-- and what a row adds to the gradient of the weights. -/
def weightTerm (a b : Fin 512 → Ideal .f32) (d : Row) (o k : Fin 1024) : Ideal .f32 := beside a b o * d k

section Tile
variable (x : Vec Ideal S512x1024 .f32) (a b : Vec Ideal S512x512 .bf16) (W : Vec Ideal S1024x1024 .bf16)

theorem dy_apply (r : Fin 512) (o : Fin 1024) : k0_pay2 x W (ix2 r o) = pulled (rowOf x r) W o := by
  pointwise [k0_pay2, k0_pay1, pulled]

theorem dw_apply (s : Vec Ideal S1024x1024 .f32) (o k : Fin 1024) : k0_pay4 x a b s (ix2 o k)
    = s (ix2 o k) + ∑ r : Fin 512, weightTerm (fun q => a (ix2 r q)) (fun q => b (ix2 r q)) (rowOf x r) o k := by
  pointwise [k0_pay4, k0_pay1, weightTerm, beside]

theorem zero_apply (o k : Fin 1024) : k0_pay3 (F := Ideal) (ix2 o k) = 0 := by
  pointwise [k0_pay3]

end Tile

/-! ### The arrays that the call leaves -/

variable (m : (ℓ : Loc nD τ sig) → Buf (Elt Ideal) ℓ) (c : Dev nD)

/-- The gradient from above, -/
abbrev argX : FVec Ideal S8192x1024 .f32 := m ((c.tc : Thread nD τ).loc main_arg0)
/-- the first branch, -/
abbrev argA : FVec Ideal S8192x512 .bf16 := m ((c.tc : Thread nD τ).loc main_arg1)
/-- the second branch -/
abbrev argB : FVec Ideal S8192x512 .bf16 := m ((c.tc : Thread nD τ).loc main_arg2)
/-- and the weights. -/
abbrev argW : FVec Ideal S1024x1024 .bf16 := m ((c.tc : Thread nD τ).loc main_arg3)

/-- The blocks that a visit reads, at their shapes. -/
abbrev bX (t : Fin cfg0.N) : Vec Ideal S512x1024 .f32 := iblk m c 0 t
abbrev bA (t : Fin cfg0.N) : Vec Ideal S512x512 .bf16 := iblk m c 1 t
abbrev bB (t : Fin cfg0.N) : Vec Ideal S512x512 .bf16 := iblk m c 2 t
abbrev bW (t : Fin cfg0.N) : Vec Ideal S1024x1024 .bf16 := iblk m c 3 t

theorem visits (t : Fin cfg0.N) : t.val < 16 := lt_of_lt_of_eq t.isLt (show cfg0.N = 16 from N_0)
theorem tile_lt (t : Fin cfg0.N) (r : Fin 512) : t.val * 512 + r.val < 8192 := by
  have := visits t
  omega
/-- Row `r` of visit `t`. -/
abbrev at_ (t : Fin cfg0.N) (r : Fin 512) : Fin 8192 := ⟨t.val * 512 + r.val, tile_lt t r⟩

theorem bX_row (t : Fin cfg0.N) (r : Fin 512) : rowOf (bX m c t) r = rowOf (argX m c) (at_ t r) := by
  have h : win0_0.index t 0 = t.val ∧ win0_0.index t 1 = 0 := by clear r; revert t; decide +kernel
  funext k
  refine congrArg (argX m c) ?_
  funext a; apply Fin.ext; fin_cases a <;> blk_simp [Pipeline.Window.cell_apply]
  · rw [h.1]; rfl
  · rw [h.2, Nat.zero_mul, Nat.zero_add]; rfl
theorem bA_row (t : Fin cfg0.N) (r : Fin 512) : (fun k => bA m c t (ix2 r k)) = fun k => argA m c (ix2 (at_ t r) k) := by
  have h : win0_1.index t 0 = t.val ∧ win0_1.index t 1 = 0 := by clear r; revert t; decide +kernel
  funext k
  refine congrArg (argA m c) ?_
  funext a; apply Fin.ext; fin_cases a <;> blk_simp [Pipeline.Window.cell_apply]
  · rw [h.1]; rfl
  · rw [h.2, Nat.zero_mul, Nat.zero_add]; rfl
theorem bB_row (t : Fin cfg0.N) (r : Fin 512) : (fun k => bB m c t (ix2 r k)) = fun k => argB m c (ix2 (at_ t r) k) := by
  have h : win0_2.index t 0 = t.val ∧ win0_2.index t 1 = 0 := by clear r; revert t; decide +kernel
  funext k
  refine congrArg (argB m c) ?_
  funext a; apply Fin.ext; fin_cases a <;> blk_simp [Pipeline.Window.cell_apply]
  · rw [h.1]; rfl
  · rw [h.2, Nat.zero_mul, Nat.zero_add]; rfl
theorem bW_eq (t : Fin cfg0.N) : bW m c t = argW m c := by
  have h : ∀ a, win0_3.index t a = 0 := by revert t; decide +kernel
  funext y
  refine congrArg (argW m c) ?_
  funext a; apply Fin.ext; fin_cases a <;> blk_simp [Pipeline.Window.cell_apply] <;> first | rw [h, Nat.zero_mul, Nat.zero_add] | rw [h]

theorem out_dy (t : Fin cfg0.N) : (outsAt0 m c t.val t.isLt).1 = k0_pay2 (bX m c t) (bW m c t) := by
  by_cases h0 : t.val % 16 = 0
  · rw [outsAt0_A m c t h0]; dsimp only; exact visit_A_4 ..
  · rw [outsAt0_B m c t h0]; dsimp only; exact visit_B_4 ..
theorem out_dw_first (t : Fin cfg0.N) (h0 : t.val % 16 = 0) :
    (outsAt0 m c t.val t.isLt).2 = k0_pay4 (bX m c t) (bA m c t) (bB m c t) (k0_pay3 (F := Ideal)) := by
  rw [outsAt0_A m c t h0]; dsimp only; exact visit_A_5 ..
theorem out_dw_later (n : ℕ) (hn : n + 1 < cfg0.N) : (outsAt0 m c (n + 1) hn).2
    = k0_pay4 (bX m c ⟨n + 1, hn⟩) (bA m c ⟨n + 1, hn⟩) (bB m c ⟨n + 1, hn⟩) (outsAt0 m c n (Nat.lt_of_succ_lt hn)).2 := by
  have h0 : ¬ (⟨n + 1, hn⟩ : Fin cfg0.N).val % 16 = 0 := by
    have h : n + 1 < 16 := visits ⟨n + 1, hn⟩
    show ¬ (n + 1) % 16 = 0
    omega
  rw [outsAt0_B m c ⟨n + 1, hn⟩ h0]; dsimp only; exact visit_B_5 ..

attribute [local irreducible] outsAt0

/-- What comes back through the output weights. -/
def devDy : FVec Ideal S8192x1024 .f32 := fun y => pulled (rowOf (argX m c) (y 0)) (argW m c) (y 1)

theorem dy_at (t : Fin cfg0.N) (r : Fin 512) (o : Fin 1024) :
    (win0_4.blk t).view.emb (ix2 r o) = (ix2 (at_ t r) o : S8192x1024.Idx) := by
  have h : win0_4.index t 0 = t.val ∧ win0_4.index t 1 = 0 := by clear r o; revert t; decide +kernel
  funext a; apply Fin.ext; fin_cases a <;> blk_simp [Pipeline.Window.cell_apply]
  · rw [h.1]; rfl
  · rw [h.2, Nat.zero_mul, Nat.zero_add]; rfl

theorem dy_block (t : Fin cfg0.N) (y : S512x1024.Idx) :
    k0_pay2 (bX m c t) (bW m c t) y = devDy m c ((win0_4.blk t).view.emb y) := by
  obtain ⟨r, o, rfl⟩ : ∃ r o, y = ix2 r o := ⟨y 0, y 1, by funext a; fin_cases a <;> rfl⟩
  rw [dy_at, dy_apply, bX_row, bW_eq]
  rfl

theorem arr_dy : (dats m 0 c).arrAt 4 cfg0.N = devDy m c := by
  refine (dats m 0 c).arrAt_eq_of_covers 4 _ (by decide +kernel) fun t hf y => ?_
  blk_simp
  rw [after0_4, out_dy]
  exact dy_block m c t y

/-- What a row adds to the gradient of the weights. -/
def devWeight (o k : Fin 1024) (r : Fin 8192) : Ideal .f32 :=
  weightTerm (fun q => argA m c (ix2 r q)) (fun q => argB m c (ix2 r q)) (rowOf (argX m c) r) o k

theorem dw_add (t : Fin cfg0.N) (s : Vec Ideal S1024x1024 .f32) (o k : Fin 1024) :
    k0_pay4 (bX m c t) (bA m c t) (bB m c t) s (ix2 o k) = s (ix2 o k) + ∑ r : Fin 512, devWeight m c o k (at_ t r) := by
  refine (dw_apply _ _ _ s o k).trans (congrArg₂ (fun u v : EReal => u + v) rfl (Finset.sum_congr rfl fun r _ => ?_))
  rw [bX_row, bA_row, bB_row]; rfl

theorem dw_sum (o k : Fin 1024) (n : ℕ) (hn : n < cfg0.N) : (outsAt0 m c n hn).2 (ix2 o k)
    = ∑ t : Fin (n + 1), ∑ r : Fin 512, devWeight m c o k (at_ ⟨t.val, lt_of_lt_of_le t.isLt hn⟩ r) := by
  induction n with
  | zero =>
    refine (congrFun (out_dw_first m c ⟨0, hn⟩ rfl) (ix2 o k)).trans ((dw_add m c ⟨0, hn⟩ _ o k).trans ?_)
    rw [zero_apply]
    refine Eq.trans ?_ (Fin.sum_univ_one (M := EReal) _).symm
    exact zero_add _
  | succ n ih =>
    refine (congrFun (out_dw_later m c n hn) (ix2 o k)).trans ((dw_add m c ⟨n + 1, hn⟩ _ o k).trans ?_)
    rw [ih (Nat.lt_of_succ_lt hn)]
    refine Eq.trans ?_ (Fin.sum_univ_castSucc (M := EReal) _).symm
    rfl

/-- There is a last visit. -/
theorem last_lt : 15 < cfg0.N := lt_of_lt_of_eq (by decide) (show cfg0.N = 16 from N_0).symm

theorem arr_dw : (dats m 0 c).arrAt 5 cfg0.N = (outsAt0 m c 15 last_lt).2 := by
  refine (dats m 0 c).arrAt_eq_of_covers 5 _ (by decide +kernel) fun t hf y => ?_
  blk_simp
  have ht : t.val = 15 := by revert hf; clear y; revert t; decide +kernel
  have e : outsAt0 m c t.val t.isLt = outsAt0 m c 15 last_lt :=
    congrArg (fun s : Fin cfg0.N => outsAt0 m c s.val s.isLt) (Fin.ext ht : t = ⟨15, last_lt⟩)
  rw [after0_5, e]
  have h : ∀ a, win0_5.index t a = 0 := by clear hf y ht e; revert t; decide +kernel
  refine congrArg (outsAt0 m c 15 last_lt).2 ?_
  funext a; apply Fin.ext; fin_cases a <;> blk_simp [Pipeline.Window.cell_apply] <;> first | rw [h, Nat.zero_mul, Nat.zero_add] | rw [h]

/-- The gradient of the weights. -/
theorem weights_eq (o k : Fin 1024) :
    ((dats m 0 c).arrAt 5 cfg0.N : FVec Ideal S1024x1024 .f32) (ix2 o k) = ∑ r : Fin 8192, devWeight m c o k r :=
  (congrFun (arr_dw m c) (ix2 o k)).trans ((dw_sum m c o k 15 last_lt).trans (Fin.sum_mul_add_fin 16 512 (devWeight m c o k)))

end Cert.Proof.Back

end
-- ==== Proof.BackResults.lean ====
/-
  The gradient at the output projection: the three frames, and the value claim, that the call ends with the reference's gradients
  of the two branches, side by side, and of the output weights.
-/
module

public import proofs.«01_k».proof.Defs
public import proofs.«01_k».proof.Proof.BackValue
public import proofs.«01_k».proof.Proof.Gen.Back.Frame
public import proofs.«01_k».proof.Proof.Gen.BackIdeal.Value
public import proofs.«01_k».proof.Proof.Gen.BackReferenceIdeal.Run

@[expose] public section

set_option maxRecDepth 16384

noncomputable section

namespace Cert.Proof.Back

open Idealize.ShloMosaic Idealize.ShloMosaic.TcCoe Idealize.ShloMosaic.Tactic Idealize.SL.Sem
open Cert.Proof.Loss (Row rowOf)
open Cert.Proof.Mixing (beside)

/-! ### The frames -/

theorem frame_back : Cert.quiescent_Back (hBack := Cert.Back.Gen.facts) :=
  fun m ρ _ => Cert.Back.Gen.frame m ρ
theorem frame_backIdeal : Cert.quiescent_BackIdeal (hBackIdeal := Cert.BackIdeal.Gen.facts) :=
  fun m ρ _ => Cert.BackIdeal.Gen.frame m ρ
theorem frame_backReference : Cert.quiescent_BackReferenceIdeal (hBackReferenceIdeal := Cert.BackReferenceIdeal.Gen.facts) :=
  fun m ρ _ => (θ_run Cert.BackReferenceIdeal.defs _ _).mono
    (fun r h => ⟨fun c => (h c).2.2, sem_eq_zero_of_no_sems (by decide) r.2⟩)
    (Cert.BackReferenceIdeal.Value.run (F := Ideal) m ρ)

/-! ### The reference -/

section Reference
open Cert.BackReferenceIdeal Cert.BackReferenceIdeal.Gen

variable (X : FVec Ideal S8192x1024 .f32) (A B : FVec Ideal S8192x512 .bf16) (W : FVec Ideal S1024x1024 .bf16)

/-- The reference's gradient of the branches -/
def refDy : FVec Ideal S8192x1024 .f32 :=
  Host.dotGeneral dot_S8192x1024_S1024x1024_S8192x1024_1_1_0_0_n_n none X (extf .f32 W bitsLt_bf16_f32)
/-- and of the weights. -/
def refDw : FVec Ideal S1024x1024 .f32 :=
  transpose S1024x1024 [1, 0] (Host.dotGeneral dot_S8192x1024_S8192x1024_S1024x1024_0_0_1_1_n_n none X
    (extf .f32 (concatenate S8192x1024 1 [⟨S8192x512, A⟩, ⟨S8192x512, B⟩] concatenates_S8192x512_S8192x512_S8192x1024_d1) bitsLt_bf16_f32))
    transposes_S1024x1024_S1024x1024_1_0

theorem refDy_apply (r : Fin 8192) (o : Fin 1024) : refDy X W (ix2 r o) = pulled (rowOf X r) W o := by
  pointwise [refDy, pulled]

theorem refDw_apply (o k : Fin 1024) :
    refDw X A B (ix2 o k) = ∑ r : Fin 8192, X (ix2 r k) * beside (fun q => A (ix2 r q)) (fun q => B (ix2 r q)) o := by
  pointwise [refDw, beside]

end Reference

/-! ### The claim -/

open Cert.BackIdeal Cert.BackIdeal.Gen

section Compare
variable (m : (ℓ : Loc nD τ sig) → Buf (Elt Ideal) ℓ) (c : Dev nD)

/-- The gradient of the branches, -/
theorem dy_eq : (dats m 0 c).arrAt 4 cfg0.N = refDy (argX m c) (argW m c) := by
  rw [arr_dy]
  funext y
  obtain ⟨r, o, rfl⟩ : ∃ (r : Fin 8192) (o : Fin 1024), y = ix2 r o := ⟨y 0, y 1, by funext a; fin_cases a <;> rfl⟩
  exact (refDy_apply _ _ r o).symm

/-- and of the weights. -/
theorem dw_eq : (dats m 0 c).arrAt 5 cfg0.N = refDw (argX m c) (argA m c) (argB m c) := by
  funext y
  obtain ⟨o, k, rfl⟩ : ∃ (o : Fin 1024) (k : Fin 1024), y = ix2 o k := ⟨y 0, y 1, by funext a; fin_cases a <;> rfl⟩
  refine (weights_eq m c o k).trans (Eq.trans ?_ (refDw_apply _ _ _ o k).symm)
  exact Finset.sum_congr (M := EReal) rfl fun r _ => mul_comm (G := EReal) _ _

end Compare

attribute [local instance] Cert.BackIdeal.Gen.facts Cert.BackReferenceIdeal.Gen.facts

theorem algebraic_back_reference : Cert.algebraic_BackIdeal_BackReferenceIdeal := by
  intro m g m' g' _ hm
  refine ⟨fun c => (dats m 0 c).arrAt 4 cfg0.N, fun c => (dats m 0 c).arrAt 5 cfg0.N, Cert.BackIdeal.Value.run_blocks m g, ?_⟩
  refine (θ_run Cert.BackReferenceIdeal.defs _ _).mono (fun r h c => ?_) (Cert.BackReferenceIdeal.Value.run (F := Ideal) m' g')
  obtain ⟨h0, h1, h2, h3⟩ := hm c
  refine ⟨(h c).1.trans ?_, (h c).2.1.trans ?_, (h c).2.2⟩
  · refine Eq.trans ?_ (dy_eq m c).symm
    rw [h0, h3]
    rfl
  · refine Eq.trans ?_ (dw_eq m c).symm
    rw [h0, h1, h2]
    rfl

end Cert.Proof.Back

end
-- ==== Proof.AttendTile.lean ====
/-
  The attention call, one block of rows: what the body computes of a block's query, of the keys and values of the block and of the
  block before, and of the sinks, head by head.
-/
module

public import proofs.«01_k».proof.Proof.LossValue
public import proofs.«01_k».proof.Proof.Gen.AttendIdeal.Value

@[expose] public section

set_option maxRecDepth 16384

noncomputable section

namespace Cert.Proof.Attending

open Cert.AttendIdeal Cert.AttendIdeal.Gen
open Idealize.ShloMosaic Idealize.ShloMosaic.TcCoe Idealize.ShloMosaic.Tactic
open Cert.Proof.Loss (word)

/-! ### One row of one head -/

/-- The largest score of a row, the sink among them, -/
def top (s : Fin 256 → Ideal .f32) (z : Ideal .f32) : Ideal .f32 := max (Finset.fold max (word 0xFF800000#32) s Finset.univ) z
/-- what the row's exponentials add up to, the sink's among them, -/
def mass (s : Fin 256 → Ideal .f32) (z : Ideal .f32) : Ideal .f32 := ∑ j, Ideal.exp (s j - top s z) + Ideal.exp (z - top s z)
/-- and the row's average of the values. -/
def average (s : Fin 256 → Ideal .f32) (z : Ideal .f32) (v : Fin 256 → Ideal .f32) : Ideal .f32 :=
  ∑ j, Ideal.exp (s j - top s z) * Ideal.div 1 (mass s z) * v j

/-- Row `i` of head `g` among the stacked rows. -/
abbrev stacked (g : Fin 4) (i : Fin 128) : Fin 512 := ⟨128 * g.val + i.val, by omega⟩

/-! ### The stacked rows of four heads -/

/-- The largest scores of the stacked rows, -/
def tops (s : FVec Ideal S512x256 .f32) (z : FVec Ideal S512x1 .f32) : FVec Ideal S512x1 .f32 :=
  maximumf (shapeCast S512x1 (multiReduction .maximumf [1] S512 s 0xFF800000#32 reduces_S512x256_S512 (.inl rfl) rfl) shapeCasts_S512_S512x1) z
/-- and their averages. -/
def averages (v : FVec Ideal S256x64 .bf16) (z : FVec Ideal S512x1 .f32) (s : FVec Ideal S512x256 .f32) : FVec Ideal S512x64 .f32 :=
  k0_pay18 v z s (tops s z) (broadcastTo S512x256 (tops s z) broadcasts_S512x1_S512x256)

theorem tops_apply (s : FVec Ideal S512x256 .f32) (z : FVec Ideal S512x1 .f32) (r : Fin 512) :
    tops s z (ix2 r 0) = top (fun j => s (ix2 r j)) (z (ix2 r 0)) := by
  pointwise [tops, top]

theorem averages_apply (v : FVec Ideal S256x64 .bf16) (z : FVec Ideal S512x1 .f32) (s : FVec Ideal S512x256 .f32) (r : Fin 512) (d : Fin 64) :
    averages v z s (ix2 r d) = average (fun j => s (ix2 r j)) (z (ix2 r 0)) (fun j => v (ix2 j d)) := by
  unfold average mass
  simp only [← tops_apply]
  unfold averages
  generalize tops s z = m
  pointwise [k0_pay18]

/-- The block's result: the heads side by side, times the gate. -/
def glue (ga : FVec Ideal S128x512 .f32) (o o' : FVec Ideal S512x64 .f32) : FVec Ideal S128x512 .bf16 :=
  truncf .bf16 (mulf (concatenate S128x512 1
    [⟨S128x64, extractStridedSlice S128x64 ![0, 0] o slices_S512x64_o0_0_S128x64⟩, ⟨S128x64, extractStridedSlice S128x64 ![128, 0] o slices_S512x64_o128_0_S128x64⟩,
     ⟨S128x64, extractStridedSlice S128x64 ![256, 0] o slices_S512x64_o256_0_S128x64⟩, ⟨S128x64, extractStridedSlice S128x64 ![384, 0] o slices_S512x64_o384_0_S128x64⟩,
     ⟨S128x64, extractStridedSlice S128x64 ![0, 0] o' slices_S512x64_o0_0_S128x64⟩, ⟨S128x64, extractStridedSlice S128x64 ![128, 0] o' slices_S512x64_o128_0_S128x64⟩,
     ⟨S128x64, extractStridedSlice S128x64 ![256, 0] o' slices_S512x64_o256_0_S128x64⟩, ⟨S128x64, extractStridedSlice S128x64 ![384, 0] o' slices_S512x64_o384_0_S128x64⟩]
    concatenates_S128x64_S128x64_S128x64_S128x64_S128x64_S128x64_S128x64_S128x64_S128x512_d1)
    (mulf ga (divf (broadcast S128x512 (Scalar.ofBits .f32 0x3F800000#32))
      (addf (broadcast S128x512 (Scalar.ofBits .f32 0x3F800000#32)) (exp (subf (broadcast S128x512 (Scalar.ofBits .f32 0x00000000#32)) ga)))))) bitsLt_bf16_f32

set_option maxHeartbeats 4000000 in
theorem glue_apply (ga : FVec Ideal S128x512 .f32) (o o' : FVec Ideal S512x64 .f32) (i : Fin 128) (h : Fin 2) (g : Fin 4) (d : Fin 64) (k : Fin 512)
    (hk : k.val = 256 * h.val + 64 * g.val + d.val) :
    glue ga o o' (ix2 i k) = (if h = 0 then o else o') (ix2 (stacked g i) d) * (ga (ix2 i k) * Ideal.div 1 (1 + Ideal.exp (0 - ga (ix2 i k)))) := by
  have hd := d.isLt
  pointwise [glue]
  refine congrArg₂ (fun u v : EReal => u * v) ?_ rfl
  fin_cases h <;> fin_cases g <;> simp at hk <;> split_ifs <;> first | omega | contradiction | skip
  all_goals first
    | refine congrArg o (congrArg₂ ix2 (Fin.ext ?_) (Fin.ext ?_)) <;> simp <;> omega
    | refine congrArg o' (congrArg₂ ix2 (Fin.ext ?_) (Fin.ext ?_)) <;> simp <;> omega

/-! ### The block -/

section Block
variable (i : grid0.Coords) (x : Vec Ideal S128x1280 .f32) (p : Vec Ideal S128x256 .f32) (z : Vec Ideal S8 .f32)

/-- The scores of the first key head's queries, -/
def scoresA : FVec Ideal S512x256 .f32 := k0_pay15 (k0_pay6 x p) (k0_pay8 x) k0_pay9 (k0_pay10 i) k0_pay11 k0_pay12 k0_pay13
/-- and of the second's; -/
def scoresB : FVec Ideal S512x256 .f32 := k0_pay26 (k0_pay19 p (k0_pay3 x)) (k0_pay21 (k0_pay2 x)) k0_pay22 (k0_pay23 (BitVec.ofNat 32 (i 0).val)) k0_pay24
/-- the sinks of the first four heads, -/
def sinksA : FVec Ideal S512x1 .f32 := k0_pay14 (z (ix1 0)) (z (ix1 1)) (z (ix1 2)) (z (ix1 3))
/-- and of the others; -/
def sinksB : FVec Ideal S512x1 .f32 := k0_pay25 (z (ix1 4)) (z (ix1 5)) (z (ix1 6)) (z (ix1 7))
/-- the block's result. -/
def tile : FVec Ideal S128x512 .bf16 :=
  glue (k0_pay5 x) (averages (k0_pay7 x p) (sinksA z) (scoresA i x p)) (averages (k0_pay20 p (k0_pay4 x)) (sinksB z) (scoresB i x p))

theorem origin : (![0, 0] : Fin 2 → Nat) = fun _ => 0 := by decide

theorem out_tile (c : Dev nD) (a1 : Memref sig .tc .vmem S128x1280 .f32) (h1 : a1.IsWhole) (a2 : Memref sig .tc .vmem S128x256 .f32) (h2 : a2.IsWhole)
    (a3 : Memref sig .tc .smem S8 .f32) (h3 : a3.IsWhole) (a4 : Memref sig .tc .vmem S128x512 .bf16) (h4 : a4.IsWhole) :
    out0_A_3 c i a1 h1 a2 h2 a3 h3 a4 h4 x p z = tile i x p z := by
  unfold out0_A_3
  rw [View.read_writes_eq_canon _ _ _ (cover0_A_3 c i a1 h1 a2 h2 a3 h3 a4 h4 x p z)]
  unfold kernelRun0_A
  dsimp only
  sl_unfold_words
  rw [View.canon_unit_zero origin]
  simp only [View.readAt_eq_ld, h1.read_unread, h2.read_unread, h3.read_unread, h4.read_unread, View.ld_unit_zero (S := S128x1280) origin,
    View.ld_unit_zero (S := S128x256) origin, shapeCast_self]
  have e : ∀ (j : ℕ) (hj : j < 8) hb hn, View.ld z (Rect.unit (s := S8) ![j] S1.size hb) (Shape.Idx.first hn) = z (ix1 ⟨j, hj⟩) := fun j hj hb hn =>
    congrArg z (by funext a; fin_cases a; rfl)
  rw [show View.ld z (Rect.unit (s := S8) ![0] S1.size inb_S8_S1_0) (Shape.Idx.first _) = z (ix1 0) from e 0 (by decide) _ _,
    show View.ld z (Rect.unit (s := S8) ![1] S1.size inb_S8_S1_1) (Shape.Idx.first _) = z (ix1 1) from e 1 (by decide) _ _,
    show View.ld z (Rect.unit (s := S8) ![2] S1.size inb_S8_S1_2) (Shape.Idx.first _) = z (ix1 2) from e 2 (by decide) _ _,
    show View.ld z (Rect.unit (s := S8) ![3] S1.size inb_S8_S1_3) (Shape.Idx.first _) = z (ix1 3) from e 3 (by decide) _ _,
    show View.ld z (Rect.unit (s := S8) ![4] S1.size inb_S8_S1_4) (Shape.Idx.first _) = z (ix1 4) from e 4 (by decide) _ _,
    show View.ld z (Rect.unit (s := S8) ![5] S1.size inb_S8_S1_5) (Shape.Idx.first _) = z (ix1 5) from e 5 (by decide) _ _,
    show View.ld z (Rect.unit (s := S8) ![6] S1.size inb_S8_S1_6) (Shape.Idx.first _) = z (ix1 6) from e 6 (by decide) _ _,
    show View.ld z (Rect.unit (s := S8) ![7] S1.size inb_S8_S1_7) (Shape.Idx.first _) = z (ix1 7) from e 7 (by decide) _ _]
  rfl

/-! ### The words -/

theorem row_word : ∀ (g : Fin 4) (r : Fin 128), IntOp.andi (BitVec.ofNat 32 (128 * g.val + r.val)) 127#32 = BitVec.ofNat 32 r.val := by decide +kernel
theorem head_word : ∀ (g : Fin 4) (r : Fin 128), IntOp.shrui ArithUnit.vector (BitVec.ofNat 32 (128 * g.val + r.val)) 7#32 = BitVec.ofNat 32 g.val := by decide +kernel
theorem later_word : ∀ n : Fin 64, Scalar.xori (Scalar.cmpi .eq (BitVec.ofNat 32 n.val) 0#32) 1#1 = IntOp.cmpi .sgt (BitVec.ofNat 32 n.val) 0#32 := by decide +kernel

/-- How far a row's position lies behind key `s`, -/
def behind (r : Fin 128) (s : Fin 256) : BitVec 32 := IntOp.subi (IntOp.addi 128#32 (BitVec.ofNat 32 r.val)) (BitVec.ofNat 32 s.val)
/-- and whether the row sees the key. -/
def sees (n : Fin 64) (r : Fin 128) (s : Fin 256) : BitVec 1 :=
  IntOp.andi (IntOp.andi (IntOp.cmpi .sge (behind r s) 0#32) (IntOp.cmpi .slt (behind r s) 128#32))
    (IntOp.ori (IntOp.cmpi .sgt (BitVec.ofNat 32 n.val) 0#32) (IntOp.cmpi .sge (BitVec.ofNat 32 s.val) 128#32))

theorem pick_word (g : Fin 4) {α : Type} (a : Fin 4 → α) :
    Scalar.select (IntOp.cmpi .eq (BitVec.ofNat 32 g.val) 0#32) (a 0) (Scalar.select (IntOp.cmpi .eq (BitVec.ofNat 32 g.val) 1#32) (a 1)
      (Scalar.select (IntOp.cmpi .eq (BitVec.ofNat 32 g.val) 2#32) (a 2) (a 3))) = a g := by
  fin_cases g <;> rfl

theorem mask_word : (Named.named κ "mask" 0xF149F2CA#32 : Ideal .f32) = (⊥ : EReal) :=
  IdealRules.named_const.ideal_named_scalar _ _ _ _ rfl

/-- The slopes of the first four heads, -/
def slopesA (g : Fin 4) : Ideal .f32 := word (![0x3F000000#32, 0x3E800000#32, 0x3E000000#32, 0x3D800000#32] g)
/-- and of the others. -/
def slopesB (g : Fin 4) : Ideal .f32 := word (![0x3D000000#32, 0x3C800000#32, 0x3C000000#32, 0x3B800000#32] g)

/-- The score of a query at a key. -/
def score (q k : Fin 64 → Ideal .f32) (slope : Ideal .f32) (r : Fin 128) (s : Fin 256) : Ideal .f32 :=
  (∑ d, q d * k d) * word 0x3E000000#32 - slope * FloatOps.sitofp .f32 (behind r s)

/-- A key or a value, from column `b` on, of the block before or of the block. -/
def pairOf (b : Fin 193) (s : Fin 256) (d : Fin 64) : Ideal .f32 :=
  if h : s.val < 128 then p (ix2 ⟨s.val, h⟩ ⟨b.val + d.val, by omega⟩) else x (ix2 ⟨s.val - 128, by omega⟩ ⟨512 + (b.val + d.val), by omega⟩)

theorem sinksA_apply (g : Fin 4) (r : Fin 128) : sinksA z (ix2 (stacked g r) 0) = z (ix1 ⟨g.val, by omega⟩) := by
  pointwise [sinksA, k0_pay14]
  rw [head_word]
  exact pick_word g fun g => z (ix1 ⟨g.val, by omega⟩)
theorem sinksB_apply (g : Fin 4) (r : Fin 128) : sinksB z (ix2 (stacked g r) 0) = z (ix1 ⟨4 + g.val, by omega⟩) := by
  pointwise [sinksB, k0_pay25]
  rw [head_word]
  exact pick_word g fun g => z (ix1 ⟨4 + g.val, by omega⟩)

theorem ori_swap : ∀ a b : BitVec 1, IntOp.ori a b = IntOp.ori b a := by decide

theorem scoresA_apply (n : Fin 64) (hn : (i 0).val = n.val) (g : Fin 4) (r : Fin 128) (s : Fin 256) :
    scoresA i x p (ix2 (stacked g r) s) = Scalar.select (sees n r s)
      (score (fun d => k0_pay8 x (ix2 (stacked g r) d)) (fun d => k0_pay6 x p (ix2 s d)) (slopesA g) r s) (⊥ : EReal) := by
  unfold scoresA
  generalize k0_pay8 x = q
  generalize k0_pay6 x p = k
  pointwise [k0_pay15, k0_pay9, k0_pay10, k0_pay11, k0_pay12, k0_pay13]
  rw [head_word, row_word, mask_word, hn, later_word, ori_swap]
  exact congrArg (fun u : Ideal .f32 => Scalar.select (sees n r s) (score (fun d => q (ix2 (stacked g r) d)) (fun d => k (ix2 s d)) u r s) (⊥ : EReal))
    (pick_word g slopesA)

theorem scoresB_apply (n : Fin 64) (hn : (i 0).val = n.val) (g : Fin 4) (r : Fin 128) (s : Fin 256) :
    scoresB i x p (ix2 (stacked g r) s) = Scalar.select (sees n r s)
      (score (fun d => k0_pay21 (k0_pay2 x) (ix2 (stacked g r) d)) (fun d => k0_pay19 p (k0_pay3 x) (ix2 s d)) (slopesB g) r s) (⊥ : EReal) := by
  unfold scoresB
  generalize k0_pay21 (k0_pay2 x) = q
  generalize k0_pay19 p (k0_pay3 x) = k
  pointwise [k0_pay26, k0_pay22, k0_pay23, k0_pay24]
  rw [head_word, row_word, mask_word, hn, later_word, ori_swap]
  exact congrArg (fun u : Ideal .f32 => Scalar.select (sees n r s) (score (fun d => q (ix2 (stacked g r) d)) (fun d => k (ix2 s d)) u r s) (⊥ : EReal))
    (pick_word g slopesB)

theorem keysA_apply (s : Fin 256) (d : Fin 64) : k0_pay6 x p (ix2 s d) = pairOf x p 0 s d := by
  pointwise [k0_pay6, k0_pay3, pairOf]
theorem valuesA_apply (s : Fin 256) (d : Fin 64) : k0_pay7 x p (ix2 s d) = pairOf x p 128 s d := by
  pointwise [k0_pay7, k0_pay4, pairOf]
  exact dite_congr rfl (fun _ => rfl) fun _ => congrArg x (congrArg₂ ix2 rfl (Fin.ext (by show 640 + d.val = 512 + (128 + d.val); omega)))
theorem keysB_apply (s : Fin 256) (d : Fin 64) : k0_pay19 p (k0_pay3 x) (ix2 s d) = pairOf x p 64 s d := by
  pointwise [k0_pay19, k0_pay3, pairOf]
theorem valuesB_apply (s : Fin 256) (d : Fin 64) : k0_pay20 p (k0_pay4 x) (ix2 s d) = pairOf x p 192 s d := by
  pointwise [k0_pay20, k0_pay4, pairOf]
  exact dite_congr rfl (fun _ => rfl) fun _ => congrArg x (congrArg₂ ix2 rfl (Fin.ext (by show 640 + (64 + d.val) = 512 + (192 + d.val); omega)))
theorem gate_apply (r : Fin 128) (k : Fin 512) : k0_pay5 x (ix2 r k) = x (ix2 r ⟨768 + k.val, by omega⟩) := by
  pointwise [k0_pay5]

theorem queryA_apply (g : Fin 4) (r : Fin 128) (d : Fin 64) : k0_pay8 x (ix2 (stacked g r) d) = x (ix2 r ⟨64 * g.val + d.val, by omega⟩) := by
  have hr := r.isLt
  pointwise [k0_pay8, k0_pay2]
  fin_cases g <;> simp <;> split_ifs <;> first | omega | skip
  all_goals refine congrArg x (congrArg₂ ix2 (Fin.ext ?_) (Fin.ext ?_)) <;> simp <;> omega
theorem queryB_apply (g : Fin 4) (r : Fin 128) (d : Fin 64) :
    k0_pay21 (k0_pay2 x) (ix2 (stacked g r) d) = x (ix2 r ⟨256 + (64 * g.val + d.val), by omega⟩) := by
  have hr := r.isLt
  pointwise [k0_pay21, k0_pay2]
  fin_cases g <;> simp <;> split_ifs <;> first | omega | skip
  all_goals refine congrArg x (congrArg₂ ix2 (Fin.ext ?_) (Fin.ext ?_)) <;> simp <;> omega

end Block

end Cert.Proof.Attending

end
-- ==== Proof.AttendMath.lean ====
/-
  The attention's softmax: with real scores and real sinks the kernel's average, of exponentials times the reciprocal of their sum,
  is the reference's average of shares, whatever stands at the keys that a row does not see.
-/
module

public import proofs.«01_k».proof.Proof.AttendTile

@[expose] public section

noncomputable section

namespace Cert.Proof.Attending

open Idealize.ShloMosaic Idealize.ShloMosaic.Tactic
open Cert.Proof.Loss (word)

theorem word_bot : word 0xFF800000#32 = (⊥ : EReal) := by
  show Ideal.ofBits .f32 _ = _
  simp [Ideal.ofBits, Ideal.ieee]
theorem word_eighth : word 0x3E000000#32 = ((1 / 8 : ℝ) : EReal) := by
  show Ideal.ofBits .f32 _ = _
  simp [Ideal.ofBits, Ideal.ieee, -EReal.coe_mul]; norm_num

/-- A value that is a real number. -/
def Real_ (x : EReal) : Prop := ∃ r : ℝ, x = r

theorem Real_.mul {x y : EReal} : Real_ x → Real_ y → Real_ (x * y) := fun ⟨a, ha⟩ ⟨b, hb⟩ => ⟨a * b, by rw [ha, hb, EReal.coe_mul]⟩
theorem Real_.sub {x y : EReal} : Real_ x → Real_ y → Real_ (x - y) := fun ⟨a, ha⟩ ⟨b, hb⟩ => ⟨a - b, by rw [ha, hb, EReal.coe_sub]⟩
theorem Real_.sum {n : ℕ} {f : Fin n → EReal} (h : ∀ i, Real_ (f i)) : Real_ (∑ i, f i) := by
  choose g hg using h
  refine ⟨∑ i, g i, ?_⟩
  rw [Finset.sum_congr rfl fun i _ => hg i]
  induction n with
  | zero => simp
  | succ n ih =>
    rw [Fin.sum_univ_castSucc, Fin.sum_univ_castSucc, EReal.coe_add]
    exact congrArg (· + _) (ih (f := fun i => f i.castSucc) (g := fun i => g i.castSucc) fun i => hg _)
theorem Real_.ne_top {x : EReal} : Real_ x → x ≠ ⊤ := by rintro ⟨r, rfl⟩; exact EReal.coe_ne_top r
theorem Real_.ne_bot {x : EReal} : Real_ x → x ≠ ⊥ := by rintro ⟨r, rfl⟩; exact EReal.coe_ne_bot r

theorem top_ne_top (s : Fin 256 → EReal) (z : EReal) (hs : ∀ j, s j ≠ ⊤) (hz : z ≠ ⊤) : top s z ≠ ⊤ := by
  unfold top
  rw [word_bot]
  refine ne_of_lt (max_lt ?_ (lt_top_iff_ne_top.mpr hz))
  rw [Finset.fold_max_lt]
  exact ⟨by simp, fun j _ => lt_top_iff_ne_top.mpr (hs j)⟩

theorem exp_nonneg (x : EReal) : 0 ≤ Ideal.exp x := by
  induction x with
  | bot => exact le_refl _
  | top => exact le_top
  | coe r => exact EReal.coe_nonneg.mpr (Real.exp_pos r).le
theorem exp_pos {x : EReal} (h : x ≠ ⊥) : 0 < Ideal.exp x := by
  induction x with
  | bot => exact absurd rfl h
  | top => exact EReal.zero_lt_top
  | coe r => exact EReal.coe_pos.mpr (Real.exp_pos r)

theorem real_sub_ne_bot (r : ℝ) (t : EReal) (ht : t ≠ ⊤) : (r : EReal) - t ≠ ⊥ := by
  induction t with
  | bot => simp
  | top => exact absurd rfl ht
  | coe t => exact EReal.coe_ne_bot (r - t)

theorem mass_ne_zero (s : Fin 256 → EReal) (z : EReal) (hs : ∀ j, s j ≠ ⊤) (hz : Real_ z) : mass s z ≠ 0 := by
  unfold mass
  obtain ⟨r, rfl⟩ := hz
  have ht : top s r ≠ (⊤ : EReal) := top_ne_top s r hs (EReal.coe_ne_top r)
  have h := exp_pos (real_sub_ne_bot r (top s r) ht)
  have h' : (0 : EReal) ≤ ∑ j, Ideal.exp (s j - top s r) := Finset.sum_nonneg fun j _ => exp_nonneg _
  exact ne_of_gt (lt_of_lt_of_le h (le_add_of_nonneg_left (α := EReal) h'))

/-- The scores and the sink after them. -/
def withSink (s : Fin 256 → EReal) (z : EReal) (j : Fin 257) : EReal := if h : j.val < 256 then s ⟨j.val, h⟩ else z

theorem top_withSink (s : Fin 256 → EReal) (z : EReal) :
    max (word 0xFF800000#32 : EReal) (Finset.fold max (word 0xFF800000#32 : EReal) (withSink s z) Finset.univ) = top s z := by
  unfold top
  rw [word_bot, max_eq_right bot_le]
  apply le_antisymm
  · rw [Finset.fold_max_le]
    refine ⟨bot_le, fun j _ => ?_⟩
    unfold withSink
    split_ifs with h
    · exact le_max_of_le_left (Finset.le_fold_max _ |>.mpr (Or.inr ⟨_, Finset.mem_univ _, le_refl _⟩))
    · exact le_max_right _ _
  · refine max_le ?_ ?_
    · rw [Finset.fold_max_le]
      exact ⟨bot_le, fun j _ => Finset.le_fold_max _ |>.mpr (Or.inr ⟨j.castSucc, Finset.mem_univ _, by simp [withSink]⟩)⟩
    · exact Finset.le_fold_max _ |>.mpr (Or.inr ⟨Fin.last 256, Finset.mem_univ _, by simp [withSink]⟩)

theorem mass_withSink (s : Fin 256 → EReal) (z t : EReal) :
    ∑ j, Ideal.exp (withSink s z j - t) = ∑ j, Ideal.exp (s j - t) + Ideal.exp (z - t) := by
  rw [Fin.sum_univ_castSucc (M := EReal)]
  simp [withSink]

theorem bot_sub_ (t : EReal) : (⊥ : EReal) - t = ⊥ := by rw [sub_eq_add_neg, EReal.bot_add]

/-- The average is the reference's, whatever the values at the keys that are not seen. -/
theorem average_eq (M : Fin 256 → BitVec 1) (a b : Fin 256 → EReal) (z : EReal) (v w : Fin 256 → EReal)
    (hab : ∀ j, M j = 1#1 → a j = b j) (hvw : ∀ j, M j = 1#1 → v j = w j) (hb : ∀ j, b j ≠ ⊤) (hz : Real_ z) :
    average (fun j => Scalar.select (M j) (a j) ⊥) z v
      = ∑ j : Fin 256, w j * Ideal.div (Ideal.exp (Scalar.select (M j) (b j) ⊥ - top (fun j => Scalar.select (M j) (b j) ⊥) z))
          (mass (fun j => Scalar.select (M j) (b j) ⊥) z) := by
  have hM : ∀ j, M j = 1#1 ∨ M j = 0#1 := fun j => by generalize M j = u; revert u; decide
  have hs : (fun j => Scalar.select (M j) (a j) (⊥ : EReal)) = fun j => Scalar.select (M j) (b j) ⊥ := by
    funext j
    rcases hM j with h | h
    · rw [hab j h]
    · rw [h]; rfl
  have ht : ∀ j, Scalar.select (M j) (b j) (⊥ : EReal) ≠ ⊤ := fun j => by
    rcases hM j with h | h
    · rw [h]; exact hb j
    · rw [h]; exact bot_ne_top
  unfold average
  rw [hs]
  refine Finset.sum_congr rfl fun j _ => ?_
  have hm := mass_ne_zero _ z ht hz
  generalize mass (fun j => Scalar.select (M j) (b j) (⊥ : EReal)) z = S at hm
  generalize top (fun j => Scalar.select (M j) (b j) (⊥ : EReal)) z = t
  unfold Ideal.div
  rw [if_neg hm, if_neg hm, one_mul, mul_comm]
  rcases hM j with h | h
  · rw [hvw j h]
  · have he : Ideal.exp (Scalar.select (M j) (b j) (⊥ : EReal) - t) = 0 := by rw [h]; show Ideal.exp ((⊥ : EReal) - t) = 0; rw [bot_sub_]; rfl
    rw [he]; simp

theorem score_eq (q k : Fin 64 → EReal) :
    (∑ d, q d * k d) * (word 0x3E000000#32 : EReal) = ∑ d, k d * (q d * word 0x3E000000#32) := by
  rw [word_eighth, mul_comm, ← Cert.Proof.Loss.scale_sum_eq _ (by norm_num)]
  refine Finset.sum_congr rfl fun d _ => ?_
  rw [mul_comm, mul_assoc, mul_left_comm]

end Cert.Proof.Attending

end
-- ==== Proof.AttendRef.lean ====
/-
  The reference's attention, read at one row and one column: the scores of its four axes, the sink as one more column, the softmax and
  the average of the values, times the gate.
-/
module

public import proofs.«01_k».proof.Proof.AttendMath
public import proofs.«01_k».proof.Proof.Gen.AttendReferenceIdeal.Run

@[expose] public section

set_option maxRecDepth 16384

noncomputable section

namespace Cert.Proof.Attending

open Idealize.ShloMosaic Idealize.ShloMosaic.TcCoe Idealize.ShloMosaic.Tactic
open Cert.Proof.Loss (word)
open Cert.AttendReferenceIdeal Cert.AttendReferenceIdeal.Gen

/-! ### The pieces -/

variable (X : FVec Ideal S8192x2560 .f32) (Z : FVec Ideal S8 .f32)

/-- The keys, or the values, by block and head, -/
def heads (at_ : FVec Ideal S8192x128 .f32) : FVec Ideal S64x128x2x64 .f32 := shapeCast _ at_ shapeCasts_S8192x128_S64x128x2x64
/-- each block behind the block before it; -/
def pairs (K : FVec Ideal S64x128x2x64 .f32) : FVec Ideal S64x256x2x64 .f32 :=
  concatenate S64x256x2x64 1 [⟨S64x128x2x64, (concatenate S64x128x2x64 0 [⟨S1x128x2x64, (broadcastInDim S1x128x2x64 ![] bcast_S_S1x128x2x64 (constant S_ .f32 0x00000000#32))⟩, ⟨S63x128x2x64, (extractStridedSlice S63x128x2x64 ![0, 0, 0, 0] K slices_S64x128x2x64_S63x128x2x64_0_0_0_0)⟩] concatenates_S1x128x2x64_S63x128x2x64_S64x128x2x64_d0)⟩, ⟨S64x128x2x64, K⟩] concatenates_S64x128x2x64_S64x128x2x64_S64x256x2x64_d1
/-- each query's products with its keys, -/
def prods (K : FVec Ideal S64x256x2x64 .f32) (Q : FVec Ideal S64x128x2x4x64 .f32) : FVec Ideal S64x2x4x128x256 .f32 :=
  transpose S64x2x4x128x256 [0, 1, 4, 3, 2] (Host.dotGeneral dot_S64x256x2x64_S64x128x2x4x64_S64x2x256x128x4_3_4_1_13_02_02 none K Q) transposes_S64x2x256x128x4_S64x2x4x128x256_0_1_4_3_2
/-- the queries, by block and head, scaled; -/
def queries : FVec Ideal S64x128x2x4x64 .f32 := mulf (shapeCast _ (extractStridedSlice S8192x512 ![0, 1280] X slices_S8192x2560_S8192x512_0_1280) shapeCasts_S8192x512_S64x128x2x4x64) (broadcastInDim S64x128x2x4x64 ![] bcast_S_S64x128x2x4x64 (constant S_ .f32 0x3E000000#32))
/-- the heads' averages of the values, side by side; -/
def joins (P : FVec Ideal S64x2x4x128x256 .f32) (V : FVec Ideal S64x256x2x64 .f32) : FVec Ideal S8192x512 .f32 :=
  shapeCast _ (transpose S64x128x2x4x64 [0, 4, 1, 3, 2] (Host.dotGeneral dot_S64x256x2x64_S64x2x4x128x256_S64x2x64x4x128_1_4_3_23_02_01 none V P) transposes_S64x2x64x4x128_S64x128x2x4x64_0_4_1_3_2) shapeCasts_S64x128x2x4x64_S8192x512
/-- how far a row lies behind a key, -/
def far : IVec S1x128x256 32 := (subi (broadcastInDim S1x128x256 ![0, 1, 2] bcast_S1x128x1_S1x128x256_0_1_2 (addi (broadcastInDim S1x128x1 ![] bcast_S_S1x128x1 (constantI S_ 32 128#32)) (broadcastInDim S1x128x1 ![1] bcast_S128_S1x128x1_1 (iotaInDim S128 32 0)))) (broadcastInDim S1x128x256 ![0, 1, 2] bcast_S1x1x256_S1x128x256_0_1_2 (broadcastInDim S1x1x256 ![2] bcast_S256_S1x1x256_2 (iotaInDim S256 32 0))))
/-- whether it sees the key -/
def seen : IVec S64x2x4x128x256 1 := (broadcastInDim S64x2x4x128x256 ![0, 1, 2, 3, 4] bcast_S64x1x1x128x256_S64x2x4x128x256_0_1_2_3_4 (broadcastInDim S64x1x1x128x256 ![0, 3, 4] bcast_S64x128x256_S64x1x1x128x256_0_3_4 (andi (broadcastInDim S64x128x256 ![0, 1, 2] bcast_S1x128x256_S64x128x256_0_1_2 (andi (cmpi .sge far (broadcastInDim S1x128x256 ![] bcast_S_S1x128x256 (constantI S_ 32 0#32))) (cmpi .slt far (broadcastInDim S1x128x256 ![] bcast_S_S1x128x256 (constantI S_ 32 128#32))))) (broadcastInDim S64x128x256 ![0, 1, 2] bcast_S64x1x256_S64x128x256_0_1_2 (ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32)))) (broadcastInDim S64x1x256 ![0, 1, 2] bcast_S1x1x256_S64x1x256_0_1_2 (cmpi .sge (broadcastInDim S1x1x256 ![2] bcast_S256_S1x1x256_2 (iotaInDim S256 32 0)) (broadcastInDim S1x1x256 ![] bcast_S_S1x1x256 (constantI S_ 32 128#32)))))))))
/-- and how much that takes from the score; -/
def leans : FVec Ideal S64x2x4x128x256 .f32 := (broadcastInDim S64x2x4x128x256 ![0, 1, 2, 3, 4] bcast_S1x2x4x128x256_S64x2x4x128x256_0_1_2_3_4 (mulf (broadcastInDim S1x2x4x128x256 ![0, 1, 2, 3, 4] bcast_S1x2x4x1x1_S1x2x4x128x256_0_1_2_3_4 (shapeCast _ ((fun i => FloatOps.ofBits .f32 (lit0 (S8.rowMajor i)))) shapeCasts_S8_S1x2x4x1x1)) (broadcastInDim S1x2x4x128x256 ![0, 1, 2, 3, 4] bcast_S1x1x1x128x256_S1x2x4x128x256_0_1_2_3_4 (sitofp .f32 (broadcastInDim S1x1x1x128x256 ![0, 3, 4] bcast_S1x128x256_S1x1x1x128x256_0_3_4 far)))))
/-- the scores, the sinks after them, -/
def scores : FVec Ideal S64x2x4x128x257 .f32 := concatenate S64x2x4x128x257 4 [⟨S64x2x4x128x256, (select seen (subf (prods (pairs (heads (extractStridedSlice S8192x128 ![0, 1792] X slices_S8192x2560_S8192x128_0_1792))) (queries X)) leans) (broadcastInDim S64x2x4x128x256 ![] bcast_S_S64x2x4x128x256 (id (constant S_ .f32 0xFF800000#32))))⟩, ⟨S64x2x4x128x1, (broadcastInDim S64x2x4x128x1 ![0, 1, 2, 3, 4] bcast_S1x2x4x1x1_S64x2x4x128x1_0_1_2_3_4 (shapeCast _ Z shapeCasts_S8_S1x2x4x1x1))⟩] concatenates_S64x2x4x128x256_S64x2x4x128x1_S64x2x4x128x257_d4
/-- the largest of each row, -/
def most (S : FVec Ideal S64x2x4x128x257 .f32) : FVec Ideal S64x2x4x128 .f32 := Host.reduce FloatOps.maximumf S (constant S_ .f32 0xFF800000#32) reducesTo_S64x2x4x128x257_S64x2x4x128_d4 h_S_
/-- no less than minus infinity, -/
def largest (T : FVec Ideal S64x2x4x128 .f32) : FVec Ideal S64x2x4x128 .f32 := maximumf (broadcastInDim S64x2x4x128 ![] bcast_S_S64x2x4x128 (constant S_ .f32 0xFF800000#32)) T
/-- at every column, -/
def along (T : FVec Ideal S64x2x4x128 .f32) : FVec Ideal S64x2x4x128x257 .f32 := (broadcastInDim S64x2x4x128x257 ![0, 1, 2, 3, 4] bcast_S64x2x4x128x1_S64x2x4x128x257_0_1_2_3_4 (broadcastInDim S64x2x4x128x1 ![0, 1, 2, 3] bcast_S64x2x4x128_S64x2x4x128x1_0_1_2_3 T))
/-- taken off -/
def peak (S : FVec Ideal S64x2x4x128x257 .f32) : FVec Ideal S64x2x4x128x257 .f32 := along (largest (most S))
/-- the exponentials -/
def expo (S : FVec Ideal S64x2x4x128x257 .f32) : FVec Ideal S64x2x4x128x257 .f32 := Host.exp (subf S (peak S))
/-- and the shares, the sink's left out; -/
def probs (E : FVec Ideal S64x2x4x128x257 .f32) : FVec Ideal S64x2x4x128x256 .f32 :=
  extractStridedSlice S64x2x4x128x256 ![0, 0, 0, 0, 0] (Host.divf E (broadcastInDim S64x2x4x128x257 ![0, 1, 2, 3, 4] bcast_S64x2x4x128x1_S64x2x4x128x257_0_1_2_3_4 (broadcastInDim S64x2x4x128x1 ![0, 1, 2, 3] bcast_S64x2x4x128_S64x2x4x128x1_0_1_2_3 (Host.reduceAdd E (constant S_ .f32 0x00000000#32) reducesTo_S64x2x4x128x257_S64x2x4x128_d4 h_S_)))) slices_S64x2x4x128x257_S64x2x4x128x256_0_0_0_0_0
/-- the gate times its sigmoid; -/
def gates : FVec Ideal S8192x512 .f32 := (mulf (extractStridedSlice S8192x512 ![0, 2048] X slices_S8192x2560_S8192x512_0_2048) (Host.divf (broadcastInDim S8192x512 ![] bcast_S_S8192x512 (constant S_ .f32 0x3F800000#32)) (addf (broadcastInDim S8192x512 ![] bcast_S_S8192x512 (constant S_ .f32 0x3F800000#32)) (Host.exp (Host.negf (extractStridedSlice S8192x512 ![0, 2048] X slices_S8192x2560_S8192x512_0_2048))))))
/-- the reference's result. -/
def refAttend : FVec Ideal S8192x512 .bf16 := truncf .bf16 (mulf (joins (probs (expo (scores X Z))) (pairs (heads (extractStridedSlice S8192x128 ![0, 1920] X slices_S8192x2560_S8192x128_0_1920)))) (gates X)) bitsLt_bf16_f32

theorem res_eq (m : (ℓ : Loc nD τ sig) → Buf (Elt Ideal) ℓ) (c : Dev nD) : Value.res_main_v74 m c = refAttend (m ((c.tc : Thread nD τ).loc main_arg0)) (m ((c.tc : Thread nD τ).loc main_arg1)) := rfl

/-! ### Read at an index -/

theorem most_apply (S : FVec Ideal S64x2x4x128x257 .f32) (n : Fin 64) (h : Fin 2) (g : Fin 4) (i : Fin 128) :
    most S (ix4 n h g i) = Finset.fold max (word 0xFF800000#32) (fun j => S (ix5 n h g i j)) Finset.univ := by
  pointwise [most]
theorem largest_apply (T : FVec Ideal S64x2x4x128 .f32) (n : Fin 64) (h : Fin 2) (g : Fin 4) (i : Fin 128) :
    largest T (ix4 n h g i) = max (word 0xFF800000#32) (T (ix4 n h g i)) := by
  pointwise [largest]
theorem along_apply (T : FVec Ideal S64x2x4x128 .f32) (n : Fin 64) (h : Fin 2) (g : Fin 4) (i : Fin 128) (s : Fin 257) :
    along T (ix5 n h g i s) = T (ix4 n h g i) := by
  pointwise [along]
theorem expo_apply (S : FVec Ideal S64x2x4x128x257 .f32) (n : Fin 64) (h : Fin 2) (g : Fin 4) (i : Fin 128) (s : Fin 257) :
    expo S (ix5 n h g i s) = Ideal.exp (S (ix5 n h g i s) -
      max (word 0xFF800000#32) (Finset.fold max (word 0xFF800000#32) (fun j => S (ix5 n h g i j)) Finset.univ)) := by
  rw [← most_apply, ← largest_apply, ← along_apply (largest (most S)) n h g i s]
  rfl

/-- Row `i` of block `n`. -/
abbrev rowAt (n : Fin 64) (i : Fin 128) : Fin 8192 := ⟨n.val * 128 + i.val, by omega⟩
/-- Column `d` of head `g` of key head `h`. -/
abbrev colAt (h : Fin 2) (g : Fin 4) (d : Fin 64) : Fin 512 := ⟨h.val * 256 + g.val * 64 + d.val, by omega⟩

/-- A key or a value, from column `b` on, of the block before or of the block. -/
def keyOf (b : Fin 2433) (n : Fin 64) (h : Fin 2) (s : Fin 256) (d : Fin 64) : Ideal .f32 :=
  if hs : s.val < 128 then
    if hn : n.val < 1 then (0 : EReal) else X (ix2 ⟨(n.val - 1) * 128 + s.val, by omega⟩ ⟨b.val + (h.val * 64 + d.val), by omega⟩)
  else X (ix2 ⟨n.val * 128 + (s.val - 128), by omega⟩ ⟨b.val + (h.val * 64 + d.val), by omega⟩)

/-- The score of a query at a key, -/
def refScore (n : Fin 64) (h : Fin 2) (g : Fin 4) (i : Fin 128) (s : Fin 256) : Ideal .f32 :=
  ∑ d, keyOf X 1792 n h s d * (X (ix2 (rowAt n i) ⟨1280 + (colAt h g d).val, by omega⟩) * word 0x3E000000#32)
    - word (lit0 ⟨h.val * 4 + g.val, by omega⟩) * FloatOps.sitofp .f32 (behind i s)
/-- minus infinity where the row does not see the key. -/
def refRow (n : Fin 64) (h : Fin 2) (g : Fin 4) (i : Fin 128) (s : Fin 256) : EReal :=
  Scalar.select (sees n i s) (refScore X n h g i s) (⊥ : EReal)

theorem heads_apply (K : FVec Ideal S8192x128 .f32) (n : Fin 64) (s : Fin 128) (h : Fin 2) (d : Fin 64) :
    heads K (ix4 n s h d) = K (ix2 (rowAt n s) ⟨h.val * 64 + d.val, by omega⟩) := by
  pointwise [heads]
theorem pairs_apply (K : FVec Ideal S64x128x2x64 .f32) (n : Fin 64) (s : Fin 256) (h : Fin 2) (d : Fin 64) :
    pairs K (ix4 n s h d) = if hs : s.val < 128 then (if hn : n.val < 1 then (0 : EReal) else K (ix4 ⟨n.val - 1, by omega⟩ ⟨s.val, hs⟩ h d))
      else K (ix4 n ⟨s.val - 128, by omega⟩ h d) := by
  pointwise [pairs]
theorem keys_apply (n : Fin 64) (s : Fin 256) (h : Fin 2) (d : Fin 64) :
    pairs (heads (extractStridedSlice S8192x128 ![0, 1792] X slices_S8192x2560_S8192x128_0_1792)) (ix4 n s h d) = keyOf X 1792 n h s d := by
  rw [pairs_apply]
  unfold keyOf
  simp only [heads_apply]
  refine dite_congr rfl (fun _ => dite_congr rfl (fun _ => rfl) fun _ => ?_) fun _ => ?_ <;> pointwise []
theorem values_apply (n : Fin 64) (s : Fin 256) (h : Fin 2) (d : Fin 64) :
    pairs (heads (extractStridedSlice S8192x128 ![0, 1920] X slices_S8192x2560_S8192x128_0_1920)) (ix4 n s h d) = keyOf X 1920 n h s d := by
  rw [pairs_apply]
  unfold keyOf
  simp only [heads_apply]
  refine dite_congr rfl (fun _ => dite_congr rfl (fun _ => rfl) fun _ => ?_) fun _ => ?_ <;> pointwise []
theorem prods_apply (K : FVec Ideal S64x256x2x64 .f32) (n : Fin 64) (h : Fin 2) (g : Fin 4) (i : Fin 128) (s : Fin 256) :
    prods K (queries X) (ix5 n h g i s) = ∑ d, K (ix4 n s h d) * (X (ix2 (rowAt n i) ⟨1280 + (colAt h g d).val, by omega⟩) * word 0x3E000000#32) := by
  pointwise [prods, queries]
theorem seen_apply (n : Fin 64) (h : Fin 2) (g : Fin 4) (i : Fin 128) (s : Fin 256) : seen (ix5 n h g i s) = sees n i s := by
  pointwise [seen, far, sees, behind]
theorem leans_apply (n : Fin 64) (h : Fin 2) (g : Fin 4) (i : Fin 128) (s : Fin 256) :
    leans (ix5 n h g i s) = word (lit0 ⟨h.val * 4 + g.val, by omega⟩) * FloatOps.sitofp .f32 (behind i s) := by
  have e : ∀ k : Fin 8, S8.rowMajor (ix1 k) = k := fun k => by fin_cases k <;> rfl
  pointwise [leans, far, behind]
  rw [e]
theorem scores_apply (n : Fin 64) (h : Fin 2) (g : Fin 4) (i : Fin 128) (s : Fin 257) :
    scores X Z (ix5 n h g i s) = withSink (refRow X n h g i) (Z (ix1 ⟨h.val * 4 + g.val, by omega⟩)) s := by
  unfold withSink refRow refScore
  simp only [← keys_apply, ← leans_apply n h g i, ← seen_apply n h g i, ← prods_apply]
  generalize hP : prods (pairs (heads (extractStridedSlice S8192x128 ![0, 1792] X slices_S8192x2560_S8192x128_0_1792))) (queries X) = P
  generalize hL : leans = L
  generalize hM : seen = M
  unfold scores
  rw [hP, hL, hM, ← word_bot]
  pointwise []
  rfl
theorem probs_apply (E : FVec Ideal S64x2x4x128x257 .f32) (n : Fin 64) (h : Fin 2) (g : Fin 4) (i : Fin 128) (s : Fin 256) :
    probs E (ix5 n h g i s) = Ideal.div (E (ix5 n h g i s.castSucc)) (∑ j, E (ix5 n h g i j)) := by
  pointwise [probs]
  rfl
theorem joins_apply (P : FVec Ideal S64x2x4x128x256 .f32) (V : FVec Ideal S64x256x2x64 .f32) (n : Fin 64) (h : Fin 2) (g : Fin 4) (i : Fin 128) (d : Fin 64) :
    joins P V (ix2 (rowAt n i) (colAt h g d)) = ∑ s, V (ix4 n s h d) * P (ix5 n h g i s) := by
  pointwise [joins]
  refine Finset.sum_congr rfl fun s _ => congrArg₂ (fun u v : EReal => u * v) (congrArg V ?_) (congrArg P ?_)
  · congr 1 <;> apply Fin.ext <;> simp <;> omega
  · congr 1 <;> apply Fin.ext <;> simp <;> omega
theorem gates_apply (r : Fin 8192) (o : Fin 512) :
    gates X (ix2 r o) = X (ix2 r ⟨2048 + o.val, by omega⟩) * Ideal.div 1 (1 + Ideal.exp (-X (ix2 r ⟨2048 + o.val, by omega⟩))) := by
  pointwise [gates]

theorem shares_apply (n : Fin 64) (h : Fin 2) (g : Fin 4) (i : Fin 128) (s : Fin 256) :
    probs (expo (scores X Z)) (ix5 n h g i s) =
      Ideal.div (Ideal.exp (refRow X n h g i s - top (refRow X n h g i) (Z (ix1 ⟨h.val * 4 + g.val, by omega⟩))))
        (mass (refRow X n h g i) (Z (ix1 ⟨h.val * 4 + g.val, by omega⟩))) := by
  rw [probs_apply]
  simp only [expo_apply, scores_apply]
  have e := top_withSink (refRow X n h g i) (Z (ix1 ⟨h.val * 4 + g.val, by omega⟩))
  refine congrArg₂ Ideal.div (congrArg Ideal.exp ?_) ?_
  · refine congrArg₂ (fun u v : EReal => u - v) ?_ e
    unfold withSink
    rw [dif_pos (show s.castSucc.val < 256 from s.isLt)]
    rfl
  · refine Eq.trans ?_ (mass_withSink _ _ _)
    exact Finset.sum_congr rfl fun j _ => congrArg (fun u : EReal => Ideal.exp (withSink _ _ j - u)) e

theorem refAttend_apply (n : Fin 64) (h : Fin 2) (g : Fin 4) (i : Fin 128) (d : Fin 64) :
    refAttend X Z (ix2 (rowAt n i) (colAt h g d)) =
      (∑ s, keyOf X 1920 n h s d * Ideal.div (Ideal.exp (refRow X n h g i s - top (refRow X n h g i) (Z (ix1 ⟨h.val * 4 + g.val, by omega⟩))))
        (mass (refRow X n h g i) (Z (ix1 ⟨h.val * 4 + g.val, by omega⟩))))
      * (X (ix2 (rowAt n i) ⟨2048 + (colAt h g d).val, by omega⟩)
        * Ideal.div 1 (1 + Ideal.exp (-X (ix2 (rowAt n i) ⟨2048 + (colAt h g d).val, by omega⟩)))) := by
  have e := joins_apply (probs (expo (scores X Z))) (pairs (heads (extractStridedSlice S8192x128 ![0, 1920] X slices_S8192x2560_S8192x128_0_1920))) n h g i d
  simp only [shares_apply, values_apply] at e
  rw [← e, ← gates_apply]
  rfl

end Cert.Proof.Attending
end
-- ==== Proof.AttendResults.lean ====
/-
  The attention, in the forward pass: the frames, and the value claim, that of real projections and real sinks the call ends with the
  reference's attention times its gate.
-/
module

public import proofs.«01_k».proof.Defs
public import proofs.«01_k».proof.Proof.AttendRef
public import proofs.«01_k».proof.Proof.Gen.Attend.Frame

@[expose] public section

set_option maxRecDepth 16384

noncomputable section

namespace Cert.Proof.Attending

open Idealize.ShloMosaic Idealize.ShloMosaic.TcCoe Idealize.ShloMosaic.Tactic Idealize.SL.Sem
open Idealize.ShloMosaic.Pipeline (Dat Cfg Window)
open Cert.Proof.Loss (word)
open Cert.AttendReferenceIdeal (lit0)

/-! ### The frames -/

theorem preFacts : Cert.Pre_finite.Facts := ⟨by decide, by decide⟩

theorem frame_attend : Cert.quiescent_Attend (hAttend := Cert.Attend.Gen.facts) :=
  fun m ρ _ => Cert.Attend.Gen.frame m ρ
theorem frame_attendIdeal : Cert.quiescent_AttendIdeal (hAttendIdeal := Cert.AttendIdeal.Gen.facts) :=
  fun m ρ _ => Cert.AttendIdeal.Gen.frame m ρ
theorem frame_attendIdeal_finite : Cert.quiescent_AttendIdeal_pre_finite (hAttendIdeal := Cert.AttendIdeal.Gen.facts) (hPre_finite := preFacts) :=
  fun m ρ _ => Cert.AttendIdeal.Gen.frame m ρ
theorem frame_attendReference : Cert.quiescent_AttendReferenceIdeal (hAttendReferenceIdeal := Cert.AttendReferenceIdeal.Gen.facts) :=
  fun m ρ _ => (θ_run Cert.AttendReferenceIdeal.defs _ _).mono
    (fun r h => ⟨fun c => (h c).2, sem_eq_zero_of_no_sems (by decide) r.2⟩)
    (Cert.AttendReferenceIdeal.Value.run (F := Ideal) m ρ)
theorem frame_attendReference_finite :
    Cert.quiescent_AttendReferenceIdeal_pre_finite (hAttendReferenceIdeal := Cert.AttendReferenceIdeal.Gen.facts) (hPre_finite := preFacts) :=
  fun m ρ _ => frame_attendReference m ρ trivial

/-- The kernel's mask is named minus infinity. -/
theorem preserves_attend : Cert.preserves_Attend_AttendIdeal :=
  IdealRules.named_const.statement Cert.AttendIdeal.κ "mask" .f32 0xF149F2CA#32 ⊥ rfl

/-! ### What is real -/

theorem slope_real (k : Fin 8) : Real_ (word (lit0 k)) := by
  fin_cases k
  · exact ⟨1 / 2, by show Ideal.ofBits .f32 0x3F000000#32 = _; simp [Ideal.ofBits, Ideal.ieee, -EReal.coe_mul]; norm_num⟩
  · exact ⟨1 / 4, by show Ideal.ofBits .f32 0x3E800000#32 = _; simp [Ideal.ofBits, Ideal.ieee, -EReal.coe_mul]; norm_num⟩
  · exact ⟨1 / 8, by show Ideal.ofBits .f32 0x3E000000#32 = _; simp [Ideal.ofBits, Ideal.ieee, -EReal.coe_mul]; norm_num⟩
  · exact ⟨1 / 16, by show Ideal.ofBits .f32 0x3D800000#32 = _; simp [Ideal.ofBits, Ideal.ieee, -EReal.coe_mul]; norm_num⟩
  · exact ⟨1 / 32, by show Ideal.ofBits .f32 0x3D000000#32 = _; simp [Ideal.ofBits, Ideal.ieee, -EReal.coe_mul]; norm_num⟩
  · exact ⟨1 / 64, by show Ideal.ofBits .f32 0x3C800000#32 = _; simp [Ideal.ofBits, Ideal.ieee, -EReal.coe_mul]; norm_num⟩
  · exact ⟨1 / 128, by show Ideal.ofBits .f32 0x3C000000#32 = _; simp [Ideal.ofBits, Ideal.ieee, -EReal.coe_mul]; norm_num⟩
  · exact ⟨1 / 256, by show Ideal.ofBits .f32 0x3B800000#32 = _; simp [Ideal.ofBits, Ideal.ieee, -EReal.coe_mul]; norm_num⟩

theorem slopesA_eq (g : Fin 4) : slopesA g = word (lit0 ⟨g.val, by omega⟩) := by fin_cases g <;> rfl
theorem slopesB_eq (g : Fin 4) : slopesB g = word (lit0 ⟨4 + g.val, by omega⟩) := by fin_cases g <;> rfl

theorem real_of_abs (x : EReal) (h : max x (-x) < ⊤) : Real_ x := by
  induction x with
  | bot => simp at h
  | top => simp at h
  | coe r => exact ⟨r, rfl⟩

theorem word_top : word 0x7F800000#32 = (⊤ : EReal) := by
  show Ideal.ofBits .f32 _ = _
  simp [Ideal.ofBits, Ideal.ieee]

theorem real_of_lt (x : Ideal .f32) (h : FloatOps.cmpf .olt (FloatOps.hostAbsf x) (word 0x7F800000#32) = 1#1) : Real_ x := by
  apply real_of_abs
  have h' : Ideal.cmp .olt (max (x : EReal) (-x) : EReal) (word 0x7F800000#32) = 1#1 := h
  rw [word_top] at h'
  by_contra hx
  have h'' : BitVec.ofBool (decide (max (x : EReal) (-x) < ⊤)) = 1#1 := h'
  rw [decide_eq_false hx] at h''
  exact absurd h'' (by decide)

section Equal
variable (X : FVec Ideal Cert.AttendIdeal.S8192x2560 .f32) (hX : ∀ y, Real_ (X y)) (n : Fin 64) (h : Fin 2) (g : Fin 4) (r : Fin 128)

include hX in
theorem keyOf_real (b : Fin 2433) (s : Fin 256) (d : Fin 64) : Real_ (keyOf X b n h s d) := by
  unfold keyOf
  split_ifs
  · exact ⟨0, rfl⟩
  · exact hX _
  · exact hX _

include hX in
theorem refScore_real (s : Fin 256) : Real_ (refScore X n h g r s) := by
  unfold refScore
  refine Real_.sub (Real_.sum fun d => (keyOf_real X hX n h _ s d).mul ((hX _).mul ?_)) ((slope_real _).mul ⟨_, rfl⟩)
  exact ⟨_, word_eighth⟩

include hX in
/-- One row of one head. -/
theorem head_eq (S : Fin 256 → EReal) (q : Fin 64 → EReal) (k : Fin 256 → Fin 64 → EReal) (v : Fin 256 → EReal) (slope z z' : EReal) (d : Fin 64)
    (hS : ∀ s, S s = Scalar.select (sees n r s) (score q (k s) slope r s) (⊥ : EReal))
    (hq : ∀ d, q d = X (ix2 (rowAt n r) ⟨1280 + (colAt h g d).val, by omega⟩))
    (hk : ∀ s d, sees n r s = 1#1 → k s d = keyOf X 1792 n h s d) (hv : ∀ s, sees n r s = 1#1 → v s = keyOf X 1920 n h s d)
    (hs : slope = word (lit0 ⟨h.val * 4 + g.val, by omega⟩)) (hz : Real_ z) (hzz : z = z') :
    average S z v = ∑ s, keyOf X 1920 n h s d * Ideal.div (Ideal.exp (refRow X n h g r s - top (refRow X n h g r) z')) (mass (refRow X n h g r) z') := by
  subst hzz
  rw [show S = _ from funext hS]
  refine average_eq (sees n r) _ (refScore X n h g r) z v _ (fun s hs' => ?_) hv (fun s => (refScore_real X hX n h g r s).ne_top) hz
  unfold score refScore
  rw [hs, score_eq]
  refine congrArg (fun u : EReal => u - _) (Finset.sum_congr rfl fun d _ => ?_)
  rw [hk s d hs', hq]

end Equal

/-! ### One block -/

theorem late_word : ∀ s : Fin 256, s.val < 128 → IntOp.cmpi .sge (BitVec.ofNat 32 s.val) 128#32 = 0#1 := by decide +kernel
theorem not_first (n : Fin 64) (r : Fin 128) (s : Fin 256) (hs : s.val < 128) (h : sees n r s = 1#1) : ¬ n.val < 1 := by
  intro hn
  have e : n = 0 := Fin.ext (by omega)
  subst e
  unfold sees at h
  rw [late_word s hs, show IntOp.cmpi .sgt (BitVec.ofNat 32 (0 : Fin 64).val) 0#32 = 0#1 from rfl] at h
  generalize IntOp.andi (IntOp.cmpi .sge (behind r s) 0#32) (IntOp.cmpi .slt (behind r s) 128#32) = u at h
  revert u; decide

section Tile
open Cert.AttendIdeal Cert.AttendIdeal.Gen
variable (X : FVec Ideal S8192x2560 .f32) (hX : ∀ y, Real_ (X y)) (z : Vec Ideal S8 .f32) (hz : ∀ y, Real_ (z y)) (n : Fin 64)
  (x : Vec Ideal S128x1280 .f32) (hx : ∀ r k, x (ix2 r k) = X (ix2 (rowAt n r) ⟨1280 + k.val, by omega⟩))
  (p : Vec Ideal S128x256 .f32) (hp : ∀ r k, p (ix2 r k) = X (ix2 ⟨(n.val - 1) * 128 + r.val, by omega⟩ ⟨1792 + k.val, by omega⟩))
  (i : grid0.Coords) (hn : (i 0).val = n.val)

include hx hp in
theorem pairOf_eq (b : Fin 193) (b' : Fin 2433) (h : Fin 2) (r : Fin 128) (hb : ∀ d : Fin 64, 1792 + (b.val + d.val) = b'.val + (h.val * 64 + d.val))
    (s : Fin 256) (d : Fin 64) (hs : sees n r s = 1#1) : pairOf x p b s d = keyOf X b' n h s d := by
  have hb := hb d
  unfold pairOf keyOf
  split_ifs with h1 h2
  · exact absurd h2 (not_first n r s h1 hs)
  · rw [hp]
    exact congrArg X (congrArg₂ ix2 rfl (Fin.ext hb))
  · rw [hx]
    exact congrArg X (congrArg₂ ix2 rfl (Fin.ext (by show 1280 + (512 + (b.val + d.val)) = b'.val + (h.val * 64 + d.val); omega)))

include hX hz hn hx hp in
theorem tile_eq (h : Fin 2) (g : Fin 4) (r : Fin 128) (d : Fin 64) :
    tile i x p z (ix2 r (colAt h g d)) = refAttend X z (ix2 (rowAt n r) (colAt h g d)) := by
  rw [refAttend_apply]
  unfold tile
  rw [glue_apply _ _ _ r h g d _ (by show h.val * 256 + g.val * 64 + d.val = _; omega)]
  refine congrArg₂ (fun u v : EReal => u * v) ?_ ?_
  · obtain rfl | rfl : h = 0 ∨ h = 1 := by revert h; decide
    · rw [if_pos rfl, averages_apply, sinksA_apply]
      refine head_eq X hX n 0 g r _ (fun d => k0_pay8 x (ix2 (stacked g r) d)) (fun s d => k0_pay6 x p (ix2 s d)) _ (slopesA g) _ _ d
        (fun s => scoresA_apply i x p n hn g r s) (fun d => ?_) (fun s d hs => ?_) (fun s hs => ?_) ?_ (hz _) ?_
      · rw [queryA_apply, hx]
        exact congrArg X (congrArg₂ ix2 rfl (Fin.ext (by show 1280 + (64 * g.val + d.val) = 1280 + (0 * 256 + g.val * 64 + d.val); omega)))
      · rw [keysA_apply]
        exact pairOf_eq X n x hx p hp 0 1792 0 r (fun d => by show 1792 + (0 + d.val) = 1792 + (0 * 64 + d.val); omega) s d hs
      · rw [valuesA_apply]
        exact pairOf_eq X n x hx p hp 128 1920 0 r (fun d => by show 1792 + (128 + d.val) = 1920 + (0 * 64 + d.val); omega) s d hs
      · rw [slopesA_eq]
        exact congrArg (fun k => word (lit0 k)) (Fin.ext (by show g.val = 0 * 4 + g.val; omega))
      · exact congrArg (fun k => z (ix1 k)) (Fin.ext (by show g.val = 0 * 4 + g.val; omega))
    · rw [if_neg (by decide), averages_apply, sinksB_apply]
      refine head_eq X hX n 1 g r _ (fun d => k0_pay21 (k0_pay2 x) (ix2 (stacked g r) d)) (fun s d => k0_pay19 p (k0_pay3 x) (ix2 s d)) _ (slopesB g) _ _ d
        (fun s => scoresB_apply i x p n hn g r s) (fun d => ?_) (fun s d hs => ?_) (fun s hs => ?_) ?_ (hz _) ?_
      · rw [queryB_apply, hx]
        exact congrArg X (congrArg₂ ix2 rfl (Fin.ext (by show 1280 + (256 + (64 * g.val + d.val)) = 1280 + (1 * 256 + g.val * 64 + d.val); omega)))
      · rw [keysB_apply]
        exact pairOf_eq X n x hx p hp 64 1792 1 r (fun d => by show 1792 + (64 + d.val) = 1792 + (1 * 64 + d.val); omega) s d hs
      · rw [valuesB_apply]
        exact pairOf_eq X n x hx p hp 192 1920 1 r (fun d => by show 1792 + (192 + d.val) = 1920 + (1 * 64 + d.val); omega) s d hs
      · rw [slopesB_eq]
        exact congrArg (fun k => word (lit0 k)) (Fin.ext (by show 4 + g.val = 1 * 4 + g.val; omega))
      · exact congrArg (fun k => z (ix1 k)) (Fin.ext (by show 4 + g.val = 1 * 4 + g.val; omega))
  · rw [gate_apply, hx, zero_sub]
    have e : (⟨1280 + (768 + (colAt h g d).val), by omega⟩ : Fin 2560) = ⟨2048 + (colAt h g d).val, by omega⟩ := Fin.ext (by show 1280 + (768 + _) = 2048 + _; omega)
    rw [e]

end Tile

/-! ### The array that the call leaves -/

section Array
open Cert.AttendIdeal Cert.AttendIdeal.Gen
variable (m : (ℓ : Loc nD τ sig) → Buf (Elt Ideal) ℓ) (c : Dev nD)

/-- The projections -/
abbrev argX : FVec Ideal S8192x2560 .f32 := m ((c.tc : Thread nD τ).loc main_arg0)
/-- and the sinks. -/
abbrev argZ : FVec Ideal S8 .f32 := m ((c.tc : Thread nD τ).loc main_arg1)

/-- The blocks that a visit reads, at their shapes. -/
abbrev bX (t : Fin cfg0.N) : Vec Ideal S128x1280 .f32 := iblk m c 0 t
abbrev bP (t : Fin cfg0.N) : Vec Ideal S128x256 .f32 := iblk m c 1 t
abbrev bZ (t : Fin cfg0.N) : Vec Ideal S8 .f32 := iblk m c 2 t

/-- The block that a visit computes. -/
abbrev at_ (t : Fin cfg0.N) : Fin 64 := ⟨t.val, lt_of_lt_of_eq t.isLt (show cfg0.N = 64 from N_0)⟩

theorem bX_apply (t : Fin cfg0.N) (r : Fin 128) (k : Fin 1280) : bX m c t (ix2 r k) = argX m c (ix2 (rowAt (at_ t) r) ⟨1280 + k.val, by omega⟩) := by
  have h : win0_0.index t 0 = t.val ∧ win0_0.index t 1 = 1 := by clear r k; revert t; decide +kernel
  refine congrArg (argX m c) ?_
  funext a; apply Fin.ext; fin_cases a <;> blk_simp [Pipeline.Window.cell_apply]
  · rw [h.1]; rfl
  · rw [h.2, Nat.one_mul]; rfl
theorem bP_apply (t : Fin cfg0.N) (r : Fin 128) (k : Fin 256) :
    bP m c t (ix2 r k) = argX m c (ix2 ⟨((at_ t).val - 1) * 128 + r.val, by omega⟩ ⟨1792 + k.val, by omega⟩) := by
  have h : win0_1.index t 0 = t.val - 1 ∧ win0_1.index t 1 = 7 := by clear r k; revert t; decide +kernel
  refine congrArg (argX m c) ?_
  funext a; apply Fin.ext; fin_cases a <;> blk_simp [Pipeline.Window.cell_apply]
  · rw [h.1]; rfl
  · rw [h.2]; rfl
theorem bZ_eq (t : Fin cfg0.N) : bZ m c t = argZ m c := by
  have h : ∀ a, win0_2.index t a = 0 := by revert t; decide +kernel
  funext y
  refine congrArg (argZ m c) ?_
  funext a; apply Fin.ext; fin_cases a; blk_simp [Pipeline.Window.cell_apply]; first | rw [h, Nat.zero_mul, Nat.zero_add] | rw [h]

theorem block_at (t : Fin cfg0.N) (r : Fin 128) (o : Fin 512) :
    (win0_3.blk t).view.emb (ix2 r o) = (ix2 (rowAt (at_ t) r) o : S8192x512.Idx) := by
  have h : win0_3.index t 0 = t.val ∧ win0_3.index t 1 = 0 := by clear r o; revert t; decide +kernel
  funext a; apply Fin.ext; fin_cases a <;> blk_simp [Pipeline.Window.cell_apply]
  · rw [h.1]; rfl
  · rw [h.2, Nat.zero_mul, Nat.zero_add]; rfl

variable (hX : ∀ y, Real_ (argX m c y)) (hZ : ∀ y, Real_ (argZ m c y))

include hX hZ in
theorem block (t : Fin cfg0.N) (y : S128x512.Idx) :
    tile (grid0.coords t) (bX m c t) (bP m c t) (bZ m c t) y = refAttend (argX m c) (argZ m c) ((win0_3.blk t).view.emb y) := by
  obtain ⟨r, o, rfl⟩ : ∃ r o, y = ix2 r o := ⟨y 0, y 1, by funext a; fin_cases a <;> rfl⟩
  obtain ⟨h, g, d, rfl⟩ : ∃ h g d, o = colAt h g d :=
    ⟨⟨o.val / 256, by omega⟩, ⟨o.val / 64 % 4, by omega⟩, ⟨o.val % 64, by omega⟩, Fin.ext (by show o.val = o.val / 256 * 256 + o.val / 64 % 4 * 64 + o.val % 64; omega)⟩
  rw [block_at, bZ_eq]
  have hc : (grid0.coords t 0).val = (at_ t).val := by clear r h g d hX hZ; revert t; decide +kernel
  exact tile_eq (argX m c) hX (argZ m c) hZ (at_ t) (bX m c t) (bX_apply m c t) (bP m c t) (bP_apply m c t) (grid0.coords t) hc h g r d

attribute [local irreducible] outsAt0 in
include hX hZ in
theorem arr_attend : (dats m 0 c).arrAt 3 cfg0.N = refAttend (argX m c) (argZ m c) := by
  refine (dats m 0 c).arrAt_eq_of_covers 3 _ (by decide +kernel) fun t hf y => ?_
  blk_simp
  rw [after0_3]
  unfold outsAt0
  rw [out_tile]
  exact block m c hX hZ t y

end Array

/-! ### The claim -/

open Cert.AttendIdeal Cert.AttendIdeal.Gen

attribute [local instance] Cert.AttendIdeal.Gen.facts Cert.AttendReferenceIdeal.Gen.facts preFacts

theorem algebraic_attend_reference : Cert.algebraic_AttendIdeal_AttendReferenceIdeal_pre_finite := by
  intro m g m' g' hp hm
  have hX : ∀ c y, Real_ (argX m c y) := fun c y => real_of_lt _ (congrFun (hp c).1 y)
  have hZ : ∀ c y, Real_ (argZ m c y) := fun c y => real_of_lt _ (congrFun (hp c).2 y)
  refine ⟨fun c => (dats m 0 c).arrAt 3 cfg0.N, Cert.AttendIdeal.Value.run_blocks m g, ?_⟩
  refine (θ_run Cert.AttendReferenceIdeal.defs _ _).mono (fun r h c => ?_) (Cert.AttendReferenceIdeal.Value.run (F := Ideal) m' g')
  obtain ⟨h0, h1⟩ := hm c
  refine ⟨(h c).1.trans ?_, (h c).2⟩
  refine Eq.trans ?_ (arr_attend m c (hX c) (hZ c)).symm
  rw [res_eq, h0, h1]

end Cert.Proof.Attending

end
-- ==== Proof.lean ====
/- The proof of the claim: of the exchange and the sharded update the three frames are in Proof/Frames.lean and the value
   claim in Proof/Results.lean, of the replicated update both are in Proof/RepResults.lean, of the loss both are in
   Proof/LossResults.lean, of a layer's entry in Proof/EntryResults.lean, of the projections in Proof/ProjResults.lean, of the
   output projection in Proof/MixResults.lean and of its gradient in Proof/BackResults.lean, of the attention in
   Proof/AttendResults.lean; each kernel at the ideal values is the kernel's own text, but that the attention's mask is named minus
   infinity. -/
module

public import proofs.«01_k».proof.Defs
public import proofs.«01_k».proof.Proof.Gen.Replicated
public import proofs.«01_k».proof.Proof.Gen.Replicated.Frame
public import proofs.«01_k».proof.Proof.Gen.ReplicatedIdeal
public import proofs.«01_k».proof.Proof.Gen.ReplicatedIdeal.Frame
public import proofs.«01_k».proof.Proof.Gen.ReplicatedReferenceIdeal
public import proofs.«01_k».proof.Proof.Gen.ReplicatedReferenceIdeal.Run
public import proofs.«01_k».proof.Proof.Gen.Head
public import proofs.«01_k».proof.Proof.Gen.HeadIdeal
public import proofs.«01_k».proof.Proof.Gen.HeadIdeal.Regions
public import proofs.«01_k».proof.Proof.Gen.HeadReferenceIdeal
public import proofs.«01_k».proof.Proof.Gen.HeadReferenceIdeal.Run
public import proofs.«01_k».proof.Proof.Gen.Entry
public import proofs.«01_k».proof.Proof.Gen.Entry.Frame
public import proofs.«01_k».proof.Proof.Gen.EntryIdeal
public import proofs.«01_k».proof.Proof.Gen.EntryIdeal.Frame
public import proofs.«01_k».proof.Proof.Gen.EntryIdeal.Value
public import proofs.«01_k».proof.Proof.Gen.EntryReferenceIdeal
public import proofs.«01_k».proof.Proof.Gen.EntryReferenceIdeal.Run
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Back
public import proofs.«01_k».proof.Proof.Gen.Back.Frame
public import proofs.«01_k».proof.Proof.Gen.BackIdeal
public import proofs.«01_k».proof.Proof.Gen.BackIdeal.Frame
public import proofs.«01_k».proof.Proof.Gen.BackIdeal.Value
public import proofs.«01_k».proof.Proof.Gen.BackReferenceIdeal
public import proofs.«01_k».proof.Proof.Gen.BackReferenceIdeal.Run
public import proofs.«01_k».proof.Proof.Gen.Attend
public import proofs.«01_k».proof.Proof.Gen.Attend.Frame
public import proofs.«01_k».proof.Proof.Gen.AttendIdeal
public import proofs.«01_k».proof.Proof.Gen.AttendIdeal.Frame
public import proofs.«01_k».proof.Proof.Gen.AttendIdeal.Value
public import proofs.«01_k».proof.Proof.Gen.AttendReferenceIdeal
public import proofs.«01_k».proof.Proof.Gen.AttendReferenceIdeal.Run
public import proofs.«01_k».proof.Proof.Frames
public import proofs.«01_k».proof.Proof.Results
public import proofs.«01_k».proof.Proof.RepResults
public import proofs.«01_k».proof.Proof.LossResults
public import proofs.«01_k».proof.Proof.EntryResults
public import proofs.«01_k».proof.Proof.ProjResults
public import proofs.«01_k».proof.Proof.MixResults
public import proofs.«01_k».proof.Proof.BackResults
public import proofs.«01_k».proof.Proof.AttendResults

@[expose] public section

noncomputable section

namespace Cert.Proof

theorem claim : Cert.Claim := ⟨Cert.Kernel.Gen.facts, Cert.KernelIdeal.Gen.facts, Cert.ReferenceIdeal.Gen.facts,
  Cert.Replicated.Gen.facts, Cert.ReplicatedIdeal.Gen.facts, Cert.ReplicatedReferenceIdeal.Gen.facts,
  Cert.Head.Gen.facts, Cert.HeadIdeal.Gen.facts, Cert.HeadReferenceIdeal.Gen.facts,
  Cert.Entry.Gen.facts, Cert.EntryIdeal.Gen.facts, Cert.EntryReferenceIdeal.Gen.facts,
  Cert.Project.Gen.facts, Cert.ProjectIdeal.Gen.facts, Cert.ProjectReferenceIdeal.Gen.facts,
  Cert.Mix.Gen.facts, Cert.MixIdeal.Gen.facts, Cert.MixReferenceIdeal.Gen.facts,
  Cert.Back.Gen.facts, Cert.BackIdeal.Gen.facts, Cert.BackReferenceIdeal.Gen.facts,
  Cert.Attend.Gen.facts, Cert.AttendIdeal.Gen.facts, Cert.AttendReferenceIdeal.Gen.facts, Attending.preFacts,
  frame_kernel, frame_kernelIdeal, frame_referenceIdeal,
  Rep.frame_replicated, Rep.frame_replicatedIdeal, Rep.frame_replicatedReference,
  Loss.frame_head, Loss.frame_headIdeal, Loss.frame_headReference,
  Entry.frame_entry, Entry.frame_entryIdeal, Entry.frame_entryReference,
  Proj.frame_project, Proj.frame_projectIdeal, Proj.frame_projectReference,
  Mixing.frame_mix, Mixing.frame_mixIdeal, Mixing.frame_mixReference,
  Back.frame_back, Back.frame_backIdeal, Back.frame_backReference,
  Attending.frame_attend, Attending.frame_attendIdeal, Attending.frame_attendIdeal_finite,
  Attending.frame_attendReference, Attending.frame_attendReference_finite,
  trivial, algebraic_kernel_reference, trivial, Rep.algebraic_replicated_reference, trivial, Loss.algebraic_head_reference,
  trivial, Entry.algebraic_entry_reference, trivial, Proj.algebraic_project_reference, trivial, Mixing.algebraic_mix_reference,
  trivial, Back.algebraic_back_reference, Attending.preserves_attend, Attending.algebraic_attend_reference⟩

end Cert.Proof

end
